-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite8 [hPre_finite8 : Cert.Pre_finite8.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2))).1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2))).2 = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite8 [hPre_finite8 : Cert.Pre_finite8.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2))).1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2))).2 = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Kernel8Ideal_pre_finite8 [hKernel8Ideal : Cert.Kernel8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite8 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Reference8Ideal_pre_finite8 [hReference8Ideal : Cert.Reference8Ideal.Facts] [hPre_finite8 : Cert.Pre_finite8.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite8 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v271) = v0 c
          ∧ r.2.mem ((c.tc : Thread Cert.ReferenceIdeal.nD Cert.ReferenceIdeal.τ).loc Cert.ReferenceIdeal.main_v265) = v1 c
          ∧ r.2.mem ((c.tc : Thread Cert.ReferenceIdeal.nD Cert.ReferenceIdeal.τ).loc Cert.ReferenceIdeal.main_v157) = v2 c
          ∧ r.2.mem ((c.tc : Thread Cert.ReferenceIdeal.nD Cert.ReferenceIdeal.τ).loc Cert.ReferenceIdeal.main_v133) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v10) = v0 c
          ∧ r.2.mem ((c.tc : Thread Cert.Reference2Ideal.nD Cert.Reference2Ideal.τ).loc Cert.Reference2Ideal.main_v11) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v14_0)) (v1 : (c : Dev Cert.Kernel3Ideal.nD) → Buf (Elt Ideal) ((c.tc : Thread Cert.Kernel3Ideal.nD Cert.Kernel3Ideal.τ).loc Cert.Kernel3Ideal.main_v14_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v14_0) = v0 c
          ∧ r.2.mem ((c.tc : Thread Cert.Kernel3Ideal.nD Cert.Kernel3Ideal.τ).loc Cert.Kernel3Ideal.main_v14_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_v10) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v8) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal_pre_finite8 [hKernel8Ideal : Cert.Kernel8Ideal.Facts] [hReference8Ideal : Cert.Reference8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite8 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v11) = v0 c
          ∧ r.2.mem ((c.tc : Thread Cert.Reference8Ideal.nD Cert.Reference8Ideal.τ).loc Cert.Reference8Ideal.main_v12) = v1 c
          ∧ r.2.mem ((c.tc : Thread Cert.Reference8Ideal.nD Cert.Reference8Ideal.τ).loc Cert.Reference8Ideal.main_v13) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_v15) = v1 c
          ∧ r.2.mem ((c.tc : Thread Cert.Reference10Ideal.nD Cert.Reference10Ideal.τ).loc Cert.Reference10Ideal.main_v28) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite : Cert.Pre_finite.Facts) (hPre_finite3 : Cert.Pre_finite3.Facts) (hPre_finite8 : Cert.Pre_finite8.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite8 (hKernel8Ideal := hKernel8Ideal) (hPre_finite8 := hPre_finite8)
    ∧ quiescent_Reference8Ideal (hReference8Ideal := hReference8Ideal)
    ∧ quiescent_Reference8Ideal_pre_finite8 (hReference8Ideal := hReference8Ideal) (hPre_finite8 := hPre_finite8)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite8 (hKernel8Ideal := hKernel8Ideal) (hReference8Ideal := hReference8Ideal) (hPre_finite8 := hPre_finite8)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_finite.lean ====
abbrev S8192x4096 : Shape := ⟨2, ![8192, 4096]⟩
abbrev S8192x2048 : Shape := ⟨2, ![8192, 2048]⟩
abbrev S3x1024 : Shape := ⟨2, ![3, 1024]⟩
abbrev S4x4x64x256 : Shape := ⟨4, ![4, 4, 64, 256]⟩
abbrev S1x1024 : Shape := ⟨2, ![1, 1024]⟩
abbrev S_ : Shape := ⟨0, ![]⟩

class Facts : Prop where
  bcast_S_S8192x4096 : S_.BroadcastsInDim S8192x4096 (![] : Fin 0 → Fin S8192x4096.rank)
  bcast_S_S8192x2048 : S_.BroadcastsInDim S8192x2048 (![] : Fin 0 → Fin S8192x2048.rank)
  bcast_S_S3x1024 : S_.BroadcastsInDim S3x1024 (![] : Fin 0 → Fin S3x1024.rank)
  bcast_S_S4x4x64x256 : S_.BroadcastsInDim S4x4x64x256 (![] : Fin 0 → Fin S4x4x64x256.rank)
  bcast_S_S1x1024 : S_.BroadcastsInDim S1x1024 (![] : Fin 0 → Fin S1x1024.rank)

variable [Facts]

def fn {F : FTy → Type} [FloatOps F] (main_arg0 : FVec F S8192x4096 .f32) (main_arg1 : FVec F S8192x2048 .f32) (main_arg2 : FVec F S3x1024 .f32) (main_arg3 : FVec F S4x4x64x256 .f32) (main_arg4 : FVec F S1x1024 .f32) : IVec S8192x4096 1 × IVec S8192x2048 1 × IVec S3x1024 1 × IVec S4x4x64x256 1 × IVec S1x1024 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_v3 : FVec F S8192x2048 .f32 := Host.absf main_arg1
  let main_cst_0 : FVec F S_ .f32 := constant S_ .f32 0x7F800000#32
  let main_v4 : FVec F S8192x2048 .f32 := broadcastInDim S8192x2048 ![] bcast_S_S8192x2048 main_cst_0
  let main_v5 : IVec S8192x2048 1 := cmpf .olt main_v3 main_v4
  let main_v6 : FVec F S3x1024 .f32 := Host.absf main_arg2
  let main_cst_1 : FVec F S_ .f32 := constant S_ .f32 0x7F800000#32
  let main_v7 : FVec F S3x1024 .f32 := broadcastInDim S3x1024 ![] bcast_S_S3x1024 main_cst_1
  let main_v8 : IVec S3x1024 1 := cmpf .olt main_v6 main_v7
  let main_v9 : FVec F S4x4x64x256 .f32 := Host.absf main_arg3
  let main_cst_2 : FVec F S_ .f32 := constant S_ .f32 0x7F800000#32
  let main_v10 : FVec F S4x4x64x256 .f32 := broadcastInDim S4x4x64x256 ![] bcast_S_S4x4x64x256 main_cst_2
  let main_v11 : IVec S4x4x64x256 1 := cmpf .olt main_v9 main_v10
  let main_v12 : FVec F S1x1024 .f32 := Host.absf main_arg4
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  (main_v2, main_v5, main_v8, main_v11, main_v14)
-- ==== Pre_finite3.lean ====
abbrev S8192x5632 : Shape := ⟨2, ![8192, 5632]⟩
abbrev S5632x2048 : Shape := ⟨2, ![5632, 2048]⟩
abbrev S8192x2048 : Shape := ⟨2, ![8192, 2048]⟩
abbrev S_ : Shape := ⟨0, ![]⟩

class Facts : Prop where
  bitsLt_bf16_f32 : FTy.bits .bf16 < FTy.bits .f32
  bcast_S_S8192x5632 : S_.BroadcastsInDim S8192x5632 (![] : Fin 0 → Fin S8192x5632.rank)
  bcast_S_S5632x2048 : S_.BroadcastsInDim S5632x2048 (![] : Fin 0 → Fin S5632x2048.rank)
  bcast_S_S8192x2048 : S_.BroadcastsInDim S8192x2048 (![] : Fin 0 → Fin S8192x2048.rank)

variable [Facts]

def fn {F : FTy → Type} [FloatOps F] (main_arg0 : FVec F S8192x5632 .f32) (main_arg1 : FVec F S8192x5632 .f32) (main_arg2 : FVec F S5632x2048 .bf16) (main_arg3 : FVec F S8192x2048 .bf16) : IVec S8192x5632 1 × IVec S5632x2048 1 × IVec S8192x2048 1 :=
  let main_v0 : FVec F S5632x2048 .f32 := (extf .f32 · bitsLt_bf16_f32) main_arg2
  let main_v1 : FVec F S8192x2048 .f32 := (extf .f32 · bitsLt_bf16_f32) main_arg3
  let main_v2 : FVec F S8192x5632 .f32 := Host.absf main_arg1
  let main_cst : FVec F S_ .f32 := constant S_ .f32 0x7F800000#32
  let main_v3 : FVec F S8192x5632 .f32 := broadcastInDim S8192x5632 ![] bcast_S_S8192x5632 main_cst
  let main_v4 : IVec S8192x5632 1 := cmpf .olt main_v2 main_v3
  let main_v5 : FVec F S5632x2048 .f32 := Host.absf main_v0
  let main_cst_0 : FVec F S_ .f32 := constant S_ .f32 0x7F800000#32
  let main_v6 : FVec F S5632x2048 .f32 := broadcastInDim S5632x2048 ![] bcast_S_S5632x2048 main_cst_0
  let main_v7 : IVec S5632x2048 1 := cmpf .olt main_v5 main_v6
  let main_v8 : FVec F S8192x2048 .f32 := Host.absf main_v1
  let main_cst_1 : FVec F S_ .f32 := constant S_ .f32 0x7F800000#32
  let main_v9 : FVec F S8192x2048 .f32 := broadcastInDim S8192x2048 ![] bcast_S_S8192x2048 main_cst_1
  let main_v10 : IVec S8192x2048 1 := cmpf .olt main_v8 main_v9
  (main_v4, main_v7, main_v10)
-- ==== Pre_finite8.lean ====
abbrev S8192x2048 : Shape := ⟨2, ![8192, 2048]⟩
abbrev S2048x5632 : Shape := ⟨2, ![2048, 5632]⟩
abbrev S_ : Shape := ⟨0, ![]⟩

class Facts : Prop where
  bitsLt_bf16_f32 : FTy.bits .bf16 < FTy.bits .f32
  bcast_S_S8192x2048 : S_.BroadcastsInDim S8192x2048 (![] : Fin 0 → Fin S8192x2048.rank)
  bcast_S_S2048x5632 : S_.BroadcastsInDim S2048x5632 (![] : Fin 0 → Fin S2048x5632.rank)

variable [Facts]

def fn {F : FTy → Type} [FloatOps F] (main_arg0 : FVec F S8192x2048 .bf16) (main_arg1 : FVec F S2048x5632 .bf16) (main_arg2 : FVec F S2048x5632 .bf16) : IVec S8192x2048 1 × IVec S2048x5632 1 :=
  let main_v0 : FVec F S8192x2048 .f32 := (extf .f32 · bitsLt_bf16_f32) main_arg0
  let main_v1 : FVec F S2048x5632 .f32 := (extf .f32 · bitsLt_bf16_f32) main_arg2
  let main_v2 : FVec F S8192x2048 .f32 := Host.absf main_v0
  let main_cst : FVec F S_ .f32 := constant S_ .f32 0x7F800000#32
  let main_v3 : FVec F S8192x2048 .f32 := broadcastInDim S8192x2048 ![] bcast_S_S8192x2048 main_cst
  let main_v4 : IVec S8192x2048 1 := cmpf .olt main_v2 main_v3
  let main_v5 : FVec F S2048x5632 .f32 := Host.absf main_v1
  let main_cst_0 : FVec F S_ .f32 := constant S_ .f32 0x7F800000#32
  let main_v6 : FVec F S2048x5632 .f32 := broadcastInDim S2048x5632 ![] bcast_S_S2048x5632 main_cst_0
  let main_v7 : IVec S2048x5632 1 := cmpf .olt main_v5 main_v6
  (main_v4, main_v7)
-- ==== Kernel.lean ====
abbrev S8192x4096 : Shape := ⟨2, ![8192, 4096]⟩
abbrev S8192x2048 : Shape := ⟨2, ![8192, 2048]⟩
abbrev S3x1024 : Shape := ⟨2, ![3, 1024]⟩
abbrev S4x4x64x256 : Shape := ⟨4, ![4, 4, 64, 256]⟩
abbrev S1x1024 : Shape := ⟨2, ![1, 1024]⟩
abbrev S512x1024 : Shape := ⟨2, ![512, 1024]⟩
abbrev S16x1024 : Shape := ⟨2, ![16, 1024]⟩
abbrev S512x4096 : Shape := ⟨2, ![512, 4096]⟩
abbrev S544x1024 : Shape := ⟨2, ![544, 1024]⟩
abbrev S528x1024 : Shape := ⟨2, ![528, 1024]⟩
abbrev S512x128 : Shape := ⟨2, ![512, 128]⟩
abbrev S512 : Shape := ⟨1, ![512]⟩
abbrev S512x1 : Shape := ⟨2, ![512, 1]⟩
abbrev S16x128 : Shape := ⟨2, ![16, 128]⟩
abbrev S16 : Shape := ⟨1, ![16]⟩
abbrev S16x1 : Shape := ⟨2, ![16, 1]⟩
abbrev S1024 : Shape := ⟨1, ![1024]⟩
abbrev S512x256 : Shape := ⟨2, ![512, 256]⟩
abbrev S1x1x64x256 : Shape := ⟨4, ![1, 1, 64, 256]⟩
abbrev S64x256 : Shape := ⟨2, ![64, 256]⟩
abbrev S256x256 : Shape := ⟨2, ![256, 256]⟩
abbrev S1x256 : Shape := ⟨2, ![1, 256]⟩
abbrev S256 : Shape := ⟨1, ![256]⟩
abbrev S16x256 : Shape := ⟨2, ![16, 256]⟩

abbrev nBuf : Space → Nat
  | .hbm => 9
  | .vmem => 43
  | .smem => 0
  | _ => 0

abbrev bufTy : (tb : Table) → Fin (tcTables nBuf tb) → BufTy
  | .hbm, ⟨0, _⟩ => ⟨S8192x4096, .f32⟩
  | .hbm, ⟨1, _⟩ => ⟨S8192x2048, .f32⟩
  | .hbm, ⟨2, _⟩ => ⟨S3x1024, .f32⟩
  | .hbm, ⟨3, _⟩ => ⟨S4x4x64x256, .f32⟩
  | .hbm, ⟨4, _⟩ => ⟨S1x1024, .f32⟩
  | .hbm, ⟨5, _⟩ => ⟨S8192x4096, .bf16⟩
  | .hbm, ⟨6, _⟩ => ⟨S3x1024, .f32⟩
  | .hbm, ⟨7, _⟩ => ⟨S4x4x64x256, .f32⟩
  | .hbm, ⟨8, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S16x1024, .f32⟩
  | .local _ .vmem, ⟨13, _⟩ => ⟨S16x1024, .f32⟩
  | .local _ .vmem, ⟨14, _⟩ => ⟨S16x1024, .f32⟩
  | .local _ .vmem, ⟨15, _⟩ => ⟨S16x1024, .f32⟩
  | .local _ .vmem, ⟨16, _⟩ => ⟨S16x1024, .f32⟩
  | .local _ .vmem, ⟨17, _⟩ => ⟨S16x1024, .f32⟩
  | .local _ .vmem, ⟨18, _⟩ => ⟨S16x1024, .f32⟩
  | .local _ .vmem, ⟨19, _⟩ => ⟨S16x1024, .f32⟩
  | .local _ .vmem, ⟨20, _⟩ => ⟨S16x1024, .f32⟩
  | .local _ .vmem, ⟨21, _⟩ => ⟨S16x1024, .f32⟩
  | .local _ .vmem, ⟨22, _⟩ => ⟨S16x1024, .f32⟩
  | .local _ .vmem, ⟨23, _⟩ => ⟨S16x1024, .f32⟩
  | .local _ .vmem, ⟨24, _⟩ => ⟨S16x1024, .f32⟩
  | .local _ .vmem, ⟨25, _⟩ => ⟨S16x1024, .f32⟩
  | .local _ .vmem, ⟨26, _⟩ => ⟨S16x1024, .f32⟩
  | .local _ .vmem, ⟨27, _⟩ => ⟨S16x1024, .f32⟩
  | .local _ .vmem, ⟨28, _⟩ => ⟨S16x1024, .f32⟩
  | .local _ .vmem, ⟨29, _⟩ => ⟨S16x1024, .f32⟩
  | .local _ .vmem, ⟨30, _⟩ => ⟨S3x1024, .f32⟩
  | .local _ .vmem, ⟨31, _⟩ => ⟨S4x4x64x256, .f32⟩
  | .local _ .vmem, ⟨32, _⟩ => ⟨S1x1024, .f32⟩
  | .local _ .vmem, ⟨33, _⟩ => ⟨S512x4096, .bf16⟩
  | .local _ .vmem, ⟨34, _⟩ => ⟨S512x4096, .bf16⟩
  | .local _ .vmem, ⟨35, _⟩ => ⟨S3x1024, .f32⟩
  | .local _ .vmem, ⟨36, _⟩ => ⟨S4x4x64x256, .f32⟩
  | .local _ .vmem, ⟨37, _⟩ => ⟨S1x1024, .f32⟩
  | .local _ .vmem, ⟨38, _⟩ => ⟨S544x1024, .f32⟩
  | .local _ .vmem, ⟨39, _⟩ => ⟨S544x1024, .f32⟩
  | .local _ .vmem, ⟨40, _⟩ => ⟨S528x1024, .f32⟩
  | .local _ .vmem, ⟨41, _⟩ => ⟨S528x1024, .f32⟩
  | .local _ .vmem, ⟨42, _⟩ => ⟨S512x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg16_0 : Ref sig .tc := ⟨.vmem, 31, rfl⟩
abbrev cc0_stg17_0 : Ref sig .tc := ⟨.vmem, 32, rfl⟩
abbrev cc0_stg18_0 : Ref sig .tc := ⟨.vmem, 33, rfl⟩
abbrev cc0_stg18_1 : Ref sig .tc := ⟨.vmem, 34, rfl⟩
abbrev cc0_stg19_0 : Ref sig .tc := ⟨.vmem, 35, rfl⟩
abbrev cc0_stg20_0 : Ref sig .tc := ⟨.vmem, 36, rfl⟩
abbrev cc0_stg21_0 : Ref sig .tc := ⟨.vmem, 37, rfl⟩
abbrev cc0_scratch0 : Ref sig .tc := ⟨.vmem, 38, rfl⟩
abbrev cc0_scratch1 : Ref sig .tc := ⟨.vmem, 39, rfl⟩
abbrev cc0_scratch2 : Ref sig .tc := ⟨.vmem, 40, rfl⟩
abbrev cc0_scratch3 : Ref sig .tc := ⟨.vmem, 41, rfl⟩
abbrev cc0_scratch4 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem16_0 : DmaSem sig := 31
abbrev cc0_sem17_0 : DmaSem sig := 32
abbrev cc0_sem18_0 : DmaSem sig := 33
abbrev cc0_sem18_1 : DmaSem sig := 34
abbrev cc0_sem19_0 : DmaSem sig := 35
abbrev cc0_sem20_0 : DmaSem sig := 36
abbrev cc0_sem21_0 : DmaSem sig := 37

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32_210 : BitVec 32 := 0#32
  let v622 : BitVec 1 := Scalar.cmpi .eq arg0 c0_i32_210
  let v623 : BitVec 32 := Scalar.extui v622
  let c0_i32_211 : BitVec 32 := 0#32
  let v624 : BitVec 1 := Scalar.cmpi .ne v623 c0_i32_211
  v624

def k0_cond2 (i : grid0.Coords) : BitVec 1 :=
  let arg0 : BitVec 32 := BitVec.ofNat 32 (i 0).val
  let c0_i32_212 : BitVec 32 := 0#32
  let v625 : BitVec 1 := Scalar.cmpi .sgt arg0 c0_i32_212
  let v626 : BitVec 32 := Scalar.extui v625
  let c0_i32_213 : BitVec 32 := 0#32
  let v627 : BitVec 1 := Scalar.cmpi .ne v626 c0_i32_213
  v627

def k0_cond5 (i : grid0.Coords) : BitVec 1 :=
  let arg0 : BitVec 32 := BitVec.ofNat 32 (i 0).val
  let c0_i32_702 : BitVec 32 := 0#32
  let v1446 : BitVec 1 := Scalar.cmpi .eq arg0 c0_i32_702
  let v1447 : BitVec 32 := Scalar.extui v1446
  let c0_i32_705 : BitVec 32 := 0#32
  let v1448 : BitVec 1 := Scalar.cmpi .ne v1447 c0_i32_705
  v1448

def k0_cond6 (i : grid0.Coords) : BitVec 1 :=
  let arg0 : BitVec 32 := BitVec.ofNat 32 (i 0).val
  let c0_i32_706 : BitVec 32 := 0#32
  let v1449 : BitVec 1 := Scalar.cmpi .sgt arg0 c0_i32_706
  let v1450 : BitVec 32 := Scalar.extui v1449
  let c0_i32_709 : BitVec 32 := 0#32
  let v1451 : BitVec 1 := Scalar.cmpi .ne v1450 c0_i32_709
  v1451

def k0_cond7 (i : grid0.Coords) : BitVec 1 :=
  let arg0 : BitVec 32 := BitVec.ofNat 32 (i 0).val
  let c0_i32_710 : BitVec 32 := 0#32
  let v1453 : BitVec 1 := Scalar.cmpi .eq arg0 c0_i32_710
  let v1454 : BitVec 32 := Scalar.extui v1453
  let c0_i32_713 : BitVec 32 := 0#32
  let v1455 : BitVec 1 := Scalar.cmpi .ne v1454 c0_i32_713
  v1455

def k0_cond8 (i : grid0.Coords) : BitVec 1 :=
  let arg0 : BitVec 32 := BitVec.ofNat 32 (i 0).val
  let c0_i32_714 : BitVec 32 := 0#32
  let v1456 : BitVec 1 := Scalar.cmpi .sgt arg0 c0_i32_714
  let v1457 : BitVec 32 := Scalar.extui v1456
  let c0_i32_717 : BitVec 32 := 0#32
  let v1458 : BitVec 1 := Scalar.cmpi .ne v1457 c0_i32_717
  v1458

def k0_cond9 (i : grid0.Coords) : BitVec 1 :=
  let arg0 : BitVec 32 := BitVec.ofNat 32 (i 0).val
  let c0_i32_718 : BitVec 32 := 0#32
  let v1460 : BitVec 1 := Scalar.cmpi .eq arg0 c0_i32_718
  let v1461 : BitVec 32 := Scalar.extui v1460
  let c0_i32_720 : BitVec 32 := 0#32
  let v1462 : BitVec 1 := Scalar.cmpi .ne v1461 c0_i32_720
  v1462

def k0_cond10 (i : grid0.Coords) : BitVec 1 :=
  let arg0 : BitVec 32 := BitVec.ofNat 32 (i 0).val
  let c0_i32_721 : BitVec 32 := 0#32
  let v1463 : BitVec 1 := Scalar.cmpi .sgt arg0 c0_i32_721
  let v1464 : BitVec 32 := Scalar.extui v1463
  let c0_i32_724 : BitVec 32 := 0#32
  let v1465 : BitVec 1 := Scalar.cmpi .ne v1464 c0_i32_724
  v1465

def k0_cond11 (i : grid0.Coords) : BitVec 1 :=
  let arg0 : BitVec 32 := BitVec.ofNat 32 (i 0).val
  let c0_i32_725 : BitVec 32 := 0#32
  let v1467 : BitVec 1 := Scalar.cmpi .eq arg0 c0_i32_725
  let v1468 : BitVec 32 := Scalar.extui v1467
  let c0_i32_727 : BitVec 32 := 0#32
  let v1469 : BitVec 1 := Scalar.cmpi .ne v1468 c0_i32_727
  v1469

def k0_cond12 (i : grid0.Coords) : BitVec 1 :=
  let arg0 : BitVec 32 := BitVec.ofNat 32 (i 0).val
  let c0_i32_728 : BitVec 32 := 0#32
  let v1470 : BitVec 1 := Scalar.cmpi .sgt arg0 c0_i32_728
  let v1471 : BitVec 32 := Scalar.extui v1470
  let c0_i32_731 : BitVec 32 := 0#32
  let v1472 : BitVec 1 := Scalar.cmpi .ne v1471 c0_i32_731
  v1472

def k0_cond13 (i : grid0.Coords) : BitVec 1 :=
  let arg0 : BitVec 32 := BitVec.ofNat 32 (i 0).val
  let c0_i32_732 : BitVec 32 := 0#32
  let v1474 : BitVec 1 := Scalar.cmpi .eq arg0 c0_i32_732
  let v1475 : BitVec 32 := Scalar.extui v1474
  let c0_i32_735 : BitVec 32 := 0#32
  let v1476 : BitVec 1 := Scalar.cmpi .ne v1475 c0_i32_735
  v1476

def k0_cond14 (i : grid0.Coords) : BitVec 1 :=
  let arg0 : BitVec 32 := BitVec.ofNat 32 (i 0).val
  let c0_i32_736 : BitVec 32 := 0#32
  let v1477 : BitVec 1 := Scalar.cmpi .sgt arg0 c0_i32_736
  let v1478 : BitVec 32 := Scalar.extui v1477
  let c0_i32_739 : BitVec 32 := 0#32
  let v1479 : BitVec 1 := Scalar.cmpi .ne v1478 c0_i32_739
  v1479

def k0_cond15 (i : grid0.Coords) : BitVec 1 :=
  let arg0 : BitVec 32 := BitVec.ofNat 32 (i 0).val
  let c0_i32_740 : BitVec 32 := 0#32
  let v1481 : BitVec 1 := Scalar.cmpi .eq arg0 c0_i32_740
  let v1482 : BitVec 32 := Scalar.extui v1481
  let c0_i32_743 : BitVec 32 := 0#32
  let v1483 : BitVec 1 := Scalar.cmpi .ne v1482 c0_i32_743
  v1483

def k0_cond16 (i : grid0.Coords) : BitVec 1 :=
  let arg0 : BitVec 32 := BitVec.ofNat 32 (i 0).val
  let c0_i32_744 : BitVec 32 := 0#32
  let v1484 : BitVec 1 := Scalar.cmpi .sgt arg0 c0_i32_744
  let v1485 : BitVec 32 := Scalar.extui v1484
  let c0_i32_747 : BitVec 32 := 0#32
  let v1486 : BitVec 1 := Scalar.cmpi .ne v1485 c0_i32_747
  v1486

def k0_cond17 (i : grid0.Coords) : BitVec 1 :=
  let arg0 : BitVec 32 := BitVec.ofNat 32 (i 0).val
  let c0_i32_748 : BitVec 32 := 0#32
  let v1488 : BitVec 1 := Scalar.cmpi .eq arg0 c0_i32_748
  let v1489 : BitVec 32 := Scalar.extui v1488
  let c0_i32_751 : BitVec 32 := 0#32
  let v1490 : BitVec 1 := Scalar.cmpi .ne v1489 c0_i32_751
  v1490

def k0_cond18 (i : grid0.Coords) : BitVec 1 :=
  let arg0 : BitVec 32 := BitVec.ofNat 32 (i 0).val
  let c0_i32_752 : BitVec 32 := 0#32
  let v1491 : BitVec 1 := Scalar.cmpi .sgt arg0 c0_i32_752
  let v1492 : BitVec 32 := Scalar.extui v1491
  let c0_i32_755 : BitVec 32 := 0#32
  let v1493 : BitVec 1 := Scalar.cmpi .ne v1492 c0_i32_755
  v1493

def k0_cond19 (i : grid0.Coords) : BitVec 1 :=
  let arg0 : BitVec 32 := BitVec.ofNat 32 (i 0).val
  let c0_i32_756 : BitVec 32 := 0#32
  let v1495 : BitVec 1 := Scalar.cmpi .eq arg0 c0_i32_756
  let v1496 : BitVec 32 := Scalar.extui v1495
  let c0_i32_759 : BitVec 32 := 0#32
  let v1497 : BitVec 1 := Scalar.cmpi .ne v1496 c0_i32_759
  v1497

def k0_cond20 (i : grid0.Coords) : BitVec 1 :=
  let arg0 : BitVec 32 := BitVec.ofNat 32 (i 0).val
  let c0_i32_760 : BitVec 32 := 0#32
  let v1498 : BitVec 1 := Scalar.cmpi .sgt arg0 c0_i32_760
  let v1499 : BitVec 32 := Scalar.extui v1498
  let c0_i32_763 : BitVec 32 := 0#32
  let v1500 : BitVec 1 := Scalar.cmpi .ne v1499 c0_i32_763
  v1500

def k0_cond21 (i : grid0.Coords) : BitVec 1 :=
  let arg0 : BitVec 32 := BitVec.ofNat 32 (i 0).val
  let c0_i32_764 : BitVec 32 := 0#32
  let v1502 : BitVec 1 := Scalar.cmpi .eq arg0 c0_i32_764
  let v1503 : BitVec 32 := Scalar.extui v1502
  let c0_i32_767 : BitVec 32 := 0#32
  let v1504 : BitVec 1 := Scalar.cmpi .ne v1503 c0_i32_767
  v1504

def k0_cond22 (i : grid0.Coords) : BitVec 1 :=
  let arg0 : BitVec 32 := BitVec.ofNat 32 (i 0).val
  let c0_i32_768 : BitVec 32 := 0#32
  let v1505 : BitVec 1 := Scalar.cmpi .sgt arg0 c0_i32_768
  let v1506 : BitVec 32 := Scalar.extui v1505
  let c0_i32_771 : BitVec 32 := 0#32
  let v1507 : BitVec 1 := Scalar.cmpi .ne v1506 c0_i32_771
  v1507

def k0_cond23 (i : grid0.Coords) : BitVec 1 :=
  let arg0 : BitVec 32 := BitVec.ofNat 32 (i 0).val
  let c0_i32_772 : BitVec 32 := 0#32
  let v1509 : BitVec 1 := Scalar.cmpi .eq arg0 c0_i32_772
  let v1510 : BitVec 32 := Scalar.extui v1509
  let c0_i32_775 : BitVec 32 := 0#32
  let v1511 : BitVec 1 := Scalar.cmpi .ne v1510 c0_i32_775
  v1511

def k0_cond24 (i : grid0.Coords) : BitVec 1 :=
  let arg0 : BitVec 32 := BitVec.ofNat 32 (i 0).val
  let c0_i32_776 : BitVec 32 := 0#32
  let v1512 : BitVec 1 := Scalar.cmpi .sgt arg0 c0_i32_776
  let v1513 : BitVec 32 := Scalar.extui v1512
  let c0_i32_779 : BitVec 32 := 0#32
  let v1514 : BitVec 1 := Scalar.cmpi .ne v1513 c0_i32_779
  v1514

def k0_cond25 (i : grid0.Coords) : BitVec 1 :=
  let arg0 : BitVec 32 := BitVec.ofNat 32 (i 0).val
  let c0_i32_780 : BitVec 32 := 0#32
  let v1516 : BitVec 1 := Scalar.cmpi .eq arg0 c0_i32_780
  let v1517 : BitVec 32 := Scalar.extui v1516
  let c0_i32_783 : BitVec 32 := 0#32
  let v1518 : BitVec 1 := Scalar.cmpi .ne v1517 c0_i32_783
  v1518

def k0_cond26 (i : grid0.Coords) : BitVec 1 :=
  let arg0 : BitVec 32 := BitVec.ofNat 32 (i 0).val
  let c0_i32_784 : BitVec 32 := 0#32
  let v1519 : BitVec 1 := Scalar.cmpi .sgt arg0 c0_i32_784
  let v1520 : BitVec 32 := Scalar.extui v1519
  let c0_i32_787 : BitVec 32 := 0#32
  let v1521 : BitVec 1 := Scalar.cmpi .ne v1520 c0_i32_787
  v1521

def k0_cond27 (i : grid0.Coords) : BitVec 1 :=
  let arg0 : BitVec 32 := BitVec.ofNat 32 (i 0).val
  let c0_i32_788 : BitVec 32 := 0#32
  let v1523 : BitVec 1 := Scalar.cmpi .eq arg0 c0_i32_788
  let v1524 : BitVec 32 := Scalar.extui v1523
  let c0_i32_791 : BitVec 32 := 0#32
  let v1525 : BitVec 1 := Scalar.cmpi .ne v1524 c0_i32_791
  v1525

def k0_cond28 (i : grid0.Coords) : BitVec 1 :=
  let arg0 : BitVec 32 := BitVec.ofNat 32 (i 0).val
  let c0_i32_792 : BitVec 32 := 0#32
  let v1526 : BitVec 1 := Scalar.cmpi .sgt arg0 c0_i32_792
  let v1527 : BitVec 32 := Scalar.extui v1526
  let c0_i32_795 : BitVec 32 := 0#32
  let v1528 : BitVec 1 := Scalar.cmpi .ne v1527 c0_i32_795
  v1528

def k0_cond29 (i : grid0.Coords) : BitVec 1 :=
  let arg0 : BitVec 32 := BitVec.ofNat 32 (i 0).val
  let c0_i32_796 : BitVec 32 := 0#32
  let v1530 : BitVec 1 := Scalar.cmpi .eq arg0 c0_i32_796
  let v1531 : BitVec 32 := Scalar.extui v1530
  let c0_i32_799 : BitVec 32 := 0#32
  let v1532 : BitVec 1 := Scalar.cmpi .ne v1531 c0_i32_799
  v1532

def k0_cond30 (i : grid0.Coords) : BitVec 1 :=
  let arg0 : BitVec 32 := BitVec.ofNat 32 (i 0).val
  let c0_i32_800 : BitVec 32 := 0#32
  let v1533 : BitVec 1 := Scalar.cmpi .sgt arg0 c0_i32_800
  let v1534 : BitVec 32 := Scalar.extui v1533
  let c0_i32_803 : BitVec 32 := 0#32
  let v1535 : BitVec 1 := Scalar.cmpi .ne v1534 c0_i32_803
  v1535

def k0_cond31 (i : grid0.Coords) : BitVec 1 :=
  let arg0 : BitVec 32 := BitVec.ofNat 32 (i 0).val
  let c0_i32_804 : BitVec 32 := 0#32
  let v1537 : BitVec 1 := Scalar.cmpi .eq arg0 c0_i32_804
  let v1538 : BitVec 32 := Scalar.extui v1537
  let c0_i32_807 : BitVec 32 := 0#32
  let v1539 : BitVec 1 := Scalar.cmpi .ne v1538 c0_i32_807
  v1539

def k0_cond32 (i : grid0.Coords) : BitVec 1 :=
  let arg0 : BitVec 32 := BitVec.ofNat 32 (i 0).val
  let c0_i32_808 : BitVec 32 := 0#32
  let v1540 : BitVec 1 := Scalar.cmpi .sgt arg0 c0_i32_808
  let v1541 : BitVec 32 := Scalar.extui v1540
  let c0_i32_811 : BitVec 32 := 0#32
  let v1542 : BitVec 1 := Scalar.cmpi .ne v1541 c0_i32_811
  v1542

def k0_cond33 (i : grid0.Coords) : BitVec 1 :=
  let arg0 : BitVec 32 := BitVec.ofNat 32 (i 0).val
  let c0_i32_812 : BitVec 32 := 0#32
  let v1544 : BitVec 1 := Scalar.cmpi .eq arg0 c0_i32_812
  let v1545 : BitVec 32 := Scalar.extui v1544
  let c0_i32_815 : BitVec 32 := 0#32
  let v1546 : BitVec 1 := Scalar.cmpi .ne v1545 c0_i32_815
  v1546

def k0_cond34 (i : grid0.Coords) : BitVec 1 :=
  let arg0 : BitVec 32 := BitVec.ofNat 32 (i 0).val
  let c0_i32_816 : BitVec 32 := 0#32
  let v1547 : BitVec 1 := Scalar.cmpi .sgt arg0 c0_i32_816
  let v1548 : BitVec 32 := Scalar.extui v1547
  let c0_i32_819 : BitVec 32 := 0#32
  let v1549 : BitVec 1 := Scalar.cmpi .ne v1548 c0_i32_819
  v1549

def k0_cond35 (i : grid0.Coords) : BitVec 1 :=
  let arg0 : BitVec 32 := BitVec.ofNat 32 (i 0).val
  let c0_i32_820 : BitVec 32 := 0#32
  let v1551 : BitVec 1 := Scalar.cmpi .eq arg0 c0_i32_820
  let v1552 : BitVec 32 := Scalar.extui v1551
  let c0_i32_823 : BitVec 32 := 0#32
  let v1553 : BitVec 1 := Scalar.cmpi .ne v1552 c0_i32_823
  v1553

def k0_cond36 (i : grid0.Coords) : BitVec 1 :=
  let arg0 : BitVec 32 := BitVec.ofNat 32 (i 0).val
  let c0_i32_824 : BitVec 32 := 0#32
  let v1554 : BitVec 1 := Scalar.cmpi .sgt arg0 c0_i32_824
  let v1555 : BitVec 32 := Scalar.extui v1554
  let c0_i32_827 : BitVec 32 := 0#32
  let v1556 : BitVec 1 := Scalar.cmpi .ne v1555 c0_i32_827
  v1556

def k0_cond3 (i : grid0.Coords) : BitVec 1 :=
  let arg0 : BitVec 32 := BitVec.ofNat 32 (i 0).val
  let c0_i32_698 : BitVec 32 := 0#32
  let v1439 : BitVec 1 := Scalar.cmpi .eq arg0 c0_i32_698
  let v1440 : BitVec 32 := Scalar.extui v1439
  let c0_i32_699 : BitVec 32 := 0#32
  let v1441 : BitVec 1 := Scalar.cmpi .ne v1440 c0_i32_699
  v1441

def k0_cond4 (i : grid0.Coords) : BitVec 1 :=
  let arg0 : BitVec 32 := BitVec.ofNat 32 (i 0).val
  let c0_i32_700 : BitVec 32 := 0#32
  let v1442 : BitVec 1 := Scalar.cmpi .sgt arg0 c0_i32_700
  let v1443 : BitVec 32 := Scalar.extui v1442
  let c0_i32_701 : BitVec 32 := 0#32
  let v1444 : BitVec 1 := Scalar.cmpi .ne v1443 c0_i32_701
  v1444

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_6 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_7 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_8 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let c0_i32_0 : BitVec 32 := 0#32
  ![v2.toNat, c3_i32.toNat]

def cc0_transform_9 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_10 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c1_i32_0 : BitVec 32 := 1#32
  let c0_i32 : BitVec 32 := 0#32
  ![v2.toNat, c1_i32_0.toNat]

def cc0_transform_11 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c2_i32 : BitVec 32 := 2#32
  let c0_i32 : BitVec 32 := 0#32
  ![v2.toNat, c2_i32.toNat]

def cc0_transform_12 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c3_i32 : BitVec 32 := 3#32
  let c0_i32 : BitVec 32 := 0#32
  ![v2.toNat, c3_i32.toNat]

def cc0_transform_13 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_14 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c1_i32_0 : BitVec 32 := 1#32
  let c0_i32 : BitVec 32 := 0#32
  ![v2.toNat, c1_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S16x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S16x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S16x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S16x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S16x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S3x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S4x4x64x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S512x4096 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S3x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S4x4x64x256 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]
-- ==== ReferenceIdeal.lean ====
abbrev S8192x4096 : Shape := ⟨2, ![8192, 4096]⟩
abbrev S8192x2048 : Shape := ⟨2, ![8192, 2048]⟩
abbrev S3x1024 : Shape := ⟨2, ![3, 1024]⟩
abbrev S4x4x64x256 : Shape := ⟨4, ![4, 4, 64, 256]⟩
abbrev S1x1024 : Shape := ⟨2, ![1, 1024]⟩
abbrev S8192x1024 : Shape := ⟨2, ![8192, 1024]⟩
abbrev S_ : Shape := ⟨0, ![]⟩
abbrev S2x1024 : Shape := ⟨2, ![2, 1024]⟩
abbrev S8194x1024 : Shape := ⟨2, ![8194, 1024]⟩
abbrev S8192x8x128 : Shape := ⟨3, ![8192, 8, 128]⟩
abbrev S8192x8 : Shape := ⟨2, ![8192, 8]⟩
abbrev S8192x8x1 : Shape := ⟨3, ![8192, 8, 1]⟩
abbrev S8192x4x256 : Shape := ⟨3, ![8192, 4, 256]⟩
abbrev S8192 : Shape := ⟨1, ![8192]⟩
abbrev S8192x1x256 : Shape := ⟨3, ![8192, 1, 256]⟩
abbrev S8192x256 : Shape := ⟨2, ![8192, 256]⟩
abbrev S2x256 : Shape := ⟨2, ![2, 256]⟩
abbrev S8190x256 : Shape := ⟨2, ![8190, 256]⟩
abbrev S8192x1 : Shape := ⟨2, ![8192, 1]⟩
abbrev S4x256 : Shape := ⟨2, ![4, 256]⟩
abbrev S8188x256 : Shape := ⟨2, ![8188, 256]⟩
abbrev S8x256 : Shape := ⟨2, ![8, 256]⟩
abbrev S8184x256 : Shape := ⟨2, ![8184, 256]⟩
abbrev S16x256 : Shape := ⟨2, ![16, 256]⟩
abbrev S8176x256 : Shape := ⟨2, ![8176, 256]⟩
abbrev S4x256x256 : Shape := ⟨3, ![4, 256, 256]⟩
abbrev S4x256x8192 : Shape := ⟨3, ![4, 256, 8192]⟩
abbrev S8192x4 : Shape := ⟨2, ![8192, 4]⟩
abbrev S8192x4x1 : Shape := ⟨3, ![8192, 4, 1]⟩
abbrev S1024 : Shape := ⟨1, ![1024]⟩
abbrev S4x8192x256 : Shape := ⟨3, ![4, 8192, 256]⟩

abbrev nBuf : Space → Nat
  | .hbm => 332
  | .vmem => 0
  | .smem => 0
  | _ => 0

abbrev hbmTy0_0 (i : Nat) : BufTy := match i % 128 with
  | 0 => ⟨S8192x4096, .f32⟩
  | 1 => ⟨S8192x2048, .f32⟩
  | 2 => ⟨S3x1024, .f32⟩
  | 3 => ⟨S4x4x64x256, .f32⟩
  | 4 => ⟨S1x1024, .f32⟩
  | 5 => ⟨S8192x1024, .f32⟩
  | 6 => ⟨S8192x1024, .f32⟩
  | 7 => ⟨S8192x1024, .f32⟩
  | 8 => ⟨S8192x1024, .f32⟩
  | 9 => ⟨S8192x1024, .f32⟩
  | 10 => ⟨S_, .f32⟩
  | 11 => ⟨S2x1024, .f32⟩
  | 12 => ⟨S8194x1024, .f32⟩
  | 13 => ⟨S_, .f32⟩
  | 14 => ⟨S2x1024, .f32⟩
  | 15 => ⟨S1x1024, .f32⟩
  | 16 => ⟨S8192x1024, .f32⟩
  | 17 => ⟨S8192x1024, .f32⟩
  | 18 => ⟨S8192x1024, .f32⟩
  | 19 => ⟨S1x1024, .f32⟩
  | 20 => ⟨S8192x1024, .f32⟩
  | 21 => ⟨S8192x1024, .f32⟩
  | 22 => ⟨S8192x1024, .f32⟩
  | 23 => ⟨S8192x1024, .f32⟩
  | 24 => ⟨S1x1024, .f32⟩
  | 25 => ⟨S8192x1024, .f32⟩
  | 26 => ⟨S8192x1024, .f32⟩
  | 27 => ⟨S8192x1024, .f32⟩
  | 28 => ⟨S8192x1024, .f32⟩
  | 29 => ⟨S8192x1024, .f32⟩
  | 30 => ⟨S8192x8x128, .f32⟩
  | 31 => ⟨S8192x8x128, .f32⟩
  | 32 => ⟨S_, .f32⟩
  | 33 => ⟨S8192x8, .f32⟩
  | 34 => ⟨S8192x8x1, .f32⟩
  | 35 => ⟨S_, .f32⟩
  | 36 => ⟨S8192x8x1, .f32⟩
  | 37 => ⟨S8192x8x1, .f32⟩
  | 38 => ⟨S_, .f32⟩
  | 39 => ⟨S8192x8x1, .f32⟩
  | 40 => ⟨S8192x8x1, .f32⟩
  | 41 => ⟨S8192x8x1, .f32⟩
  | 42 => ⟨S8192x8x1, .f32⟩
  | 43 => ⟨S_, .f32⟩
  | 44 => ⟨S8192x8x1, .f32⟩
  | 45 => ⟨S8192x8x1, .f32⟩
  | 46 => ⟨S8192x8x128, .f32⟩
  | 47 => ⟨S8192x8x128, .f32⟩
  | 48 => ⟨S8192x1024, .f32⟩
  | 49 => ⟨S8192x4x256, .f32⟩
  | 50 => ⟨S_, .f32⟩
  | 51 => ⟨S_, .f32⟩
  | 52 => ⟨S8192x4x256, .f32⟩
  | 53 => ⟨S8192, .f32⟩
  | 54 => ⟨S_, .f32⟩
  | 55 => ⟨S8192, .f32⟩
  | 56 => ⟨S8192, .f32⟩
  | 57 => ⟨S8192x1x256, .f32⟩
  | 58 => ⟨S8192x256, .f32⟩
  | 59 => ⟨S_, .f32⟩
  | 60 => ⟨S2x256, .f32⟩
  | 61 => ⟨S8190x256, .f32⟩
  | 62 => ⟨S8192x256, .f32⟩
  | 63 => ⟨S_, .f32⟩
  | 64 => ⟨S2x256, .f32⟩
  | 65 => ⟨S_, .f32⟩
  | 66 => ⟨S8192, .f32⟩
  | 67 => ⟨S8192, .f32⟩
  | 68 => ⟨S8192x1, .f32⟩
  | 69 => ⟨S8192x256, .f32⟩
  | 70 => ⟨S8192x256, .f32⟩
  | 71 => ⟨S8192x256, .f32⟩
  | 72 => ⟨S8192x1x256, .f32⟩
  | 73 => ⟨S8192x256, .f32⟩
  | 74 => ⟨S8192x256, .f32⟩
  | 75 => ⟨S8192x1x256, .f32⟩
  | 76 => ⟨S8192x256, .f32⟩
  | 77 => ⟨S_, .f32⟩
  | 78 => ⟨S4x256, .f32⟩
  | 79 => ⟨S8188x256, .f32⟩
  | 80 => ⟨S8192x256, .f32⟩
  | 81 => ⟨S_, .f32⟩
  | 82 => ⟨S4x256, .f32⟩
  | 83 => ⟨S_, .f32⟩
  | 84 => ⟨S8192, .f32⟩
  | 85 => ⟨S8192, .f32⟩
  | 86 => ⟨S8192x1, .f32⟩
  | 87 => ⟨S8192x256, .f32⟩
  | 88 => ⟨S8192x256, .f32⟩
  | 89 => ⟨S8192x256, .f32⟩
  | 90 => ⟨S8192x1x256, .f32⟩
  | 91 => ⟨S8192x256, .f32⟩
  | 92 => ⟨S8192x256, .f32⟩
  | 93 => ⟨S8192x1x256, .f32⟩
  | 94 => ⟨S8192x256, .f32⟩
  | 95 => ⟨S_, .f32⟩
  | 96 => ⟨S8x256, .f32⟩
  | 97 => ⟨S8184x256, .f32⟩
  | 98 => ⟨S8192x256, .f32⟩
  | 99 => ⟨S_, .f32⟩
  | 100 => ⟨S8x256, .f32⟩
  | 101 => ⟨S_, .f32⟩
  | 102 => ⟨S8192, .f32⟩
  | 103 => ⟨S8192, .f32⟩
  | 104 => ⟨S8192x1, .f32⟩
  | 105 => ⟨S8192x256, .f32⟩
  | 106 => ⟨S8192x256, .f32⟩
  | 107 => ⟨S8192x256, .f32⟩
  | 108 => ⟨S8192x1x256, .f32⟩
  | 109 => ⟨S8192x256, .f32⟩
  | 110 => ⟨S8192x256, .f32⟩
  | 111 => ⟨S8192x1x256, .f32⟩
  | 112 => ⟨S8192x256, .f32⟩
  | 113 => ⟨S_, .f32⟩
  | 114 => ⟨S16x256, .f32⟩
  | 115 => ⟨S8176x256, .f32⟩
  | 116 => ⟨S8192x256, .f32⟩
  | 117 => ⟨S_, .f32⟩
  | 118 => ⟨S16x256, .f32⟩
  | 119 => ⟨S_, .f32⟩
  | 120 => ⟨S8192, .f32⟩
  | 121 => ⟨S8192, .f32⟩
  | 122 => ⟨S8192x1, .f32⟩
  | 123 => ⟨S8192x256, .f32⟩
  | 124 => ⟨S8192x256, .f32⟩
  | 125 => ⟨S8192x256, .f32⟩
  | 126 => ⟨S8192x1x256, .f32⟩
  | 127 => ⟨S8192x256, .f32⟩
  | _ => ⟨S8192x4096, .f32⟩

abbrev hbmTy0_1 (i : Nat) : BufTy := match i % 128 with
  | 0 => ⟨S8192x256, .f32⟩
  | 1 => ⟨S8192x1x256, .f32⟩
  | 2 => ⟨S8192x1x256, .f32⟩
  | 3 => ⟨S8192x1x256, .f32⟩
  | 4 => ⟨S8192x1x256, .f32⟩
  | 5 => ⟨S8192x4x256, .f32⟩
  | 6 => ⟨S4x4x64x256, .f32⟩
  | 7 => ⟨S4x256x256, .f32⟩
  | 8 => ⟨S4x256x8192, .f32⟩
  | 9 => ⟨S8192x4x256, .f32⟩
  | 10 => ⟨S8192x4x256, .f32⟩
  | 11 => ⟨S_, .f32⟩
  | 12 => ⟨S8192x4, .f32⟩
  | 13 => ⟨S8192x4x1, .f32⟩
  | 14 => ⟨S_, .f32⟩
  | 15 => ⟨S8192x4x1, .f32⟩
  | 16 => ⟨S8192x4x1, .f32⟩
  | 17 => ⟨S_, .f32⟩
  | 18 => ⟨S8192x4x1, .f32⟩
  | 19 => ⟨S8192x4x1, .f32⟩
  | 20 => ⟨S8192x4x1, .f32⟩
  | 21 => ⟨S8192x4x1, .f32⟩
  | 22 => ⟨S_, .f32⟩
  | 23 => ⟨S8192x4x1, .f32⟩
  | 24 => ⟨S8192x4x1, .f32⟩
  | 25 => ⟨S8192x4x256, .f32⟩
  | 26 => ⟨S8192x4x256, .f32⟩
  | 27 => ⟨S8192x1024, .f32⟩
  | 28 => ⟨S8192x1024, .f32⟩
  | 29 => ⟨S8192x1024, .f32⟩
  | 30 => ⟨S8192x2048, .f32⟩
  | 31 => ⟨S8192x1024, .f32⟩
  | 32 => ⟨S8192x1024, .f32⟩
  | 33 => ⟨S8192x1024, .f32⟩
  | 34 => ⟨S_, .f32⟩
  | 35 => ⟨S1024, .f32⟩
  | 36 => ⟨S1x1024, .f32⟩
  | 37 => ⟨S8192x1024, .f32⟩
  | 38 => ⟨S8192x1024, .f32⟩
  | 39 => ⟨S8192x4x256, .f32⟩
  | 40 => ⟨S8192x4x256, .f32⟩
  | 41 => ⟨S_, .f32⟩
  | 42 => ⟨S8192x4, .f32⟩
  | 43 => ⟨S8192x4x1, .f32⟩
  | 44 => ⟨S8192x4x256, .f32⟩
  | 45 => ⟨S8192x4x256, .f32⟩
  | 46 => ⟨S8192x4x1, .f32⟩
  | 47 => ⟨S_, .f32⟩
  | 48 => ⟨S8192x4x1, .f32⟩
  | 49 => ⟨S8192x4x1, .f32⟩
  | 50 => ⟨S_, .f32⟩
  | 51 => ⟨S8192x4, .f32⟩
  | 52 => ⟨S8192x4x256, .f32⟩
  | 53 => ⟨S8192x4x256, .f32⟩
  | 54 => ⟨S8192x4x256, .f32⟩
  | 55 => ⟨S8192x4x256, .f32⟩
  | 56 => ⟨S8192x4x256, .f32⟩
  | 57 => ⟨S4x256x8192, .f32⟩
  | 58 => ⟨S4x8192x256, .f32⟩
  | 59 => ⟨S8192x4x256, .f32⟩
  | 60 => ⟨S4x256x256, .f32⟩
  | 61 => ⟨S4x256x256, .f32⟩
  | 62 => ⟨S4x4x64x256, .f32⟩
  | 63 => ⟨S4x4x64x256, .f32⟩
  | 64 => ⟨S8192x1x256, .f32⟩
  | 65 => ⟨S8192x256, .f32⟩
  | 66 => ⟨S8192x1x256, .f32⟩
  | 67 => ⟨S8192x256, .f32⟩
  | 68 => ⟨S8192x1x256, .f32⟩
  | 69 => ⟨S8192x256, .f32⟩
  | 70 => ⟨S8192x1x256, .f32⟩
  | 71 => ⟨S8192x256, .f32⟩
  | 72 => ⟨S8192x256, .f32⟩
  | 73 => ⟨S8192x1x256, .f32⟩
  | 74 => ⟨S_, .f32⟩
  | 75 => ⟨S8192x4x256, .f32⟩
  | 76 => ⟨S8192x256, .f32⟩
  | 77 => ⟨S8192x256, .f32⟩
  | 78 => ⟨S8192x256, .f32⟩
  | 79 => ⟨S16x256, .f32⟩
  | 80 => ⟨S8176x256, .f32⟩
  | 81 => ⟨S_, .f32⟩
  | 82 => ⟨S8192x256, .f32⟩
  | 83 => ⟨S8192x256, .f32⟩
  | 84 => ⟨S8192x1x256, .f32⟩
  | 85 => ⟨S_, .f32⟩
  | 86 => ⟨S8192x4x256, .f32⟩
  | 87 => ⟨S8192x256, .f32⟩
  | 88 => ⟨S8192x1x256, .f32⟩
  | 89 => ⟨S_, .f32⟩
  | 90 => ⟨S8192x4x256, .f32⟩
  | 91 => ⟨S8192x4x256, .f32⟩
  | 92 => ⟨S8192x256, .f32⟩
  | 93 => ⟨S8192x256, .f32⟩
  | 94 => ⟨S8192x256, .f32⟩
  | 95 => ⟨S8x256, .f32⟩
  | 96 => ⟨S8184x256, .f32⟩
  | 97 => ⟨S_, .f32⟩
  | 98 => ⟨S8192x256, .f32⟩
  | 99 => ⟨S8192x256, .f32⟩
  | 100 => ⟨S8192x1x256, .f32⟩
  | 101 => ⟨S_, .f32⟩
  | 102 => ⟨S8192x4x256, .f32⟩
  | 103 => ⟨S8192x4x256, .f32⟩
  | 104 => ⟨S8192x256, .f32⟩
  | 105 => ⟨S8192x1x256, .f32⟩
  | 106 => ⟨S_, .f32⟩
  | 107 => ⟨S8192x4x256, .f32⟩
  | 108 => ⟨S8192x4x256, .f32⟩
  | 109 => ⟨S8192x256, .f32⟩
  | 110 => ⟨S8192x256, .f32⟩
  | 111 => ⟨S8192x256, .f32⟩
  | 112 => ⟨S4x256, .f32⟩
  | 113 => ⟨S8188x256, .f32⟩
  | 114 => ⟨S_, .f32⟩
  | 115 => ⟨S8192x256, .f32⟩
  | 116 => ⟨S8192x256, .f32⟩
  | 117 => ⟨S8192x1x256, .f32⟩
  | 118 => ⟨S_, .f32⟩
  | 119 => ⟨S8192x4x256, .f32⟩
  | 120 => ⟨S8192x4x256, .f32⟩
  | 121 => ⟨S8192x256, .f32⟩
  | 122 => ⟨S8192x1x256, .f32⟩
  | 123 => ⟨S_, .f32⟩
  | 124 => ⟨S8192x4x256, .f32⟩
  | 125 => ⟨S8192x4x256, .f32⟩
  | 126 => ⟨S8192x256, .f32⟩
  | 127 => ⟨S8192x256, .f32⟩
  | _ => ⟨S8192x4096, .f32⟩

abbrev hbmTy0_2 (i : Nat) : BufTy := match i % 128 with
  | 0 => ⟨S8192x256, .f32⟩
  | 1 => ⟨S2x256, .f32⟩
  | 2 => ⟨S8190x256, .f32⟩
  | 3 => ⟨S_, .f32⟩
  | 4 => ⟨S8192x256, .f32⟩
  | 5 => ⟨S8192x256, .f32⟩
  | 6 => ⟨S8192x1x256, .f32⟩
  | 7 => ⟨S_, .f32⟩
  | 8 => ⟨S8192x4x256, .f32⟩
  | 9 => ⟨S8192x4x256, .f32⟩
  | 10 => ⟨S_, .f32⟩
  | 11 => ⟨S_, .f32⟩
  | 12 => ⟨S8192x4x256, .f32⟩
  | 13 => ⟨S8192x4x256, .f32⟩
  | 14 => ⟨S8192x1024, .f32⟩
  | 15 => ⟨S8192x8x128, .f32⟩
  | 16 => ⟨S8192x8x128, .f32⟩
  | 17 => ⟨S_, .f32⟩
  | 18 => ⟨S8192x8, .f32⟩
  | 19 => ⟨S8192x8x1, .f32⟩
  | 20 => ⟨S8192x8x128, .f32⟩
  | 21 => ⟨S8192x8x128, .f32⟩
  | 22 => ⟨S8192x8x1, .f32⟩
  | 23 => ⟨S_, .f32⟩
  | 24 => ⟨S8192x8x1, .f32⟩
  | 25 => ⟨S8192x8x1, .f32⟩
  | 26 => ⟨S_, .f32⟩
  | 27 => ⟨S8192x8, .f32⟩
  | 28 => ⟨S8192x8x128, .f32⟩
  | 29 => ⟨S8192x8x128, .f32⟩
  | 30 => ⟨S8192x8x128, .f32⟩
  | 31 => ⟨S8192x8x128, .f32⟩
  | 32 => ⟨S8192x8x128, .f32⟩
  | 33 => ⟨S8192x1024, .f32⟩
  | 34 => ⟨S8192x1024, .f32⟩
  | 35 => ⟨S8192x1024, .f32⟩
  | 36 => ⟨S8192x1024, .f32⟩
  | 37 => ⟨S8192x1024, .f32⟩
  | 38 => ⟨S8192x1024, .f32⟩
  | 39 => ⟨S_, .f32⟩
  | 40 => ⟨S1024, .f32⟩
  | 41 => ⟨S1x1024, .f32⟩
  | 42 => ⟨S_, .f32⟩
  | 43 => ⟨S8194x1024, .f32⟩
  | 44 => ⟨S_, .f32⟩
  | 45 => ⟨S3x1024, .f32⟩
  | 46 => ⟨S8192x1024, .f32⟩
  | 47 => ⟨S8192x1024, .f32⟩
  | 48 => ⟨S8192x1024, .f32⟩
  | 49 => ⟨S_, .f32⟩
  | 50 => ⟨S1024, .f32⟩
  | 51 => ⟨S1x1024, .f32⟩
  | 52 => ⟨S_, .f32⟩
  | 53 => ⟨S8194x1024, .f32⟩
  | 54 => ⟨S8194x1024, .f32⟩
  | 55 => ⟨S_, .f32⟩
  | 56 => ⟨S3x1024, .f32⟩
  | 57 => ⟨S3x1024, .f32⟩
  | 58 => ⟨S8192x1024, .f32⟩
  | 59 => ⟨S8192x1024, .f32⟩
  | 60 => ⟨S8192x1024, .f32⟩
  | 61 => ⟨S_, .f32⟩
  | 62 => ⟨S1024, .f32⟩
  | 63 => ⟨S1x1024, .f32⟩
  | 64 => ⟨S_, .f32⟩
  | 65 => ⟨S8194x1024, .f32⟩
  | 66 => ⟨S8194x1024, .f32⟩
  | 67 => ⟨S_, .f32⟩
  | 68 => ⟨S3x1024, .f32⟩
  | 69 => ⟨S3x1024, .f32⟩
  | 70 => ⟨S2x1024, .f32⟩
  | 71 => ⟨S8192x1024, .f32⟩
  | 72 => ⟨S8192x1024, .f32⟩
  | 73 => ⟨S8192x1024, .f32⟩
  | 74 => ⟨S8192x4096, .f32⟩
  | 75 => ⟨S8192x4096, .bf16⟩
  | _ => ⟨S8192x4096, .f32⟩

abbrev hbmTy (i : Nat) : BufTy := match i / 128 with
  | 0 => hbmTy0_0 i
  | 1 => hbmTy0_1 i
  | 2 => hbmTy0_2 i
  | _ => ⟨S8192x4096, .f32⟩

abbrev bufTy : (tb : Table) → Fin (tcTables nBuf tb) → BufTy
  | .hbm, ⟨i, _⟩ => hbmTy i
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_1 : Ref sig .tc := ⟨.hbm, 32, rfl⟩
abbrev main_v25 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_4 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_call0_call0_cst : Ref sig .tc := ⟨.hbm, 50, rfl⟩
abbrev main_call0_call0_v0 : Ref sig .tc := ⟨.hbm, 51, rfl⟩
abbrev main_v39 : Ref sig .tc := ⟨.hbm, 52, rfl⟩
abbrev main_v40 : Ref sig .tc := ⟨.hbm, 53, rfl⟩
abbrev main_cst_5 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_6 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_7 : Ref sig .tc := ⟨.hbm, 63, rfl⟩
abbrev main_v48 : Ref sig .tc := ⟨.hbm, 64, rfl⟩
abbrev main_cst_8 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_9 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_10 : Ref sig .tc := ⟨.hbm, 81, rfl⟩
abbrev main_v63 : Ref sig .tc := ⟨.hbm, 82, rfl⟩
abbrev main_cst_11 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_cst_12 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_cst_13 : Ref sig .tc := ⟨.hbm, 99, rfl⟩
abbrev main_v78 : Ref sig .tc := ⟨.hbm, 100, rfl⟩
abbrev main_cst_14 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_cst_15 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_cst_16 : Ref sig .tc := ⟨.hbm, 117, rfl⟩
abbrev main_v93 : Ref sig .tc := ⟨.hbm, 118, rfl⟩
abbrev main_cst_17 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_cst_18 : Ref sig .tc := ⟨.hbm, 139, rfl⟩
abbrev main_v113 : Ref sig .tc := ⟨.hbm, 140, rfl⟩
abbrev main_v114 : Ref sig .tc := ⟨.hbm, 141, rfl⟩
abbrev main_cst_19 : Ref sig .tc := ⟨.hbm, 142, rfl⟩
abbrev main_v115 : Ref sig .tc := ⟨.hbm, 143, rfl⟩
abbrev main_v116 : Ref sig .tc := ⟨.hbm, 144, rfl⟩
abbrev main_cst_20 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_cst_21 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_cst_22 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_cst_23 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_cst_24 : Ref sig .tc := ⟨.hbm, 175, rfl⟩
abbrev main_v143 : Ref sig .tc := ⟨.hbm, 176, rfl⟩
abbrev main_v144 : Ref sig .tc := ⟨.hbm, 177, rfl⟩
abbrev main_cst_25 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_v162 : Ref sig .tc := ⟨.hbm, 196, rfl⟩
abbrev main_v163 : Ref sig .tc := ⟨.hbm, 197, rfl⟩
abbrev main_v164 : Ref sig .tc := ⟨.hbm, 198, rfl⟩
abbrev main_v165 : Ref sig .tc := ⟨.hbm, 199, rfl⟩
abbrev main_v166 : Ref sig .tc := ⟨.hbm, 200, rfl⟩
abbrev main_v167 : Ref sig .tc := ⟨.hbm, 201, rfl⟩
abbrev main_cst_26 : Ref sig .tc := ⟨.hbm, 202, rfl⟩
abbrev main_v168 : Ref sig .tc := ⟨.hbm, 203, rfl⟩
abbrev main_v169 : Ref sig .tc := ⟨.hbm, 204, rfl⟩
abbrev main_v170 : Ref sig .tc := ⟨.hbm, 205, rfl⟩
abbrev main_v171 : Ref sig .tc := ⟨.hbm, 206, rfl⟩
abbrev main_v172 : Ref sig .tc := ⟨.hbm, 207, rfl⟩
abbrev main_v173 : Ref sig .tc := ⟨.hbm, 208, rfl⟩
abbrev main_cst_27 : Ref sig .tc := ⟨.hbm, 209, rfl⟩
abbrev main_v174 : Ref sig .tc := ⟨.hbm, 210, rfl⟩
abbrev main_v175 : Ref sig .tc := ⟨.hbm, 211, rfl⟩
abbrev main_v176 : Ref sig .tc := ⟨.hbm, 212, rfl⟩
abbrev main_cst_28 : Ref sig .tc := ⟨.hbm, 213, rfl⟩
abbrev main_v177 : Ref sig .tc := ⟨.hbm, 214, rfl⟩
abbrev main_v178 : Ref sig .tc := ⟨.hbm, 215, rfl⟩
abbrev main_v179 : Ref sig .tc := ⟨.hbm, 216, rfl⟩
abbrev main_cst_29 : Ref sig .tc := ⟨.hbm, 217, rfl⟩
abbrev main_v180 : Ref sig .tc := ⟨.hbm, 218, rfl⟩
abbrev main_v181 : Ref sig .tc := ⟨.hbm, 219, rfl⟩
abbrev main_v182 : Ref sig .tc := ⟨.hbm, 220, rfl⟩
abbrev main_v183 : Ref sig .tc := ⟨.hbm, 221, rfl⟩
abbrev main_v184 : Ref sig .tc := ⟨.hbm, 222, rfl⟩
abbrev main_v185 : Ref sig .tc := ⟨.hbm, 223, rfl⟩
abbrev main_v186 : Ref sig .tc := ⟨.hbm, 224, rfl⟩
abbrev main_cst_30 : Ref sig .tc := ⟨.hbm, 225, rfl⟩
abbrev main_v187 : Ref sig .tc := ⟨.hbm, 226, rfl⟩
abbrev main_v188 : Ref sig .tc := ⟨.hbm, 227, rfl⟩
abbrev main_v189 : Ref sig .tc := ⟨.hbm, 228, rfl⟩
abbrev main_cst_31 : Ref sig .tc := ⟨.hbm, 229, rfl⟩
abbrev main_v190 : Ref sig .tc := ⟨.hbm, 230, rfl⟩
abbrev main_v191 : Ref sig .tc := ⟨.hbm, 231, rfl⟩
abbrev main_v192 : Ref sig .tc := ⟨.hbm, 232, rfl⟩
abbrev main_v193 : Ref sig .tc := ⟨.hbm, 233, rfl⟩
abbrev main_cst_32 : Ref sig .tc := ⟨.hbm, 234, rfl⟩
abbrev main_v194 : Ref sig .tc := ⟨.hbm, 235, rfl⟩
abbrev main_v195 : Ref sig .tc := ⟨.hbm, 236, rfl⟩
abbrev main_v196 : Ref sig .tc := ⟨.hbm, 237, rfl⟩
abbrev main_v197 : Ref sig .tc := ⟨.hbm, 238, rfl⟩
abbrev main_v198 : Ref sig .tc := ⟨.hbm, 239, rfl⟩
abbrev main_v199 : Ref sig .tc := ⟨.hbm, 240, rfl⟩
abbrev main_v200 : Ref sig .tc := ⟨.hbm, 241, rfl⟩
abbrev main_cst_33 : Ref sig .tc := ⟨.hbm, 242, rfl⟩
abbrev main_v201 : Ref sig .tc := ⟨.hbm, 243, rfl⟩
abbrev main_v202 : Ref sig .tc := ⟨.hbm, 244, rfl⟩
abbrev main_v203 : Ref sig .tc := ⟨.hbm, 245, rfl⟩
abbrev main_cst_34 : Ref sig .tc := ⟨.hbm, 246, rfl⟩
abbrev main_v204 : Ref sig .tc := ⟨.hbm, 247, rfl⟩
abbrev main_v205 : Ref sig .tc := ⟨.hbm, 248, rfl⟩
abbrev main_v206 : Ref sig .tc := ⟨.hbm, 249, rfl⟩
abbrev main_v207 : Ref sig .tc := ⟨.hbm, 250, rfl⟩
abbrev main_cst_35 : Ref sig .tc := ⟨.hbm, 251, rfl⟩
abbrev main_v208 : Ref sig .tc := ⟨.hbm, 252, rfl⟩
abbrev main_v209 : Ref sig .tc := ⟨.hbm, 253, rfl⟩
abbrev main_v210 : Ref sig .tc := ⟨.hbm, 254, rfl⟩
abbrev main_v211 : Ref sig .tc := ⟨.hbm, 255, rfl⟩
abbrev main_v212 : Ref sig .tc := ⟨.hbm, 256, rfl⟩
abbrev main_v213 : Ref sig .tc := ⟨.hbm, 257, rfl⟩
abbrev main_v214 : Ref sig .tc := ⟨.hbm, 258, rfl⟩
abbrev main_cst_36 : Ref sig .tc := ⟨.hbm, 259, rfl⟩
abbrev main_v215 : Ref sig .tc := ⟨.hbm, 260, rfl⟩
abbrev main_v216 : Ref sig .tc := ⟨.hbm, 261, rfl⟩
abbrev main_v217 : Ref sig .tc := ⟨.hbm, 262, rfl⟩
abbrev main_cst_37 : Ref sig .tc := ⟨.hbm, 263, rfl⟩
abbrev main_v218 : Ref sig .tc := ⟨.hbm, 264, rfl⟩
abbrev main_v219 : Ref sig .tc := ⟨.hbm, 265, rfl⟩
abbrev main_call1_call0_cst : Ref sig .tc := ⟨.hbm, 266, rfl⟩
abbrev main_call1_call0_v0 : Ref sig .tc := ⟨.hbm, 267, rfl⟩
abbrev main_v220 : Ref sig .tc := ⟨.hbm, 268, rfl⟩
abbrev main_v221 : Ref sig .tc := ⟨.hbm, 269, rfl⟩
abbrev main_v222 : Ref sig .tc := ⟨.hbm, 270, rfl⟩
abbrev main_v223 : Ref sig .tc := ⟨.hbm, 271, rfl⟩
abbrev main_v224 : Ref sig .tc := ⟨.hbm, 272, rfl⟩
abbrev main_cst_38 : Ref sig .tc := ⟨.hbm, 273, rfl⟩
abbrev main_v225 : Ref sig .tc := ⟨.hbm, 274, rfl⟩
abbrev main_v226 : Ref sig .tc := ⟨.hbm, 275, rfl⟩
abbrev main_v227 : Ref sig .tc := ⟨.hbm, 276, rfl⟩
abbrev main_v228 : Ref sig .tc := ⟨.hbm, 277, rfl⟩
abbrev main_v229 : Ref sig .tc := ⟨.hbm, 278, rfl⟩
abbrev main_cst_39 : Ref sig .tc := ⟨.hbm, 279, rfl⟩
abbrev main_v230 : Ref sig .tc := ⟨.hbm, 280, rfl⟩
abbrev main_v231 : Ref sig .tc := ⟨.hbm, 281, rfl⟩
abbrev main_cst_40 : Ref sig .tc := ⟨.hbm, 282, rfl⟩
abbrev main_v232 : Ref sig .tc := ⟨.hbm, 283, rfl⟩
abbrev main_v233 : Ref sig .tc := ⟨.hbm, 284, rfl⟩
abbrev main_v234 : Ref sig .tc := ⟨.hbm, 285, rfl⟩
abbrev main_v235 : Ref sig .tc := ⟨.hbm, 286, rfl⟩
abbrev main_v236 : Ref sig .tc := ⟨.hbm, 287, rfl⟩
abbrev main_v237 : Ref sig .tc := ⟨.hbm, 288, rfl⟩
abbrev main_v238 : Ref sig .tc := ⟨.hbm, 289, rfl⟩
abbrev main_v239 : Ref sig .tc := ⟨.hbm, 290, rfl⟩
abbrev main_v240 : Ref sig .tc := ⟨.hbm, 291, rfl⟩
abbrev main_v241 : Ref sig .tc := ⟨.hbm, 292, rfl⟩
abbrev main_v242 : Ref sig .tc := ⟨.hbm, 293, rfl⟩
abbrev main_v243 : Ref sig .tc := ⟨.hbm, 294, rfl⟩
abbrev main_cst_41 : Ref sig .tc := ⟨.hbm, 295, rfl⟩
abbrev main_v244 : Ref sig .tc := ⟨.hbm, 296, rfl⟩
abbrev main_v245 : Ref sig .tc := ⟨.hbm, 297, rfl⟩
abbrev main_cst_42 : Ref sig .tc := ⟨.hbm, 298, rfl⟩
abbrev main_v246 : Ref sig .tc := ⟨.hbm, 299, rfl⟩
abbrev main_cst_43 : Ref sig .tc := ⟨.hbm, 300, rfl⟩
abbrev main_v247 : Ref sig .tc := ⟨.hbm, 301, rfl⟩
abbrev main_v248 : Ref sig .tc := ⟨.hbm, 302, rfl⟩
abbrev main_v249 : Ref sig .tc := ⟨.hbm, 303, rfl⟩
abbrev main_v250 : Ref sig .tc := ⟨.hbm, 304, rfl⟩
abbrev main_cst_44 : Ref sig .tc := ⟨.hbm, 305, rfl⟩
abbrev main_v251 : Ref sig .tc := ⟨.hbm, 306, rfl⟩
abbrev main_v252 : Ref sig .tc := ⟨.hbm, 307, rfl⟩
abbrev main_cst_45 : Ref sig .tc := ⟨.hbm, 308, rfl⟩
abbrev main_v253 : Ref sig .tc := ⟨.hbm, 309, rfl⟩
abbrev main_v254 : Ref sig .tc := ⟨.hbm, 310, rfl⟩
abbrev main_cst_46 : Ref sig .tc := ⟨.hbm, 311, rfl⟩
abbrev main_v255 : Ref sig .tc := ⟨.hbm, 312, rfl⟩
abbrev main_v256 : Ref sig .tc := ⟨.hbm, 313, rfl⟩
abbrev main_v257 : Ref sig .tc := ⟨.hbm, 314, rfl⟩
abbrev main_v258 : Ref sig .tc := ⟨.hbm, 315, rfl⟩
abbrev main_v259 : Ref sig .tc := ⟨.hbm, 316, rfl⟩
abbrev main_cst_47 : Ref sig .tc := ⟨.hbm, 317, rfl⟩
abbrev main_v260 : Ref sig .tc := ⟨.hbm, 318, rfl⟩
abbrev main_v261 : Ref sig .tc := ⟨.hbm, 319, rfl⟩
abbrev main_cst_48 : Ref sig .tc := ⟨.hbm, 320, rfl⟩
abbrev main_v262 : Ref sig .tc := ⟨.hbm, 321, rfl⟩
abbrev main_v263 : Ref sig .tc := ⟨.hbm, 322, rfl⟩
abbrev main_cst_49 : Ref sig .tc := ⟨.hbm, 323, rfl⟩
abbrev main_v264 : Ref sig .tc := ⟨.hbm, 324, rfl⟩
abbrev main_v265 : Ref sig .tc := ⟨.hbm, 325, rfl⟩
abbrev main_v266 : Ref sig .tc := ⟨.hbm, 326, rfl⟩
abbrev main_v267 : Ref sig .tc := ⟨.hbm, 327, rfl⟩
abbrev main_v268 : Ref sig .tc := ⟨.hbm, 328, rfl⟩
abbrev main_v269 : Ref sig .tc := ⟨.hbm, 329, rfl⟩
abbrev main_v270 : Ref sig .tc := ⟨.hbm, 330, rfl⟩
abbrev main_v271 : Ref sig .tc := ⟨.hbm, 331, rfl⟩

abbrev nD : Nat := 1
abbrev τ : Topo := Topo.v7x

variable {F : FTy → Type} [FloatOps F]
-- ==== Kernel2.lean ====
abbrev S8192x2048 : Shape := ⟨2, ![8192, 2048]⟩
abbrev S8192x5632 : Shape := ⟨2, ![8192, 5632]⟩
abbrev S2048x5632 : Shape := ⟨2, ![2048, 5632]⟩
abbrev S2048x2048 : Shape := ⟨2, ![2048, 2048]⟩
abbrev S2048x512 : Shape := ⟨2, ![2048, 512]⟩

abbrev nBuf : Space → Nat
  | .hbm => 5
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S8192x5632, .bf16⟩
  | .hbm, ⟨2, _⟩ => ⟨S8192x5632, .bf16⟩
  | .hbm, ⟨3, _⟩ => ⟨S2048x5632, .bf16⟩
  | .hbm, ⟨4, _⟩ => ⟨S2048x5632, .bf16⟩
  | .local _ .vmem, ⟨0, _⟩ => ⟨S2048x2048, .bf16⟩
  | .local _ .vmem, ⟨1, _⟩ => ⟨S2048x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S2048x512, .f32⟩
  | .local _ .vmem, ⟨11, _⟩ => ⟨S2048x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![1, 11, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference2Ideal.lean ====
abbrev S8192x2048 : Shape := ⟨2, ![8192, 2048]⟩
abbrev S8192x5632 : Shape := ⟨2, ![8192, 5632]⟩
abbrev S_ : Shape := ⟨0, ![]⟩
abbrev S2048x5632 : Shape := ⟨2, ![2048, 5632]⟩
abbrev S5632x2048 : Shape := ⟨2, ![5632, 2048]⟩

abbrev nBuf : Space → Nat
  | .hbm => 16
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x5632, .bf16⟩
  | .hbm, ⟨2, _⟩ => ⟨S8192x5632, .bf16⟩
  | .hbm, ⟨3, _⟩ => ⟨S8192x2048, .f32⟩
  | .hbm, ⟨4, _⟩ => ⟨S8192x5632, .f32⟩
  | .hbm, ⟨5, _⟩ => ⟨S8192x5632, .f32⟩
  | .hbm, ⟨6, _⟩ => ⟨S_, .f32⟩
  | .hbm, ⟨7, _⟩ => ⟨S2048x5632, .f32⟩
  | .hbm, ⟨8, _⟩ => ⟨S8192x5632, .f32⟩
  | .hbm, ⟨9, _⟩ => ⟨S8192x5632, .f32⟩
  | .hbm, ⟨10, _⟩ => ⟨S5632x2048, .f32⟩
  | .hbm, ⟨11, _⟩ => ⟨S2048x5632, .f32⟩
  | .hbm, ⟨12, _⟩ => ⟨S5632x2048, .f32⟩
  | .hbm, ⟨13, _⟩ => ⟨S2048x5632, .f32⟩
  | .hbm, ⟨14, _⟩ => ⟨S2048x5632, .bf16⟩
  | .hbm, ⟨15, _⟩ => ⟨S2048x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Kernel3.lean ====
abbrev S8192x5632 : Shape := ⟨2, ![8192, 5632]⟩
abbrev S5632x2048 : Shape := ⟨2, ![5632, 2048]⟩
abbrev S8192x2048 : Shape := ⟨2, ![8192, 2048]⟩
abbrev S_ : Shape := ⟨0, ![]⟩
abbrev S2048x2048 : Shape := ⟨2, ![2048, 2048]⟩
abbrev S512x2048 : Shape := ⟨2, ![512, 2048]⟩
abbrev S2048x512 : Shape := ⟨2, ![2048, 512]⟩

abbrev nBuf : Space → Nat
  | .hbm => 23
  | .vmem => 12
  | .smem => 0
  | _ => 0

abbrev bufTy : (tb : Table) → Fin (tcTables nBuf tb) → BufTy
  | .hbm, ⟨0, _⟩ => ⟨S8192x5632, .f32⟩
  | .hbm, ⟨1, _⟩ => ⟨S8192x5632, .f32⟩
  | .hbm, ⟨2, _⟩ => ⟨S5632x2048, .bf16⟩
  | .hbm, ⟨3, _⟩ => ⟨S8192x2048, .bf16⟩
  | .hbm, ⟨4, _⟩ => ⟨S8192x5632, .f32⟩
  | .hbm, ⟨5, _⟩ => ⟨S8192x5632, .f32⟩
  | .hbm, ⟨6, _⟩ => ⟨S_, .f32⟩
  | .hbm, ⟨7, _⟩ => ⟨S8192x5632, .f32⟩
  | .hbm, ⟨8, _⟩ => ⟨S8192x5632, .f32⟩
  | .hbm, ⟨9, _⟩ => ⟨S_, .f32⟩
  | .hbm, ⟨10, _⟩ => ⟨S8192x5632, .f32⟩
  | .hbm, ⟨11, _⟩ => ⟨S8192x5632, .f32⟩
  | .hbm, ⟨12, _⟩ => ⟨S8192x5632, .f32⟩
  | .hbm, ⟨13, _⟩ => ⟨S_, .f32⟩
  | .hbm, ⟨14, _⟩ => ⟨S8192x5632, .f32⟩
  | .hbm, ⟨15, _⟩ => ⟨S8192x5632, .f32⟩
  | .hbm, ⟨16, _⟩ => ⟨S8192x5632, .f32⟩
  | .hbm, ⟨17, _⟩ => ⟨S8192x5632, .f32⟩
  | .hbm, ⟨18, _⟩ => ⟨S8192x5632, .f32⟩
  | .hbm, ⟨19, _⟩ => ⟨S8192x5632, .bf16⟩
  | .hbm, ⟨20, _⟩ => ⟨S8192x5632, .bf16⟩
  | .hbm, ⟨21, _⟩ => ⟨S8192x5632, .bf16⟩
  | .hbm, ⟨22, _⟩ => ⟨S8192x5632, .bf16⟩
  | .local _ .vmem, ⟨0, _⟩ => ⟨S2048x2048, .bf16⟩
  | .local _ .vmem, ⟨1, _⟩ => ⟨S2048x2048, .bf16⟩
  | .local _ .vmem, ⟨2, _⟩ => ⟨S512x2048, .bf16⟩
  | .local _ .vmem, ⟨3, _⟩ => ⟨S512x2048, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14_0 : Ref sig .tc := ⟨.hbm, 21, rfl⟩
abbrev main_v14_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference3Ideal.lean ====
abbrev S8192x5632 : Shape := ⟨2, ![8192, 5632]⟩
abbrev S5632x2048 : Shape := ⟨2, ![5632, 2048]⟩
abbrev S8192x2048 : Shape := ⟨2, ![8192, 2048]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S8192x5632, .f32⟩
  | .hbm, ⟨2, _⟩ => ⟨S5632x2048, .bf16⟩
  | .hbm, ⟨3, _⟩ => ⟨S8192x2048, .bf16⟩
  | .hbm, ⟨4, _⟩ => ⟨S5632x2048, .f32⟩
  | .hbm, ⟨5, _⟩ => ⟨S8192x2048, .f32⟩
  | .hbm, ⟨6, _⟩ => ⟨S8192x5632, .f32⟩
  | .hbm, ⟨7, _⟩ => ⟨S8192x5632, .f32⟩
  | .hbm, ⟨8, _⟩ => ⟨S_, .f32⟩
  | .hbm, ⟨9, _⟩ => ⟨S8192x5632, .f32⟩
  | .hbm, ⟨10, _⟩ => ⟨S8192x5632, .f32⟩
  | .hbm, ⟨11, _⟩ => ⟨S_, .f32⟩
  | .hbm, ⟨12, _⟩ => ⟨S8192x5632, .f32⟩
  | .hbm, ⟨13, _⟩ => ⟨S8192x5632, .f32⟩
  | .hbm, ⟨14, _⟩ => ⟨S_, .f32⟩
  | .hbm, ⟨15, _⟩ => ⟨S8192x5632, .f32⟩
  | .hbm, ⟨16, _⟩ => ⟨S8192x5632, .f32⟩
  | .hbm, ⟨17, _⟩ => ⟨S8192x5632, .f32⟩
  | .hbm, ⟨18, _⟩ => ⟨S8192x5632, .f32⟩
  | .hbm, ⟨19, _⟩ => ⟨S8192x5632, .f32⟩
  | .hbm, ⟨20, _⟩ => ⟨S8192x2048, .f32⟩
  | .hbm, ⟨21, _⟩ => ⟨S8192x5632, .f32⟩
  | .hbm, ⟨22, _⟩ => ⟨S8192x5632, .f32⟩
  | .hbm, ⟨23, _⟩ => ⟨S8192x5632, .f32⟩
  | .hbm, ⟨24, _⟩ => ⟨S8192x5632, .f32⟩
  | .hbm, ⟨25, _⟩ => ⟨S8192x5632, .f32⟩
  | .hbm, ⟨26, _⟩ => ⟨S8192x5632, .f32⟩
  | .hbm, ⟨27, _⟩ => ⟨S8192x5632, .f32⟩
  | .hbm, ⟨28, _⟩ => ⟨S8192x5632, .bf16⟩
  | .hbm, ⟨29, _⟩ => ⟨S8192x5632, .bf16⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩

abbrev nD : Nat := 1
abbrev τ : Topo := Topo.v7x

variable {F : FTy → Type} [FloatOps F]
-- ==== Kernel4.lean ====
abbrev S8192x5632 : Shape := ⟨2, ![8192, 5632]⟩
abbrev S8192x2048 : Shape := ⟨2, ![8192, 2048]⟩
abbrev S4x1408x2048 : Shape := ⟨3, ![4, 1408, 2048]⟩
abbrev S2048x1408 : Shape := ⟨2, ![2048, 1408]⟩
abbrev S2048x2048 : Shape := ⟨2, ![2048, 2048]⟩
abbrev S1x1408x2048 : Shape := ⟨3, ![1, 1408, 2048]⟩
abbrev S1408x2048 : Shape := ⟨2, ![1408, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S4x1408x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x2048, .bf16⟩
  | .local _ .vmem, ⟨3, _⟩ => ⟨S2048x2048, .bf16⟩
  | .local _ .vmem, ⟨4, _⟩ => ⟨S1x1408x2048, .bf16⟩
  | .local _ .vmem, ⟨5, _⟩ => ⟨S1x1408x2048, .bf16⟩
  | .local _ .vmem, ⟨6, _⟩ => ⟨S1408x2048, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x1408x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference4Ideal.lean ====
abbrev S8192x5632 : Shape := ⟨2, ![8192, 5632]⟩
abbrev S8192x2048 : Shape := ⟨2, ![8192, 2048]⟩
abbrev S_ : Shape := ⟨0, ![]⟩
abbrev S5632x2048 : Shape := ⟨2, ![5632, 2048]⟩
abbrev S2048x5632 : Shape := ⟨2, ![2048, 5632]⟩
abbrev S4x1408x2048 : Shape := ⟨3, ![4, 1408, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S8192x5632, .f32⟩
  | .hbm, ⟨3, _⟩ => ⟨S8192x2048, .f32⟩
  | .hbm, ⟨4, _⟩ => ⟨S_, .f32⟩
  | .hbm, ⟨5, _⟩ => ⟨S5632x2048, .f32⟩
  | .hbm, ⟨6, _⟩ => ⟨S8192x2048, .f32⟩
  | .hbm, ⟨7, _⟩ => ⟨S2048x5632, .f32⟩
  | .hbm, ⟨8, _⟩ => ⟨S5632x2048, .f32⟩
  | .hbm, ⟨9, _⟩ => ⟨S4x1408x2048, .f32⟩
  | .hbm, ⟨10, _⟩ => ⟨S4x1408x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel5.lean ====
abbrev S8192x2048 : Shape := ⟨2, ![8192, 2048]⟩
abbrev S2048x2048 : Shape := ⟨2, ![2048, 2048]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .bf16⟩
  | .local _ .vmem, ⟨0, _⟩ => ⟨S2048x2048, .bf16⟩
  | .local _ .vmem, ⟨1, _⟩ => ⟨S2048x2048, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S2048x2048, .f32⟩
  | .hbm, ⟨6, _⟩ => ⟨S8192x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S8192x2048 : Shape := ⟨2, ![8192, 2048]⟩
abbrev S8192x4096 : Shape := ⟨2, ![8192, 4096]⟩
abbrev S4x2048x1024 : Shape := ⟨3, ![4, 2048, 1024]⟩
abbrev S2048x2048 : Shape := ⟨2, ![2048, 2048]⟩
abbrev S2048x1024 : Shape := ⟨2, ![2048, 1024]⟩
abbrev S1x2048x1024 : Shape := ⟨3, ![1, 2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x4096, .bf16⟩
  | .hbm, ⟨2, _⟩ => ⟨S4x2048x1024, .bf16⟩
  | .local _ .vmem, ⟨0, _⟩ => ⟨S2048x2048, .bf16⟩
  | .local _ .vmem, ⟨1, _⟩ => ⟨S2048x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S2048x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x2048 : Shape := ⟨2, ![8192, 2048]⟩
abbrev S8192x4096 : Shape := ⟨2, ![8192, 4096]⟩
abbrev S_ : Shape := ⟨0, ![]⟩
abbrev S2048x4096 : Shape := ⟨2, ![2048, 4096]⟩
abbrev S4096x2048 : Shape := ⟨2, ![4096, 2048]⟩
abbrev S2048x4x1024 : Shape := ⟨3, ![2048, 4, 1024]⟩
abbrev S4x2048x1024 : Shape := ⟨3, ![4, 2048, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x4096, .bf16⟩
  | .hbm, ⟨2, _⟩ => ⟨S8192x2048, .f32⟩
  | .hbm, ⟨3, _⟩ => ⟨S8192x4096, .f32⟩
  | .hbm, ⟨4, _⟩ => ⟨S_, .f32⟩
  | .hbm, ⟨5, _⟩ => ⟨S2048x4096, .f32⟩
  | .hbm, ⟨6, _⟩ => ⟨S8192x4096, .f32⟩
  | .hbm, ⟨7, _⟩ => ⟨S4096x2048, .f32⟩
  | .hbm, ⟨8, _⟩ => ⟨S2048x4096, .f32⟩
  | .hbm, ⟨9, _⟩ => ⟨S2048x4x1024, .f32⟩
  | .hbm, ⟨10, _⟩ => ⟨S4x2048x1024, .f32⟩
  | .hbm, ⟨11, _⟩ => ⟨S4x2048x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel7.lean ====
abbrev S8192x2048 : Shape := ⟨2, ![8192, 2048]⟩
abbrev S2048x2048 : Shape := ⟨2, ![2048, 2048]⟩
abbrev S1024x2048 : Shape := ⟨2, ![1024, 2048]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S1024x2048, .f32⟩
  | .local _ .vmem, ⟨4, _⟩ => ⟨S1024x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference7Ideal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S2048x2048, .f32⟩
  | .hbm, ⟨4, _⟩ => ⟨S_, .f32⟩
  | .hbm, ⟨5, _⟩ => ⟨S8192x2048, .f32⟩
  | .hbm, ⟨6, _⟩ => ⟨S8192x2048, .f32⟩
  | .hbm, ⟨7, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S8192x2048 : Shape := ⟨2, ![8192, 2048]⟩
abbrev S2048x5632 : Shape := ⟨2, ![2048, 5632]⟩
abbrev S8192x5632 : Shape := ⟨2, ![8192, 5632]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 6
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S2048x5632, .bf16⟩
  | .hbm, ⟨2, _⟩ => ⟨S2048x5632, .bf16⟩
  | .hbm, ⟨3, _⟩ => ⟨S8192x5632, .bf16⟩
  | .hbm, ⟨4, _⟩ => ⟨S8192x5632, .bf16⟩
  | .hbm, ⟨5, _⟩ => ⟨S8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![11, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference8Ideal.lean ====
abbrev S8192x2048 : Shape := ⟨2, ![8192, 2048]⟩
abbrev S2048x5632 : Shape := ⟨2, ![2048, 5632]⟩
abbrev S8192x5632 : Shape := ⟨2, ![8192, 5632]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x5632, .bf16⟩
  | .hbm, ⟨2, _⟩ => ⟨S2048x5632, .bf16⟩
  | .hbm, ⟨3, _⟩ => ⟨S8192x2048, .f32⟩
  | .hbm, ⟨4, _⟩ => ⟨S2048x5632, .f32⟩
  | .hbm, ⟨5, _⟩ => ⟨S2048x5632, .f32⟩
  | .hbm, ⟨6, _⟩ => ⟨S8192x5632, .f32⟩
  | .hbm, ⟨7, _⟩ => ⟨S8192x5632, .f32⟩
  | .hbm, ⟨8, _⟩ => ⟨S8192x5632, .f32⟩
  | .hbm, ⟨9, _⟩ => ⟨S8192x5632, .f32⟩
  | .hbm, ⟨10, _⟩ => ⟨S_, .f32⟩
  | .hbm, ⟨11, _⟩ => ⟨S8192x5632, .f32⟩
  | .hbm, ⟨12, _⟩ => ⟨S8192x5632, .f32⟩
  | .hbm, ⟨13, _⟩ => ⟨S_, .f32⟩
  | .hbm, ⟨14, _⟩ => ⟨S8192x5632, .f32⟩
  | .hbm, ⟨15, _⟩ => ⟨S8192x5632, .f32⟩
  | .hbm, ⟨16, _⟩ => ⟨S_, .f32⟩
  | .hbm, ⟨17, _⟩ => ⟨S8192x5632, .f32⟩
  | .hbm, ⟨18, _⟩ => ⟨S8192x5632, .f32⟩
  | .hbm, ⟨19, _⟩ => ⟨S8192x5632, .f32⟩
  | .hbm, ⟨20, _⟩ => ⟨S8192x5632, .f32⟩
  | .hbm, ⟨21, _⟩ => ⟨S8192x5632, .f32⟩
  | .hbm, ⟨22, _⟩ => ⟨S_, .f32⟩
  | .hbm, ⟨23, _⟩ => ⟨S8192x5632, .f32⟩
  | .hbm, ⟨24, _⟩ => ⟨S8192x5632, .f32⟩
  | .hbm, ⟨25, _⟩ => ⟨S8192x5632, .f32⟩
  | .hbm, ⟨26, _⟩ => ⟨S8192x5632, .f32⟩
  | .hbm, ⟨27, _⟩ => ⟨S8192x5632, .f32⟩
  | .hbm, ⟨28, _⟩ => ⟨S8192x5632, .f32⟩
  | .hbm, ⟨29, _⟩ => ⟨S8192x5632, .f32⟩
  | .hbm, ⟨30, _⟩ => ⟨S8192x5632, .bf16⟩
  | .hbm, ⟨31, _⟩ => ⟨S8192x5632, .bf16⟩
  | .hbm, ⟨32, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v5_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v5_1 : Ref sig .tc := ⟨.hbm, 19, rfl⟩
abbrev main_v5_0 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩

abbrev nD : Nat := 1
abbrev τ : Topo := Topo.v7x

variable {F : FTy → Type} [FloatOps F]
-- ==== Kernel9.lean ====
abbrev S8192x2048 : Shape := ⟨2, ![8192, 2048]⟩
abbrev S4x2048x1024 : Shape := ⟨3, ![4, 2048, 1024]⟩
abbrev S8192x4096 : Shape := ⟨2, ![8192, 4096]⟩
abbrev S2048x2048 : Shape := ⟨2, ![2048, 2048]⟩
abbrev S1x2048x1024 : Shape := ⟨3, ![1, 2048, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S4x2048x1024, .bf16⟩
  | .hbm, ⟨2, _⟩ => ⟨S8192x4096, .f32⟩
  | .local _ .vmem, ⟨0, _⟩ => ⟨S2048x2048, .bf16⟩
  | .local _ .vmem, ⟨1, _⟩ => ⟨S2048x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S2048x1024, .f32⟩
  | .local _ .vmem, ⟨5, _⟩ => ⟨S2048x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x2048 : Shape := ⟨2, ![8192, 2048]⟩
abbrev S4x2048x1024 : Shape := ⟨3, ![4, 2048, 1024]⟩
abbrev S2048x4x1024 : Shape := ⟨3, ![2048, 4, 1024]⟩
abbrev S2048x4096 : Shape := ⟨2, ![2048, 4096]⟩
abbrev S8192x4096 : Shape := ⟨2, ![8192, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048x1024, .bf16⟩
  | .hbm, ⟨2, _⟩ => ⟨S8192x2048, .f32⟩
  | .hbm, ⟨3, _⟩ => ⟨S4x2048x1024, .f32⟩
  | .hbm, ⟨4, _⟩ => ⟨S2048x4x1024, .f32⟩
  | .hbm, ⟨5, _⟩ => ⟨S2048x4096, .f32⟩
  | .hbm, ⟨6, _⟩ => ⟨S8192x4096, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel10.lean ====
abbrev S8192x2048 : Shape := ⟨2, ![8192, 2048]⟩
abbrev S2048x2048 : Shape := ⟨2, ![2048, 2048]⟩
abbrev S1x2048 : Shape := ⟨2, ![1, 2048]⟩
abbrev S512x2048 : Shape := ⟨2, ![512, 2048]⟩
abbrev S64x2048 : Shape := ⟨2, ![64, 2048]⟩
abbrev S64 : Shape := ⟨1, ![64]⟩
abbrev S64x1 : Shape := ⟨2, ![64, 1]⟩

abbrev nBuf : Space → Nat
  | .hbm => 8
  | .vmem => 13
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S1x2048, .f32⟩
  | .hbm, ⟨4, _⟩ => ⟨S1x2048, .f32⟩
  | .hbm, ⟨5, _⟩ => ⟨S8192x2048, .f32⟩
  | .hbm, ⟨6, _⟩ => ⟨S8192x2048, .f32⟩
  | .hbm, ⟨7, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]
-- ==== Reference10Ideal.lean ====
abbrev S8192x2048 : Shape := ⟨2, ![8192, 2048]⟩
abbrev S2048x2048 : Shape := ⟨2, ![2048, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 40
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S1x2048, .f32⟩
  | .hbm, ⟨4, _⟩ => ⟨S1x2048, .f32⟩
  | .hbm, ⟨5, _⟩ => ⟨S8192x2048, .f32⟩
  | .hbm, ⟨6, _⟩ => ⟨S2048x2048, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Proof.Val.Reals.lean ====
module

public import Idealize.ShloMosaic.Lib.Pointwise

@[expose] public section

/-! Two-dimensional arrays of extended reals whose entries are given by a real function of the row and column numbers, and
what the elementwise, slicing, broadcasting, summing and multiplying operations do to such arrays. -/

namespace Cert.Mix

open Idealize.ShloMosaic Idealize.ShloMosaic.TcCoe

/-- The array `x` holds the real number `f r l` at row `r` and column `l`. -/
def At2 {n m : ℕ} (x : (⟨2, ![n, m]⟩ : Shape).Idx → EReal) (f : ℕ → ℕ → ℝ) : Prop :=
  ∀ y : (⟨2, ![n, m]⟩ : Shape).Idx, x y = ((f (y 0).val (y 1).val : ℝ) : EReal)

variable {n m k : ℕ} {φ : FTy}

theorem At2.congr {x : (⟨2, ![n, m]⟩ : Shape).Idx → EReal} {f g : ℕ → ℕ → ℝ} (hx : At2 x f)
    (h : ∀ r l, r < n → l < m → f r l = g r l) : At2 x g := fun y => by
  rw [hx y, h _ _ (y 0).isLt (y 1).isLt]

theorem At2.mul {x y : FVec Ideal ⟨2, ![n, m]⟩ φ} {f g : ℕ → ℕ → ℝ} (hx : At2 x f) (hy : At2 y g) :
    At2 (mulf x y) fun r l => f r l * g r l := fun j => by
  show x j * y j = _
  rw [hx j, hy j, EReal.coe_mul]

theorem At2.add {x y : FVec Ideal ⟨2, ![n, m]⟩ φ} {f g : ℕ → ℕ → ℝ} (hx : At2 x f) (hy : At2 y g) :
    At2 (addf x y) fun r l => f r l + g r l := fun j => by
  show x j + y j = _
  rw [hx j, hy j, EReal.coe_add]

theorem At2.sub {x y : FVec Ideal ⟨2, ![n, m]⟩ φ} {f g : ℕ → ℕ → ℝ} (hx : At2 x f) (hy : At2 y g) :
    At2 (subf x y) fun r l => f r l - g r l := fun j => by
  show x j - y j = _
  rw [hx j, hy j, EReal.coe_sub]

theorem At2.min {x y : FVec Ideal ⟨2, ![n, m]⟩ φ} {f g : ℕ → ℕ → ℝ} (hx : At2 x f) (hy : At2 y g) :
    At2 (minimumf x y) fun r l => Min.min (f r l) (g r l) := fun j => by
  show Min.min (x j) (y j) = _
  rw [hx j, hy j, ← EReal.coe_strictMono.monotone.map_min]

theorem At2.div {x y : FVec Ideal ⟨2, ![n, m]⟩ φ} {f g : ℕ → ℕ → ℝ} (hx : At2 x f) (hy : At2 y g)
    (h : ∀ r l, g r l ≠ 0) : At2 (divf x y) fun r l => f r l / g r l := fun j => by
  show Ideal.div (x j) (y j) = _
  rw [hx j, hy j, Ideal.div_coe (h _ _), ← EReal.coe_mul, mul_one_div]

theorem At2.rsqrt {x : FVec Ideal ⟨2, ![n, m]⟩ φ} {f : ℕ → ℕ → ℝ} (hx : At2 x f)
    (h : ∀ r l, 0 < f r l) : At2 (Idealize.ShloMosaic.rsqrt x) fun r l => (Real.sqrt (f r l))⁻¹ := fun j => by
  show Ideal.rsqrt (x j) = _
  rw [hx j, Ideal.rsqrt_coe, if_neg (not_lt.mpr (h _ _).le), if_neg (h _ _).ne']

theorem At2.trunc {ψ : FTy} {x : FVec Ideal ⟨2, ![n, m]⟩ φ} {f : ℕ → ℕ → ℝ} (hx : At2 x f) (h : ψ.bits < φ.bits) :
    At2 (truncf ψ x h : FVec Ideal ⟨2, ![n, m]⟩ ψ) f := fun j => hx j

theorem At2.const {v : BitVec φ.bits} {c : ℝ} (hc : (FloatOps.ofBits φ v : Ideal φ) = (c : EReal)) :
    At2 (broadcast ⟨2, ![n, m]⟩ (Scalar.ofBits φ v : Ideal φ)) fun _ _ => c := fun _ => hc

theorem At2.bc {v : Ideal φ} {c : ℝ} (hc : v = (c : EReal)) :
    At2 (broadcast ⟨2, ![n, m]⟩ v) fun _ _ => c := fun _ => hc

theorem At2.slice {x : FVec Ideal ⟨2, ![n, m]⟩ φ} {f : ℕ → ℕ → ℝ} (a o : ℕ) {n' m' : ℕ}
    (h : (⟨2, ![n, m]⟩ : Shape).Slices ![a, o] ⟨2, ![n', m']⟩) (hx : At2 x f) :
    At2 (extractStridedSlice ⟨2, ![n', m']⟩ ![a, o] x h) fun r l => f (a + r) (o + l) := fun y => by
  unfold extractStridedSlice
  exact hx _

theorem At2.bcRow {x : FVec Ideal ⟨2, ![1, m]⟩ φ} {f : ℕ → ℕ → ℝ} (h : (⟨2, ![1, m]⟩ : Shape).Broadcasts ⟨2, ![n, m]⟩)
    (hx : At2 x f) : At2 (broadcastTo ⟨2, ![n, m]⟩ x h) fun _ l => f 0 l := fun y => by
  unfold broadcastTo
  rw [hx]
  refine congrArg _ (congrArg₂ f ?_ ?_)
  · rw [dif_pos (by rfl)]
  · split
    · rename_i h1
      have h1 : m = 1 := h1
      have := (y 1).isLt
      change (y 1).val < m at this
      show 0 = _
      omega
    · rfl

theorem At2.bcCol {x : FVec Ideal ⟨2, ![n, 1]⟩ φ} {f : ℕ → ℕ → ℝ} (h : (⟨2, ![n, 1]⟩ : Shape).Broadcasts ⟨2, ![n, m]⟩)
    (hx : At2 x f) : At2 (broadcastTo ⟨2, ![n, m]⟩ x h) fun r _ => f r 0 := fun y => by
  unfold broadcastTo
  rw [hx]
  refine congrArg _ (congrArg₂ f ?_ ?_)
  · split
    · rename_i h1
      have h1 : n = 1 := h1
      have := (y 0).isLt
      change (y 0).val < n at this
      show 0 = _
      omega
    · rfl
  · rw [dif_pos (by rfl)]

theorem At2.same {x : FVec Ideal ⟨2, ![n, m]⟩ φ} {f : ℕ → ℕ → ℝ} (h : (⟨2, ![n, m]⟩ : Shape).ShapeCasts ⟨2, ![n, m]⟩)
    (hx : At2 x f) : At2 (shapeCast ⟨2, ![n, m]⟩ x h) f := fun y => by
  unfold shapeCast
  rw [Shape.reshapeEquiv_self]
  exact hx y

/-- A finite sum of real numbers, read in the extended reals. -/
theorem coe_sum (n : ℕ) (f : ℕ → ℝ) : ∑ k : Fin n, ((f k : ℝ) : EReal) = ((∑ k ∈ Finset.range n, f k : ℝ) : EReal) := by
  rw [← Finset.sum_range (fun k => ((f k : ℝ) : EReal))]
  induction n with
  | zero => simp
  | succ n ih => rw [Finset.sum_range_succ, Finset.sum_range_succ, EReal.coe_add, ih]

theorem At2.rowSum {x : FVec Ideal ⟨2, ![n, m]⟩ .f32} {f : ℕ → ℕ → ℝ} (h : (⟨2, ![n, m]⟩ : Shape).Reduces [1] ⟨1, ![n]⟩)
    (hc : (⟨1, ![n]⟩ : Shape).ShapeCasts ⟨2, ![n, 1]⟩) (hf : FKind.Formats .f32) (ha)
    (hx : At2 x f) : At2 (shapeCast ⟨2, ![n, 1]⟩ (multiReduction .add [1] ⟨1, ![n]⟩ x 0x00000000#32 h hf ha) hc)
      fun r _ => ∑ l ∈ Finset.range m, f r l := fun y => by
  unfold shapeCast
  rw [multiReduction_add_apply]
  show Ideal.reduceAdd h x _ = _
  rw [Ideal.reduceAdd_r2_a1, ← coe_sum]
  refine Finset.sum_congr rfl fun k _ => (hx _).trans (congrArg _ (congrArg₂ f ?_ rfl))
  have e := Shape.rowMajor_reshapeEquiv hc y
  rw [Shape.rowMajor_val_two, Shape.rowMajor_val_one] at e
  have := (y 1).isLt
  change (y 1).val < 1 at this
  change _ = (y 0).val * 1 + (y 1).val at e
  exact e.trans (by omega)

theorem At2.colSum {x : FVec Ideal ⟨2, ![n, m]⟩ .f32} {f : ℕ → ℕ → ℝ} (h : (⟨2, ![n, m]⟩ : Shape).Reduces [0] ⟨1, ![m]⟩)
    (hc : (⟨1, ![m]⟩ : Shape).ShapeCasts ⟨2, ![1, m]⟩) (hf : FKind.Formats .f32) (ha)
    (hx : At2 x f) : At2 (shapeCast ⟨2, ![1, m]⟩ (multiReduction .add [0] ⟨1, ![m]⟩ x 0x00000000#32 h hf ha) hc)
      fun _ l => ∑ r ∈ Finset.range n, f r l := fun y => by
  unfold shapeCast
  rw [multiReduction_add_apply]
  show Ideal.reduceAdd h x _ = _
  rw [Ideal.reduceAdd_r2_a0, ← coe_sum]
  refine Finset.sum_congr rfl fun k _ => (hx _).trans (congrArg _ (congrArg₂ f rfl ?_))
  have e := Shape.rowMajor_reshapeEquiv hc y
  rw [Shape.rowMajor_val_two, Shape.rowMajor_val_one] at e
  have := (y 0).isLt
  change (y 0).val < 1 at this
  change _ = (y 0).val * m + (y 1).val at e
  have h0 : (y 0).val = 0 := by omega
  rw [h0] at e
  exact e.trans (by show 0 * m + _ = _; omega)

/-- A block with two leading axes of extent one, read as a two-dimensional array. -/
theorem At2.drop2 {x : FVec Ideal ⟨4, ![1, 1, n, m]⟩ φ} {f : ℕ → ℕ → ℝ}
    (h : (⟨4, ![1, 1, n, m]⟩ : Shape).ShapeCasts ⟨2, ![n, m]⟩)
    (hx : ∀ y, x y = ((f (y 2).val (y 3).val : ℝ) : EReal)) : At2 (shapeCast ⟨2, ![n, m]⟩ x h) f := fun y => by
  unfold shapeCast
  rw [hx]
  have e := Shape.rowMajor_reshapeEquiv h y
  rw [Shape.rowMajor_val_two, Shape.rowMajor_val_four] at e
  generalize Shape.reshapeEquiv h y = z at e ⊢
  have h0 := (z 0).isLt
  have h1 := (z 1).isLt
  have h3 := (z 3).isLt
  have h3' := (y 1).isLt
  change (z 0).val < 1 at h0
  change (z 1).val < 1 at h1
  change (z 3).val < m at h3
  change (y 1).val < m at h3'
  change (((z 0).val * 1 + (z 1).val) * n + (z 2).val) * m + (z 3).val = (y 0).val * m + (y 1).val at e
  have e0 : (z 0).val = 0 := by omega
  have e1 : (z 1).val = 0 := by omega
  rw [e0, e1] at e
  simp only [Nat.zero_mul, Nat.zero_add, Nat.mul_one] at e
  have hm : 0 < m := by omega
  have q1 := congrArg (· % m) e
  have q2 := congrArg (· / m) e
  simp only [Nat.mul_add_mod_of_lt h3, Nat.mul_add_mod_of_lt h3', Nat.mul_add_mod_self_right] at q1
  simp only [Nat.mul_comm _ m, Nat.mul_add_div hm, Nat.div_eq_of_lt h3, Nat.div_eq_of_lt h3', Nat.add_zero] at q2
  exact congrArg _ (congrArg₂ f q2 q1)

/-- The row numbers from `w` on, plus one, as real numbers. -/
theorem At2.count (w : BitVec 32) (hi : (⟨2, ![n, 1]⟩ : Shape).Iotas .tc 32 [0]) (hw : w.toNat + n + 1 < 2 ^ 31) :
    At2 (sitofp φ (addi (addi (broadcast ⟨2, ![n, 1]⟩ w) (iota .tc ⟨2, ![n, 1]⟩ 32 [0] hi)) (broadcast ⟨2, ![n, 1]⟩ 1#32)) :
      FVec Ideal ⟨2, ![n, 1]⟩ φ) fun r _ => (w.toNat + r + 1 : ℝ) := fun y => by
  have h0 := (y 0).isLt
  change (y 0).val < n at h0
  show ((((w + BitVec.ofNat 32 (0 * n + (y 0).val)) + 1#32).toInt : ℝ) : EReal) = _
  have e : ((w + BitVec.ofNat 32 (0 * n + (y 0).val)) + 1#32).toInt = (w.toNat + (y 0).val + 1 : ℕ) := by
    rw [BitVec.toInt_eq_toNat_of_lt]
    · simp only [BitVec.toNat_add, BitVec.toNat_ofNat]
      omega
    · simp only [BitVec.toNat_add, BitVec.toNat_ofNat]
      omega
  rw [e]
  push_cast
  rfl

end Cert.Mix
-- ==== Proof.Val.Norm.lean ====
module

public import proofs.«01_k».proof.Proof.Val.Reals

@[expose] public section

/-! The norm over a group of columns and its gradient, on arrays of real numbers. -/

namespace Cert.Mix

open Idealize.ShloMosaic Idealize.ShloMosaic.TcCoe

/-- The constant added to a mean square. -/
noncomputable def eps : ℝ := 8796093 / 2 ^ 43

theorem eps_pos : 0 < eps := by unfold eps; positivity

/-- The reciprocal root of the mean square of `n` numbers. -/
noncomputable def rs (n : ℕ) (x : ℕ → ℝ) : ℝ := (Real.sqrt ((∑ k ∈ Finset.range n, x k * x k) / n + eps))⁻¹

/-- The gradient of the norm `x · rs x` of `n` numbers `x` along `dy`. -/
noncomputable def nb (n : ℕ) (x dy : ℕ → ℝ) (l : ℕ) : ℝ :=
  rs n x * (dy l - x l * rs n x * ((∑ k ∈ Finset.range n, dy k * (x k * rs n x)) / n))

theorem ms_pos (n : ℕ) (x : ℕ → ℝ) : 0 < (∑ k ∈ Finset.range n, x k * x k) / n + eps :=
  add_pos_of_nonneg_of_pos (div_nonneg (Finset.sum_nonneg fun _ _ => mul_self_nonneg _) (Nat.cast_nonneg _)) eps_pos

theorem rs_congr {n : ℕ} {x x' : ℕ → ℝ} (h : ∀ k < n, x k = x' k) : rs n x = rs n x' := by
  unfold rs
  rw [Finset.sum_congr rfl fun k hk => by rw [h k (Finset.mem_range.mp hk)]]

theorem nb_congr {n : ℕ} {x x' dy dy' : ℕ → ℝ} (h : ∀ k < n, x k = x' k) (h' : ∀ k < n, dy k = dy' k) {l : ℕ} (hl : l < n) :
    nb n x dy l = nb n x' dy' l := by
  unfold nb
  rw [rs_congr h, h l hl, h' l hl, Finset.sum_congr rfl fun k hk => by
    rw [h k (Finset.mem_range.mp hk), h' k (Finset.mem_range.mp hk)]]

/-- Along a zero cotangent the gradient is zero. -/
theorem nb_zero (n : ℕ) (x : ℕ → ℝ) (l : ℕ) : nb n x (fun _ => 0) l = 0 := by
  simp [nb]

theorem ofBits_eps : (FloatOps.ofBits .f32 0x358637BD#32 : Ideal .f32) = (eps : EReal) := by
  show Ideal.ofBits .f32 0x358637BD#32 = _
  simp [Ideal.ofBits, Ideal.ieee, eps, -EReal.coe_mul]; norm_num
theorem ofBits_128 : (FloatOps.ofBits .f32 0x43000000#32 : Ideal .f32) = ((128 : ℕ) : ℝ) := by
  show Ideal.ofBits .f32 0x43000000#32 = _
  simp [Ideal.ofBits, Ideal.ieee, -EReal.coe_mul]; norm_num
theorem ofBits_256 : (FloatOps.ofBits .f32 0x43800000#32 : Ideal .f32) = ((256 : ℕ) : ℝ) := by
  show Ideal.ofBits .f32 0x43800000#32 = _
  simp [Ideal.ofBits, Ideal.ieee, -EReal.coe_mul]; norm_num
theorem ofBits_one : (FloatOps.ofBits .f32 0x3F800000#32 : Ideal .f32) = (1 : ℝ) := by
  show Ideal.ofBits .f32 0x3F800000#32 = _
  simp
theorem ofBits_2 : (FloatOps.ofBits .f32 0x40000000#32 : Ideal .f32) = (2 : ℝ) := by
  show Ideal.ofBits .f32 0x40000000#32 = _
  simp [Ideal.ofBits, Ideal.ieee, -EReal.coe_mul]; norm_num
theorem ofBits_4 : (FloatOps.ofBits .f32 0x40800000#32 : Ideal .f32) = (4 : ℝ) := by
  show Ideal.ofBits .f32 0x40800000#32 = _
  simp [Ideal.ofBits, Ideal.ieee, -EReal.coe_mul]; norm_num
theorem ofBits_8 : (FloatOps.ofBits .f32 0x41000000#32 : Ideal .f32) = (8 : ℝ) := by
  show Ideal.ofBits .f32 0x41000000#32 = _
  simp [Ideal.ofBits, Ideal.ieee, -EReal.coe_mul]; norm_num
theorem ofBits_16 : (FloatOps.ofBits .f32 0x41800000#32 : Ideal .f32) = (16 : ℝ) := by
  show Ideal.ofBits .f32 0x41800000#32 = _
  simp [Ideal.ofBits, Ideal.ieee, -EReal.coe_mul]; norm_num

variable {n m : ℕ} {φ : FTy}

/-- The sum of squares of a row over the row's length, plus the constant, under the reciprocal root. -/
theorem At2.rs {x : FVec Ideal ⟨2, ![n, m]⟩ .f32} {f : ℕ → ℕ → ℝ} {v : BitVec 32} (hx : At2 x f)
    (hv : (FloatOps.ofBits .f32 v : Ideal .f32) = ((m : ℕ) : ℝ)) (hm : m ≠ 0)
    (h : (⟨2, ![n, m]⟩ : Shape).Reduces [1] ⟨1, ![n]⟩) (hc : (⟨1, ![n]⟩ : Shape).ShapeCasts ⟨2, ![n, 1]⟩)
    (hf : FKind.Formats .f32) (ha) :
    At2 (Idealize.ShloMosaic.rsqrt (addf (divf (shapeCast ⟨2, ![n, 1]⟩ (multiReduction .add [1] ⟨1, ![n]⟩ (mulf x x) 0x00000000#32 h hf ha) hc)
      (broadcast ⟨2, ![n, 1]⟩ (Scalar.ofBits .f32 v : Ideal .f32))) (broadcast ⟨2, ![n, 1]⟩ (Scalar.ofBits .f32 0x358637BD#32 : Ideal .f32))))
      fun r _ => Mix.rs m (f r) :=
  ((((hx.mul hx).rowSum h hc hf ha).div (At2.const hv) fun _ _ => by exact_mod_cast hm).add (At2.const ofBits_eps)).rsqrt
    fun r _ => ms_pos m (f r)

/-- The norm of a row. -/
theorem At2.nrm {x : FVec Ideal ⟨2, ![n, m]⟩ .f32} {f : ℕ → ℕ → ℝ} {q : FVec Ideal ⟨2, ![n, 1]⟩ .f32} {s : ℕ → ℝ}
    (hx : At2 x f) (hq : At2 q fun r _ => s r) (hb : (⟨2, ![n, 1]⟩ : Shape).Broadcasts ⟨2, ![n, m]⟩) :
    At2 (mulf x (broadcastTo ⟨2, ![n, m]⟩ q hb)) fun r l => f r l * s r := hx.mul (hq.bcCol hb)

/-- The gradient of a row's norm. -/
theorem At2.nb {y d : FVec Ideal ⟨2, ![n, m]⟩ .f32} {f g : ℕ → ℕ → ℝ} {q : FVec Ideal ⟨2, ![n, 1]⟩ .f32} {v : BitVec 32}
    (hy : At2 y fun r l => f r l * Mix.rs m (f r)) (hd : At2 d g) (hq : At2 q fun r _ => Mix.rs m (f r))
    (hv : (FloatOps.ofBits .f32 v : Ideal .f32) = ((m : ℕ) : ℝ)) (hm : m ≠ 0)
    (h : (⟨2, ![n, m]⟩ : Shape).Reduces [1] ⟨1, ![n]⟩) (hc : (⟨1, ![n]⟩ : Shape).ShapeCasts ⟨2, ![n, 1]⟩)
    (hf : FKind.Formats .f32) (ha) (hb : (⟨2, ![n, 1]⟩ : Shape).Broadcasts ⟨2, ![n, m]⟩) :
    At2 (mulf (broadcastTo ⟨2, ![n, m]⟩ q hb) (subf d (mulf y (broadcastTo ⟨2, ![n, m]⟩
      (divf (shapeCast ⟨2, ![n, 1]⟩ (multiReduction .add [1] ⟨1, ![n]⟩ (mulf d y) 0x00000000#32 h hf ha) hc)
        (broadcast ⟨2, ![n, 1]⟩ (Scalar.ofBits .f32 v : Ideal .f32))) hb))))
      fun r l => Mix.nb m (f r) (g r) l :=
  (hq.bcCol hb).mul (hd.sub (hy.mul ((((hd.mul hy).rowSum h hc hf ha).div (At2.const hv) fun _ _ => by exact_mod_cast hm).bcCol hb)))

/-- The gradient of the norm of each group of `n` columns of a row, at column `j`. -/
noncomputable def gnb (n : ℕ) (x dy : ℕ → ℝ) (j : ℕ) : ℝ :=
  nb n (fun k => x (n * (j / n) + k)) (fun k => dy (n * (j / n) + k)) (j % n)

theorem gnb_at {n : ℕ} (x dy : ℕ → ℝ) {o : ℕ} (q : ℕ) (ho : o = n * q) {l : ℕ} (hl : l < n) :
    gnb n x dy (o + l) = nb n (fun k => x (o + k)) (fun k => dy (o + k)) l := by
  unfold gnb
  subst ho
  have h0 : (n * q + l) / n = q := by rw [Nat.mul_add_div (by omega), Nat.div_eq_of_lt hl, Nat.add_zero]
  have h1 : (n * q + l) % n = l := by rw [Nat.mul_add_mod, Nat.mod_eq_of_lt hl]
  rw [h0, h1]

theorem gnb_congr {n : ℕ} {x x' dy dy' : ℕ → ℝ} {w : ℕ} (hn : n ∣ w) (h : ∀ k < w, x k = x' k) (h' : ∀ k < w, dy k = dy' k) {j : ℕ} (hj : j < w) :
    gnb n x dy j = gnb n x' dy' j := by
  obtain ⟨q, rfl⟩ := hn
  have hn0 : 0 < n := Nat.pos_of_ne_zero (by rintro rfl; simp at hj)
  have hq : j / n < q := Nat.div_lt_of_lt_mul hj
  have hk : ∀ k < n, n * (j / n) + k < n * q := fun k hk => by
    calc n * (j / n) + k < n * (j / n) + n := by omega
      _ = n * (j / n + 1) := by ring
      _ ≤ n * q := Nat.mul_le_mul_left _ hq
  exact nb_congr (fun k h0 => h _ (hk k h0)) (fun k h0 => h' _ (hk k h0)) (Nat.mod_lt _ hn0)

/-- One head's columns of the gradient of the gate's norm, from the columns `o` on of the whole arrays. -/
theorem At2.head {w : ℕ} {a d : FVec Ideal ⟨2, ![n, w]⟩ .f32} {A D : ℕ → ℕ → ℝ} {q : FVec Ideal ⟨2, ![n, 1]⟩ .f32} {o : ℕ}
    (ha : At2 a A) (hd : At2 d D) (hq : At2 q fun r _ => Mix.rs 128 fun k => A r (o + k)) (p : ℕ) (ho : o = 128 * p)
    (hs : (⟨2, ![n, w]⟩ : Shape).Slices ![0, o] ⟨2, ![n, 128]⟩)
    (h : (⟨2, ![n, 128]⟩ : Shape).Reduces [1] ⟨1, ![n]⟩) (hc : (⟨1, ![n]⟩ : Shape).ShapeCasts ⟨2, ![n, 1]⟩)
    (hf : FKind.Formats .f32) (hacc) (hb : (⟨2, ![n, 1]⟩ : Shape).Broadcasts ⟨2, ![n, 128]⟩) :
    At2 (mulf (broadcastTo ⟨2, ![n, 128]⟩ q hb) (subf (extractStridedSlice ⟨2, ![n, 128]⟩ ![0, o] d hs)
      (mulf (mulf (extractStridedSlice ⟨2, ![n, 128]⟩ ![0, o] a hs) (broadcastTo ⟨2, ![n, 128]⟩ q hb)) (broadcastTo ⟨2, ![n, 128]⟩
      (divf (shapeCast ⟨2, ![n, 1]⟩ (multiReduction .add [1] ⟨1, ![n]⟩ (mulf (extractStridedSlice ⟨2, ![n, 128]⟩ ![0, o] d hs)
        (mulf (extractStridedSlice ⟨2, ![n, 128]⟩ ![0, o] a hs) (broadcastTo ⟨2, ![n, 128]⟩ q hb))) 0x00000000#32 h hf hacc) hc)
        (broadcast ⟨2, ![n, 1]⟩ (Scalar.ofBits .f32 0x43000000#32 : Ideal .f32))) hb))))
      fun r l => gnb 128 (A r) (D r) (o + l) := by
  have ha' : At2 (extractStridedSlice ⟨2, ![n, 128]⟩ ![0, o] a hs) fun r l => A r (o + l) :=
    (ha.slice 0 o hs).congr fun r l _ _ => by rw [Nat.zero_add]
  have hd' : At2 (extractStridedSlice ⟨2, ![n, 128]⟩ ![0, o] d hs) fun r l => D r (o + l) :=
    (hd.slice 0 o hs).congr fun r l _ _ => by rw [Nat.zero_add]
  exact (At2.nb (f := fun r l => A r (o + l)) (ha'.mul (hq.bcCol hb)) hd' hq ofBits_128 (by decide) h hc hf hacc hb).congr fun r l _ hl =>
    (gnb_at _ _ p ho hl).symm

/-- The reciprocal root of one head's mean square, from the columns `o` on of the whole array. -/
theorem At2.headRs {w : ℕ} {a : FVec Ideal ⟨2, ![n, w]⟩ .f32} {A : ℕ → ℕ → ℝ} (o : ℕ) (ha : At2 a A)
    (hs : (⟨2, ![n, w]⟩ : Shape).Slices ![0, o] ⟨2, ![n, 128]⟩)
    (h : (⟨2, ![n, 128]⟩ : Shape).Reduces [1] ⟨1, ![n]⟩) (hc : (⟨1, ![n]⟩ : Shape).ShapeCasts ⟨2, ![n, 1]⟩)
    (hf : FKind.Formats .f32) (hacc) :
    At2 (Idealize.ShloMosaic.rsqrt (addf (divf (shapeCast ⟨2, ![n, 1]⟩ (multiReduction .add [1] ⟨1, ![n]⟩
      (mulf (extractStridedSlice ⟨2, ![n, 128]⟩ ![0, o] a hs) (extractStridedSlice ⟨2, ![n, 128]⟩ ![0, o] a hs)) 0x00000000#32 h hf hacc) hc)
      (broadcast ⟨2, ![n, 1]⟩ (Scalar.ofBits .f32 0x43000000#32 : Ideal .f32))) (broadcast ⟨2, ![n, 1]⟩ (Scalar.ofBits .f32 0x358637BD#32 : Ideal .f32))))
      fun r _ => Mix.rs 128 fun k => A r (o + k) :=
  At2.rs (f := fun r l => A r (o + l)) ((ha.slice 0 o hs).congr fun r l _ _ => by rw [Nat.zero_add]) ofBits_128 (by decide) h hc hf hacc

end Cert.Mix
-- ==== Proof.Val.Spec.lean ====
module

public import proofs.«01_k».proof.Proof.Val.Norm

@[expose] public section

/-! The two mixers and their gradient, on arrays of real numbers.

Rows are numbered from sixteen: row `16 + t` is token `t`, and the rows before the first token and after the last hold
zeros. `P` is the projection (columns: the gate, the two factors of the convolution's input, the pool's input, 1024
each), `G` the gradient arriving at the mixers' output (1024 columns of the convolution, 1024 of the pool), `W` the
convolution's three rows of weights, `Q` the pool's four square matrices, `S` the pool's scale. `T` is a number of rows
standing before the first of `P`: a block of rows of the whole array is read with its own row numbers. -/

namespace Cert.Mix

variable (P G W : ℕ → ℕ → ℝ) (Q : ℕ → ℕ → ℕ → ℝ) (S : ℕ → ℝ) (T : ℕ)

/-- The convolution's input. -/
noncomputable def cu (ρ l : ℕ) : ℝ := P ρ (1024 + l) * P ρ (2048 + l)

/-- The convolution over three successive tokens. -/
noncomputable def conv (ρ l : ℕ) : ℝ := W 0 l * cu P (ρ - 2) l + W 1 l * cu P (ρ - 1) l + W 2 l * cu P ρ l

/-- The gated convolution, before its norm. -/
noncomputable def gate (ρ l : ℕ) : ℝ := P ρ l * conv P W ρ l

/-- The gradient at the gated convolution. -/
noncomputable def dgate (ρ l : ℕ) : ℝ := gnb 128 (gate P W ρ) (G ρ) l

/-- The gradient at the convolution. -/
noncomputable def dconv (ρ l : ℕ) : ℝ := dgate P G W ρ l * P ρ l

/-- The gradient at the convolution's input, from the gradient `D` at the convolution. -/
noncomputable def dcu (D : ℕ → ℕ → ℝ) (ρ l : ℕ) : ℝ := W 0 l * D (ρ + 2) l + W 1 l * D (ρ + 1) l + W 2 l * D ρ l

/-- The width of a pool group's window. -/
def wd (g : ℕ) : ℕ := 2 ^ (g + 1)

/-- One over the number of tokens in a window. -/
noncomputable def icnt (w ρ : ℕ) : ℝ := 1 / min ((T : ℝ) + ρ - 15) (w : ℝ)

/-- A window's mean less the token itself. -/
noncomputable def pooled (g ρ l : ℕ) : ℝ :=
  (∑ k ∈ Finset.range (wd g), P (ρ - k) (3072 + (256 * g + l))) * icnt T (wd g) ρ - P ρ (3072 + (256 * g + l))

/-- A group's pooled rows times its matrix. -/
noncomputable def zz (g ρ l : ℕ) : ℝ := ∑ k ∈ Finset.range 256, pooled P T g ρ k * Q g k l

/-- The gradient at that product. -/
noncomputable def dz (g ρ l : ℕ) : ℝ :=
  nb 256 (zz P Q T g ρ) (fun k => G ρ (1024 + (256 * g + k)) * S (256 * g + k)) l

/-- The gradient at the pooled rows. -/
noncomputable def dpooled (g ρ l : ℕ) : ℝ := ∑ k ∈ Finset.range 256, dz P G Q S T g ρ k * Q g l k

/-- The gradient at a window's sum. -/
noncomputable def dpn (g ρ l : ℕ) : ℝ := dpooled P G Q S T g ρ l * icnt T (wd g) ρ

/-- One token's part of the scale's gradient. -/
noncomputable def dsc (g ρ l : ℕ) : ℝ := G ρ (1024 + (256 * g + l)) * (zz P Q T g ρ l * rs 256 (zz P Q T g ρ))

/-- One token's part of the matrix's gradient. -/
noncomputable def dmat (g ρ k l : ℕ) : ℝ := pooled P T g ρ k * dz P G Q S T g ρ l

end Cert.Mix
-- ==== Proof.Val.Local.lean ====
module

public import proofs.«01_k».proof.Proof.Val.Spec

@[expose] public section

/-! The mixers' gradient at a token depends on the tokens near it: a block of rows computes what the whole array would. -/

namespace Cert.Mix

variable {P G PG GG W : ℕ → ℕ → ℝ} {Q : ℕ → ℕ → ℕ → ℝ} {S : ℕ → ℝ} {T N : ℕ}

/-- The rows of `P` below `N` are the rows of the whole array `PG` from `T` on. -/
def Part (P PG : ℕ → ℕ → ℝ) (T lo N : ℕ) : Prop := ∀ ρ, lo ≤ ρ → ρ < N → P ρ = PG (T + ρ)

theorem cu_part (hP : Part P PG T 0 N) {ρ : ℕ} (h : ρ < N) : cu P ρ = cu PG (T + ρ) := by
  funext l
  unfold cu
  rw [hP ρ (Nat.zero_le _) h]

theorem conv_part (hP : Part P PG T 0 N) {ρ : ℕ} (h0 : 16 ≤ ρ) (h : ρ < N) : conv P W ρ = conv PG W (T + ρ) := by
  funext l
  unfold conv
  rw [cu_part hP h, cu_part hP (show ρ - 1 < N by omega), cu_part hP (show ρ - 2 < N by omega),
    show T + (ρ - 1) = T + ρ - 1 by omega, show T + (ρ - 2) = T + ρ - 2 by omega]

theorem gate_part (hP : Part P PG T 0 N) {ρ : ℕ} (h0 : 16 ≤ ρ) (h : ρ < N) : gate P W ρ = gate PG W (T + ρ) := by
  funext l
  unfold gate
  rw [hP ρ (Nat.zero_le _) h, conv_part hP h0 h]

theorem dgate_part (hP : Part P PG T 0 N) (hG : Part G GG T 16 N) {ρ : ℕ} (h0 : 16 ≤ ρ) (h : ρ < N) :
    dgate P G W ρ = dgate PG GG W (T + ρ) := by
  funext l
  unfold dgate
  rw [gate_part hP h0 h, hG ρ h0 h]

theorem dconv_part (hP : Part P PG T 0 N) (hG : Part G GG T 16 N) {ρ : ℕ} (h0 : 16 ≤ ρ) (h : ρ < N) :
    dconv P G W ρ = dconv PG GG W (T + ρ) := by
  funext l
  unfold dconv
  rw [dgate_part hP hG h0 h, hP ρ (Nat.zero_le _) h]

theorem icnt_part (w ρ : ℕ) : icnt T w ρ = icnt 0 w (T + ρ) := by
  unfold icnt
  push_cast
  rw [zero_add]

theorem wd_le {g : ℕ} (hg : g < 4) : wd g ≤ 16 := by
  interval_cases g <;> decide

theorem pooled_part (hP : Part P PG T 0 N) {g : ℕ} (hg : g < 4) {ρ : ℕ} (h0 : 16 ≤ ρ) (h : ρ < N) :
    pooled P T g ρ = pooled PG 0 g (T + ρ) := by
  funext l
  unfold pooled
  rw [hP ρ (Nat.zero_le _) h, icnt_part, Finset.sum_congr rfl fun k hk => by
    have := Finset.mem_range.mp hk
    have := wd_le hg
    rw [hP (ρ - k) (Nat.zero_le _) (by omega), show T + (ρ - k) = T + ρ - k by omega]]

theorem zz_part (hP : Part P PG T 0 N) {g : ℕ} (hg : g < 4) {ρ : ℕ} (h0 : 16 ≤ ρ) (h : ρ < N) :
    zz P Q T g ρ = zz PG Q 0 g (T + ρ) := by
  funext l
  unfold zz
  rw [pooled_part hP hg h0 h]

theorem dz_part (hP : Part P PG T 0 N) (hG : Part G GG T 16 N) {g : ℕ} (hg : g < 4) {ρ : ℕ} (h0 : 16 ≤ ρ) (h : ρ < N) :
    dz P G Q S T g ρ = dz PG GG Q S 0 g (T + ρ) := by
  funext l
  unfold dz
  rw [zz_part hP hg h0 h, hG ρ h0 h]

theorem dpooled_part (hP : Part P PG T 0 N) (hG : Part G GG T 16 N) {g : ℕ} (hg : g < 4) {ρ : ℕ} (h0 : 16 ≤ ρ) (h : ρ < N) :
    dpooled P G Q S T g ρ = dpooled PG GG Q S 0 g (T + ρ) := by
  funext l
  unfold dpooled
  rw [dz_part hP hG hg h0 h]

theorem dpn_part (hP : Part P PG T 0 N) (hG : Part G GG T 16 N) {g : ℕ} (hg : g < 4) {ρ : ℕ} (h0 : 16 ≤ ρ) (h : ρ < N) :
    dpn P G Q S T g ρ = dpn PG GG Q S 0 g (T + ρ) := by
  funext l
  unfold dpn
  rw [dpooled_part hP hG hg h0 h, icnt_part]

theorem dsc_part (hP : Part P PG T 0 N) (hG : Part G GG T 16 N) {g : ℕ} (hg : g < 4) {ρ : ℕ} (h0 : 16 ≤ ρ) (h : ρ < N) :
    dsc P G Q T g ρ = dsc PG GG Q 0 g (T + ρ) := by
  funext l
  unfold dsc
  rw [zz_part hP hg h0 h, hG ρ h0 h]

theorem dmat_part (hP : Part P PG T 0 N) (hG : Part G GG T 16 N) {g : ℕ} (hg : g < 4) {ρ : ℕ} (h0 : 16 ≤ ρ) (h : ρ < N) :
    dmat P G Q S T g ρ = dmat PG GG Q S 0 g (T + ρ) := by
  funext k l
  unfold dmat
  rw [pooled_part hP hg h0 h, dz_part hP hG hg h0 h]

/-- Where no gradient arrives, none leaves the gated convolution. -/
theorem dconv_zero {ρ : ℕ} (h : G ρ = fun _ => 0) (l : ℕ) : dconv P G W ρ l = 0 := by
  unfold dconv dgate gnb
  rw [h, nb_zero, zero_mul]

/-- Where no gradient arrives, none reaches the window's sums. -/
theorem dpn_zero {g ρ : ℕ} (h : G ρ = fun _ => 0) (l : ℕ) : dpn P G Q S T g ρ l = 0 := by
  unfold dpn dpooled dz
  rw [h]
  simp only [zero_mul, nb_zero, Finset.sum_const_zero]

end Cert.Mix
-- ==== Proof.Val.Buf.lean ====
module

public import proofs.«01_k».proof.Proof.Val.Reals
public import Idealize.ShloMosaic.Lib.Pipeline.Value
public import Idealize.ShloMosaic.Lib.WholeRead
public import Idealize.ShloMosaic.Lib.Tactic
public import Idealize.ShloMosaic.Lib.Ring

@[expose] public section

/-! Buffers written piece by piece with the blocks of one real function, and the blocks read back. -/

namespace Cert.Mix

open Idealize.ShloMosaic Idealize.ShloMosaic.TcCoe

variable {n m n' m' : ℕ} {e : EltTy} {sig : RefSig} {κ : Kind} {sp : Space}

/-- Every piece of the list holds the entries `g` names, as `up` writes a real number, at the places the piece is
written to. -/
def Ag (up : ℝ → Elt Ideal e) (L : List (View.Piece (Elt Ideal) ⟨2, ![n, m]⟩ e)) (g : ℕ → ℕ → ℝ) : Prop :=
  ∀ p ∈ L, ∀ x, p.2 x = up (g (p.1.emb x 0).val (p.1.emb x 1).val)

/-- A real number as an entry of a buffer of this format. -/
noncomputable def up32 (x : ℝ) : Elt Ideal .f32 := (x : EReal)

/-- A real number as an entry of a buffer of this format. -/
noncomputable def up16 (x : ℝ) : Elt Ideal .bf16 := (x : EReal)

theorem Ag.nil {up : ℝ → Elt Ideal e} {g : ℕ → ℕ → ℝ} : Ag (n := n) (m := m) up [] g := fun _ h => nomatch h

theorem Ag.cons32 {a o : ℕ} {inb : ∀ i, (![a, o] : Fin 2 → ℕ) i + (⟨2, ![n', m']⟩ : Shape).size i ≤ (⟨2, ![n, m]⟩ : Shape).size i}
    {pay : (⟨2, ![n', m']⟩ : Shape).Idx → Elt Ideal .f32} {f g : ℕ → ℕ → ℝ} {L : List (View.Piece (Elt Ideal) ⟨2, ![n, m]⟩ .f32)}
    (h : At2 pay f) (hf : ∀ r l, r < n' → l < m' → f r l = g (a + r) (o + l)) (hL : Ag up32 L g) :
    Ag up32 (⟨Rect.unit (s := ⟨2, ![n, m]⟩) ![a, o] (⟨2, ![n', m']⟩ : Shape).size inb, pay⟩ :: L) g := by
  intro p hp x
  rcases List.mem_cons.mp hp with rfl | hp
  · refine (h x).trans (congrArg up32 ((hf _ _ (x 0).isLt (x 1).isLt).trans ?_))
    refine congrArg₂ g ?_ ?_
    · show _ = a + 1 * (x 0).val
      omega
    · show _ = o + 1 * (x 1).val
      omega
  · exact hL p hp x

theorem Ag.cons16 {a o : ℕ} {inb : ∀ i, (![a, o] : Fin 2 → ℕ) i + (⟨2, ![n', m']⟩ : Shape).size i ≤ (⟨2, ![n, m]⟩ : Shape).size i}
    {pay : (⟨2, ![n', m']⟩ : Shape).Idx → Elt Ideal .bf16} {f g : ℕ → ℕ → ℝ} {L : List (View.Piece (Elt Ideal) ⟨2, ![n, m]⟩ .bf16)}
    (h : At2 pay f) (hf : ∀ r l, r < n' → l < m' → f r l = g (a + r) (o + l)) (hL : Ag up16 L g) :
    Ag up16 (⟨Rect.unit (s := ⟨2, ![n, m]⟩) ![a, o] (⟨2, ![n', m']⟩ : Shape).size inb, pay⟩ :: L) g := by
  intro p hp x
  rcases List.mem_cons.mp hp with rfl | hp
  · refine (h x).trans (congrArg up16 ((hf _ _ (x 0).isLt (x 1).isLt).trans ?_))
    refine congrArg₂ g ?_ ?_
    · show _ = a + 1 * (x 0).val
      omega
    · show _ = o + 1 * (x 1).val
      omega
  · exact hL p hp x

/-- A list of pieces that covers its buffer with the entries of `g`. -/
structure Buf (L : List (View.Piece (Elt Ideal) ⟨2, ![n, m]⟩ .f32)) (g : ℕ → ℕ → ℝ) : Prop where
  ag : Ag up32 L g
  cover : ∀ y, ∃ p ∈ L, y ∈ p.1.set

/-- A block of a covered buffer. -/
theorem Buf.read {L : List (View.Piece (Elt Ideal) ⟨2, ![n, m]⟩ .f32)} {g : ℕ → ℕ → ℝ} (h : Buf L g) (a o : ℕ)
    (v : View sig κ sp ⟨2, ![n, m]⟩ .f32)
    (inb : ∀ i, (![a, o] : Fin 2 → ℕ) i + (⟨2, ![n', m']⟩ : Shape).size i ≤ (⟨2, ![n, m]⟩ : Shape).size i) :
    At2 (n := n') (m := m') (v.readCov L (Rect.unit (s := ⟨2, ![n, m]⟩) ![a, o] (⟨2, ![n', m']⟩ : Shape).size inb).toLoadRect)
      fun r l => g (a + r) (o + l) := fun y => by
  refine (congrFun (View.readCov_eq_canon v L (Rect.unit (s := ⟨2, ![n, m]⟩) ![a, o] (⟨2, ![n', m']⟩ : Shape).size inb).toLoadRect
    fun j => h.cover _) y).trans ?_
  refine (View.canon_apply_of_pieces (fun y => up32 (g (y 0).val (y 1).val)) L h.ag _ (h.cover _)).trans ?_
  refine congrArg up32 (congrArg₂ g ?_ ?_)
  · show a + 1 * (y 0).val = _
    rw [Nat.one_mul]
  · show o + 1 * (y 1).val = _
    rw [Nat.one_mul]

/-- Whole rows of a covered buffer. -/
theorem Buf.rows {L : List (View.Piece (Elt Ideal) ⟨2, ![n, m]⟩ .f32)} {g : ℕ → ℕ → ℝ} (h : Buf L g) (a : ℕ)
    (v : View sig κ sp ⟨2, ![n, m]⟩ .f32)
    (inb : ∀ i, (![a, 0] : Fin 2 → ℕ) i + (⟨2, ![n', m']⟩ : Shape).size i ≤ (⟨2, ![n, m]⟩ : Shape).size i) :
    At2 (n := n') (m := m') (v.readCov L (Rect.unit (s := ⟨2, ![n, m]⟩) ![a, 0] (⟨2, ![n', m']⟩ : Shape).size inb).toLoadRect)
      fun r l => g (a + r) l := (h.read a 0 v inb).congr fun r l _ _ => by rw [Nat.zero_add]

/-- A block of an argument's block. -/
theorem load_at {mr : Memref sig κ sp ⟨2, ![n, m]⟩ .f32} {x : (⟨2, ![n, m]⟩ : Shape).Idx → Elt Ideal .f32} {X : ℕ → ℕ → ℝ} (hx : At2 x X) (a o : ℕ)
    (h : mr.IsWhole) (inb : ∀ i, (![a, o] : Fin 2 → ℕ) i + (⟨2, ![n', m']⟩ : Shape).size i ≤ (⟨2, ![n, m]⟩ : Shape).size i) :
    At2 (n := n') (m := m') (View.readAt (Elt Ideal) mr.view
      (Rect.unit (s := ⟨2, ![n, m]⟩) ![a, o] (⟨2, ![n', m']⟩ : Shape).size inb).toLoadRect (h.unread x))
      fun r l => X (a + r) (o + l) := fun y => by
  refine (h.readAt_unread x (Rect.unit (s := ⟨2, ![n, m]⟩) ![a, o] (⟨2, ![n', m']⟩ : Shape).size inb).toLoadRect y).trans ((hx _).trans ?_)
  refine congrArg up32 (congrArg₂ X ?_ ?_)
  · show a + 1 * (y 0).val = _
    rw [Nat.one_mul]
  · show o + 1 * (y 1).val = _
    rw [Nat.one_mul]

/-- The whole of an argument's block. -/
theorem load_all {mr : Memref sig κ sp ⟨2, ![n, m]⟩ .f32} {x : (⟨2, ![n, m]⟩ : Shape).Idx → Elt Ideal .f32} {X : ℕ → ℕ → ℝ} (hx : At2 x X)
    (h : mr.IsWhole) (inb : ∀ i, (![0, 0] : Fin 2 → ℕ) i + (⟨2, ![n, m]⟩ : Shape).size i ≤ (⟨2, ![n, m]⟩ : Shape).size i) :
    At2 (n := n) (m := m) (View.readAt (Elt Ideal) mr.view
      (Rect.unit (s := ⟨2, ![n, m]⟩) ![0, 0] (⟨2, ![n, m]⟩ : Shape).size inb).toLoadRect (h.unread x)) X :=
  (load_at hx 0 0 h inb).congr fun r l _ _ => by rw [Nat.zero_add, Nat.zero_add]

/-- Columns of an array, all its rows. -/
theorem At2.cols {ψ : FTy} {x : FVec Ideal ⟨2, ![n, m]⟩ ψ} {f : ℕ → ℕ → ℝ} (o : ℕ)
    (h : (⟨2, ![n, m]⟩ : Shape).Slices ![0, o] ⟨2, ![n, m']⟩) (hx : At2 x f) :
    At2 (extractStridedSlice ⟨2, ![n, m']⟩ ![0, o] x h) fun r l => f r (o + l) :=
  (hx.slice 0 o h).congr fun r l _ _ => by rw [Nat.zero_add]

end Cert.Mix
-- ==== Proof.Val.Dots.lean ====
module

public import proofs.«01_k».proof.Proof.Val.Norm
public import proofs.«01_k».proof.Proof.Gen.KernelIdeal.Skeleton
public import Idealize.ShloMosaic.Lib.Pipeline.Value

@[expose] public section

/-! Matrix products and concatenations of arrays of real numbers. -/

namespace Cert.Mix

open Idealize.ShloMosaic Idealize.ShloMosaic.TcCoe
open Cert.KernelIdeal

variable {n m K : ℕ}

/-- A sum of products of entries, as a sum of real numbers. -/
theorem sum_mul {a b : Fin K → EReal} {f g : ℕ → ℝ} (ha : ∀ k, a k = (f k : EReal)) (hb : ∀ k, b k = (g k : EReal)) :
    ∑ k, a k * b k = ((∑ k ∈ Finset.range K, f k * g k : ℝ) : EReal) := by
  rw [← coe_sum]
  exact Finset.sum_congr rfl fun k _ => by rw [ha, hb, EReal.coe_mul]

theorem At2.nn512 {x : FVec Ideal S512x256 .bf16} {y : FVec Ideal S256x256 .bf16} {f g : ℕ → ℕ → ℝ} (hx : At2 x f) (hy : At2 y g) :
    At2 (matmul dot_S512x256_S256x256_S512x256_1_0_0_1_n_n none x y (constant S512x256 .f32 0x00000000#32))
      fun r l => ∑ k ∈ Finset.range 256, f r k * g k l := fun j => by
  simp only [pointwise, zero_add]
  exact sum_mul (fun k => hx _) fun k => hy _

theorem At2.nt512 {x : FVec Ideal S512x256 .bf16} {y : FVec Ideal S256x256 .bf16} {f g : ℕ → ℕ → ℝ} (hx : At2 x f) (hy : At2 y g) :
    At2 (matmul dot_S512x256_S256x256_S512x256_1_1_0_0_n_n none x y (constant S512x256 .f32 0x00000000#32))
      fun r l => ∑ k ∈ Finset.range 256, f r k * g l k := fun j => by
  simp only [pointwise, zero_add]
  exact sum_mul (fun k => hx _) fun k => hy _

theorem At2.tn512 {x : FVec Ideal S512x256 .bf16} {y : FVec Ideal S512x256 .bf16} {f g : ℕ → ℕ → ℝ} (hx : At2 x f) (hy : At2 y g) :
    At2 (matmul dot_S512x256_S512x256_S256x256_0_0_1_1_n_n none x y (constant S256x256 .f32 0x00000000#32))
      fun r l => ∑ k ∈ Finset.range 512, f k r * g k l := fun j => by
  simp only [pointwise, zero_add]
  exact sum_mul (f := fun k => f k (j 0).val) (g := fun k => g k (j 1).val) (fun k => hx _) fun k => hy _

theorem At2.nn16 {x : FVec Ideal S16x256 .bf16} {y : FVec Ideal S256x256 .bf16} {f g : ℕ → ℕ → ℝ} (hx : At2 x f) (hy : At2 y g) :
    At2 (matmul dot_S16x256_S256x256_S16x256_1_0_0_1_n_n none x y (constant S16x256 .f32 0x00000000#32))
      fun r l => ∑ k ∈ Finset.range 256, f r k * g k l := fun j => by
  simp only [pointwise, zero_add]
  exact sum_mul (fun k => hx _) fun k => hy _

theorem At2.nt16 {x : FVec Ideal S16x256 .bf16} {y : FVec Ideal S256x256 .bf16} {f g : ℕ → ℕ → ℝ} (hx : At2 x f) (hy : At2 y g) :
    At2 (matmul dot_S16x256_S256x256_S16x256_1_1_0_0_n_n none x y (constant S16x256 .f32 0x00000000#32))
      fun r l => ∑ k ∈ Finset.range 256, f r k * g l k := fun j => by
  simp only [pointwise, zero_add]
  exact sum_mul (fun k => hx _) fun k => hy _

/-- Four blocks of rows, one above the other. -/
theorem At2.stack4 {x0 x1 x2 x3 : FVec Ideal ⟨2, ![64, m]⟩ .f32} {f : ℕ → ℕ → ℝ}
    (h0 : At2 x0 f) (h1 : At2 x1 fun r l => f (64 + r) l) (h2 : At2 x2 fun r l => f (128 + r) l) (h3 : At2 x3 fun r l => f (192 + r) l) (h) :
    At2 (concatenate ⟨2, ![256, m]⟩ 0 [⟨_, x0⟩, ⟨_, x1⟩, ⟨_, x2⟩, ⟨_, x3⟩] h) f := fun j => by
  have hj := (j 0).isLt
  change (j 0).val < 256 at hj
  rw [concatenate_cons_apply]
  simp only [concatenateAt_cons, concatenateAt_singleton]
  split
  · exact h0 _
  split
  · refine (h1 _).trans (congrArg _ (congrArg₂ f ?_ rfl))
    rename_i q _
    change ¬ (j 0).val < 64 at q
    show 64 + ((j 0).val - 64) = _
    omega
  split
  · refine (h2 _).trans (congrArg _ (congrArg₂ f ?_ rfl))
    rename_i q q' _
    change ¬ (j 0).val < 64 at q
    change ¬ (j 0).val - 64 < 64 at q'
    show 128 + ((j 0).val - 64 - 64) = _
    omega
  · refine (h3 _).trans (congrArg _ (congrArg₂ f ?_ rfl))
    rename_i q q' q2
    change ¬ (j 0).val < 64 at q
    change ¬ (j 0).val - 64 < 64 at q'
    change ¬ (j 0).val - 64 - 64 < 64 at q2
    show 192 + ((j 0).val - 64 - 64 - 64) = _
    omega

/-- Three rows, one above the other. -/
theorem At2.stack3 {x0 x1 x2 : FVec Ideal ⟨2, ![1, m]⟩ .f32} {f : ℕ → ℕ → ℝ}
    (h0 : At2 x0 fun _ l => f 0 l) (h1 : At2 x1 fun _ l => f 1 l) (h2 : At2 x2 fun _ l => f 2 l) (h) :
    At2 (concatenate ⟨2, ![3, m]⟩ 0 [⟨_, x0⟩, ⟨_, x1⟩, ⟨_, x2⟩] h) f := fun j => by
  have hj := (j 0).isLt
  change (j 0).val < 3 at hj
  rw [concatenate_cons_apply]
  simp only [concatenateAt_cons, concatenateAt_singleton]
  split
  · refine (h0 _).trans (congrArg _ (congrArg₂ f ?_ rfl))
    rename_i q
    change (j 0).val < 1 at q
    omega
  split
  · refine (h1 _).trans (congrArg _ (congrArg₂ f ?_ rfl))
    rename_i q q'
    change ¬ (j 0).val < 1 at q
    change (j 0).val - 1 < 1 at q'
    omega
  · refine (h2 _).trans (congrArg _ (congrArg₂ f ?_ rfl))
    rename_i q q'
    change ¬ (j 0).val < 1 at q
    change ¬ (j 0).val - 1 < 1 at q'
    omega

/-- Four blocks of columns, side by side. -/
theorem At2.beside4 {x0 x1 x2 x3 : FVec Ideal ⟨2, ![n, 256]⟩ .f32} {f : ℕ → ℕ → ℝ}
    (h0 : At2 x0 fun r l => f r (0 + l)) (h1 : At2 x1 fun r l => f r (256 + l)) (h2 : At2 x2 fun r l => f r (512 + l))
    (h3 : At2 x3 fun r l => f r (768 + l)) (h) :
    At2 (concatenate ⟨2, ![n, 1024]⟩ 1 [⟨_, x0⟩, ⟨_, x1⟩, ⟨_, x2⟩, ⟨_, x3⟩] h) f := fun j => by
  have hj := (j 1).isLt
  change (j 1).val < 1024 at hj
  rw [concatenate_cons_apply]
  simp only [concatenateAt_cons, concatenateAt_singleton]
  split
  · refine (h0 _).trans (congrArg _ (congrArg₂ f rfl ?_))
    show 0 + (j 1).val = _
    omega
  split
  · refine (h1 _).trans (congrArg _ (congrArg₂ f rfl ?_))
    rename_i q _
    change ¬ (j 1).val < 256 at q
    show 256 + ((j 1).val - 256) = _
    omega
  split
  · refine (h2 _).trans (congrArg _ (congrArg₂ f rfl ?_))
    rename_i q q' _
    change ¬ (j 1).val < 256 at q
    change ¬ (j 1).val - 256 < 256 at q'
    show 512 + ((j 1).val - 256 - 256) = _
    omega
  · refine (h3 _).trans (congrArg _ (congrArg₂ f rfl ?_))
    rename_i q q' q2
    change ¬ (j 1).val < 256 at q
    change ¬ (j 1).val - 256 < 256 at q'
    change ¬ (j 1).val - 256 - 256 < 256 at q2
    show 768 + ((j 1).val - 256 - 256 - 256) = _
    omega

end Cert.Mix
-- ==== Proof.Val.Four.lean ====
module

public import proofs.«01_k».proof.Proof.Val.Buf
public import proofs.«01_k».proof.Proof.Val.Dots

@[expose] public section

/-! The pool's matrices: four blocks of rows of each of the four groups. -/

namespace Cert.Mix

open Idealize.ShloMosaic Idealize.ShloMosaic.TcCoe
open Cert.KernelIdeal

variable {sig : RefSig} {κ : Kind} {sp : Space}

/-- The entries of the four groups' matrices `Q`, stored as four blocks of rows each. -/
def At4 (x : S4x4x64x256.Idx → EReal) (Q : ℕ → ℕ → ℕ → ℝ) : Prop :=
  ∀ y, x y = ((Q (y 1).val (64 * (y 0).val + (y 2).val) (y 3).val : ℝ) : EReal)

/-- A block of rows of one group's matrix. -/
theorem load4 {mr : Memref sig κ sp S4x4x64x256 .f32} {x : S4x4x64x256.Idx → Elt Ideal .f32} {Q : ℕ → ℕ → ℕ → ℝ} (hx : At4 x Q) (a g : ℕ)
    (h : mr.IsWhole) (inb : ∀ i, (![a, g, 0, 0] : Fin 4 → ℕ) i + S1x1x64x256.size i ≤ S4x4x64x256.size i)
    (hc : S1x1x64x256.ShapeCasts S64x256) :
    At2 (n := 64) (m := 256) (shapeCast S64x256 (α := Elt Ideal .f32) (View.readAt (Elt Ideal) mr.view
      (Rect.unit (s := S4x4x64x256) ![a, g, 0, 0] S1x1x64x256.size inb).toLoadRect (h.unread x)) hc) fun r l => Q g (64 * a + r) l :=
  At2.drop2 (φ := .f32) hc fun y => by
    have h0 : (y 0).val < 1 := (y 0).isLt
    have h1 : (y 1).val < 1 := (y 1).isLt
    refine (h.readAt_unread x (Rect.unit (s := S4x4x64x256) ![a, g, 0, 0] S1x1x64x256.size inb).toLoadRect y).trans ((hx _).trans ?_)
    show ((Q (g + 1 * (y 1).val) (64 * (a + 1 * (y 0).val) + (0 + 1 * (y 2).val)) (0 + 1 * (y 3).val) : ℝ) : EReal) = _
    rw [show g + 1 * (y 1).val = g by omega, show 64 * (a + 1 * (y 0).val) + (0 + 1 * (y 2).val) = 64 * a + (y 2).val by omega,
      show 0 + 1 * (y 3).val = (y 3).val by omega]

/-- A block of rows, stored. -/
theorem store4 {x : FVec Ideal S64x256 .f32} {f : ℕ → ℕ → ℝ} (hx : At2 (n := 64) (m := 256) x f) (hc : S64x256.ShapeCasts S1x1x64x256) (y : S1x1x64x256.Idx) :
    shapeCast S1x1x64x256 x hc y = ((f (y 2).val (y 3).val : ℝ) : EReal) := by
  unfold shapeCast
  rw [hx]
  have e := Shape.rowMajor_reshapeEquiv hc y
  rw [Shape.rowMajor_val_two, Shape.rowMajor_val_four] at e
  have h0 : (y 0).val < 1 := (y 0).isLt
  have h1 : (y 1).val < 1 := (y 1).isLt
  have h3 : (y 3).val < 256 := (y 3).isLt
  have k1 := (Shape.reshapeEquiv hc y 1).isLt
  change (Shape.reshapeEquiv hc y 1).val < 256 at k1
  have e' : (Shape.reshapeEquiv hc y 0).val * 256 + (Shape.reshapeEquiv hc y 1).val = (((y 0).val * 1 + (y 1).val) * 64 + (y 2).val) * 256 + (y 3).val := e
  exact congrArg _ (congrArg₂ f (by omega) (by omega))

/-- A block of rows of a matrix, stored. -/
theorem store_rows {M : FVec Ideal S256x256 .f32} {f : ℕ → ℕ → ℝ} (a : ℕ) (hM : At2 (n := 256) (m := 256) M f)
    (hs : S256x256.Slices ![64 * a, 0] S64x256) (hc : S64x256.ShapeCasts S1x1x64x256) (y : S1x1x64x256.Idx) :
    shapeCast S1x1x64x256 (extractStridedSlice S64x256 ![64 * a, 0] M hs) hc y = ((f (64 * a + (y 2).val) (y 3).val : ℝ) : EReal) :=
  store4 ((At2.slice (64 * a) 0 hs hM).congr fun r l _ _ => by rw [Nat.zero_add]) hc y

/-- A block of rows of a matrix, added to one read back and stored. -/
theorem store_more {M : FVec Ideal S256x256 .f32} {f : ℕ → ℕ → ℝ} (a : ℕ) (hM : At2 (n := 256) (m := 256) M f) {p : FVec Ideal S64x256 .f32} {c : ℕ → ℕ → ℝ}
    (hp : At2 (n := 64) (m := 256) p c) (hs : S256x256.Slices ![64 * a, 0] S64x256) (hc : S64x256.ShapeCasts S1x1x64x256) (y : S1x1x64x256.Idx) :
    shapeCast S1x1x64x256 (addf p (extractStridedSlice S64x256 ![64 * a, 0] M hs)) hc y =
      ((c (y 2).val (y 3).val + f (64 * a + (y 2).val) (y 3).val : ℝ) : EReal) :=
  store4 (hp.add ((At2.slice (64 * a) 0 hs hM).congr fun r l _ _ => by rw [Nat.zero_add])) hc y

/-- A group's matrix, from its four blocks of rows. -/
theorem whole4 {x0 x1 x2 x3 : FVec Ideal S64x256 .f32} {f : ℕ → ℕ → ℝ}
    (h0 : At2 (n := 64) (m := 256) x0 fun r l => f (64 * 0 + r) l) (h1 : At2 (n := 64) (m := 256) x1 fun r l => f (64 * 1 + r) l)
    (h2 : At2 (n := 64) (m := 256) x2 fun r l => f (64 * 2 + r) l) (h3 : At2 (n := 64) (m := 256) x3 fun r l => f (64 * 3 + r) l) (h) :
    At2 (n := 256) (m := 256) (concatenate S256x256 0 [⟨S64x256, x0⟩, ⟨S64x256, x1⟩, ⟨S64x256, x2⟩, ⟨S64x256, x3⟩] h) f :=
  At2.stack4 (h0.congr fun r l _ _ => by rw [Nat.mul_zero, Nat.zero_add]) h1 h2 h3 h

end Cert.Mix
-- ==== Proof.Val.Inputs.lean ====
module

public import proofs.«01_k».proof.Proof.Val.Four
public import proofs.«01_k».proof.Proof.Gen.KernelIdeal.Value
public import Idealize.ShloMosaic.Lib.Pipeline.ValueKit

@[expose] public section

/-! The blocks each grid point reads, as rows of the arguments. -/

namespace Cert.Mix

open Idealize.ShloMosaic Idealize.ShloMosaic.TcCoe Cert.KernelIdeal Cert.KernelIdeal.Gen

variable (m : (ℓ : Loc nD τ sig) → Idealize.ShloMosaic.Buf (Elt Ideal) ℓ) (c : Dev nD)

/-- The blocks the grid's points read, by their numbers. -/
theorem idx : ∀ t : Fin cfg0.N,
    win0_0.index t = ![t.val, 0] ∧
    win0_1.index t = ![t.val, 1] ∧
    win0_2.index t = ![t.val, 2] ∧
    win0_3.index t = ![t.val, 3] ∧
    win0_4.index t = ![t.val, 0] ∧
    win0_5.index t = ![t.val, 1] ∧
    win0_6.index t = ![32 * t.val - 1, 1] ∧
    win0_7.index t = ![32 * t.val - 1, 2] ∧
    win0_8.index t = ![32 * t.val - 1, 3] ∧
    win0_9.index t = ![min (32 * t.val + 32) 511, 0] ∧
    win0_10.index t = ![min (32 * t.val + 32) 511, 1] ∧
    win0_11.index t = ![min (32 * t.val + 32) 511, 2] ∧
    win0_12.index t = ![min (32 * t.val + 32) 511, 3] ∧
    win0_13.index t = ![min (32 * t.val + 32) 511, 0] ∧
    win0_14.index t = ![min (32 * t.val + 32) 511, 1] ∧
    win0_15.index t = ![0, 0] ∧
    win0_16.index t = ![0, 0, 0, 0] ∧
    win0_17.index t = ![0, 0] ∧
    win0_18.index t = ![t.val, 0] ∧
    win0_19.index t = ![0, 0] ∧
    win0_20.index t = ![0, 0, 0, 0] ∧
    win0_21.index t = ![0, 0] :=
  (by decide +kernel : ∀ t : Fin grid0.N, _)

theorem coords_val : ∀ t : Fin cfg0.N, (grid0.coords t 0).val = t.val := (by decide +kernel : ∀ t : Fin grid0.N, _)

theorem blk0 (t : Fin cfg0.N) (y) (i : S8192x4096.Idx) (h0 : (i 0).val = 512 * t.val + (y 0).val) (h1 : (i 1).val = 0 + (y 1).val) :
    iblk m c 0 t y = m ((c : Thread nD τ).loc main_arg0) i := by
  blk_ext! [iblk, V, idx t]

theorem blk1 (t : Fin cfg0.N) (y) (i : S8192x4096.Idx) (h0 : (i 0).val = 512 * t.val + (y 0).val) (h1 : (i 1).val = 1024 + (y 1).val) :
    iblk m c 1 t y = m ((c : Thread nD τ).loc main_arg0) i := by
  blk_ext! [iblk, V, idx t]

theorem blk2 (t : Fin cfg0.N) (y) (i : S8192x4096.Idx) (h0 : (i 0).val = 512 * t.val + (y 0).val) (h1 : (i 1).val = 2048 + (y 1).val) :
    iblk m c 2 t y = m ((c : Thread nD τ).loc main_arg0) i := by
  blk_ext! [iblk, V, idx t]

theorem blk3 (t : Fin cfg0.N) (y) (i : S8192x4096.Idx) (h0 : (i 0).val = 512 * t.val + (y 0).val) (h1 : (i 1).val = 3072 + (y 1).val) :
    iblk m c 3 t y = m ((c : Thread nD τ).loc main_arg0) i := by
  blk_ext! [iblk, V, idx t]

theorem blk4 (t : Fin cfg0.N) (y) (i : S8192x2048.Idx) (h0 : (i 0).val = 512 * t.val + (y 0).val) (h1 : (i 1).val = 0 + (y 1).val) :
    iblk m c 4 t y = m ((c : Thread nD τ).loc main_arg1) i := by
  blk_ext! [iblk, V, idx t]

theorem blk5 (t : Fin cfg0.N) (y) (i : S8192x2048.Idx) (h0 : (i 0).val = 512 * t.val + (y 0).val) (h1 : (i 1).val = 1024 + (y 1).val) :
    iblk m c 5 t y = m ((c : Thread nD τ).loc main_arg1) i := by
  blk_ext! [iblk, V, idx t]

theorem blk6 (t : Fin cfg0.N) (y) (i : S8192x4096.Idx) (h0 : (i 0).val = 16 * (32 * t.val - 1) + (y 0).val) (h1 : (i 1).val = 1024 + (y 1).val) :
    iblk m c 6 t y = m ((c : Thread nD τ).loc main_arg0) i := by
  blk_ext! [iblk, V, idx t]

theorem blk7 (t : Fin cfg0.N) (y) (i : S8192x4096.Idx) (h0 : (i 0).val = 16 * (32 * t.val - 1) + (y 0).val) (h1 : (i 1).val = 2048 + (y 1).val) :
    iblk m c 7 t y = m ((c : Thread nD τ).loc main_arg0) i := by
  blk_ext! [iblk, V, idx t]

theorem blk8 (t : Fin cfg0.N) (y) (i : S8192x4096.Idx) (h0 : (i 0).val = 16 * (32 * t.val - 1) + (y 0).val) (h1 : (i 1).val = 3072 + (y 1).val) :
    iblk m c 8 t y = m ((c : Thread nD τ).loc main_arg0) i := by
  blk_ext! [iblk, V, idx t]

theorem blk9 (t : Fin cfg0.N) (y) (i : S8192x4096.Idx) (h0 : (i 0).val = 16 * min (32 * t.val + 32) 511 + (y 0).val) (h1 : (i 1).val = 0 + (y 1).val) :
    iblk m c 9 t y = m ((c : Thread nD τ).loc main_arg0) i := by
  blk_ext! [iblk, V, idx t]

theorem blk10 (t : Fin cfg0.N) (y) (i : S8192x4096.Idx) (h0 : (i 0).val = 16 * min (32 * t.val + 32) 511 + (y 0).val) (h1 : (i 1).val = 1024 + (y 1).val) :
    iblk m c 10 t y = m ((c : Thread nD τ).loc main_arg0) i := by
  blk_ext! [iblk, V, idx t]

theorem blk11 (t : Fin cfg0.N) (y) (i : S8192x4096.Idx) (h0 : (i 0).val = 16 * min (32 * t.val + 32) 511 + (y 0).val) (h1 : (i 1).val = 2048 + (y 1).val) :
    iblk m c 11 t y = m ((c : Thread nD τ).loc main_arg0) i := by
  blk_ext! [iblk, V, idx t]

theorem blk12 (t : Fin cfg0.N) (y) (i : S8192x4096.Idx) (h0 : (i 0).val = 16 * min (32 * t.val + 32) 511 + (y 0).val) (h1 : (i 1).val = 3072 + (y 1).val) :
    iblk m c 12 t y = m ((c : Thread nD τ).loc main_arg0) i := by
  blk_ext! [iblk, V, idx t]

theorem blk13 (t : Fin cfg0.N) (y) (i : S8192x2048.Idx) (h0 : (i 0).val = 16 * min (32 * t.val + 32) 511 + (y 0).val) (h1 : (i 1).val = 0 + (y 1).val) :
    iblk m c 13 t y = m ((c : Thread nD τ).loc main_arg1) i := by
  blk_ext! [iblk, V, idx t]

theorem blk14 (t : Fin cfg0.N) (y) (i : S8192x2048.Idx) (h0 : (i 0).val = 16 * min (32 * t.val + 32) 511 + (y 0).val) (h1 : (i 1).val = 1024 + (y 1).val) :
    iblk m c 14 t y = m ((c : Thread nD τ).loc main_arg1) i := by
  blk_ext! [iblk, V, idx t]

theorem blk15 (t : Fin cfg0.N) (y) : iblk m c 15 t y = m ((c : Thread nD τ).loc main_arg2) y := by
  blk_ext! [iblk, V, idx t]

theorem blk16 (t : Fin cfg0.N) (y) : iblk m c 16 t y = m ((c : Thread nD τ).loc main_arg3) y := by
  blk_ext! [iblk, V, idx t]

theorem blk17 (t : Fin cfg0.N) (y) : iblk m c 17 t y = m ((c : Thread nD τ).loc main_arg4) y := by
  blk_ext! [iblk, V, idx t]

end Cert.Mix
-- ==== Proof.Val.Entries.lean ====
module

public import proofs.«01_k».proof.Proof.Val.Four

@[expose] public section

/-! The arrays as real functions of the row's and the column's number. -/

namespace Cert.Mix

open Idealize.ShloMosaic Cert.KernelIdeal

variable {n k : ℕ}

/-- Every entry is a real number. -/
def IsReal {s : Shape} (X : s.Idx → EReal) : Prop := ∀ i, X i = ((X i).toReal : EReal)

open Classical in
/-- The entries of a matrix whose first row has the number `s`, zero outside of it. -/
noncomputable def ent (s : ℕ) (X : (⟨2, ![n, k]⟩ : Shape).Idx → EReal) (ρ j : ℕ) : ℝ :=
  if h : ∃ i : (⟨2, ![n, k]⟩ : Shape).Idx, s + (i 0).val = ρ ∧ (i 1).val = j then (X h.choose).toReal else 0

theorem ent_at {s : ℕ} {X : (⟨2, ![n, k]⟩ : Shape).Idx → EReal} (hX : IsReal X) (i : (⟨2, ![n, k]⟩ : Shape).Idx) {ρ j : ℕ}
    (h0 : s + (i 0).val = ρ) (h1 : (i 1).val = j) : X i = ((ent s X ρ j : ℝ) : EReal) := by
  have h : ∃ i : (⟨2, ![n, k]⟩ : Shape).Idx, s + (i 0).val = ρ ∧ (i 1).val = j := ⟨i, h0, h1⟩
  unfold ent
  rw [dif_pos h, show h.choose = i by
    have e := h.choose_spec
    funext a
    apply Fin.ext
    fin_cases a
    · exact Nat.add_left_cancel (e.1.trans h0.symm)
    · exact e.2.trans h1.symm]
  exact hX i

theorem ent_low {s : ℕ} (X : (⟨2, ![n, k]⟩ : Shape).Idx → EReal) {ρ : ℕ} (h : ρ < s) (j : ℕ) : ent s X ρ j = 0 := by
  unfold ent
  rw [dif_neg fun ⟨i, e, _⟩ => by omega]

theorem ent_high {s : ℕ} (X : (⟨2, ![n, k]⟩ : Shape).Idx → EReal) {ρ : ℕ} (h : s + n ≤ ρ) : ent s X ρ = fun _ => 0 := by
  funext j
  unfold ent
  rw [dif_neg fun ⟨i, e, _⟩ => by
    have : (i 0).val < n := (i 0).isLt
    omega]

/-- A matrix of the four groups, its rows in four blocks. -/
noncomputable def ent4 (X : S4x4x64x256.Idx → EReal) (g k l : ℕ) : ℝ := by
  classical
  exact if h : ∃ i : S4x4x64x256.Idx, (i 1).val = g ∧ 64 * (i 0).val + (i 2).val = k ∧ (i 3).val = l then (X h.choose).toReal else 0

theorem ent4_at {X : S4x4x64x256.Idx → EReal} (hX : IsReal X) : At4 X (ent4 X) := fun i => by
  have h : ∃ i' : S4x4x64x256.Idx, (i' 1).val = (i 1).val ∧ 64 * (i' 0).val + (i' 2).val = 64 * (i 0).val + (i 2).val ∧ (i' 3).val = (i 3).val :=
    ⟨i, rfl, rfl, rfl⟩
  unfold ent4
  rw [dif_pos h, show h.choose = i by
    obtain ⟨e1, e2, e3⟩ := h.choose_spec
    have a : (h.choose 2).val < 64 := (h.choose 2).isLt
    have b : (i 2).val < 64 := (i 2).isLt
    funext a
    apply Fin.ext
    fin_cases a
    · show (h.choose 0).val = (i 0).val
      omega
    · exact e1
    · show (h.choose 2).val = (i 2).val
      omega
    · exact e3]
  exact hX i

/-- A block of a matrix, whose rows begin at the matrix' row `r` and whose columns at its column `c`. -/
theorem ent_block {s n' k' : ℕ} {X : (⟨2, ![n, k]⟩ : Shape).Idx → EReal} (hX : IsReal X) {x : (⟨2, ![n', k']⟩ : Shape).Idx → EReal} (r c : ℕ)
    (hx : ∀ y (i : (⟨2, ![n, k]⟩ : Shape).Idx), (i 0).val = r + (y 0).val → (i 1).val = c + (y 1).val → x y = X i)
    (hr : r + n' ≤ n) (hc : c + k' ≤ k) : At2 x fun a l => ent s X (s + (r + a)) (c + l) := fun y => by
  have h0 : (y 0).val < n' := (y 0).isLt
  have h1 : (y 1).val < k' := (y 1).isLt
  let i : (⟨2, ![n, k]⟩ : Shape).Idx := fun
    | ⟨0, _⟩ => ⟨r + (y 0).val, show r + (y 0).val < n by omega⟩
    | ⟨1, _⟩ => ⟨c + (y 1).val, show c + (y 1).val < k by omega⟩
  exact (hx y i rfl rfl).trans (ent_at hX i rfl rfl)

end Cert.Mix
-- ==== Proof.Val.Conv.lean ====
module

public import proofs.«01_k».proof.Proof.Val.Spec
public import proofs.«01_k».proof.Proof.Val.Buf

@[expose] public section

/-! The convolution's half of a block of rows: the operations of the block on arrays of real numbers, the rows from `s`
on of the projection `P` and of the gradient `G`. -/

namespace Cert.Mix

open Idealize.ShloMosaic Idealize.ShloMosaic.TcCoe

variable {n : ℕ} {P G W D : ℕ → ℕ → ℝ} {s : ℕ}

/-- Three rows of weights times three successive blocks of rows. -/
theorem taps {w0 w1 w2 : FVec Ideal ⟨2, ![1, 1024]⟩ .f32} {k0 k1 k2 : FVec Ideal ⟨2, ![n, 1024]⟩ .f32} {f0 f1 f2 : ℕ → ℕ → ℝ}
    (h0 : At2 w0 fun r l => W (0 + r) (0 + l)) (h1 : At2 w1 fun r l => W (1 + r) (0 + l)) (h2 : At2 w2 fun r l => W (2 + r) (0 + l))
    (hk0 : At2 k0 f0) (hk1 : At2 k1 f1) (hk2 : At2 k2 f2) (hb : (⟨2, ![1, 1024]⟩ : Shape).Broadcasts ⟨2, ![n, 1024]⟩) :
    At2 (addf (addf (mulf (broadcastTo ⟨2, ![n, 1024]⟩ w0 hb) k0) (mulf (broadcastTo ⟨2, ![n, 1024]⟩ w1 hb) k1))
      (mulf (broadcastTo ⟨2, ![n, 1024]⟩ w2 hb) k2)) fun r l => W 0 l * f0 r l + W 1 l * f1 r l + W 2 l * f2 r l :=
  ((((h0.bcRow hb).mul hk0).add ((h1.bcRow hb).mul hk1)).add ((h2.bcRow hb).mul hk2)).congr fun r l _ _ => by simp only [Nat.zero_add, Nat.add_zero]

/-- The convolution of a block of rows. -/
theorem conv_at {w0 w1 w2 : FVec Ideal ⟨2, ![1, 1024]⟩ .f32} {k0 k1 k2 : FVec Ideal ⟨2, ![n, 1024]⟩ .f32} (s : ℕ)
    (h0 : At2 w0 fun r l => W (0 + r) (0 + l)) (h1 : At2 w1 fun r l => W (1 + r) (0 + l)) (h2 : At2 w2 fun r l => W (2 + r) (0 + l))
    (hk0 : At2 k0 fun r l => cu P (s + r) l) (hk1 : At2 k1 fun r l => cu P (s + 1 + r) l) (hk2 : At2 k2 fun r l => cu P (s + 2 + r) l)
    (hb : (⟨2, ![1, 1024]⟩ : Shape).Broadcasts ⟨2, ![n, 1024]⟩) :
    At2 (addf (addf (mulf (broadcastTo ⟨2, ![n, 1024]⟩ w0 hb) k0) (mulf (broadcastTo ⟨2, ![n, 1024]⟩ w1 hb) k1))
      (mulf (broadcastTo ⟨2, ![n, 1024]⟩ w2 hb) k2)) fun r l => conv P W (s + 2 + r) l :=
  (taps h0 h1 h2 hk0 hk1 hk2 hb).congr fun r l _ _ => by
    unfold conv
    rw [show s + 2 + r - 2 = s + r by omega, show s + 2 + r - 1 = s + 1 + r by omega]

/-- The gradient at the convolution's input, of a block of rows. -/
theorem dcu_at {w0 w1 w2 : FVec Ideal ⟨2, ![1, 1024]⟩ .f32} {k0 k1 k2 : FVec Ideal ⟨2, ![n, 1024]⟩ .f32}
    (h0 : At2 w0 fun r l => W (0 + r) (0 + l)) (h1 : At2 w1 fun r l => W (1 + r) (0 + l)) (h2 : At2 w2 fun r l => W (2 + r) (0 + l))
    (hk0 : At2 k0 fun r l => D (16 + (2 + r)) l) (hk1 : At2 k1 fun r l => D (16 + (1 + r)) l) (hk2 : At2 k2 fun r l => D (16 + (0 + r)) l)
    (hb : (⟨2, ![1, 1024]⟩ : Shape).Broadcasts ⟨2, ![n, 1024]⟩) :
    At2 (addf (addf (mulf (broadcastTo ⟨2, ![n, 1024]⟩ w0 hb) k0) (mulf (broadcastTo ⟨2, ![n, 1024]⟩ w1 hb) k1))
      (mulf (broadcastTo ⟨2, ![n, 1024]⟩ w2 hb) k2)) fun r l => dcu W D (16 + r) l :=
  (taps h0 h1 h2 hk0 hk1 hk2 hb).congr fun r l _ _ => by
    unfold dcu
    rw [show 16 + r + 2 = 16 + (2 + r) by omega, show 16 + r + 1 = 16 + (1 + r) by omega, Nat.zero_add]

/-- One head's columns of the gradient at the convolution, times a number. -/
theorem dconv_at {b a d : FVec Ideal ⟨2, ![n, 1024]⟩ .f32} {q : FVec Ideal ⟨2, ![n, 1]⟩ .f32} {κ : Ideal .f32} {c : ℝ} (o p : ℕ) (ho : o = 128 * p)
    (hb : At2 b fun r l => P (s + r) l) (ha : At2 a fun r l => gate P W (s + r) l) (hd : At2 d fun r l => G (s + r) l)
    (hq : At2 q fun r _ => rs 128 fun k => gate P W (s + r) (o + k)) (hκ : κ = (c : EReal))
    (hs : (⟨2, ![n, 1024]⟩ : Shape).Slices ![0, o] ⟨2, ![n, 128]⟩)
    (h : (⟨2, ![n, 128]⟩ : Shape).Reduces [1] ⟨1, ![n]⟩) (hc : (⟨1, ![n]⟩ : Shape).ShapeCasts ⟨2, ![n, 1]⟩)
    (hf : FKind.Formats .f32) (hacc) (hbc : (⟨2, ![n, 1]⟩ : Shape).Broadcasts ⟨2, ![n, 128]⟩)
    (hsame : (⟨2, ![n, 128]⟩ : Shape).ShapeCasts ⟨2, ![n, 128]⟩) :
    At2 (shapeCast ⟨2, ![n, 128]⟩ (mulf (mulf (mulf (broadcastTo ⟨2, ![n, 128]⟩ q hbc) (subf (extractStridedSlice ⟨2, ![n, 128]⟩ ![0, o] d hs)
      (mulf (mulf (extractStridedSlice ⟨2, ![n, 128]⟩ ![0, o] a hs) (broadcastTo ⟨2, ![n, 128]⟩ q hbc)) (broadcastTo ⟨2, ![n, 128]⟩
      (divf (shapeCast ⟨2, ![n, 1]⟩ (multiReduction .add [1] ⟨1, ![n]⟩ (mulf (extractStridedSlice ⟨2, ![n, 128]⟩ ![0, o] d hs)
        (mulf (extractStridedSlice ⟨2, ![n, 128]⟩ ![0, o] a hs) (broadcastTo ⟨2, ![n, 128]⟩ q hbc))) 0x00000000#32 h hf hacc) hc)
        (broadcast ⟨2, ![n, 1]⟩ (Scalar.ofBits .f32 0x43000000#32 : Ideal .f32))) hbc))))
      (extractStridedSlice ⟨2, ![n, 128]⟩ ![0, o] b hs)) (broadcast ⟨2, ![n, 128]⟩ κ)) hsame)
      fun r l => dconv P G W (s + r) (o + l) * c :=
  (((At2.head ha hd hq p ho hs h hc hf hacc hbc).mul (hb.cols o hs)).mul (At2.bc hκ)).same hsame

/-- One head's columns of the gradient at the gate. -/
theorem da_at {k a d : FVec Ideal ⟨2, ![n, 1024]⟩ .f32} {q : FVec Ideal ⟨2, ![n, 1]⟩ .f32} (o p : ℕ) (ho : o = 128 * p)
    (hk : At2 k fun r l => conv P W (s + r) l) (ha : At2 a fun r l => gate P W (s + r) l) (hd : At2 d fun r l => G (s + r) l)
    (hq : At2 q fun r _ => rs 128 fun k => gate P W (s + r) (o + k))
    (hs : (⟨2, ![n, 1024]⟩ : Shape).Slices ![0, o] ⟨2, ![n, 128]⟩)
    (h : (⟨2, ![n, 128]⟩ : Shape).Reduces [1] ⟨1, ![n]⟩) (hc : (⟨1, ![n]⟩ : Shape).ShapeCasts ⟨2, ![n, 1]⟩)
    (hf : FKind.Formats .f32) (hacc) (hbc : (⟨2, ![n, 1]⟩ : Shape).Broadcasts ⟨2, ![n, 128]⟩) (hlt : FTy.bf16.bits < FTy.f32.bits) :
    At2 (truncf .bf16 (mulf (mulf (broadcastTo ⟨2, ![n, 128]⟩ q hbc) (subf (extractStridedSlice ⟨2, ![n, 128]⟩ ![0, o] d hs)
      (mulf (mulf (extractStridedSlice ⟨2, ![n, 128]⟩ ![0, o] a hs) (broadcastTo ⟨2, ![n, 128]⟩ q hbc)) (broadcastTo ⟨2, ![n, 128]⟩
      (divf (shapeCast ⟨2, ![n, 1]⟩ (multiReduction .add [1] ⟨1, ![n]⟩ (mulf (extractStridedSlice ⟨2, ![n, 128]⟩ ![0, o] d hs)
        (mulf (extractStridedSlice ⟨2, ![n, 128]⟩ ![0, o] a hs) (broadcastTo ⟨2, ![n, 128]⟩ q hbc))) 0x00000000#32 h hf hacc) hc)
        (broadcast ⟨2, ![n, 1]⟩ (Scalar.ofBits .f32 0x43000000#32 : Ideal .f32))) hbc))))
      (extractStridedSlice ⟨2, ![n, 128]⟩ ![0, o] k hs)) hlt : FVec Ideal ⟨2, ![n, 128]⟩ .bf16)
      fun r l => dgate P G W (s + r) (o + l) * conv P W (s + r) (o + l) :=
  ((At2.head ha hd hq p ho hs h hc hf hacc hbc).mul (hk.cols o hs)).trunc hlt

/-- A buffer of three blocks of rows. -/
theorem buf3 {g : ℕ → ℕ → ℝ} {p : (⟨2, ![16, 1024]⟩ : Shape).Idx → Elt Ideal .f32} {q : (⟨2, ![512, 1024]⟩ : Shape).Idx → Elt Ideal .f32}
    {r : (⟨2, ![16, 1024]⟩ : Shape).Idx → Elt Ideal .f32} (hr : At2 r g) (hq : At2 q fun r l => g (16 + r) l) (hp : At2 p fun r l => g (528 + r) l)
    (i0 i1 i2) : Buf (n := 544) (m := 1024) [⟨Rect.unit (s := ⟨2, ![544, 1024]⟩) ![528, 0] (⟨2, ![16, 1024]⟩ : Shape).size i0, p⟩,
      ⟨Rect.unit (s := ⟨2, ![544, 1024]⟩) ![16, 0] (⟨2, ![512, 1024]⟩ : Shape).size i1, q⟩,
      ⟨Rect.unit (s := ⟨2, ![544, 1024]⟩) ![0, 0] (⟨2, ![16, 1024]⟩ : Shape).size i2, r⟩] g where
  ag := (((Ag.nil.cons32 hr fun r l _ _ => by rw [Nat.zero_add, Nat.zero_add]).cons32 hq fun r l _ _ => by rw [Nat.zero_add]).cons32 hp
    fun r l _ _ => by rw [Nat.zero_add])
  cover := View.cover_of_tiledBy _ ![16, 1024] (by sl_kernel_rfl)

end Cert.Mix
-- ==== Proof.Val.Pool.lean ====
module

public import proofs.«01_k».proof.Proof.Val.Spec
public import proofs.«01_k».proof.Proof.Val.Buf
public import proofs.«01_k».proof.Proof.Val.Dots

@[expose] public section

/-! The pool's half of a block of rows: the operations of one group of columns on arrays of real numbers, the rows from `s`
on of the projection `P` and of the gradient `G`. -/

namespace Cert.Mix

open Idealize.ShloMosaic Idealize.ShloMosaic.TcCoe
open Cert.KernelIdeal

variable {n : ℕ} {P G : ℕ → ℕ → ℝ} {Q : ℕ → ℕ → ℕ → ℝ} {S : ℕ → ℝ} {T s : ℕ}

/-- A sum begun. -/
theorem At2.one {m : ℕ} (f : ℕ → ℕ → ℕ → ℝ) {x : FVec Ideal ⟨2, ![n, m]⟩ .f32} (h : At2 x (f 0)) :
    At2 x fun r l => ∑ k ∈ Finset.range 1, f k r l := h.congr fun r l _ _ => by rw [Finset.sum_range_one]

/-- A sum with one more term. -/
theorem At2.snoc {m K : ℕ} {f : ℕ → ℕ → ℕ → ℝ} {x y : FVec Ideal ⟨2, ![n, m]⟩ .f32} (h : At2 x fun r l => ∑ k ∈ Finset.range K, f k r l)
    (hy : At2 y (f K)) : At2 (addf x y) fun r l => ∑ k ∈ Finset.range (K + 1), f k r l :=
  (h.add hy).congr fun r l _ _ => by rw [Finset.sum_range_succ]

/-- One over the number of tokens in the windows of a block of rows. -/
theorem icnt_at {w v : BitVec 32} {W : ℕ} (T s : ℕ) (hv : (FloatOps.ofBits .f32 v : Ideal .f32) = ((W : ℝ) : EReal)) (hW : 0 < W)
    (hw : w.toNat + 16 = T + s) (hn : w.toNat + n + 1 < 2 ^ 31) (hi : (⟨2, ![n, 1]⟩ : Shape).Iotas .tc 32 [0]) :
    At2 (divf (broadcast ⟨2, ![n, 1]⟩ (Scalar.ofBits .f32 0x3F800000#32 : Ideal .f32)) (minimumf
      (sitofp .f32 (addi (addi (broadcast ⟨2, ![n, 1]⟩ w) (iota .tc ⟨2, ![n, 1]⟩ 32 [0] hi)) (broadcast ⟨2, ![n, 1]⟩ 1#32)))
      (broadcast ⟨2, ![n, 1]⟩ (Scalar.ofBits .f32 v : Ideal .f32)))) fun r _ => icnt T W (s + r) := by
  refine ((At2.const ofBits_one).div ((At2.count w hi hn).min (At2.const hv)) fun r _ => ?_).congr fun r l _ _ => ?_
  · have : (0 : ℝ) < W := by exact_mod_cast hW
    exact (lt_min (by positivity) this).ne'
  · unfold icnt
    have : (w.toNat : ℝ) + 16 = T + s := by exact_mod_cast hw
    rw [show (T : ℝ) + ((s + r : ℕ) : ℝ) - 15 = w.toNat + r + 1 by push_cast; linarith]

/-- The pooled rows of one group, from the sums over the windows. -/
theorem pooled_at {v : FVec Ideal ⟨2, ![n, 1024]⟩ .f32} {S0 : FVec Ideal ⟨2, ![n, 256]⟩ .f32} {q : FVec Ideal ⟨2, ![n, 1]⟩ .f32} (g o : ℕ) (ho : o = 256 * g)
    (hs : 16 ≤ s)
    (hS : At2 S0 fun r l => ∑ k ∈ Finset.range (wd g), P (s - k + r) (3072 + (o + l)))
    (hq : At2 q fun r _ => icnt T (wd g) (s + r)) (hv : At2 v fun r l => P (s + r) (3072 + l)) (hg : g < 4)
    (hb : (⟨2, ![n, 1]⟩ : Shape).Broadcasts ⟨2, ![n, 256]⟩) (hsl : (⟨2, ![n, 1024]⟩ : Shape).Slices ![0, o] ⟨2, ![n, 256]⟩) :
    At2 (subf (mulf S0 (broadcastTo ⟨2, ![n, 256]⟩ q hb)) (extractStridedSlice ⟨2, ![n, 256]⟩ ![0, o] v hsl))
      fun r l => pooled P T g (s + r) l := by
  refine ((hS.mul (hq.bcCol hb)).sub (hv.cols o hsl)).congr fun r l _ _ => ?_
  unfold pooled
  subst ho
  refine congrArg (· * _ - _) (Finset.sum_congr rfl fun k hk => congrArg (P · _) ?_)
  have := Finset.mem_range.mp hk
  have : wd g ≤ 16 := by unfold wd; calc 2 ^ (g + 1) ≤ 2 ^ 4 := Nat.pow_le_pow_right (by decide) (by omega)
    _ = 16 := rfl
  omega

/-- A group's gradient at its normed product, scaled. -/
theorem dyp_at {d : FVec Ideal ⟨2, ![n, 1024]⟩ .f32} {c : FVec Ideal ⟨2, ![1, 256]⟩ .f32} (o : ℕ)
    (hd : At2 d fun r l => G (s + r) (1024 + l)) (hc : At2 c fun _ l => S (o + l))
    (hsl : (⟨2, ![n, 1024]⟩ : Shape).Slices ![0, o] ⟨2, ![n, 256]⟩) (hb : (⟨2, ![1, 256]⟩ : Shape).Broadcasts ⟨2, ![n, 256]⟩) :
    At2 (mulf (extractStridedSlice ⟨2, ![n, 256]⟩ ![0, o] d hsl) (broadcastTo ⟨2, ![n, 256]⟩ c hb))
      fun r l => G (s + r) (1024 + (o + l)) * S (o + l) := (hd.cols o hsl).mul (hc.bcRow hb)

/-- A group's gradient at its product. -/
theorem dz_at {z y : FVec Ideal ⟨2, ![n, 256]⟩ .f32} {q : FVec Ideal ⟨2, ![n, 1]⟩ .f32} (g o : ℕ) (ho : o = 256 * g)
    (hz : At2 z fun r l => zz P Q T g (s + r) l) (hq : At2 q fun r _ => rs 256 (zz P Q T g (s + r)))
    (hy : At2 y fun r l => G (s + r) (1024 + (o + l)) * S (o + l))
    (h : (⟨2, ![n, 256]⟩ : Shape).Reduces [1] ⟨1, ![n]⟩) (hc : (⟨1, ![n]⟩ : Shape).ShapeCasts ⟨2, ![n, 1]⟩)
    (hf : FKind.Formats .f32) (ha) (hb : (⟨2, ![n, 1]⟩ : Shape).Broadcasts ⟨2, ![n, 256]⟩) :
    At2 (mulf (broadcastTo ⟨2, ![n, 256]⟩ q hb) (subf y (mulf (mulf z (broadcastTo ⟨2, ![n, 256]⟩ q hb)) (broadcastTo ⟨2, ![n, 256]⟩
      (divf (shapeCast ⟨2, ![n, 1]⟩ (multiReduction .add [1] ⟨1, ![n]⟩ (mulf y (mulf z (broadcastTo ⟨2, ![n, 256]⟩ q hb))) 0x00000000#32 h hf ha) hc)
        (broadcast ⟨2, ![n, 1]⟩ (Scalar.ofBits .f32 0x43800000#32 : Ideal .f32))) hb))))
      fun r l => dz P G Q S T g (s + r) l := by
  subst ho
  exact At2.nb (f := fun r => zz P Q T g (s + r)) (g := fun r k => G (s + r) (1024 + (256 * g + k)) * S (256 * g + k)) (hz.nrm hq hb) hy hq ofBits_256 (by decide) h hc hf ha hb

/-- A group's part of the scale's gradient. -/
theorem dsc_at {z : FVec Ideal ⟨2, ![n, 256]⟩ .f32} {d : FVec Ideal ⟨2, ![n, 1024]⟩ .f32} {q : FVec Ideal ⟨2, ![n, 1]⟩ .f32} (g o : ℕ) (ho : o = 256 * g)
    (hz : At2 z fun r l => zz P Q T g (s + r) l) (hq : At2 q fun r _ => rs 256 (zz P Q T g (s + r)))
    (hd : At2 d fun r l => G (s + r) (1024 + l)) (hsl : (⟨2, ![n, 1024]⟩ : Shape).Slices ![0, o] ⟨2, ![n, 256]⟩)
    (h : (⟨2, ![n, 256]⟩ : Shape).Reduces [0] ⟨1, ![256]⟩) (hc : (⟨1, ![256]⟩ : Shape).ShapeCasts ⟨2, ![1, 256]⟩)
    (hf : FKind.Formats .f32) (ha) (hb : (⟨2, ![n, 1]⟩ : Shape).Broadcasts ⟨2, ![n, 256]⟩) :
    At2 (shapeCast ⟨2, ![1, 256]⟩ (multiReduction .add [0] ⟨1, ![256]⟩ (mulf (extractStridedSlice ⟨2, ![n, 256]⟩ ![0, o] d hsl)
      (mulf z (broadcastTo ⟨2, ![n, 256]⟩ q hb))) 0x00000000#32 h hf ha) hc)
      fun _ l => ∑ r ∈ Finset.range n, dsc P G Q T g (s + r) l := by
  subst ho
  exact ((hd.cols _ hsl).mul (hz.nrm hq hb)).colSum h hc hf ha

/-- A buffer of the four groups' blocks, with the rows of the next block's head below them. -/
theorem buf_dpn {D : ℕ → ℕ → ℕ → ℝ} {κ : ℝ} {p0 p1 p2 p3 : (⟨2, ![512, 256]⟩ : Shape).Idx → Elt Ideal .f32}
    {q0 q1 q2 q3 : (⟨2, ![16, 256]⟩ : Shape).Idx → Elt Ideal .f32}
    (hD : ∀ g r l, g < 4 → r < 512 → l < 256 → dpn P G Q S T g (16 + r) l = D g (16 + r) l)
    (hD' : ∀ g r l, g < 4 → r < 16 → l < 256 → dpn P G Q S T g (528 + r) l * κ = D g (528 + r) l)
    (h0 : At2 p0 fun r l => dpooled P G Q S T 0 (16 + r) l * 1 * icnt T (wd 0) (16 + r))
    (h1 : At2 p1 fun r l => dpooled P G Q S T 1 (16 + r) l * 1 * icnt T (wd 1) (16 + r))
    (h2 : At2 p2 fun r l => dpooled P G Q S T 2 (16 + r) l * 1 * icnt T (wd 2) (16 + r))
    (h3 : At2 p3 fun r l => dpooled P G Q S T 3 (16 + r) l * 1 * icnt T (wd 3) (16 + r))
    (k0 : At2 q0 fun r l => dpooled P G Q S T 0 (528 + r) l * κ * icnt T (wd 0) (528 + r))
    (k1 : At2 q1 fun r l => dpooled P G Q S T 1 (528 + r) l * κ * icnt T (wd 1) (528 + r))
    (k2 : At2 q2 fun r l => dpooled P G Q S T 2 (528 + r) l * κ * icnt T (wd 2) (528 + r))
    (k3 : At2 q3 fun r l => dpooled P G Q S T 3 (528 + r) l * κ * icnt T (wd 3) (528 + r)) (i0 i1 i2 i3 i4 i5 i6 i7) :
    Buf (n := 528) (m := 1024) [⟨Rect.unit (s := ⟨2, ![528, 1024]⟩) ![512, 768] (⟨2, ![16, 256]⟩ : Shape).size i0, q3⟩,
      ⟨Rect.unit (s := ⟨2, ![528, 1024]⟩) ![512, 512] (⟨2, ![16, 256]⟩ : Shape).size i1, q2⟩,
      ⟨Rect.unit (s := ⟨2, ![528, 1024]⟩) ![512, 256] (⟨2, ![16, 256]⟩ : Shape).size i2, q1⟩,
      ⟨Rect.unit (s := ⟨2, ![528, 1024]⟩) ![512, 0] (⟨2, ![16, 256]⟩ : Shape).size i3, q0⟩,
      ⟨Rect.unit (s := ⟨2, ![528, 1024]⟩) ![0, 768] (⟨2, ![512, 256]⟩ : Shape).size i4, p3⟩,
      ⟨Rect.unit (s := ⟨2, ![528, 1024]⟩) ![0, 512] (⟨2, ![512, 256]⟩ : Shape).size i5, p2⟩,
      ⟨Rect.unit (s := ⟨2, ![528, 1024]⟩) ![0, 256] (⟨2, ![512, 256]⟩ : Shape).size i6, p1⟩,
      ⟨Rect.unit (s := ⟨2, ![528, 1024]⟩) ![0, 0] (⟨2, ![512, 256]⟩ : Shape).size i7, p0⟩] fun r j => D (j / 256) (16 + r) (j % 256) := by
  have a : ∀ g o, g < 4 → o = 256 * g → ∀ r l, r < 512 → l < 256 → dpooled P G Q S T g (16 + r) l * 1 * icnt T (wd g) (16 + r) =
      D ((o + l) / 256) (16 + (0 + r)) ((o + l) % 256) := fun g o hg ho r l hr hl => by
    rw [show (o + l) / 256 = g by omega, show (o + l) % 256 = l by omega, Nat.zero_add, ← hD g r l hg hr hl, mul_one, dpn]
  have b : ∀ g o, g < 4 → o = 256 * g → ∀ r l, r < 16 → l < 256 → dpooled P G Q S T g (528 + r) l * κ * icnt T (wd g) (528 + r) =
      D ((o + l) / 256) (16 + (512 + r)) ((o + l) % 256) := fun g o hg ho r l hr hl => by
    rw [show (o + l) / 256 = g by omega, show (o + l) % 256 = l by omega, show 16 + (512 + r) = 528 + r by omega, ← hD' g r l hg hr hl, dpn]
    ring
  exact ⟨((((((((Ag.nil.cons32 h0 (a 0 _ (by decide) rfl)).cons32 h1 (a 1 _ (by decide) rfl)).cons32 h2 (a 2 _ (by decide) rfl)).cons32 h3 (a 3 _ (by decide) rfl)).cons32 k0 (b 0 _ (by decide) rfl)).cons32
    k1 (b 1 _ (by decide) rfl)).cons32 k2 (b 2 _ (by decide) rfl)).cons32 k3 (b 3 _ (by decide) rfl)), View.cover_of_tiledBy _ ![16, 256] (by sl_kernel_rfl)⟩

/-- A buffer of the four groups' blocks. -/
theorem buf_dpl {D : ℕ → ℕ → ℕ → ℝ} {p0 p1 p2 p3 : (⟨2, ![512, 256]⟩ : Shape).Idx → Elt Ideal .f32}
    (h0 : At2 p0 fun r l => D 0 (16 + r) l * 1) (h1 : At2 p1 fun r l => D 1 (16 + r) l * 1)
    (h2 : At2 p2 fun r l => D 2 (16 + r) l * 1) (h3 : At2 p3 fun r l => D 3 (16 + r) l * 1) (i4 i5 i6 i7) :
    Buf (n := 512) (m := 1024) [⟨Rect.unit (s := ⟨2, ![512, 1024]⟩) ![0, 768] (⟨2, ![512, 256]⟩ : Shape).size i4, p3⟩,
      ⟨Rect.unit (s := ⟨2, ![512, 1024]⟩) ![0, 512] (⟨2, ![512, 256]⟩ : Shape).size i5, p2⟩,
      ⟨Rect.unit (s := ⟨2, ![512, 1024]⟩) ![0, 256] (⟨2, ![512, 256]⟩ : Shape).size i6, p1⟩,
      ⟨Rect.unit (s := ⟨2, ![512, 1024]⟩) ![0, 0] (⟨2, ![512, 256]⟩ : Shape).size i7, p0⟩] fun r j => D (j / 256) (16 + r) (j % 256) := by
  have a : ∀ g o, o = 256 * g → ∀ r l, r < 512 → l < 256 → D g (16 + r) l * 1 =
      D ((o + l) / 256) (16 + (0 + r)) ((o + l) % 256) := fun g o ho r l hr hl => by
    rw [show (o + l) / 256 = g by omega, show (o + l) % 256 = l by omega, Nat.zero_add, mul_one]
  exact ⟨(((Ag.nil.cons32 h0 (a 0 _ rfl)).cons32 h1 (a 1 _ rfl)).cons32 h2 (a 2 _ rfl)).cons32 h3 (a 3 _ rfl),
    View.cover_of_tiledBy _ ![512, 256] (by sl_kernel_rfl)⟩

/-- A block of one group's columns of such a buffer. -/
theorem Buf.group {D : ℕ → ℕ → ℕ → ℝ} {N : ℕ} {L : List (View.Piece (Elt Ideal) ⟨2, ![N, 1024]⟩ .f32)} {sig : RefSig} {κ : Kind} {sp : Space}
    (h : Buf L fun r j => D (j / 256) (16 + r) (j % 256)) (g k o : ℕ) (ho : o = 256 * g) (v : View sig κ sp ⟨2, ![N, 1024]⟩ .f32)
    (inb : ∀ i, (![k, o] : Fin 2 → ℕ) i + (⟨2, ![n, 256]⟩ : Shape).size i ≤ (⟨2, ![N, 1024]⟩ : Shape).size i) :
    At2 (n := n) (m := 256) (v.readCov L (Rect.unit (s := ⟨2, ![N, 1024]⟩) ![k, o] (⟨2, ![n, 256]⟩ : Shape).size inb).toLoadRect)
      fun r l => D g (16 + (k + r)) l := (h.read k o v inb).congr fun r l _ hl => by
  rw [show (o + l) / 256 = g by omega, show (o + l) % 256 = l by omega]

end Cert.Mix
-- ==== Proof.Val.Out.lean ====
module

public import proofs.«01_k».proof.Proof.Val.Spec
public import proofs.«01_k».proof.Proof.Val.Buf
public import proofs.«01_k».proof.Proof.Gen.KernelIdeal.Frame

@[expose] public section

set_option maxRecDepth 16384

/-! The buffer of the convolution's gradient, and the four arrays a block of rows leaves. -/

namespace Cert.Mix

open Idealize.ShloMosaic Idealize.ShloMosaic.TcCoe
open Cert.KernelIdeal Cert.KernelIdeal.Gen

variable {P G W DD : ℕ → ℕ → ℝ} {DP Dl : ℕ → ℕ → ℕ → ℝ}

/-- A buffer of the eight heads' columns, with the rows of the next block's head below them. -/
theorem buf_dconv {κ : ℝ} {p0 p1 p2 p3 p4 p5 p6 p7 : (⟨2, ![512, 128]⟩ : Shape).Idx → Elt Ideal .f32}
    {q0 q1 q2 q3 q4 q5 q6 q7 : (⟨2, ![16, 128]⟩ : Shape).Idx → Elt Ideal .f32}
    (hD : ∀ r l, r < 512 → l < 1024 → dconv P G W (16 + r) l = DD (16 + r) l)
    (hD' : ∀ r l, r < 16 → l < 1024 → dconv P G W (528 + r) l * κ = DD (528 + r) l)
    (h0 : At2 p0 fun r l => dconv P G W (16 + r) (0 + l) * 1)
    (h1 : At2 p1 fun r l => dconv P G W (16 + r) (128 + l) * 1)
    (h2 : At2 p2 fun r l => dconv P G W (16 + r) (256 + l) * 1)
    (h3 : At2 p3 fun r l => dconv P G W (16 + r) (384 + l) * 1)
    (h4 : At2 p4 fun r l => dconv P G W (16 + r) (512 + l) * 1)
    (h5 : At2 p5 fun r l => dconv P G W (16 + r) (640 + l) * 1)
    (h6 : At2 p6 fun r l => dconv P G W (16 + r) (768 + l) * 1)
    (h7 : At2 p7 fun r l => dconv P G W (16 + r) (896 + l) * 1)
    (k0 : At2 q0 fun r l => dconv P G W (528 + r) (0 + l) * κ)
    (k1 : At2 q1 fun r l => dconv P G W (528 + r) (128 + l) * κ)
    (k2 : At2 q2 fun r l => dconv P G W (528 + r) (256 + l) * κ)
    (k3 : At2 q3 fun r l => dconv P G W (528 + r) (384 + l) * κ)
    (k4 : At2 q4 fun r l => dconv P G W (528 + r) (512 + l) * κ)
    (k5 : At2 q5 fun r l => dconv P G W (528 + r) (640 + l) * κ)
    (k6 : At2 q6 fun r l => dconv P G W (528 + r) (768 + l) * κ)
    (k7 : At2 q7 fun r l => dconv P G W (528 + r) (896 + l) * κ)
    (i0 i1 i2 i3 i4 i5 i6 i7 j0 j1 j2 j3 j4 j5 j6 j7) : Buf (n := 528) (m := 1024) [
      ⟨Rect.unit (s := ⟨2, ![528, 1024]⟩) ![512, 896] (⟨2, ![16, 128]⟩ : Shape).size j7, q7⟩,
      ⟨Rect.unit (s := ⟨2, ![528, 1024]⟩) ![512, 768] (⟨2, ![16, 128]⟩ : Shape).size j6, q6⟩,
      ⟨Rect.unit (s := ⟨2, ![528, 1024]⟩) ![512, 640] (⟨2, ![16, 128]⟩ : Shape).size j5, q5⟩,
      ⟨Rect.unit (s := ⟨2, ![528, 1024]⟩) ![512, 512] (⟨2, ![16, 128]⟩ : Shape).size j4, q4⟩,
      ⟨Rect.unit (s := ⟨2, ![528, 1024]⟩) ![512, 384] (⟨2, ![16, 128]⟩ : Shape).size j3, q3⟩,
      ⟨Rect.unit (s := ⟨2, ![528, 1024]⟩) ![512, 256] (⟨2, ![16, 128]⟩ : Shape).size j2, q2⟩,
      ⟨Rect.unit (s := ⟨2, ![528, 1024]⟩) ![512, 128] (⟨2, ![16, 128]⟩ : Shape).size j1, q1⟩,
      ⟨Rect.unit (s := ⟨2, ![528, 1024]⟩) ![512, 0] (⟨2, ![16, 128]⟩ : Shape).size j0, q0⟩,
      ⟨Rect.unit (s := ⟨2, ![528, 1024]⟩) ![0, 896] (⟨2, ![512, 128]⟩ : Shape).size i7, p7⟩,
      ⟨Rect.unit (s := ⟨2, ![528, 1024]⟩) ![0, 768] (⟨2, ![512, 128]⟩ : Shape).size i6, p6⟩,
      ⟨Rect.unit (s := ⟨2, ![528, 1024]⟩) ![0, 640] (⟨2, ![512, 128]⟩ : Shape).size i5, p5⟩,
      ⟨Rect.unit (s := ⟨2, ![528, 1024]⟩) ![0, 512] (⟨2, ![512, 128]⟩ : Shape).size i4, p4⟩,
      ⟨Rect.unit (s := ⟨2, ![528, 1024]⟩) ![0, 384] (⟨2, ![512, 128]⟩ : Shape).size i3, p3⟩,
      ⟨Rect.unit (s := ⟨2, ![528, 1024]⟩) ![0, 256] (⟨2, ![512, 128]⟩ : Shape).size i2, p2⟩,
      ⟨Rect.unit (s := ⟨2, ![528, 1024]⟩) ![0, 128] (⟨2, ![512, 128]⟩ : Shape).size i1, p1⟩,
      ⟨Rect.unit (s := ⟨2, ![528, 1024]⟩) ![0, 0] (⟨2, ![512, 128]⟩ : Shape).size i0, p0⟩] fun r j => DD (16 + r) j := by
  have a : ∀ o, o + 128 ≤ 1024 → ∀ r l, r < 512 → l < 128 → dconv P G W (16 + r) (o + l) * 1 = DD (16 + (0 + r)) (o + l) := fun o ho r l hr hl => by
    rw [Nat.zero_add, mul_one, hD r _ hr (by omega)]
  have b : ∀ o, o + 128 ≤ 1024 → ∀ r l, r < 16 → l < 128 → dconv P G W (528 + r) (o + l) * κ = DD (16 + (512 + r)) (o + l) := fun o ho r l hr hl => by
    rw [show 16 + (512 + r) = 528 + r by omega, hD' r _ hr (by omega)]
  exact ⟨((((((((((((((((Ag.nil.cons32 h0 (a _ (by decide))).cons32 h1 (a _ (by decide))).cons32 h2 (a _ (by decide))).cons32 h3 (a _ (by
      decide))).cons32 h4 (a _ (by decide))).cons32 h5 (a _ (by decide))).cons32 h6 (a _ (by decide))).cons32 h7 (a _ (by
      decide))).cons32 k0 (b _ (by decide))).cons32 k1 (b _ (by decide))).cons32 k2 (b _ (by decide))).cons32 k3 (b _ (by
      decide))).cons32 k4 (b _ (by decide))).cons32 k5 (b _ (by decide))).cons32 k6 (b _ (by decide))).cons32 k7 (b _ (by decide))),
    View.cover_of_tiledBy _ ![16, 128] (by sl_kernel_rfl)⟩

/-- The gradient at the projection: its four groups of 1024 columns. -/
noncomputable def dprj (P G W DD : ℕ → ℕ → ℝ) (DP Dl : ℕ → ℕ → ℕ → ℝ) (ρ j : ℕ) : ℝ :=
  if j < 1024 then dgate P G W ρ j * conv P W ρ j
  else if j < 2048 then dcu W DD ρ (j - 1024) * P ρ (2048 + (j - 1024))
  else if j < 3072 then dcu W DD ρ (j - 2048) * P ρ (1024 + (j - 2048))
  else (∑ k ∈ Finset.range (wd ((j - 3072) / 256)), DP ((j - 3072) / 256) (ρ + k) ((j - 3072) % 256)) -
    Dl ((j - 3072) / 256) ρ ((j - 3072) % 256)

/-- The block of the projection's gradient. -/
theorem out_prj {p0 p1 p2 p3 p4 p5 p6 p7 : (⟨2, ![512, 128]⟩ : Shape).Idx → Elt Ideal .bf16}
    {c u : (⟨2, ![512, 1024]⟩ : Shape).Idx → Elt Ideal .bf16} {v0 v1 v2 v3 : (⟨2, ![512, 256]⟩ : Shape).Idx → Elt Ideal .bf16}
    (h0 : At2 p0 fun r l => dgate P G W (16 + r) (0 + l) * conv P W (16 + r) (0 + l))
    (h1 : At2 p1 fun r l => dgate P G W (16 + r) (128 + l) * conv P W (16 + r) (128 + l))
    (h2 : At2 p2 fun r l => dgate P G W (16 + r) (256 + l) * conv P W (16 + r) (256 + l))
    (h3 : At2 p3 fun r l => dgate P G W (16 + r) (384 + l) * conv P W (16 + r) (384 + l))
    (h4 : At2 p4 fun r l => dgate P G W (16 + r) (512 + l) * conv P W (16 + r) (512 + l))
    (h5 : At2 p5 fun r l => dgate P G W (16 + r) (640 + l) * conv P W (16 + r) (640 + l))
    (h6 : At2 p6 fun r l => dgate P G W (16 + r) (768 + l) * conv P W (16 + r) (768 + l))
    (h7 : At2 p7 fun r l => dgate P G W (16 + r) (896 + l) * conv P W (16 + r) (896 + l))
    (hc : At2 c fun r l => dcu W DD (16 + r) l * P (16 + r) (2048 + l))
    (hu : At2 u fun r l => dcu W DD (16 + r) l * P (16 + r) (1024 + l))
    (w0 : At2 v0 fun r l => (∑ k ∈ Finset.range (wd 0), DP 0 (16 + (k + r)) l) - Dl 0 (16 + r) l)
    (w1 : At2 v1 fun r l => (∑ k ∈ Finset.range (wd 1), DP 1 (16 + (k + r)) l) - Dl 1 (16 + r) l)
    (w2 : At2 v2 fun r l => (∑ k ∈ Finset.range (wd 2), DP 2 (16 + (k + r)) l) - Dl 2 (16 + r) l)
    (w3 : At2 v3 fun r l => (∑ k ∈ Finset.range (wd 3), DP 3 (16 + (k + r)) l) - Dl 3 (16 + r) l)
    (i0 i1 i2 i3 i4 i5 i6 i7 ic iu k0 k1 k2 k3) (y : S512x4096.Idx) :
    VO0_18.read (Elt Ideal) (VO0_18.writes (Elt Ideal) VO0_18.junk [
      ⟨Rect.unit (s := ⟨2, ![512, 4096]⟩) ![0, 3840] (⟨2, ![512, 256]⟩ : Shape).size k3, v3⟩,
      ⟨Rect.unit (s := ⟨2, ![512, 4096]⟩) ![0, 3584] (⟨2, ![512, 256]⟩ : Shape).size k2, v2⟩,
      ⟨Rect.unit (s := ⟨2, ![512, 4096]⟩) ![0, 3328] (⟨2, ![512, 256]⟩ : Shape).size k1, v1⟩,
      ⟨Rect.unit (s := ⟨2, ![512, 4096]⟩) ![0, 3072] (⟨2, ![512, 256]⟩ : Shape).size k0, v0⟩,
      ⟨Rect.unit (s := ⟨2, ![512, 4096]⟩) ![0, 2048] (⟨2, ![512, 1024]⟩ : Shape).size iu, u⟩,
      ⟨Rect.unit (s := ⟨2, ![512, 4096]⟩) ![0, 1024] (⟨2, ![512, 1024]⟩ : Shape).size ic, c⟩,
      ⟨Rect.unit (s := ⟨2, ![512, 4096]⟩) ![0, 896] (⟨2, ![512, 128]⟩ : Shape).size i7, p7⟩,
      ⟨Rect.unit (s := ⟨2, ![512, 4096]⟩) ![0, 768] (⟨2, ![512, 128]⟩ : Shape).size i6, p6⟩,
      ⟨Rect.unit (s := ⟨2, ![512, 4096]⟩) ![0, 640] (⟨2, ![512, 128]⟩ : Shape).size i5, p5⟩,
      ⟨Rect.unit (s := ⟨2, ![512, 4096]⟩) ![0, 512] (⟨2, ![512, 128]⟩ : Shape).size i4, p4⟩,
      ⟨Rect.unit (s := ⟨2, ![512, 4096]⟩) ![0, 384] (⟨2, ![512, 128]⟩ : Shape).size i3, p3⟩,
      ⟨Rect.unit (s := ⟨2, ![512, 4096]⟩) ![0, 256] (⟨2, ![512, 128]⟩ : Shape).size i2, p2⟩,
      ⟨Rect.unit (s := ⟨2, ![512, 4096]⟩) ![0, 128] (⟨2, ![512, 128]⟩ : Shape).size i1, p1⟩,
      ⟨Rect.unit (s := ⟨2, ![512, 4096]⟩) ![0, 0] (⟨2, ![512, 128]⟩ : Shape).size i0, p0⟩]) y =
      up16 (dprj P G W DD DP Dl (16 + (y 0).val) (y 1).val) := by
  have a : ∀ o, o + 128 ≤ 1024 → ∀ r l, r < 512 → l < 128 → dgate P G W (16 + r) (o + l) * conv P W (16 + r) (o + l) =
      dprj P G W DD DP Dl (16 + (0 + r)) (o + l) := fun o ho r l _ hl => by
    rw [dprj, if_pos (by omega), Nat.zero_add]
  have b : ∀ g o, g < 4 → o = 3072 + 256 * g → ∀ r l, r < 512 → l < 256 → (∑ k ∈ Finset.range (wd g), DP g (16 + (k + r)) l) - Dl g (16 + r) l =
      dprj P G W DD DP Dl (16 + (0 + r)) (o + l) := fun g o hg ho r l _ hl => by
    rw [dprj, if_neg (by omega), if_neg (by omega), if_neg (by omega), show (o + l - 3072) / 256 = g by omega,
      show (o + l - 3072) % 256 = l by omega, Nat.zero_add]
    exact congrArg (· - _) (Finset.sum_congr rfl fun k _ => by rw [show 16 + (k + r) = 16 + r + k by omega])
  refine (View.read_writes_apply_eq_canon _ _ _ _ ?_).trans (View.canon_apply_of_pieces
    (fun y => up16 (dprj P G W DD DP Dl (16 + (y 0).val) (y 1).val)) _ ?_ _ ?_)
  · exact View.cover_of_tiledBy _ ![512, 128] (by sl_kernel_rfl) y
  · exact (((((((((((((((Ag.nil (g := fun r j => dprj P G W DD DP Dl (16 + r) j)).cons16 h0 (a _ (by decide))).cons16 h1 (a _ (by
      decide))).cons16 h2 (a _ (by decide))).cons16 h3 (a _ (by decide))).cons16 h4 (a _ (by decide))).cons16 h5 (a _ (by
      decide))).cons16 h6 (a _ (by decide))).cons16 h7 (a _ (by decide))).cons16 hc fun r l _ hl => by rw [dprj, if_neg (by omega),
      if_pos (by omega), Nat.zero_add, Nat.add_sub_cancel_left]).cons16 hu fun r l _ hl => by rw [dprj, if_neg (by omega), if_neg (by
      omega), if_pos (by omega), Nat.zero_add, Nat.add_sub_cancel_left]).cons16 w0 (b 0 _ (by decide) rfl)).cons16 w1 (b 1 _ (by decide)
      rfl)).cons16 w2 (b 2 _ (by decide) rfl)).cons16 w3 (b 3 _ (by decide) rfl))
  · exact View.cover_of_tiledBy _ ![512, 128] (by sl_kernel_rfl) y

/-- Every piece of the list holds the entries `f` names at the places the piece is written to. -/
def Ag4 (L : List (View.Piece (Elt Ideal) S4x4x64x256 .f32)) (f : ℕ → ℕ → ℕ → ℕ → ℝ) : Prop :=
  ∀ p ∈ L, ∀ x, p.2 x = up32 (f (p.1.emb x 0).val (p.1.emb x 1).val (p.1.emb x 2).val (p.1.emb x 3).val)

theorem Ag4.nil {f : ℕ → ℕ → ℕ → ℕ → ℝ} : Ag4 [] f := fun _ h => nomatch h

theorem Ag4.cons {a g : ℕ} {inb : ∀ i, (![a, g, 0, 0] : Fin 4 → ℕ) i + S1x1x64x256.size i ≤ S4x4x64x256.size i}
    {pay : S1x1x64x256.Idx → Elt Ideal .f32} {f : ℕ → ℕ → ℕ → ℕ → ℝ} {L : List (View.Piece (Elt Ideal) S4x4x64x256 .f32)}
    (h : ∀ x, pay x = up32 (f a g (x 2).val (x 3).val)) (hL : Ag4 L f) :
    Ag4 (⟨Rect.unit (s := S4x4x64x256) ![a, g, 0, 0] S1x1x64x256.size inb, pay⟩ :: L) f := by
  intro p hp x
  rcases List.mem_cons.mp hp with rfl | hp
  · have h0 : (x 0).val < 1 := (x 0).isLt
    have h1 : (x 1).val < 1 := (x 1).isLt
    refine (h x).trans (congrArg up32 ?_)
    have e0 : a = (((Rect.unit (s := S4x4x64x256) ![a, g, 0, 0] S1x1x64x256.size inb).emb x) 0).val := by
      show a = a + 1 * (x 0).val
      omega
    have e1 : g = (((Rect.unit (s := S4x4x64x256) ![a, g, 0, 0] S1x1x64x256.size inb).emb x) 1).val := by
      show g = g + 1 * (x 1).val
      omega
    have e2 : (x 2).val = (((Rect.unit (s := S4x4x64x256) ![a, g, 0, 0] S1x1x64x256.size inb).emb x) 2).val := by
      show (x 2).val = 0 + 1 * (x 2).val
      omega
    have e3 : (x 3).val = (((Rect.unit (s := S4x4x64x256) ![a, g, 0, 0] S1x1x64x256.size inb).emb x) 3).val := by
      show (x 3).val = 0 + 1 * (x 3).val
      omega
    rw [← e0, ← e1, ← e2, ← e3]
  · exact hL p hp x

/-- The four groups' matrices, each left as four blocks of rows. -/
theorem out_mat {f : ℕ → ℕ → ℕ → ℕ → ℝ}
    {p00 p10 p20 p30 p01 p11 p21 p31 p02 p12 p22 p32 p03 p13 p23 p33 : S1x1x64x256.Idx → Elt Ideal .f32}
    (h00 : ∀ x, p00 x = up32 (f 0 0 (x 2).val (x 3).val))
    (h10 : ∀ x, p10 x = up32 (f 1 0 (x 2).val (x 3).val))
    (h20 : ∀ x, p20 x = up32 (f 2 0 (x 2).val (x 3).val))
    (h30 : ∀ x, p30 x = up32 (f 3 0 (x 2).val (x 3).val))
    (h01 : ∀ x, p01 x = up32 (f 0 1 (x 2).val (x 3).val))
    (h11 : ∀ x, p11 x = up32 (f 1 1 (x 2).val (x 3).val))
    (h21 : ∀ x, p21 x = up32 (f 2 1 (x 2).val (x 3).val))
    (h31 : ∀ x, p31 x = up32 (f 3 1 (x 2).val (x 3).val))
    (h02 : ∀ x, p02 x = up32 (f 0 2 (x 2).val (x 3).val))
    (h12 : ∀ x, p12 x = up32 (f 1 2 (x 2).val (x 3).val))
    (h22 : ∀ x, p22 x = up32 (f 2 2 (x 2).val (x 3).val))
    (h32 : ∀ x, p32 x = up32 (f 3 2 (x 2).val (x 3).val))
    (h03 : ∀ x, p03 x = up32 (f 0 3 (x 2).val (x 3).val))
    (h13 : ∀ x, p13 x = up32 (f 1 3 (x 2).val (x 3).val))
    (h23 : ∀ x, p23 x = up32 (f 2 3 (x 2).val (x 3).val))
    (h33 : ∀ x, p33 x = up32 (f 3 3 (x 2).val (x 3).val))
    (i00 i10 i20 i30 i01 i11 i21 i31 i02 i12 i22 i32 i03 i13 i23 i33) (y : S4x4x64x256.Idx) :
    VO0_20.read (Elt Ideal) (VO0_20.writes (Elt Ideal) VO0_20.junk [
      ⟨Rect.unit (s := S4x4x64x256) ![3, 3, 0, 0] S1x1x64x256.size i33, p33⟩,
      ⟨Rect.unit (s := S4x4x64x256) ![2, 3, 0, 0] S1x1x64x256.size i23, p23⟩,
      ⟨Rect.unit (s := S4x4x64x256) ![1, 3, 0, 0] S1x1x64x256.size i13, p13⟩,
      ⟨Rect.unit (s := S4x4x64x256) ![0, 3, 0, 0] S1x1x64x256.size i03, p03⟩,
      ⟨Rect.unit (s := S4x4x64x256) ![3, 2, 0, 0] S1x1x64x256.size i32, p32⟩,
      ⟨Rect.unit (s := S4x4x64x256) ![2, 2, 0, 0] S1x1x64x256.size i22, p22⟩,
      ⟨Rect.unit (s := S4x4x64x256) ![1, 2, 0, 0] S1x1x64x256.size i12, p12⟩,
      ⟨Rect.unit (s := S4x4x64x256) ![0, 2, 0, 0] S1x1x64x256.size i02, p02⟩,
      ⟨Rect.unit (s := S4x4x64x256) ![3, 1, 0, 0] S1x1x64x256.size i31, p31⟩,
      ⟨Rect.unit (s := S4x4x64x256) ![2, 1, 0, 0] S1x1x64x256.size i21, p21⟩,
      ⟨Rect.unit (s := S4x4x64x256) ![1, 1, 0, 0] S1x1x64x256.size i11, p11⟩,
      ⟨Rect.unit (s := S4x4x64x256) ![0, 1, 0, 0] S1x1x64x256.size i01, p01⟩,
      ⟨Rect.unit (s := S4x4x64x256) ![3, 0, 0, 0] S1x1x64x256.size i30, p30⟩,
      ⟨Rect.unit (s := S4x4x64x256) ![2, 0, 0, 0] S1x1x64x256.size i20, p20⟩,
      ⟨Rect.unit (s := S4x4x64x256) ![1, 0, 0, 0] S1x1x64x256.size i10, p10⟩,
      ⟨Rect.unit (s := S4x4x64x256) ![0, 0, 0, 0] S1x1x64x256.size i00, p00⟩]) y =
      up32 (f (y 0).val (y 1).val (y 2).val (y 3).val) := by
  refine (View.read_writes_apply_eq_canon _ _ _ _ ?_).trans (View.canon_apply_of_pieces
    (fun y => up32 (f (y 0).val (y 1).val (y 2).val (y 3).val)) _ ?_ _ ?_)
  · exact View.cover_of_tiledL (s := S4x4x64x256) _ S1x1x64x256.size (by sl_kernel_rfl) y
  · exact (((((((((((((((((Ag4.nil (f := f)).cons h00).cons h10).cons h20).cons h30).cons h01).cons h11).cons h21).cons h31).cons h02).cons
      h12).cons h22).cons h32).cons h03).cons h13).cons h23).cons h33)
  · exact View.cover_of_tiledL (s := S4x4x64x256) _ S1x1x64x256.size (by sl_kernel_rfl) y

/-- The convolution's weights' gradient, left by one store. -/
theorem out_cw {p : S3x1024.Idx → Elt Ideal .f32} {f : ℕ → ℕ → ℝ} (h : At2 p f) (i) (y : S3x1024.Idx) :
    VO0_19.read (Elt Ideal) (VO0_19.writes (Elt Ideal) VO0_19.junk [⟨Rect.unit (s := S3x1024) ![0, 0] S3x1024.size i, p⟩]) y =
      up32 (f (y 0).val (y 1).val) := by
  refine (View.read_writes_apply_eq_canon _ _ _ _ ?_).trans (View.canon_apply_of_pieces (fun y => up32 (f (y 0).val (y 1).val)) _ ?_ _ ?_)
  · exact View.cover_of_tiledL _ S3x1024.size (by sl_kernel_rfl) y
  · exact (Ag.nil (g := f)).cons32 h fun r l _ _ => by rw [Nat.zero_add, Nat.zero_add]
  · exact View.cover_of_tiledL _ S3x1024.size (by sl_kernel_rfl) y

/-- The pool's scale's gradient, left by one store. -/
theorem out_sc {p : S1x1024.Idx → Elt Ideal .f32} {f : ℕ → ℕ → ℝ} (h : At2 p f) (i) (y : S1x1024.Idx) :
    VO0_21.read (Elt Ideal) (VO0_21.writes (Elt Ideal) VO0_21.junk [⟨Rect.unit (s := S1x1024) ![0, 0] S1x1024.size i, p⟩]) y =
      up32 (f (y 0).val (y 1).val) := by
  refine (View.read_writes_apply_eq_canon _ _ _ _ ?_).trans (View.canon_apply_of_pieces (fun y => up32 (f (y 0).val (y 1).val)) _ ?_ _ ?_)
  · exact View.cover_of_tiledL _ S1x1024.size (by sl_kernel_rfl) y
  · exact (Ag.nil (g := f)).cons32 h fun r l _ _ => by rw [Nat.zero_add, Nat.zero_add]
  · exact View.cover_of_tiledL _ S1x1024.size (by sl_kernel_rfl) y

end Cert.Mix
-- ==== Proof.Val.Block.lean ====
module

public import proofs.«01_k».proof.Proof.Val.Conv
public import proofs.«01_k».proof.Proof.Val.Pool
public import proofs.«01_k».proof.Proof.Val.Out
public import proofs.«01_k».proof.Proof.Val.Four

@[expose] public section

set_option maxRecDepth 16384
set_option maxHeartbeats 1000000

/-! One block of rows: what it leaves in the four arrays. -/

namespace Cert.Mix

open Idealize.ShloMosaic Idealize.ShloMosaic.TcCoe
open Cert.KernelIdeal Cert.KernelIdeal.Gen

variable (m : (ℓ : Loc nD τ sig) → Idealize.ShloMosaic.Buf (Elt Ideal) ℓ) (c : Dev nD) (t : Fin cfg0.N)

/-- The rows a block reads, numbered from sixteen before the block's first row: `P` of the projection and `G` of the gradient
at the mixers' output, with the block before's last sixteen rows of the projection (`A`, times `kp`) above and the next block's
first sixteen rows below. -/
structure Rows (P G A W : ℕ → ℕ → ℝ) (Q : ℕ → ℕ → ℕ → ℝ) (S : ℕ → ℝ) (kp κ : ℝ) : Prop where
  x0 : At2 (n := 512) (m := 1024) (iblk m c 0 t) fun r l => P (16 + r) l
  x1 : At2 (n := 512) (m := 1024) (iblk m c 1 t) fun r l => P (16 + r) (1024 + l)
  x2 : At2 (n := 512) (m := 1024) (iblk m c 2 t) fun r l => P (16 + r) (2048 + l)
  x3 : At2 (n := 512) (m := 1024) (iblk m c 3 t) fun r l => P (16 + r) (3072 + l)
  x4 : At2 (n := 512) (m := 1024) (iblk m c 4 t) fun r l => G (16 + r) l
  x5 : At2 (n := 512) (m := 1024) (iblk m c 5 t) fun r l => G (16 + r) (1024 + l)
  x6 : At2 (n := 16) (m := 1024) (iblk m c 6 t) fun r l => A r (1024 + l)
  x7 : At2 (n := 16) (m := 1024) (iblk m c 7 t) fun r l => A r (2048 + l)
  x8 : At2 (n := 16) (m := 1024) (iblk m c 8 t) fun r l => A r (3072 + l)
  x9 : At2 (n := 16) (m := 1024) (iblk m c 9 t) fun r l => P (528 + r) l
  x10 : At2 (n := 16) (m := 1024) (iblk m c 10 t) fun r l => P (528 + r) (1024 + l)
  x11 : At2 (n := 16) (m := 1024) (iblk m c 11 t) fun r l => P (528 + r) (2048 + l)
  x12 : At2 (n := 16) (m := 1024) (iblk m c 12 t) fun r l => P (528 + r) (3072 + l)
  x13 : At2 (n := 16) (m := 1024) (iblk m c 13 t) fun r l => G (528 + r) l
  x14 : At2 (n := 16) (m := 1024) (iblk m c 14 t) fun r l => G (528 + r) (1024 + l)
  x15 : At2 (n := 3) (m := 1024) (iblk m c 15 t) W
  x16 : At4 (iblk m c 16 t) Q
  x17 : At2 (n := 1) (m := 1024) (iblk m c 17 t) fun _ l => S l
  prev : ∀ r l, r < 16 → A r l * kp = P r l
  sq : kp * kp = kp
  keep : k0_pay2 (F := Ideal) (grid0.coords t) = (kp : EReal)
  next : k0_pay3 (F := Ideal) (grid0.coords t) = (κ : EReal)

/-- The number of a block's row as the block computes it. -/
theorem row_number (i : ℕ) (hi : i < 16) (a : ℕ) (ha : a < 1024) :
    (Scalar.addi (Scalar.muli (BitVec.ofNat 32 i) 512#32) (BitVec.ofNat 32 a)).toNat = 512 * i + a := by
  show (BitVec.ofNat 32 i * 512#32 + BitVec.ofNat 32 a).toNat = _
  simp only [BitVec.toNat_add, BitVec.toNat_mul, BitVec.toNat_ofNat]
  omega

theorem width0 : (FloatOps.ofBits .f32 0x40000000#32 : Ideal .f32) = (((wd 0 : ℕ) : ℝ) : EReal) := by rw [ofBits_2]; norm_num [wd]
theorem width1 : (FloatOps.ofBits .f32 0x40800000#32 : Ideal .f32) = (((wd 1 : ℕ) : ℝ) : EReal) := by rw [ofBits_4]; norm_num [wd]
theorem width2 : (FloatOps.ofBits .f32 0x41000000#32 : Ideal .f32) = (((wd 2 : ℕ) : ℝ) : EReal) := by rw [ofBits_8]; norm_num [wd]
theorem width3 : (FloatOps.ofBits .f32 0x41800000#32 : Ideal .f32) = (((wd 3 : ℕ) : ℝ) : EReal) := by rw [ofBits_16]; norm_num [wd]

/-- A block's part of the gradient of the convolution's weights. -/
noncomputable def gradW (P DD : ℕ → ℕ → ℝ) (a l : ℕ) : ℝ := ∑ r ∈ Finset.range 512, DD (16 + r) l * cu P (14 + a + r) l

/-- A block's part of the gradient of a group's matrix. -/
noncomputable def gradM (P G : ℕ → ℕ → ℝ) (Q : ℕ → ℕ → ℕ → ℝ) (S : ℕ → ℝ) (T g k l : ℕ) : ℝ := ∑ r ∈ Finset.range 512, dmat P G Q S T g (16 + r) k l

/-- A block's part of the gradient of the pool's scale, over the four groups' columns. -/
noncomputable def gradS (P G : ℕ → ℕ → ℝ) (Q : ℕ → ℕ → ℕ → ℝ) (T j : ℕ) : ℝ := ∑ r ∈ Finset.range 512, dsc P G Q T (j / 256) (16 + r) (j % 256)

theorem gradS_at {P G : ℕ → ℕ → ℝ} {Q : ℕ → ℕ → ℕ → ℝ} {T : ℕ} (g l : ℕ) (hl : l < 256) :
    ∑ r ∈ Finset.range 512, dsc P G Q T g (16 + r) l = gradS P G Q T (256 * g + l) := by
  unfold gradS
  rw [show (256 * g + l) / 256 = g by omega, show (256 * g + l) % 256 = l by omega]

/-- What a block of rows leaves in the four arrays: the first block starts the sums, a later one adds to what the block before left. -/
theorem block {P G A W DD : ℕ → ℕ → ℝ} {Q DP : ℕ → ℕ → ℕ → ℝ} {S : ℕ → ℝ} {kp κ : ℝ} (h : Rows m c t P G A W Q S kp κ)
    (T : ℕ) (hT : T = 512 * (grid0.coords t 0).val)
    (hD : ∀ r l, r < 512 → l < 1024 → dconv P G W (16 + r) l = DD (16 + r) l)
    (hD' : ∀ r l, r < 16 → l < 1024 → dconv P G W (528 + r) l * κ = DD (528 + r) l)
    (hE : ∀ g r l, g < 4 → r < 512 → l < 256 → dpn P G Q S T g (16 + r) l = DP g (16 + r) l)
    (hE' : ∀ g r l, g < 4 → r < 16 → l < 256 → dpn P G Q S T g (528 + r) l * κ = DP g (528 + r) l) :
    (∀ y, (outsAt0 m c t.val t.isLt).1 y = up16 (dprj P G W DD DP (dpooled P G Q S T) (16 + (y 0).val) (y 1).val)) ∧
    (t.val % 16 = 0 → (∀ y, (outsAt0 m c t.val t.isLt).2.1 y = up32 (gradW P DD (y 0).val (y 1).val)) ∧
      (∀ y, (outsAt0 m c t.val t.isLt).2.2.1 y = up32 (gradM P G Q S T (y 1).val (64 * (y 0).val + (y 2).val) (y 3).val)) ∧
      ∀ y, (outsAt0 m c t.val t.isLt).2.2.2 y = up32 (gradS P G Q T (y 1).val)) ∧
    (¬t.val % 16 = 0 → ∀ (C19 : ℕ → ℕ → ℝ) (C20 : ℕ → ℕ → ℕ → ℝ) (C21 : ℕ → ℝ),
      At2 (n := 3) (m := 1024) (outsAt0 m c (t.val - 1) (Nat.lt_of_le_of_lt (Nat.sub_le _ _) t.isLt)).2.1 C19 →
      At4 (outsAt0 m c (t.val - 1) (Nat.lt_of_le_of_lt (Nat.sub_le _ _) t.isLt)).2.2.1 C20 →
      At2 (n := 1) (m := 1024) (outsAt0 m c (t.val - 1) (Nat.lt_of_le_of_lt (Nat.sub_le _ _) t.isLt)).2.2.2 (fun _ l => C21 l) →
      (∀ y, (outsAt0 m c t.val t.isLt).2.1 y = up32 (C19 (y 0).val (y 1).val + gradW P DD (y 0).val (y 1).val)) ∧
      (∀ y, (outsAt0 m c t.val t.isLt).2.2.1 y = up32 (C20 (y 1).val (64 * (y 0).val + (y 2).val) (y 3).val +
        gradM P G Q S T (y 1).val (64 * (y 0).val + (y 2).val) (y 3).val)) ∧
      ∀ y, (outsAt0 m c t.val t.isLt).2.2.2 y = up32 (C21 (y 1).val + gradS P G Q T (y 1).val)) := by
  have hlt : (grid0.coords t 0).val < 16 := (grid0.coords t 0).isLt
  have lt : FTy.bf16.bits < FTy.f32.bits := bitsLt_bf16_f32
  -- the two row buffers
  have b := load_all h.x0 (hs0_0 t) (by decide)
  have cc := load_all h.x1 (hs0_1 t) (by decide)
  have uu := load_all h.x2 (hs0_2 t) (by decide)
  have v := load_all h.x3 (hs0_3 t) (by decide)
  have d := load_all h.x4 (hs0_4 t) (by decide)
  have e := load_all h.x5 (hs0_5 t) (by decide)
  have b' := load_all h.x9 (hs0_9 t) (by decide)
  have v' := load_all h.x12 (hs0_12 t) (by decide)
  have d' := load_all h.x13 (hs0_13 t) (by decide)
  have e' := load_all h.x14 (hs0_14 t) (by decide)
  have w := fun a inb => load_at (n' := 1) (m' := 1024) h.x15 a 0 (hs0_15 t) inb
  have hcu := buf3 (g := cu P)
    ((((((load_all h.x6 (hs0_6 t) (by decide)).mul (φ := .f32) (load_all h.x7 (hs0_7 t) (by decide))).mul (At2.bc h.keep)).same
      shapeCasts_S16x1024_S16x1024)).congr fun r l hr _ => by
        show A r (1024 + l) * A r (2048 + l) * kp = P r (1024 + l) * P r (2048 + l)
        rw [← h.prev r _ hr, ← h.prev r _ hr, mul_mul_mul_comm, h.sq])
    ((cc.mul (φ := .f32) uu).same shapeCasts_S512x1024_S512x1024)
    (((load_all h.x10 (hs0_10 t) (by decide)).mul (φ := .f32) (load_all h.x11 (hs0_11 t) (by decide))).same shapeCasts_S16x1024_S16x1024)
    (by decide) (by decide) (by decide)
  have hv := buf3 (g := fun r l => P r (3072 + l))
    ((((load_all h.x8 (hs0_8 t) (by decide)).mul (φ := .f32) (At2.bc h.keep)).same shapeCasts_S16x1024_S16x1024).congr fun r l hr _ => h.prev r _ hr)
    (v.same (φ := .f32) shapeCasts_S512x1024_S512x1024) (v'.same (φ := .f32) shapeCasts_S16x1024_S16x1024) (by decide) (by decide) (by decide)
  -- the convolution, its gate and the gate's gradient
  have k := fun a inb => hcu.rows (n' := 512) (m' := 1024) a scM0_0.view inb
  have k' := fun a inb => hcu.rows (n' := 16) (m' := 1024) a scM0_0.view inb
  have kc := conv_at 14 (w 0 (by decide)) (w 1 (by decide)) (w 2 (by decide)) (k 14 (by decide)) (k 15 (by decide)) (k 16 (by decide))
    broadcasts_S1x1024_S512x1024
  have kc' := conv_at 526 (w 0 (by decide)) (w 1 (by decide)) (w 2 (by decide)) (k' 526 (by decide)) (k' 527 (by decide)) (k' 528 (by decide))
    broadcasts_S1x1024_S16x1024
  have ga : At2 _ fun r l => gate P W (16 + r) l := b.mul (φ := .f32) kc
  have ga' : At2 _ fun r l => gate P W (528 + r) l := b'.mul (φ := .f32) kc'
  have q := fun o hs => At2.headRs o ga hs reduces_S512x128_S512 shapeCasts_S512_S512x1 (.inl rfl) rfl
  have q' := fun o hs => At2.headRs o ga' hs reduces_S16x128_S16 shapeCasts_S16_S16x1 (.inl rfl) rfl
  have dk := fun o p ho hs => dconv_at (κ := Scalar.ofBits .f32 0x3F800000#32) o p ho b ga d (q o hs) ofBits_one hs
    reduces_S512x128_S512 shapeCasts_S512_S512x1 (.inl rfl) rfl broadcasts_S512x1_S512x128 shapeCasts_S512x128_S512x128
  have dk' := fun o p ho hs => dconv_at o p ho b' ga' d' (q' o hs) h.next hs
    reduces_S16x128_S16 shapeCasts_S16_S16x1 (.inl rfl) rfl broadcasts_S16x1_S16x128 shapeCasts_S16x128_S16x128
  have da := fun o p ho hs => da_at o p ho kc ga d (q o hs) hs
    reduces_S512x128_S512 shapeCasts_S512_S512x1 (.inl rfl) rfl broadcasts_S512x1_S512x128 lt
  have hdk := buf_dconv hD hD'
    (dk 0 0 rfl slices_S512x1024_o0_0_S512x128) (dk 128 1 rfl slices_S512x1024_o0_128_S512x128) (dk 256 2 rfl slices_S512x1024_o0_256_S512x128) (dk 384 3 rfl slices_S512x1024_o0_384_S512x128) (dk 512 4 rfl slices_S512x1024_o0_512_S512x128) (dk 640 5 rfl slices_S512x1024_o0_640_S512x128) (dk 768 6 rfl slices_S512x1024_o0_768_S512x128) (dk 896 7 rfl slices_S512x1024_o0_896_S512x128)
    (dk' 0 0 rfl slices_S16x1024_o0_0_S16x128) (dk' 128 1 rfl slices_S16x1024_o0_128_S16x128) (dk' 256 2 rfl slices_S16x1024_o0_256_S16x128) (dk' 384 3 rfl slices_S16x1024_o0_384_S16x128) (dk' 512 4 rfl slices_S16x1024_o0_512_S16x128) (dk' 640 5 rfl slices_S16x1024_o0_640_S16x128) (dk' 768 6 rfl slices_S16x1024_o0_768_S16x128) (dk' 896 7 rfl slices_S16x1024_o0_896_S16x128)
    (by decide) (by decide) (by decide) (by decide) (by decide) (by decide) (by decide) (by decide) (by decide) (by decide) (by decide) (by decide) (by decide) (by decide) (by decide) (by decide)
  have D := fun a inb => hdk.rows (n' := 512) (m' := 1024) a scM0_2.view inb
  have hdcu := dcu_at (w 0 (by decide)) (w 1 (by decide)) (w 2 (by decide)) (D 2 (by decide)) (D 1 (by decide)) (D 0 (by decide))
    broadcasts_S1x1024_S512x1024
  -- the pool's matrices, pooled rows and their gradients
  have Qm := fun g i0 i1 i2 i3 => whole4 (f := Q g) (load4 h.x16 0 g (hs0_16 t) i0 shapeCasts_S1x1x64x256_S64x256)
    (load4 h.x16 1 g (hs0_16 t) i1 shapeCasts_S1x1x64x256_S64x256) (load4 h.x16 2 g (hs0_16 t) i2 shapeCasts_S1x1x64x256_S64x256)
    (load4 h.x16 3 g (hs0_16 t) i3 shapeCasts_S1x1x64x256_S64x256) concatenates_S64x256_S64x256_S64x256_S64x256_S256x256_d0
  have Sg := fun o inb => (load_at (n' := 1) (m' := 256) h.x17 0 o (hs0_17 t) inb)
  have V := fun a o inb => hv.read (n' := 512) (m' := 256) a o scM0_1.view inb
  have V' := fun a o inb => hv.read (n' := 16) (m' := 256) a o scM0_1.view inb
  have hw : (Scalar.addi (Scalar.muli (BitVec.ofNat 32 (grid0.coords t 0).val) 512#32) 0#32).toNat + 16 = T + 16 := by
    rw [hT]
    exact congrArg (· + 16) (row_number _ hlt 0 (by decide))
  have hw' : (Scalar.addi (Scalar.muli (BitVec.ofNat 32 (grid0.coords t 0).val) 512#32) 512#32).toNat + 16 = T + 528 := by
    rw [hT, show 512 * (grid0.coords t 0).val + 528 = 512 * (grid0.coords t 0).val + 512 + 16 by omega, ← row_number _ hlt 512 (by decide)]
  have n := fun v W hv hW => icnt_at (n := 512) (v := v) (W := W) T 16 hv hW hw (by omega) iota_S512x1_d0_w32
  have n' := fun v W hv hW => icnt_at (n := 16) (v := v) (W := W) T 528 hv hW hw' (by omega) iota_S16x1_d0_w32
  have n0 := n 0x40000000#32 (wd 0) width0 (by decide)
  have p0 := pooled_at 0 0 rfl (by decide)
      ((At2.one (fun k r l => P (16 - k + r) (3072 + (0 + l))) (V 16 0 (by decide))).snoc (V 15 0 (by decide)))
      n0 v (by decide) broadcasts_S512x1_S512x256 slices_S512x1024_o0_0_S512x256
  have n1 := n 0x40800000#32 (wd 1) width1 (by decide)
  have p1 := pooled_at 1 256 rfl (by decide)
      ((((At2.one (fun k r l => P (16 - k + r) (3072 + (256 + l))) (V 16 256 (by decide))).snoc (V 15 256 (by decide))).snoc (V 14 256
      (by decide))).snoc (V 13 256 (by decide)))
      n1 v (by decide) broadcasts_S512x1_S512x256 slices_S512x1024_o0_256_S512x256
  have n2 := n 0x41000000#32 (wd 2) width2 (by decide)
  have p2 := pooled_at 2 512 rfl (by decide)
      ((((((((At2.one (fun k r l => P (16 - k + r) (3072 + (512 + l))) (V 16 512 (by decide))).snoc (V 15 512 (by decide))).snoc (V 14
      512 (by decide))).snoc (V 13 512 (by decide))).snoc (V 12 512 (by decide))).snoc (V 11 512 (by decide))).snoc (V 10 512 (by
      decide))).snoc (V 9 512 (by decide)))
      n2 v (by decide) broadcasts_S512x1_S512x256 slices_S512x1024_o0_512_S512x256
  have n3 := n 0x41800000#32 (wd 3) width3 (by decide)
  have p3 := pooled_at 3 768 rfl (by decide)
      ((((((((((((((((At2.one (fun k r l => P (16 - k + r) (3072 + (768 + l))) (V 16 768 (by decide))).snoc (V 15 768 (by decide))).snoc
      (V 14 768 (by decide))).snoc (V 13 768 (by decide))).snoc (V 12 768 (by decide))).snoc (V 11 768 (by decide))).snoc (V 10 768 (by
      decide))).snoc (V 9 768 (by decide))).snoc (V 8 768 (by decide))).snoc (V 7 768 (by decide))).snoc (V 6 768 (by decide))).snoc (V
      5 768 (by decide))).snoc (V 4 768 (by decide))).snoc (V 3 768 (by decide))).snoc (V 2 768 (by decide))).snoc (V 1 768 (by
      decide)))
      n3 v (by decide) broadcasts_S512x1_S512x256 slices_S512x1024_o0_768_S512x256
  have n0' := n' 0x40000000#32 (wd 0) width0 (by decide)
  have p0' := pooled_at 0 0 rfl (by decide)
      ((At2.one (fun k r l => P (528 - k + r) (3072 + (0 + l))) (V' 528 0 (by decide))).snoc (V' 527 0 (by decide)))
      n0' v' (by decide) broadcasts_S16x1_S16x256 slices_S16x1024_o0_0_S16x256
  have n1' := n' 0x40800000#32 (wd 1) width1 (by decide)
  have p1' := pooled_at 1 256 rfl (by decide)
      ((((At2.one (fun k r l => P (528 - k + r) (3072 + (256 + l))) (V' 528 256 (by decide))).snoc (V' 527 256 (by decide))).snoc (V'
      526 256 (by decide))).snoc (V' 525 256 (by decide)))
      n1' v' (by decide) broadcasts_S16x1_S16x256 slices_S16x1024_o0_256_S16x256
  have n2' := n' 0x41000000#32 (wd 2) width2 (by decide)
  have p2' := pooled_at 2 512 rfl (by decide)
      ((((((((At2.one (fun k r l => P (528 - k + r) (3072 + (512 + l))) (V' 528 512 (by decide))).snoc (V' 527 512 (by decide))).snoc
      (V' 526 512 (by decide))).snoc (V' 525 512 (by decide))).snoc (V' 524 512 (by decide))).snoc (V' 523 512 (by decide))).snoc (V'
      522 512 (by decide))).snoc (V' 521 512 (by decide)))
      n2' v' (by decide) broadcasts_S16x1_S16x256 slices_S16x1024_o0_512_S16x256
  have n3' := n' 0x41800000#32 (wd 3) width3 (by decide)
  have p3' := pooled_at 3 768 rfl (by decide)
      ((((((((((((((((At2.one (fun k r l => P (528 - k + r) (3072 + (768 + l))) (V' 528 768 (by decide))).snoc (V' 527 768 (by
      decide))).snoc (V' 526 768 (by decide))).snoc (V' 525 768 (by decide))).snoc (V' 524 768 (by decide))).snoc (V' 523 768 (by
      decide))).snoc (V' 522 768 (by decide))).snoc (V' 521 768 (by decide))).snoc (V' 520 768 (by decide))).snoc (V' 519 768 (by
      decide))).snoc (V' 518 768 (by decide))).snoc (V' 517 768 (by decide))).snoc (V' 516 768 (by decide))).snoc (V' 515 768 (by
      decide))).snoc (V' 514 768 (by decide))).snoc (V' 513 768 (by decide)))
      n3' v' (by decide) broadcasts_S16x1_S16x256 slices_S16x1024_o0_768_S16x256
  have grp := fun (g o : ℕ) (ho : o = 256 * g) (p : FVec Ideal S512x256 .f32) (M : FVec Ideal S256x256 .f32) (q : FVec Ideal S512x1 .f32)
      (sc : FVec Ideal S1x256 .f32) (hp : At2 (n := 512) (m := 256) p fun r l => pooled P T g (16 + r) l)
      (hM : At2 (n := 256) (m := 256) M (Q g)) (hq : At2 (n := 512) (m := 1) q fun r _ => icnt T (wd g) (16 + r))
      (hc : At2 (n := 1) (m := 256) sc fun _ l => S (o + l)) (hs : S512x1024.Slices ![0, o] S512x256) =>
    have z := (At2.nn512 (hp.trunc lt) (hM.trunc lt)).congr (g := fun r l => zz P Q T g (16 + r) l) fun _ _ _ _ => rfl
    have r := At2.rs (f := fun r l => zz P Q T g (16 + r) l) z ofBits_256 (by decide) reduces_S512x256_S512 shapeCasts_S512_S512x1 (.inl rfl) rfl
    have dzz := dz_at g o ho z r (dyp_at o e hc hs broadcasts_S1x256_S512x256) reduces_S512x256_S512 shapeCasts_S512_S512x1 (.inl rfl) rfl
      broadcasts_S512x1_S512x256
    have dp := ((At2.nt512 (dzz.trunc lt) (hM.trunc lt)).congr (g := fun r l => dpooled P G Q S T g (16 + r) l) fun _ _ _ _ => rfl).mul
      (At2.bc (v := (Scalar.ofBits .f32 0x3F800000#32 : Ideal .f32)) ofBits_one)
    And.intro ((dp.mul (hq.bcCol broadcasts_S512x1_S512x256)).same shapeCasts_S512x256_S512x256) (And.intro (dp.same shapeCasts_S512x256_S512x256)
      (And.intro ((At2.tn512 (hp.trunc lt) (dzz.trunc lt)).congr (g := fun k l => ∑ r ∈ Finset.range 512, dmat P G Q S T g (16 + r) k l) fun _ _ _ _ => rfl)
        (dsc_at g o ho z r e hs reduces_S512x256_S256 shapeCasts_S256_S1x256 (.inl rfl) rfl broadcasts_S512x1_S512x256)))
  have grp' := fun (g o : ℕ) (ho : o = 256 * g) (p : FVec Ideal S16x256 .f32) (M : FVec Ideal S256x256 .f32) (q : FVec Ideal S16x1 .f32)
      (sc : FVec Ideal S1x256 .f32) (hp : At2 (n := 16) (m := 256) p fun r l => pooled P T g (528 + r) l)
      (hM : At2 (n := 256) (m := 256) M (Q g)) (hq : At2 (n := 16) (m := 1) q fun r _ => icnt T (wd g) (528 + r))
      (hc : At2 (n := 1) (m := 256) sc fun _ l => S (o + l)) (hs : S16x1024.Slices ![0, o] S16x256) =>
    have z := (At2.nn16 (hp.trunc lt) (hM.trunc lt)).congr (g := fun r l => zz P Q T g (528 + r) l) fun _ _ _ _ => rfl
    have r := At2.rs (f := fun r l => zz P Q T g (528 + r) l) z ofBits_256 (by decide) reduces_S16x256_S16 shapeCasts_S16_S16x1 (.inl rfl) rfl
    have dzz := dz_at g o ho z r (dyp_at o e' hc hs broadcasts_S1x256_S16x256) reduces_S16x256_S16 shapeCasts_S16_S16x1 (.inl rfl) rfl
      broadcasts_S16x1_S16x256
    have dp := ((At2.nt16 (dzz.trunc lt) (hM.trunc lt)).congr (g := fun r l => dpooled P G Q S T g (528 + r) l) fun _ _ _ _ => rfl).mul
      (At2.bc h.next)
    (dp.mul (hq.bcCol broadcasts_S16x1_S16x256)).same shapeCasts_S16x256_S16x256
  have f0 := grp 0 0 rfl _ _ _ _ p0 (Qm 0 (by decide) (by decide) (by decide) (by decide)) n0 (Sg 0 (by decide)) slices_S512x1024_o0_0_S512x256
  have f0' := grp' 0 0 rfl _ _ _ _ p0' (Qm 0 (by decide) (by decide) (by decide) (by decide)) n0' (Sg 0 (by decide)) slices_S16x1024_o0_0_S16x256
  have f1 := grp 1 256 rfl _ _ _ _ p1 (Qm 1 (by decide) (by decide) (by decide) (by decide)) n1 (Sg 256 (by decide)) slices_S512x1024_o0_256_S512x256
  have f1' := grp' 1 256 rfl _ _ _ _ p1' (Qm 1 (by decide) (by decide) (by decide) (by decide)) n1' (Sg 256 (by decide)) slices_S16x1024_o0_256_S16x256
  have f2 := grp 2 512 rfl _ _ _ _ p2 (Qm 2 (by decide) (by decide) (by decide) (by decide)) n2 (Sg 512 (by decide)) slices_S512x1024_o0_512_S512x256
  have f2' := grp' 2 512 rfl _ _ _ _ p2' (Qm 2 (by decide) (by decide) (by decide) (by decide)) n2' (Sg 512 (by decide)) slices_S16x1024_o0_512_S16x256
  have f3 := grp 3 768 rfl _ _ _ _ p3 (Qm 3 (by decide) (by decide) (by decide) (by decide)) n3 (Sg 768 (by decide)) slices_S512x1024_o0_768_S512x256
  have f3' := grp' 3 768 rfl _ _ _ _ p3' (Qm 3 (by decide) (by decide) (by decide) (by decide)) n3' (Sg 768 (by decide)) slices_S16x1024_o0_768_S16x256
  have hdn := buf_dpn hE hE' f0.1 f1.1 f2.1 f3.1 f0' f1' f2' f3' (by decide) (by decide) (by decide) (by decide) (by decide) (by decide) (by decide) (by decide)
  have hdl := buf_dpl (D := dpooled P G Q S T) f0.2.1 f1.2.1 f2.2.1 f3.2.1 (by decide) (by decide) (by decide) (by decide)
  have X := fun g k o ho inb => hdn.group (n := 512) g k o ho scM0_3.view inb
  have Y := fun g o ho inb => (hdl.group (n := 512) g 0 o ho scM0_4.view inb).congr (g := fun r l => dpooled P G Q S T g (16 + r) l)
    fun r l _ _ => by rw [Nat.zero_add]
  have u0 := (((At2.one (fun k r l => DP 0 (16 + (k + r)) l) (X 0 0 0 rfl (by decide))).snoc (X 0 1 0 rfl (by decide))).sub (Y 0 0 rfl (by
      decide))).trunc lt
  have u1 := (((((At2.one (fun k r l => DP 1 (16 + (k + r)) l) (X 1 0 256 rfl (by decide))).snoc (X 1 1 256 rfl (by decide))).snoc (X 1 2 256
      rfl (by decide))).snoc (X 1 3 256 rfl (by decide))).sub (Y 1 256 rfl (by decide))).trunc lt
  have u2 := (((((((((At2.one (fun k r l => DP 2 (16 + (k + r)) l) (X 2 0 512 rfl (by decide))).snoc (X 2 1 512 rfl (by decide))).snoc (X 2 2
      512 rfl (by decide))).snoc (X 2 3 512 rfl (by decide))).snoc (X 2 4 512 rfl (by decide))).snoc (X 2 5 512 rfl (by decide))).snoc
      (X 2 6 512 rfl (by decide))).snoc (X 2 7 512 rfl (by decide))).sub (Y 2 512 rfl (by decide))).trunc lt
  have u3 := (((((((((((((((((At2.one (fun k r l => DP 3 (16 + (k + r)) l) (X 3 0 768 rfl (by decide))).snoc (X 3 1 768 rfl (by decide))).snoc
      (X 3 2 768 rfl (by decide))).snoc (X 3 3 768 rfl (by decide))).snoc (X 3 4 768 rfl (by decide))).snoc (X 3 5 768 rfl (by
      decide))).snoc (X 3 6 768 rfl (by decide))).snoc (X 3 7 768 rfl (by decide))).snoc (X 3 8 768 rfl (by decide))).snoc (X 3 9 768
      rfl (by decide))).snoc (X 3 10 768 rfl (by decide))).snoc (X 3 11 768 rfl (by decide))).snoc (X 3 12 768 rfl (by decide))).snoc (X
      3 13 768 rfl (by decide))).snoc (X 3 14 768 rfl (by decide))).snoc (X 3 15 768 rfl (by decide))).sub (Y 3 768 rfl (by
      decide))).trunc lt
  have out := out_prj (da 0 0 rfl slices_S512x1024_o0_0_S512x128) (da 128 1 rfl slices_S512x1024_o0_128_S512x128) (da 256 2 rfl slices_S512x1024_o0_256_S512x128) (da 384 3 rfl slices_S512x1024_o0_384_S512x128) (da 512 4 rfl slices_S512x1024_o0_512_S512x128) (da 640 5 rfl slices_S512x1024_o0_640_S512x128) (da 768 6 rfl slices_S512x1024_o0_768_S512x128) (da 896 7 rfl slices_S512x1024_o0_896_S512x128)
      ((hdcu.mul uu).trunc lt) ((hdcu.mul cc).trunc lt) u0 u1 u2 u3
       (by decide) (by decide) (by decide) (by decide) (by decide) (by decide) (by decide) (by decide) (by decide) (by decide) (by decide) (by decide) (by decide) (by decide)
  have D0 := (D 0 (by decide)).congr (g := fun r l => DD (16 + r) l) fun r l _ _ => by rw [Nat.zero_add]
  have cs := fun a inb => At2.colSum reduces_S512x1024_S1024 shapeCasts_S1024_S1x1024 (.inl rfl) rfl (D0.mul (φ := .f32) (k a inb))
  have cw := At2.stack3 (f := gradW P DD) (cs 14 (by decide)) (cs 15 (by decide)) (cs 16 (by decide)) concatenates_S1x1024_S1x1024_S1x1024_S3x1024_d0
  have sc := At2.beside4 (f := fun _ => gradS P G Q T) (f0.2.2.2.congr fun _ l _ hl => gradS_at 0 l hl) (f1.2.2.2.congr fun _ l _ hl => gradS_at 1 l hl) (f2.2.2.2.congr fun _ l _ hl => gradS_at 2 l hl) (f3.2.2.2.congr fun _ l _ hl => gradS_at 3 l hl) concatenates_S1x256_S1x256_S1x256_S1x256_S1x1024_d1
  by_cases ht : t.val % 16 = 0
  · have ht' : ¬1 ≤ t.val := by have : t.val < 16 := t.isLt; omega
    have e := outsAt0_A m c t ht ht' ht ht' ht ht' ht ht' ht ht' ht ht' ht ht' ht ht' ht ht' ht ht' ht ht' ht ht' ht ht' ht ht' ht ht' ht ht' ht ht' ht ht'
    have o19 := out_cw cw (by decide)
    have o20 := out_mat (f := fun a g x l => gradM P G Q S T g (64 * a + x) l)
      (store_rows 0 f0.2.2.1 slices_S256x256_o0_0_S64x256 shapeCasts_S64x256_S1x1x64x256) (store_rows 1 f0.2.2.1 slices_S256x256_o64_0_S64x256 shapeCasts_S64x256_S1x1x64x256) (store_rows 2 f0.2.2.1 slices_S256x256_o128_0_S64x256 shapeCasts_S64x256_S1x1x64x256) (store_rows 3 f0.2.2.1 slices_S256x256_o192_0_S64x256 shapeCasts_S64x256_S1x1x64x256)
      (store_rows 0 f1.2.2.1 slices_S256x256_o0_0_S64x256 shapeCasts_S64x256_S1x1x64x256) (store_rows 1 f1.2.2.1 slices_S256x256_o64_0_S64x256 shapeCasts_S64x256_S1x1x64x256) (store_rows 2 f1.2.2.1 slices_S256x256_o128_0_S64x256 shapeCasts_S64x256_S1x1x64x256) (store_rows 3 f1.2.2.1 slices_S256x256_o192_0_S64x256 shapeCasts_S64x256_S1x1x64x256)
      (store_rows 0 f2.2.2.1 slices_S256x256_o0_0_S64x256 shapeCasts_S64x256_S1x1x64x256) (store_rows 1 f2.2.2.1 slices_S256x256_o64_0_S64x256 shapeCasts_S64x256_S1x1x64x256) (store_rows 2 f2.2.2.1 slices_S256x256_o128_0_S64x256 shapeCasts_S64x256_S1x1x64x256) (store_rows 3 f2.2.2.1 slices_S256x256_o192_0_S64x256 shapeCasts_S64x256_S1x1x64x256)
      (store_rows 0 f3.2.2.1 slices_S256x256_o0_0_S64x256 shapeCasts_S64x256_S1x1x64x256) (store_rows 1 f3.2.2.1 slices_S256x256_o64_0_S64x256 shapeCasts_S64x256_S1x1x64x256) (store_rows 2 f3.2.2.1 slices_S256x256_o128_0_S64x256 shapeCasts_S64x256_S1x1x64x256) (store_rows 3 f3.2.2.1 slices_S256x256_o192_0_S64x256 shapeCasts_S64x256_S1x1x64x256)
      (by decide) (by decide) (by decide) (by decide) (by decide) (by decide) (by decide) (by decide) (by decide) (by decide) (by decide) (by decide) (by decide) (by decide) (by decide) (by decide)
    have o21 := out_sc sc (by decide)
    refine ⟨?_, fun _ => ⟨?_, ?_, ?_⟩, fun hn => absurd ht hn⟩
    · intro y
      have e' := congrArg (fun o => o.1) e
      dsimp only at e'
      refine (congrFun e' y).trans ?_
      unfold out0_A_18
      refine Eq.trans ?_ (out y)
      refine congrArg (fun L => VO0_18.read (Elt Ideal) (VO0_18.writes (Elt Ideal) VO0_18.junk L) y) ?_
      unfold kernelRun0_A
      dsimp only
      rfl
    · intro y
      have e' := congrArg (fun o => o.2.1) e
      dsimp only at e'
      refine (congrFun e' y).trans ?_
      unfold out0_A_19
      refine Eq.trans ?_ (o19 y)
      refine congrArg (fun L => VO0_19.read (Elt Ideal) (VO0_19.writes (Elt Ideal) VO0_19.junk L) y) ?_
      unfold kernelRun0_A
      dsimp only
      rfl
    · intro y
      have e' := congrArg (fun o => o.2.2.1) e
      dsimp only at e'
      refine (congrFun e' y).trans ?_
      unfold out0_A_20
      refine Eq.trans ?_ (o20 y)
      refine congrArg (fun L => VO0_20.read (Elt Ideal) (VO0_20.writes (Elt Ideal) VO0_20.junk L) y) ?_
      unfold kernelRun0_A
      dsimp only
      rfl
    · intro y
      have e' := congrArg (fun o => o.2.2.2) e
      dsimp only at e'
      refine (congrFun e' y).trans ?_
      unfold out0_A_21
      refine Eq.trans ?_ (o21 y)
      refine congrArg (fun L => VO0_21.read (Elt Ideal) (VO0_21.writes (Elt Ideal) VO0_21.junk L) y) ?_
      unfold kernelRun0_A
      dsimp only
      rfl
  · have ht' : 1 ≤ t.val := by omega
    have e := outsAt0_B m c t ht ht' ht ht' ht ht' ht ht' ht ht' ht ht' ht ht' ht ht' ht ht' ht ht' ht ht' ht ht' ht ht' ht ht' ht ht' ht ht' ht ht' ht ht'
    refine ⟨?_, fun hn => absurd hn ht, fun _ C19 C20 C21 c19 c20 c21 => ?_⟩
    · intro y
      have e' := congrArg (fun o => o.1) e
      dsimp only at e'
      refine (congrFun e' y).trans ?_
      unfold out0_B_18
      refine Eq.trans ?_ (out y)
      refine congrArg (fun L => VO0_18.read (Elt Ideal) (VO0_18.writes (Elt Ideal) VO0_18.junk L) y) ?_
      unfold kernelRun0_B
      dsimp only
      rfl
    have o19 := out_cw (((load_all c19 (hs0_19 t) (by decide)).same (φ := .f32) shapeCasts_S3x1024_S3x1024).add (φ := .f32) cw) (by decide)
    have o20 := out_mat (f := fun a g x l => C20 g (64 * a + x) l + gradM P G Q S T g (64 * a + x) l)
      (store_more 0 f0.2.2.1 (load4 c20 0 0 (hs0_20 t) (by decide) shapeCasts_S1x1x64x256_S64x256) slices_S256x256_o0_0_S64x256 shapeCasts_S64x256_S1x1x64x256) (store_more 1 f0.2.2.1 (load4 c20 1 0 (hs0_20 t) (by decide) shapeCasts_S1x1x64x256_S64x256) slices_S256x256_o64_0_S64x256 shapeCasts_S64x256_S1x1x64x256) (store_more 2 f0.2.2.1 (load4 c20 2 0 (hs0_20 t) (by decide) shapeCasts_S1x1x64x256_S64x256) slices_S256x256_o128_0_S64x256 shapeCasts_S64x256_S1x1x64x256) (store_more 3 f0.2.2.1 (load4 c20 3 0 (hs0_20 t) (by decide) shapeCasts_S1x1x64x256_S64x256) slices_S256x256_o192_0_S64x256 shapeCasts_S64x256_S1x1x64x256)
      (store_more 0 f1.2.2.1 (load4 c20 0 1 (hs0_20 t) (by decide) shapeCasts_S1x1x64x256_S64x256) slices_S256x256_o0_0_S64x256 shapeCasts_S64x256_S1x1x64x256) (store_more 1 f1.2.2.1 (load4 c20 1 1 (hs0_20 t) (by decide) shapeCasts_S1x1x64x256_S64x256) slices_S256x256_o64_0_S64x256 shapeCasts_S64x256_S1x1x64x256) (store_more 2 f1.2.2.1 (load4 c20 2 1 (hs0_20 t) (by decide) shapeCasts_S1x1x64x256_S64x256) slices_S256x256_o128_0_S64x256 shapeCasts_S64x256_S1x1x64x256) (store_more 3 f1.2.2.1 (load4 c20 3 1 (hs0_20 t) (by decide) shapeCasts_S1x1x64x256_S64x256) slices_S256x256_o192_0_S64x256 shapeCasts_S64x256_S1x1x64x256)
      (store_more 0 f2.2.2.1 (load4 c20 0 2 (hs0_20 t) (by decide) shapeCasts_S1x1x64x256_S64x256) slices_S256x256_o0_0_S64x256 shapeCasts_S64x256_S1x1x64x256) (store_more 1 f2.2.2.1 (load4 c20 1 2 (hs0_20 t) (by decide) shapeCasts_S1x1x64x256_S64x256) slices_S256x256_o64_0_S64x256 shapeCasts_S64x256_S1x1x64x256) (store_more 2 f2.2.2.1 (load4 c20 2 2 (hs0_20 t) (by decide) shapeCasts_S1x1x64x256_S64x256) slices_S256x256_o128_0_S64x256 shapeCasts_S64x256_S1x1x64x256) (store_more 3 f2.2.2.1 (load4 c20 3 2 (hs0_20 t) (by decide) shapeCasts_S1x1x64x256_S64x256) slices_S256x256_o192_0_S64x256 shapeCasts_S64x256_S1x1x64x256)
      (store_more 0 f3.2.2.1 (load4 c20 0 3 (hs0_20 t) (by decide) shapeCasts_S1x1x64x256_S64x256) slices_S256x256_o0_0_S64x256 shapeCasts_S64x256_S1x1x64x256) (store_more 1 f3.2.2.1 (load4 c20 1 3 (hs0_20 t) (by decide) shapeCasts_S1x1x64x256_S64x256) slices_S256x256_o64_0_S64x256 shapeCasts_S64x256_S1x1x64x256) (store_more 2 f3.2.2.1 (load4 c20 2 3 (hs0_20 t) (by decide) shapeCasts_S1x1x64x256_S64x256) slices_S256x256_o128_0_S64x256 shapeCasts_S64x256_S1x1x64x256) (store_more 3 f3.2.2.1 (load4 c20 3 3 (hs0_20 t) (by decide) shapeCasts_S1x1x64x256_S64x256) slices_S256x256_o192_0_S64x256 shapeCasts_S64x256_S1x1x64x256)
      (by decide) (by decide) (by decide) (by decide) (by decide) (by decide) (by decide) (by decide) (by decide) (by decide) (by decide) (by decide) (by decide) (by decide) (by decide) (by decide)
    have o21 := out_sc (((load_all c21 (hs0_21 t) (by decide)).same (φ := .f32) shapeCasts_S1x1024_S1x1024).add (φ := .f32) sc) (by decide)
    refine ⟨?_, ?_, ?_⟩
    · intro y
      have e' := congrArg (fun o => o.2.1) e
      dsimp only at e'
      refine (congrFun e' y).trans ?_
      unfold out0_B_19
      refine Eq.trans ?_ (o19 y)
      refine congrArg (fun L => VO0_19.read (Elt Ideal) (VO0_19.writes (Elt Ideal) VO0_19.junk L) y) ?_
      unfold kernelRun0_B
      dsimp only
      rfl
    · intro y
      have e' := congrArg (fun o => o.2.2.1) e
      dsimp only at e'
      refine (congrFun e' y).trans ?_
      unfold out0_B_20
      refine Eq.trans ?_ (o20 y)
      refine congrArg (fun L => VO0_20.read (Elt Ideal) (VO0_20.writes (Elt Ideal) VO0_20.junk L) y) ?_
      unfold kernelRun0_B
      dsimp only
      rfl
    · intro y
      have e' := congrArg (fun o => o.2.2.2) e
      dsimp only at e'
      refine (congrFun e' y).trans ?_
      unfold out0_B_21
      refine Eq.trans ?_ (o21 y)
      refine congrArg (fun L => VO0_21.read (Elt Ideal) (VO0_21.writes (Elt Ideal) VO0_21.junk L) y) ?_
      unfold kernelRun0_B
      dsimp only
      rfl

end Cert.Mix
-- ==== Proof.Val.Whole.lean ====
module

public import proofs.«01_k».proof.Proof.Val.Local
public import proofs.«01_k».proof.Proof.Val.Inputs
public import proofs.«01_k».proof.Proof.Val.Entries
public import proofs.«01_k».proof.Proof.Val.Block

@[expose] public section

/-! Every block of rows computes its part of the mixers' gradient over the whole arrays. -/

namespace Cert.Mix

open Idealize.ShloMosaic Idealize.ShloMosaic.TcCoe Cert.KernelIdeal Cert.KernelIdeal.Gen

variable (m : (ℓ : Loc nD τ sig) → Idealize.ShloMosaic.Buf (Elt Ideal) ℓ) (c : Dev nD)

/-- The projection. -/
noncomputable def prj : ℕ → ℕ → ℝ := ent (n := 8192) (k := 4096) 16 (m ((c : Thread nD τ).loc main_arg0))
/-- The gradient arriving at the mixers' output. -/
noncomputable def grd : ℕ → ℕ → ℝ := ent (n := 8192) (k := 2048) 16 (m ((c : Thread nD τ).loc main_arg1))
/-- The convolution's weights. -/
noncomputable def cwt : ℕ → ℕ → ℝ := ent (n := 3) (k := 1024) 0 (m ((c : Thread nD τ).loc main_arg2))
/-- The pool's matrices. -/
noncomputable def pwt : ℕ → ℕ → ℕ → ℝ := ent4 (m ((c : Thread nD τ).loc main_arg3))
/-- The pool's scale. -/
noncomputable def psc : ℕ → ℝ := ent (n := 1) (k := 1024) 0 (m ((c : Thread nD τ).loc main_arg4)) 0

/-- The arguments hold real numbers. -/
structure Reals : Prop where
  a0 : IsReal (s := S8192x4096) (m ((c : Thread nD τ).loc main_arg0))
  a1 : IsReal (s := S8192x2048) (m ((c : Thread nD τ).loc main_arg1))
  a2 : IsReal (s := S3x1024) (m ((c : Thread nD τ).loc main_arg2))
  a3 : IsReal (s := S4x4x64x256) (m ((c : Thread nD τ).loc main_arg3))
  a4 : IsReal (s := S1x1024) (m ((c : Thread nD τ).loc main_arg4))

/-- The rows point `t` works on: sixteen rows before its own, its own and sixteen after them, as its windows place them. -/
noncomputable def part (P : ℕ → ℕ → ℝ) (t ρ : ℕ) : ℕ → ℝ := if ρ < 528 then P (512 * t + ρ) else P (16 + (16 * min (32 * t + 32) 511 + (ρ - 528)))

theorem part_own (P : ℕ → ℕ → ℝ) (t : ℕ) {r : ℕ} (h : r < 512) : part P t (16 + r) = P (16 + (512 * t + r)) := by
  unfold part
  rw [if_pos (by omega), show 512 * t + (16 + r) = 16 + (512 * t + r) by omega]

theorem part_next (P : ℕ → ℕ → ℝ) (t r : ℕ) : part P t (528 + r) = P (16 + (16 * min (32 * t + 32) 511 + r)) := by
  unfold part
  rw [if_neg (by omega), show 528 + r - 528 = r by omega]

theorem part_mid (P : ℕ → ℕ → ℝ) (t lo : ℕ) : Part (part P t) P (512 * t) lo 528 := fun ρ _ h => by
  unfold part
  rw [if_pos h]

theorem part_all (P : ℕ → ℕ → ℝ) {t : ℕ} (ht : t < 15) (lo : ℕ) : Part (part P t) P (512 * t) lo 544 := fun ρ _ h => by
  unfold part
  split
  · rfl
  · rw [show 16 + (16 * min (32 * t + 32) 511 + (ρ - 528)) = 512 * t + ρ by omega]

/-- One where a block stands before this one. -/
noncomputable def keepOf (t : ℕ) : ℝ := if t = 0 then 0 else 1
/-- One where a block stands after this one. -/
noncomputable def nextOf (t : ℕ) : ℝ := if t < 15 then 1 else 0

theorem keep_bits : ∀ i < 16, (Scalar.extui (Scalar.cmpi .sgt (BitVec.ofNat 32 i) 0#32) : BitVec 32).toInt = if i = 0 then 0 else 1 := by decide
theorem next_bits : ∀ i < 16, (Scalar.extui (Scalar.cmpi .slt (BitVec.ofNat 32 i) 15#32) : BitVec 32).toInt = if i < 15 then 1 else 0 := by decide

theorem keep_at (t : Fin cfg0.N) : k0_pay2 (F := Ideal) (grid0.coords t) = (keepOf t.val : EReal) := by
  have ht : t.val < 16 := t.isLt
  show (((Scalar.extui (Scalar.cmpi .sgt (BitVec.ofNat 32 (grid0.coords t 0).val) 0#32) : BitVec 32).toInt : ℝ) : EReal) = _
  rw [coords_val, keep_bits _ ht, keepOf]
  split <;> simp

theorem next_at (t : Fin cfg0.N) : k0_pay3 (F := Ideal) (grid0.coords t) = (nextOf t.val : EReal) := by
  have ht : t.val < 16 := t.isLt
  show (((Scalar.extui (Scalar.cmpi .slt (BitVec.ofNat 32 (grid0.coords t 0).val) 15#32) : BitVec 32).toInt : ℝ) : EReal) = _
  rw [coords_val, next_bits _ ht, nextOf]
  split <;> simp

/-- What point `t` reads. -/
theorem rows (h : Reals m c) (t : Fin cfg0.N) :
    Rows m c t (part (prj m c) t.val) (part (grd m c) t.val) (fun r => prj m c (16 + (16 * (32 * t.val - 1) + r))) (cwt m c) (pwt m c) (psc m c)
      (keepOf t.val) (nextOf t.val) := by
  have ht : t.val < 16 := t.isLt
  exact {
    x0 := (ent_block h.a0 (512 * t.val) 0 (blk0 m c t) (by omega) (by decide)).congr fun r l hr _ => by rw [part_own _ _ hr]; exact congrArg _ (Nat.zero_add l)
    x1 := (ent_block h.a0 (512 * t.val) 1024 (blk1 m c t) (by omega) (by decide)).congr fun r l hr _ => by rw [part_own _ _ hr]; rfl
    x2 := (ent_block h.a0 (512 * t.val) 2048 (blk2 m c t) (by omega) (by decide)).congr fun r l hr _ => by rw [part_own _ _ hr]; rfl
    x3 := (ent_block h.a0 (512 * t.val) 3072 (blk3 m c t) (by omega) (by decide)).congr fun r l hr _ => by rw [part_own _ _ hr]; rfl
    x4 := (ent_block h.a1 (512 * t.val) 0 (blk4 m c t) (by omega) (by decide)).congr fun r l hr _ => by rw [part_own _ _ hr]; exact congrArg _ (Nat.zero_add l)
    x5 := (ent_block h.a1 (512 * t.val) 1024 (blk5 m c t) (by omega) (by decide)).congr fun r l hr _ => by rw [part_own _ _ hr]; rfl
    x6 := ent_block h.a0 (16 * (32 * t.val - 1)) 1024 (blk6 m c t) (by omega) (by decide)
    x7 := ent_block h.a0 (16 * (32 * t.val - 1)) 2048 (blk7 m c t) (by omega) (by decide)
    x8 := ent_block h.a0 (16 * (32 * t.val - 1)) 3072 (blk8 m c t) (by omega) (by decide)
    x9 := (ent_block h.a0 (16 * min (32 * t.val + 32) 511) 0 (blk9 m c t) (by omega) (by decide)).congr fun r l _ _ => by rw [part_next]; exact congrArg _ (Nat.zero_add l)
    x10 := (ent_block h.a0 (16 * min (32 * t.val + 32) 511) 1024 (blk10 m c t) (by omega) (by decide)).congr fun r l _ _ => by rw [part_next]; rfl
    x11 := (ent_block h.a0 (16 * min (32 * t.val + 32) 511) 2048 (blk11 m c t) (by omega) (by decide)).congr fun r l _ _ => by rw [part_next]; rfl
    x12 := (ent_block h.a0 (16 * min (32 * t.val + 32) 511) 3072 (blk12 m c t) (by omega) (by decide)).congr fun r l _ _ => by rw [part_next]; rfl
    x13 := (ent_block h.a1 (16 * min (32 * t.val + 32) 511) 0 (blk13 m c t) (by omega) (by decide)).congr fun r l _ _ => by rw [part_next]; exact congrArg _ (Nat.zero_add l)
    x14 := (ent_block h.a1 (16 * min (32 * t.val + 32) 511) 1024 (blk14 m c t) (by omega) (by decide)).congr fun r l _ _ => by rw [part_next]; rfl
    x15 := fun y => (blk15 m c t y).trans (ent_at h.a2 y (Nat.zero_add _) rfl)
    x16 := fun y => (blk16 m c t y).trans (ent4_at h.a3 y)
    x17 := fun y => (blk17 m c t y).trans (ent_at h.a4 y (by have : (y 0).val < 1 := (y 0).isLt; omega) rfl)
    prev := fun r l hr => by
      unfold keepOf part
      split
      · rw [if_pos (by omega), mul_zero]
        exact (ent_low _ (by omega) _).symm
      · rw [if_pos (by omega), mul_one, show 16 + (16 * (32 * t.val - 1) + r) = 512 * t.val + r by omega]
    sq := by unfold keepOf; split <;> simp
    keep := keep_at t
    next := next_at t }

/-- The sums over the tokens before point `t`'s last. -/
theorem sum_step (f : ℕ → ℝ) (t : ℕ) : ∑ τ ∈ Finset.range (512 * (t + 1)), f τ = (∑ τ ∈ Finset.range (512 * t), f τ) + ∑ r ∈ Finset.range 512, f (512 * t + r) := by
  rw [Nat.mul_succ, Finset.sum_range_add]

theorem dprj_part {P G PG GG W DD : ℕ → ℕ → ℝ} {Q DP : ℕ → ℕ → ℕ → ℝ} {S : ℕ → ℝ} {T : ℕ} (hP : Part P PG T 0 528) (hG : Part G GG T 16 528)
    {r j : ℕ} (hr : r < 512) (hj : j < 4096) :
    dprj P G W (fun ρ => DD (T + ρ)) (fun g ρ => DP g (T + ρ)) (dpooled P G Q S T) (16 + r) j =
      dprj PG GG W DD DP (dpooled PG GG Q S 0) (16 + (T + r)) j := by
  have hd : ∀ l, dcu W (fun ρ => DD (T + ρ)) (16 + r) l = dcu W DD (T + (16 + r)) l := fun l => rfl
  rw [show 16 + (T + r) = T + (16 + r) by omega]
  unfold dprj
  rw [dgate_part hP hG (by omega) (by omega), conv_part hP (by omega) (by omega), hP (16 + r) (by omega) (by omega), hd, hd]
  split
  · rfl
  split
  · rfl
  split
  · rfl
  rw [dpooled_part hP hG (by omega) (by omega) (by omega)]
  simp only [Nat.add_assoc]

/-- The gradient at the convolution, over the whole array. -/
noncomputable def gcv : ℕ → ℕ → ℝ := dconv (prj m c) (grd m c) (cwt m c)
/-- The gradient at the windows' sums, over the whole array. -/
noncomputable def gwn : ℕ → ℕ → ℕ → ℝ := dpn (prj m c) (grd m c) (pwt m c) (psc m c) 0
/-- The gradient at the projection, over the whole array. -/
noncomputable def gprj : ℕ → ℕ → ℝ := dprj (prj m c) (grd m c) (cwt m c) (gcv m c) (gwn m c) (dpooled (prj m c) (grd m c) (pwt m c) (psc m c) 0)
/-- A token's part of the gradient at the convolution's weights. -/
noncomputable def gcw (a l τ : ℕ) : ℝ := gcv m c (16 + τ) l * cu (prj m c) (14 + a + τ) l
/-- A token's part of the gradient at the pool's matrices. -/
noncomputable def gpw (g k l τ : ℕ) : ℝ := dmat (prj m c) (grd m c) (pwt m c) (psc m c) 0 g (16 + τ) k l
/-- A token's part of the gradient at the pool's scale. -/
noncomputable def gps (j τ : ℕ) : ℝ := dsc (prj m c) (grd m c) (pwt m c) 0 (j / 256) (16 + τ) (j % 256)

/-- Where no block stands after this one, nothing arrives from there; elsewhere what the next block computes. -/
theorem next_part (t : Fin cfg0.N) (f f' : (ℕ → ℕ → ℝ) → (ℕ → ℕ → ℝ) → ℕ → ℕ → ℝ)
    (hf : Part (part (prj m c) t.val) (prj m c) (512 * t.val) 0 544 → Part (part (grd m c) t.val) (grd m c) (512 * t.val) 16 544 →
      ∀ ρ, 16 ≤ ρ → ρ < 544 → f (part (prj m c) t.val) (part (grd m c) t.val) ρ = f' (prj m c) (grd m c) (512 * t.val + ρ))
    (h0 : ∀ ρ l, grd m c ρ = (fun _ => 0) → f' (prj m c) (grd m c) ρ l = 0) (r l : ℕ) (hr : r < 16) :
    f (part (prj m c) t.val) (part (grd m c) t.val) (528 + r) l * nextOf t.val = f' (prj m c) (grd m c) (512 * t.val + (528 + r)) l := by
  have ht : t.val < 16 := t.isLt
  unfold nextOf
  split
  · rename_i h
    rw [mul_one, hf (part_all _ h 0) (part_all _ h 16) _ (by omega) (by omega)]
  · rw [mul_zero, h0 _ _ (ent_high _ (by omega))]

/-- What point `t` leaves: its rows of the projection's gradient, and its part of the sums added to the sums before it. -/
theorem step (h : Reals m c) (t : Fin cfg0.N) :
    (∀ y, (outsAt0 m c t.val t.isLt).1 y = up16 (gprj m c (16 + (512 * t.val + (y 0).val)) (y 1).val)) ∧
    (t.val % 16 = 0 → (∀ y, (outsAt0 m c t.val t.isLt).2.1 y = up32 (∑ r ∈ Finset.range 512, gcw m c (y 0).val (y 1).val (512 * t.val + r))) ∧
      (∀ y, (outsAt0 m c t.val t.isLt).2.2.1 y = up32 (∑ r ∈ Finset.range 512, gpw m c (y 1).val (64 * (y 0).val + (y 2).val) (y 3).val (512 * t.val + r))) ∧
      ∀ y, (outsAt0 m c t.val t.isLt).2.2.2 y = up32 (∑ r ∈ Finset.range 512, gps m c (y 1).val (512 * t.val + r))) ∧
    (¬t.val % 16 = 0 → ∀ (C19 : ℕ → ℕ → ℝ) (C20 : ℕ → ℕ → ℕ → ℝ) (C21 : ℕ → ℝ),
      At2 (n := 3) (m := 1024) (outsAt0 m c (t.val - 1) (Nat.lt_of_le_of_lt (Nat.sub_le _ _) t.isLt)).2.1 C19 →
      At4 (outsAt0 m c (t.val - 1) (Nat.lt_of_le_of_lt (Nat.sub_le _ _) t.isLt)).2.2.1 C20 →
      At2 (n := 1) (m := 1024) (outsAt0 m c (t.val - 1) (Nat.lt_of_le_of_lt (Nat.sub_le _ _) t.isLt)).2.2.2 (fun _ l => C21 l) →
      (∀ y, (outsAt0 m c t.val t.isLt).2.1 y = up32 (C19 (y 0).val (y 1).val + ∑ r ∈ Finset.range 512, gcw m c (y 0).val (y 1).val (512 * t.val + r))) ∧
      (∀ y, (outsAt0 m c t.val t.isLt).2.2.1 y = up32 (C20 (y 1).val (64 * (y 0).val + (y 2).val) (y 3).val +
        ∑ r ∈ Finset.range 512, gpw m c (y 1).val (64 * (y 0).val + (y 2).val) (y 3).val (512 * t.val + r))) ∧
      ∀ y, (outsAt0 m c t.val t.isLt).2.2.2 y = up32 (C21 (y 1).val + ∑ r ∈ Finset.range 512, gps m c (y 1).val (512 * t.val + r))) := by
  have hP := fun lo => part_mid (prj m c) t.val lo
  have hG := fun lo => part_mid (grd m c) t.val lo
  have b := block m c t (DD := fun ρ => gcv m c (512 * t.val + ρ)) (DP := fun g ρ => gwn m c g (512 * t.val + ρ)) (rows m c h t) (512 * t.val)
    (by rw [coords_val])
    (fun r l hr _ => by rw [dconv_part (hP 0) (hG 16) (by omega) (by omega)]; rfl)
    (fun r l hr _ => next_part m c t (fun P G => dconv P G (cwt m c)) (fun P G => dconv P G (cwt m c))
      (fun hP hG ρ h0 h1 => dconv_part hP hG h0 h1) (fun ρ l h => dconv_zero h l) r l hr)
    (fun g r l hg hr _ => by rw [dpn_part (hP 0) (hG 16) hg (by omega) (by omega)]; rfl)
    (fun g r l hg hr _ => next_part m c t (fun P G => dpn P G (pwt m c) (psc m c) (512 * t.val) g) (fun P G => dpn P G (pwt m c) (psc m c) 0 g)
      (fun hP hG ρ h0 h1 => dpn_part hP hG hg h0 h1) (fun ρ l h => dpn_zero h l) r l hr)
  have eW : ∀ a l, a < 3 → gradW (part (prj m c) t.val) (fun ρ => gcv m c (512 * t.val + ρ)) a l = ∑ r ∈ Finset.range 512, gcw m c a l (512 * t.val + r) :=
    fun a l ha => Finset.sum_congr rfl fun r hr => by
      have := Finset.mem_range.mp hr
      show gcv m c (512 * t.val + (16 + r)) l * cu (part (prj m c) t.val) (14 + a + r) l = _
      rw [cu_part (hP 0) (by omega), gcw, show 512 * t.val + (14 + a + r) = 14 + a + (512 * t.val + r) by omega,
        show 512 * t.val + (16 + r) = 16 + (512 * t.val + r) by omega]
  have eM : ∀ g k l, g < 4 → gradM (part (prj m c) t.val) (part (grd m c) t.val) (pwt m c) (psc m c) (512 * t.val) g k l =
      ∑ r ∈ Finset.range 512, gpw m c g k l (512 * t.val + r) := fun g k l hg => Finset.sum_congr rfl fun r hr => by
    have := Finset.mem_range.mp hr
    rw [dmat_part (hP 0) (hG 16) hg (by omega) (by omega), gpw, show 512 * t.val + (16 + r) = 16 + (512 * t.val + r) by omega]
  have eS : ∀ j, j < 1024 → gradS (part (prj m c) t.val) (part (grd m c) t.val) (pwt m c) (512 * t.val) j =
      ∑ r ∈ Finset.range 512, gps m c j (512 * t.val + r) := fun j hj => Finset.sum_congr rfl fun r hr => by
    have := Finset.mem_range.mp hr
    rw [dsc_part (hP 0) (hG 16) (by omega) (by omega) (by omega), gps, show 512 * t.val + (16 + r) = 16 + (512 * t.val + r) by omega]
  obtain ⟨b0, b1, b2⟩ := b
  refine ⟨fun y => ?_, fun h0 => ?_, fun h0 C19 C20 C21 h19 h20 h21 => ?_⟩
  · exact (b0 y).trans (congrArg up16 (dprj_part (hP 0) (hG 16) (y 0).isLt (y 1).isLt))
  · obtain ⟨c0, c1, c2⟩ := b1 h0
    exact ⟨fun y => (c0 y).trans (congrArg up32 (eW _ _ (y 0).isLt)), fun y => (c1 y).trans (congrArg up32 (eM _ _ _ (y 1).isLt)),
      fun y => (c2 y).trans (congrArg up32 (eS _ (y 1).isLt))⟩
  · obtain ⟨c0, c1, c2⟩ := b2 h0 C19 C20 C21 h19 h20 h21
    exact ⟨fun y => (c0 y).trans (congrArg (fun x => up32 (_ + x)) (eW _ _ (y 0).isLt)),
      fun y => (c1 y).trans (congrArg (fun x => up32 (_ + x)) (eM _ _ _ (y 1).isLt)), fun y => (c2 y).trans (congrArg (fun x => up32 (_ + x)) (eS _ (y 1).isLt))⟩

theorem sum_first (f : ℕ → ℝ) : ∑ r ∈ Finset.range 512, f (512 * 0 + r) = ∑ τ ∈ Finset.range (512 * (0 + 1)), f τ := by
  rw [sum_step, Nat.mul_zero, Finset.sum_range_zero, zero_add]

/-- What point `t` leaves in the four arrays. -/
theorem outs (h : Reals m c) : ∀ (t : ℕ) (ht : t < cfg0.N),
    (∀ y, (outsAt0 m c t ht).1 y = up16 (gprj m c (16 + (512 * t + (y 0).val)) (y 1).val)) ∧
    At2 (n := 3) (m := 1024) (outsAt0 m c t ht).2.1 (fun a l => ∑ τ ∈ Finset.range (512 * (t + 1)), gcw m c a l τ) ∧
    At4 (outsAt0 m c t ht).2.2.1 (fun g k l => ∑ τ ∈ Finset.range (512 * (t + 1)), gpw m c g k l τ) ∧
    At2 (n := 1) (m := 1024) (outsAt0 m c t ht).2.2.2 (fun _ l => ∑ τ ∈ Finset.range (512 * (t + 1)), gps m c l τ)
  | 0, ht => by
    obtain ⟨b0, b1, -⟩ := step m c h ⟨0, ht⟩
    obtain ⟨c0, c1, c2⟩ := b1 rfl
    refine ⟨b0, fun y => (c0 y).trans (congrArg up32 ?_), fun y => (c1 y).trans (congrArg up32 ?_), fun y => (c2 y).trans (congrArg up32 ?_)⟩ <;>
    · exact sum_first _
  | t + 1, ht => by
    obtain ⟨-, p1, p2, p3⟩ := outs h t (Nat.lt_of_succ_lt ht)
    obtain ⟨b0, -, b2⟩ := step m c h ⟨t + 1, ht⟩
    have h16 : t + 1 < 16 := ht
    obtain ⟨c0, c1, c2⟩ := b2 (by show ¬(t + 1) % 16 = 0; omega) _ _ _ p1 p2 p3
    refine ⟨b0, fun y => (c0 y).trans (congrArg up32 ?_), fun y => (c1 y).trans (congrArg up32 ?_), fun y => (c2 y).trans (congrArg up32 ?_)⟩ <;>
    · exact (sum_step _ (t + 1)).symm

end Cert.Mix
-- ==== Proof.Val.Bounds.lean ====
module

public import proofs.«01_k».proof.Proof.Val.Entries
public import Idealize.ShloMosaic.Lib.Tactic

@[expose] public section

/-! Numbers less than infinity in size are real. -/

namespace Cert.Mix

open Idealize.ShloMosaic Idealize.ShloMosaic.TcCoe

theorem ofBits_inf : (FloatOps.ofBits .f32 0x7F800000#32 : Ideal .f32) = (⊤ : EReal) := by
  show Ideal.ofBits .f32 0x7F800000#32 = _
  simp [Ideal.ofBits, Ideal.ieee]

theorem isReal_of {s : Shape} {X B : FVec Ideal s .f32} (hB : ∀ i, B i = (⊤ : EReal))
    (h : cmpf .olt (Host.absf X) B = fun _ => 1#1) : IsReal X := fun i => by
  have hi : Ideal.cmp .olt (max (X i : EReal) (-(X i : EReal))) (B i) = 1#1 := congrFun h i
  rw [hB] at hi
  have lt : max (X i : EReal) (-(X i : EReal)) < ⊤ := by
    by_contra hc
    simp [Ideal.cmp, hc] at hi
  refine (EReal.coe_toReal (fun e => ?_) fun e => ?_).symm
  · rw [e] at lt
    simp at lt
  · rw [e] at lt
    simp at lt

end Cert.Mix
-- ==== Proof.Val.Finite.lean ====
module

public import proofs.«01_k».proof.Defs
public import proofs.«01_k».proof.Proof.Val.Whole
public import proofs.«01_k».proof.Proof.Val.Bounds

@[expose] public section

/-! Arguments less than infinity in size are real numbers. -/

namespace Cert.Mix

open Idealize.ShloMosaic Idealize.ShloMosaic.TcCoe

theorem pre_facts : Cert.Pre_finite.Facts where
  bcast_S_S8192x4096 := by decide
  bcast_S_S8192x2048 := by decide
  bcast_S_S3x1024 := by decide
  bcast_S_S4x4x64x256 := by decide
  bcast_S_S1x1024 := by decide

/-- The precondition gives real arguments. -/
theorem reals_of {m : (ℓ : Loc Cert.KernelIdeal.nD Cert.KernelIdeal.τ Cert.KernelIdeal.sig) → Idealize.ShloMosaic.Buf (Elt Ideal) ℓ}
    (h : Cert.Pre_KernelIdeal_finite (hPre_finite := pre_facts) m) (c : Dev Cert.KernelIdeal.nD) : Reals m c where
  a0 := isReal_of (B := fun _ => FloatOps.ofBits .f32 0x7F800000#32) (fun _ => ofBits_inf) (h c).1
  a1 := isReal_of (B := fun _ => FloatOps.ofBits .f32 0x7F800000#32) (fun _ => ofBits_inf) (h c).2.1
  a2 := isReal_of (B := fun _ => FloatOps.ofBits .f32 0x7F800000#32) (fun _ => ofBits_inf) (h c).2.2.1
  a3 := isReal_of (B := fun _ => FloatOps.ofBits .f32 0x7F800000#32) (fun _ => ofBits_inf) (h c).2.2.2.1
  a4 := isReal_of (B := fun _ => FloatOps.ofBits .f32 0x7F800000#32) (fun _ => ofBits_inf) (h c).2.2.2.2

end Cert.Mix
-- ==== Proof.Val.Arrays.lean ====
module

public import proofs.«01_k».proof.Proof.Val.Whole
public import proofs.«01_k».proof.Proof.Gen.KernelIdeal.Value

@[expose] public section

set_option maxRecDepth 16384

/-! What the kernel's four result arrays hold at the end. -/

namespace Cert.Mix

open Idealize.ShloMosaic Idealize.ShloMosaic.TcCoe Cert.KernelIdeal Cert.KernelIdeal.Gen

variable (m : (ℓ : Loc nD τ sig) → Idealize.ShloMosaic.Buf (Elt Ideal) ℓ) (c : Dev nD)

/-- The gradient of the projection. -/
theorem arr18 (h : Reals m c) : (dats m 0 c).arrAt 18 cfg0.N = fun i => up16 (gprj m c (16 + (i 0).val) (i 1).val) := by
  refine (dats m 0 c).arrAt_eq_of_covers 18 _ (by decide +kernel) fun t hf y => ?_
  blk_simp [idx t]
  rw [after0_18]
  refine ((outs m c h t.val t.isLt).1 _).trans ?_
  rw [Nat.mul_comm 512 t.val]

/-- The gradient of the convolution's weights. -/
theorem arr19 (h : Reals m c) : (dats m 0 c).arrAt 19 cfg0.N = fun i => up32 (∑ τ ∈ Finset.range 8192, gcw m c (i 0).val (i 1).val τ) := by
  refine (dats m 0 c).arrAt_eq_of_after_last 19 t0_15 (by decide +kernel) _ fun j => ?_
  blk_simp
  rw [after0_19]
  exact (outs m c h 15 t0_15.isLt).2.1 j

/-- The gradient of the pool's matrices. -/
theorem arr20 (h : Reals m c) : (dats m 0 c).arrAt 20 cfg0.N = fun i =>
    up32 (∑ τ ∈ Finset.range 8192, gpw m c (i 1).val (64 * (i 0).val + (i 2).val) (i 3).val τ) := by
  refine (dats m 0 c).arrAt_eq_of_after_last 20 t0_15 (by decide +kernel) _ fun j => ?_
  blk_simp
  rw [after0_20]
  exact (outs m c h 15 t0_15.isLt).2.2.1 j

/-- The gradient of the pool's scale. -/
theorem arr21 (h : Reals m c) : (dats m 0 c).arrAt 21 cfg0.N = fun i => up32 (∑ τ ∈ Finset.range 8192, gps m c (i 1).val τ) := by
  refine (dats m 0 c).arrAt_eq_of_after_last 21 t0_15 (by decide +kernel) _ fun j => ?_
  blk_simp
  rw [after0_21]
  exact (outs m c h 15 t0_15.isLt).2.2.2 j

end Cert.Mix
-- ==== Proof.Val.Host.lean ====
module

public import proofs.«01_k».proof.Proof.Val.Norm
public import Idealize.ShloMosaic.Lib.KernelVsHost

@[expose] public section

/-! Arrays of real numbers under the host's operations. -/

namespace Cert.Mix

open Idealize.ShloMosaic

variable {s : Shape} {φ : FTy}

/-- The array `x` holds the real number `f i` at the index `i`. -/
def Is (x : s.Idx → EReal) (f : s.Idx → ℝ) : Prop := ∀ i, x i = ((f i : ℝ) : EReal)

/-- The array `x` of rank three holds the real number `f a b c` at the index with these coordinates. -/
def At3 {n m k : ℕ} (x : (⟨3, ![n, m, k]⟩ : Shape).Idx → EReal) (f : ℕ → ℕ → ℕ → ℝ) : Prop :=
  ∀ y : (⟨3, ![n, m, k]⟩ : Shape).Idx, x y = ((f (y 0).val (y 1).val (y 2).val : ℝ) : EReal)

theorem bound2 {n m : ℕ} (i : (⟨2, ![n, m]⟩ : Shape).Idx) : (i 0).val < n ∧ (i 1).val < m := ⟨(i 0).isLt, (i 1).isLt⟩

theorem bound3 {n m k : ℕ} (i : (⟨3, ![n, m, k]⟩ : Shape).Idx) : (i 0).val < n ∧ (i 1).val < m ∧ (i 2).val < k :=
  ⟨(i 0).isLt, (i 1).isLt, (i 2).isLt⟩

theorem At3.congr {n m k : ℕ} {x : (⟨3, ![n, m, k]⟩ : Shape).Idx → EReal} {f g : ℕ → ℕ → ℕ → ℝ} (hx : At3 x f)
    (h : ∀ a b c, a < n → b < m → c < k → f a b c = g a b c) : At3 x g := fun y => by
  rw [hx y, h _ _ _ (y 0).isLt (y 1).isLt (y 2).isLt]

theorem Is.congr {x : s.Idx → EReal} {f g : s.Idx → ℝ} (hx : Is x f) (h : ∀ i, f i = g i) : Is x g := fun i => by
  rw [hx i, h i]

/-- An array read from another at a moved index. -/
theorem Is.map {t : Shape} {x : s.Idx → EReal} {f : s.Idx → ℝ} (hx : Is x f) {w : t.Idx → EReal} {idx : t.Idx → s.Idx}
    (e : ∀ i, w i = x (idx i)) : Is w fun i => f (idx i) := fun i => (e i).trans (hx _)

theorem Is.mul {x y : FVec Ideal s φ} {f g : s.Idx → ℝ} (hx : Is x f) (hy : Is y g) : Is (mulf x y) fun i => f i * g i := fun i => by
  show x i * y i = _
  rw [hx i, hy i, EReal.coe_mul]

theorem Is.add {x y : FVec Ideal s φ} {f g : s.Idx → ℝ} (hx : Is x f) (hy : Is y g) : Is (addf x y) fun i => f i + g i := fun i => by
  show x i + y i = _
  rw [hx i, hy i, EReal.coe_add]

theorem Is.sub {x y : FVec Ideal s φ} {f g : s.Idx → ℝ} (hx : Is x f) (hy : Is y g) : Is (subf x y) fun i => f i - g i := fun i => by
  show x i - y i = _
  rw [hx i, hy i, EReal.coe_sub]

theorem Is.min {x y : FVec Ideal s φ} {f g : s.Idx → ℝ} (hx : Is x f) (hy : Is y g) : Is (minimumf x y) fun i => Min.min (f i) (g i) :=
  fun i => by
  show Min.min (x i) (y i) = _
  rw [hx i, hy i, ← EReal.coe_strictMono.monotone.map_min]

theorem Is.div {x y : FVec Ideal s φ} {f g : s.Idx → ℝ} (hx : Is x f) (hy : Is y g) (h : ∀ i, g i ≠ 0) :
    Is (Host.divf x y) fun i => f i / g i := fun i => by
  show Ideal.div (x i) (y i) = _
  rw [hx i, hy i, Ideal.div_coe (h _), ← EReal.coe_mul, mul_one_div]

theorem Is.rsqrt {x : FVec Ideal s φ} {f : s.Idx → ℝ} (hx : Is x f) (h : ∀ i, 0 < f i) :
    Is (Host.rsqrt x) fun i => (Real.sqrt (f i))⁻¹ := fun i => by
  show Ideal.rsqrt (x i) = _
  rw [hx i, Ideal.rsqrt_coe, if_neg (not_lt.mpr (h _).le), if_neg (h _).ne']

theorem Is.neg {x : FVec Ideal s φ} {f : s.Idx → ℝ} (hx : Is x f) : Is (Host.negf x) fun i => -f i := fun i => by
  show -(x i) = _
  rw [hx i, EReal.coe_neg]

/-- A sum along an axis, from an initial value of zero. -/
theorem Is.sum {t : Shape} {n : ℕ} {x : s.Idx → EReal} {f : s.Idx → ℝ} (hx : Is x f) {w : t.Idx → EReal} {v : EReal}
    (hv : v = ((0 : ℝ) : EReal)) {idx : t.Idx → Fin n → s.Idx} (e : ∀ i, w i = v + ∑ k, x (idx i k)) :
    Is w fun i => ∑ k, f (idx i k) := fun i => by
  rw [e, hv, EReal.coe_zero, zero_add, Finset.sum_congr rfl fun k _ => hx (idx i k)]
  beta_reduce
  induction (Finset.univ : Finset (Fin n)) using Finset.cons_induction with
  | empty => simp
  | cons a t h ih => rw [Finset.sum_cons, Finset.sum_cons, ih, EReal.coe_add]

/-- A product summed along an axis. -/
theorem Is.dot {t r : Shape} {n : ℕ} {x : s.Idx → EReal} {y : r.Idx → EReal} {f : s.Idx → ℝ} {g : r.Idx → ℝ} (hx : Is x f) (hy : Is y g)
    {w : t.Idx → EReal} {lidx : t.Idx → Fin n → s.Idx} {ridx : t.Idx → Fin n → r.Idx} (e : ∀ i, w i = ∑ k, x (lidx i k) * y (ridx i k)) :
    Is w fun i => ∑ k, f (lidx i k) * g (ridx i k) := fun i => by
  rw [e, Finset.sum_congr rfl fun k _ => by rw [hx (lidx i k), hy (ridx i k), ← EReal.coe_mul]]
  beta_reduce
  induction (Finset.univ : Finset (Fin n)) using Finset.cons_induction with
  | empty => simp
  | cons a t h ih => rw [Finset.sum_cons, Finset.sum_cons, ih, EReal.coe_add]

theorem ofBits_zero : (FloatOps.ofBits .f32 0x00000000#32 : Ideal .f32) = (0 : ℝ) := by
  show Ideal.ofBits .f32 0x00000000#32 = _
  simp [Ideal.ofBits, Ideal.ieee, -EReal.coe_mul]

theorem ofBits_mhalf : (FloatOps.ofBits .f32 0xBF000000#32 : Ideal .f32) = ((-(1 / 2) : ℝ) : EReal) := by
  show Ideal.ofBits .f32 0xBF000000#32 = _
  simp [Ideal.ofBits, Ideal.ieee, -EReal.coe_mul]; norm_num

/-- Rows put between `lo` and `hi` rows of zeros. -/
theorem At2.padRows {n n' m : ℕ} {x : FVec Ideal ⟨2, ![n, m]⟩ φ} {f : ℕ → ℕ → ℝ} (hx : At2 x f) {lo hi : ℕ} {u : Shape} {v : FVec Ideal u φ} (hu : 0 < u.numel)
    (hv : v (Shape.Idx.first hu) = ((0 : ℝ) : EReal))
    (h : (⟨2, ![n, m]⟩ : Shape).Pads ![lo, 0] ![hi, 0] ![0, 0] ⟨2, ![n', m]⟩) :
    At2 (pad ⟨2, ![n', m]⟩ ![lo, 0] ![hi, 0] ![0, 0] x v h hu) fun r l => if lo ≤ r ∧ r - lo < n then f (r - lo) l else 0 := fun j => by
  have hj := bound2 j
  beta_reduce
  split
  · rename_i hin
    rw [pad_apply_of_inside _ _ _ x v h hu j (fun a => match a with
      | ⟨0, _⟩ => ⟨(j 0).val - lo, hin.2⟩
      | ⟨1, _⟩ => ⟨(j 1).val, hj.2⟩) (fun a => match a with
      | ⟨0, _⟩ => by show (j 0).val = lo + ((j 0).val - lo) * 1; omega
      | ⟨1, _⟩ => by show (j 1).val = 0 + (j 1).val * 1; omega)]
    exact hx _
  · rename_i hin
    rw [pad_apply_of_not_inside _ _ _ x v h hu j 0 (fun hc => hin ⟨hc.1, by
      have h2 : ((j 0).val - lo) / 1 < n := hc.2.2
      rwa [Nat.div_one] at h2⟩)]
    exact hv

/-- One member of a family of `n'` arrays, the others zero. -/
theorem At3.padMid {n n' m : ℕ} {x : FVec Ideal ⟨3, ![n, 1, m]⟩ φ} {f : ℕ → ℕ → ℕ → ℝ} (hx : At3 x f) {lo hi : ℕ} {u : Shape} {v : FVec Ideal u φ} (hu : 0 < u.numel)
    (hv : v (Shape.Idx.first hu) = ((0 : ℝ) : EReal))
    (h : (⟨3, ![n, 1, m]⟩ : Shape).Pads ![0, lo, 0] ![0, hi, 0] ![0, 0, 0] ⟨3, ![n, n', m]⟩) :
    At3 (pad ⟨3, ![n, n', m]⟩ ![0, lo, 0] ![0, hi, 0] ![0, 0, 0] x v h hu) fun r g l => if g = lo then f r 0 l else 0 := fun j => by
  have hj := bound3 j
  beta_reduce
  split
  · rename_i hin
    rw [pad_apply_of_inside _ _ _ x v h hu j (fun a => match a with
      | ⟨0, _⟩ => ⟨(j 0).val, hj.1⟩
      | ⟨1, _⟩ => ⟨0, Nat.one_pos⟩
      | ⟨2, _⟩ => ⟨(j 2).val, hj.2.2⟩) (fun a => match a with
      | ⟨0, _⟩ => by show (j 0).val = 0 + (j 0).val * 1; omega
      | ⟨1, _⟩ => by show (j 1).val = lo + 0 * 1; omega
      | ⟨2, _⟩ => by show (j 2).val = 0 + (j 2).val * 1; omega)]
    exact hx _
  · rename_i hin
    rw [pad_apply_of_not_inside _ _ _ x v h hu j 1 (fun hc => hin (by
      have h1 : lo ≤ (j 1).val := hc.1
      have h2 : ((j 1).val - lo) / 1 < 1 := hc.2.2
      omega))]
    exact hv

/-- An array below `w` rows of zeros. -/
theorem At2.below {w n n' m : ℕ} {z : FVec Ideal ⟨2, ![w, m]⟩ φ} {x : FVec Ideal ⟨2, ![n, m]⟩ φ} {f : ℕ → ℕ → ℝ} (hz : At2 z fun _ _ => 0) (hx : At2 x f)
    (h : Shape.Concatenates [(⟨2, ![w, m]⟩ : Shape), ⟨2, ![n, m]⟩] ⟨2, ![n', m]⟩ 0) (hn : n' = w + n) :
    At2 (concatenate ⟨2, ![n', m]⟩ 0 [⟨⟨2, ![w, m]⟩, z⟩, ⟨⟨2, ![n, m]⟩, x⟩] h) fun r l => if r < w then 0 else f (r - w) l := fun j => by
  have hj := bound2 j
  beta_reduce
  split
  · rename_i hin
    rw [concatenate_pair_apply_left 0 z x h j rfl (fun a => match a with
      | ⟨0, _⟩ => ⟨(j 0).val, hin⟩
      | ⟨1, _⟩ => ⟨(j 1).val, hj.2⟩) (fun a => match a with
      | ⟨0, _⟩ => rfl
      | ⟨1, _⟩ => rfl)]
    exact hz _
  · rename_i hin
    rw [concatenate_pair_apply_right 0 z x h j rfl rfl (fun a => match a with
      | ⟨0, _⟩ => ⟨(j 0).val - w, by show (j 0).val - w < n; omega⟩
      | ⟨1, _⟩ => ⟨(j 1).val, hj.2⟩) (fun a ha => match a with
      | ⟨0, _⟩ => absurd rfl ha
      | ⟨1, _⟩ => rfl) (by show (j 0).val - w + w = (j 0).val; omega)]
    exact hx _

/-- The host's sum over a window as a fold. -/
theorem foldl_add {N : ℕ} (L : List (Fin N)) (g : Fin N → EReal) (b : Fin N → ℝ) (hg : ∀ n, g n = (b n : EReal)) (v : ℝ) :
    L.foldl (fun r n => r + g n) (v : EReal) = ((v + (L.map b).sum : ℝ) : EReal) := by
  induction L generalizing v with
  | nil => simp
  | cons a L ih => rw [List.foldl_cons, hg, ← EReal.coe_add, ih, List.map_cons, List.sum_cons, add_assoc]

/-- A sum over a window of `N` successive rows of which those outside the array count as zero. -/
theorem At3.window {N n m k : ℕ} {x : FVec Ideal ⟨3, ![n, m, k]⟩ φ} {f : ℕ → ℕ → ℕ → ℝ} (hx : At3 x f) {lo hi : ℕ} {u : Shape} {v : FVec Ideal u φ} (hu : 0 < u.numel)
    (hv : v (Shape.Idx.first hu) = ((0 : ℝ) : EReal))
    (h : (⟨3, ![n, m, k]⟩ : Shape).ReduceWindows ![N, 1, 1] ![1, 1, 1] ![lo, 0, 0] ![hi, 0, 0] ⟨3, ![n, m, k]⟩) :
    At3 (Host.reduceWindowAdd ![N, 1, 1] ![1, 1, 1] ![lo, 0, 0] ![hi, 0, 0] x v h hu)
      fun r g l => ∑ q ∈ Finset.range N, if lo ≤ r + q ∧ r + q - lo < n then f (r + q - lo) g l else 0 := fun j => by
  have hj := bound3 j
  have hN : (⟨3, ![N, 1, 1]⟩ : Shape).numel = N := by
    show ∏ a : Fin 3, (![N, 1, 1] : Fin 3 → ℕ) a = N
    rw [Fin.prod_univ_three]
    show N * 1 * 1 = N
    omega
  have hq : ∀ q : Fin (⟨3, ![N, 1, 1]⟩ : Shape).numel, ((⟨3, ![N, 1, 1]⟩ : Shape).rowMajor.symm q 0).val = q.val ∧
      ((⟨3, ![N, 1, 1]⟩ : Shape).rowMajor.symm q 1).val = 0 ∧ ((⟨3, ![N, 1, 1]⟩ : Shape).rowMajor.symm q 2).val = 0 := fun q => by
    have e := Shape.rowMajor_val_three ((⟨3, ![N, 1, 1]⟩ : Shape).rowMajor.symm q)
    rw [Equiv.apply_symm_apply] at e
    have hb := bound3 ((⟨3, ![N, 1, 1]⟩ : Shape).rowMajor.symm q)
    have e' : q.val = (((⟨3, ![N, 1, 1]⟩ : Shape).rowMajor.symm q 0).val * 1 + ((⟨3, ![N, 1, 1]⟩ : Shape).rowMajor.symm q 1).val) * 1 +
      ((⟨3, ![N, 1, 1]⟩ : Shape).rowMajor.symm q 2).val := e
    omega
  show List.foldl _ (v (Shape.Idx.first hu)) _ = _
  rw [hv]
  refine (foldl_add _ _ (fun q => if lo ≤ (j 0).val + q.val ∧ (j 0).val + q.val - lo < n then f ((j 0).val + q.val - lo) (j 1).val (j 2).val else 0)
    (fun q => ?_) 0).trans ?_
  · obtain ⟨q0, q1, q2⟩ := hq q
    by_cases hin : lo ≤ (j 0).val + q.val ∧ (j 0).val + q.val - lo < n
    · rw [if_pos hin, dif_pos (fun a => match a with
        | ⟨0, _⟩ => by
          show lo ≤ (j 0).val * 1 + ((⟨3, ![N, 1, 1]⟩ : Shape).rowMajor.symm q 0).val ∧ (j 0).val * 1 + ((⟨3, ![N, 1, 1]⟩ : Shape).rowMajor.symm q 0).val - lo < n
          rw [q0, Nat.mul_one]; exact hin
        | ⟨1, _⟩ => by
          show 0 ≤ (j 1).val * 1 + ((⟨3, ![N, 1, 1]⟩ : Shape).rowMajor.symm q 1).val ∧ (j 1).val * 1 + ((⟨3, ![N, 1, 1]⟩ : Shape).rowMajor.symm q 1).val - 0 < m
          rw [q1]; omega
        | ⟨2, _⟩ => by
          show 0 ≤ (j 2).val * 1 + ((⟨3, ![N, 1, 1]⟩ : Shape).rowMajor.symm q 2).val ∧ (j 2).val * 1 + ((⟨3, ![N, 1, 1]⟩ : Shape).rowMajor.symm q 2).val - 0 < k
          rw [q2]; omega)]
      refine (hx _).trans ?_
      show ((f ((j 0).val * 1 + ((⟨3, ![N, 1, 1]⟩ : Shape).rowMajor.symm q 0).val - lo) ((j 1).val * 1 + ((⟨3, ![N, 1, 1]⟩ : Shape).rowMajor.symm q 1).val - 0)
        ((j 2).val * 1 + ((⟨3, ![N, 1, 1]⟩ : Shape).rowMajor.symm q 2).val - 0) : ℝ) : EReal) = _
      rw [q0, q1, q2]
      simp only [Nat.mul_one, Nat.add_zero, Nat.sub_zero]
    · rw [if_neg hin, dif_neg (fun hc => hin (by
        have h0 : lo ≤ (j 0).val * 1 + ((⟨3, ![N, 1, 1]⟩ : Shape).rowMajor.symm q 0).val ∧
          (j 0).val * 1 + ((⟨3, ![N, 1, 1]⟩ : Shape).rowMajor.symm q 0).val - lo < n := hc 0
        rw [q0, Nat.mul_one] at h0; exact h0))]
  · refine congrArg _ ?_
    rw [zero_add, ← Fin.sum_univ_def]
    refine (Fin.sum_univ_eq_sum_range (fun q => if lo ≤ (j 0).val + q ∧ (j 0).val + q - lo < n then f ((j 0).val + q - lo) (j 1).val (j 2).val else 0) _).trans ?_
    rw [hN]

/-- The running sum from the first row. -/
theorem prefix_sum {N : ℕ} (f : ℕ → ℝ) {t : ℕ} (ht : t < N + 1) :
    (∑ q ∈ Finset.range (N + 1), if N ≤ t + q ∧ t + q - N < N + 1 then f (t + q - N) else 0) = ∑ k ∈ Finset.range (t + 1), f k := by
  have e : N + 1 = (N - t) + (t + 1) := by omega
  conv_lhs => rw [e]
  rw [Finset.sum_range_add, Finset.sum_eq_zero (fun q hq => if_neg (by have := Finset.mem_range.mp hq; omega)), zero_add]
  refine Finset.sum_congr rfl fun k hk => ?_
  have := Finset.mem_range.mp hk
  rw [if_pos (by omega), show t + (N - t + k) - N = k by omega]

/-- The running sum to the last row. -/
theorem suffix_sum {N : ℕ} (f : ℕ → ℝ) {t : ℕ} (ht : t < N) :
    (∑ q ∈ Finset.range N, if 0 ≤ t + q ∧ t + q - 0 < N then f (t + q - 0) else 0) = ∑ k ∈ Finset.range (N - t), f (t + k) := by
  have e : N = (N - t) + t := by omega
  conv_lhs => rw [e]
  rw [Finset.sum_range_add, add_eq_left.mpr (Finset.sum_eq_zero (fun q hq => if_neg (by omega)))]
  refine Finset.sum_congr rfl fun k hk => ?_
  have := Finset.mem_range.mp hk
  rw [if_pos (by omega), Nat.sub_zero]

theorem ite_eq_left_of {c : Prop} [Decidable c] {a : ℝ} (h : ¬c → a = 0) : (if c then a else 0) = a := by
  split
  · rfl
  · exact (h ‹_›).symm

/-- The columns of a matrix in groups of `b`. -/
theorem split3 {n m a b : ℕ} {x : (⟨2, ![n, m]⟩ : Shape).Idx → EReal} {f : ℕ → ℕ → ℝ} (hx : At2 x f) {w : (⟨3, ![n, a, b]⟩ : Shape).Idx → EReal}
    {idx : (⟨3, ![n, a, b]⟩ : Shape).Idx → (⟨2, ![n, m]⟩ : Shape).Idx} (e : ∀ i, w i = x (idx i)) (h0 : ∀ i, (idx i 0).val = (i 0).val)
    (h1 : ∀ i, (idx i 1).val = b * (i 1).val + (i 2).val) : At3 w fun r g l => f r (b * g + l) := fun i => by
  rw [e, hx, h0, h1]

/-- Groups of `b` columns side by side. -/
theorem join3 {n m a b : ℕ} {x : (⟨3, ![n, a, b]⟩ : Shape).Idx → EReal} {f : ℕ → ℕ → ℕ → ℝ} (hx : At3 x f) {w : (⟨2, ![n, m]⟩ : Shape).Idx → EReal}
    {idx : (⟨2, ![n, m]⟩ : Shape).Idx → (⟨3, ![n, a, b]⟩ : Shape).Idx} (e : ∀ i, w i = x (idx i)) (h0 : ∀ i, (idx i 0).val = (i 0).val)
    (h1 : ∀ i, (idx i 1).val = (i 1).val / b) (h2 : ∀ i, (idx i 2).val = (i 1).val % b) : At2 w fun r j => f r (j / b) (j % b) := fun i => by
  rw [e, hx, h0, h1, h2]

/-- What the derivative of the mean square gives along `dy`. -/
noncomputable def nbq (n : ℕ) (x dy : ℕ → ℝ) : ℝ :=
  (∑ k ∈ Finset.range n, x k * dy k) * (-(1 / 2) * (rs n x / ((∑ k ∈ Finset.range n, x k * x k) / n + eps))) / n

/-- The norm's gradient term by term. -/
theorem nb_ref (n : ℕ) (x dy : ℕ → ℝ) (l : ℕ) : dy l * rs n x + x l * nbq n x dy + nbq n x dy * x l = nb n x dy l := by
  have hp := ms_pos n x
  have e : rs n x / ((∑ k ∈ Finset.range n, x k * x k) / n + eps) = rs n x * rs n x * rs n x := by
    have hs : ((∑ k ∈ Finset.range n, x k * x k) / n + eps)⁻¹ = rs n x * rs n x := by
      unfold rs
      rw [← mul_inv, Real.mul_self_sqrt hp.le]
    rw [div_eq_mul_inv, hs, mul_assoc]
  have e2 : ∑ k ∈ Finset.range n, dy k * (x k * rs n x) = (∑ k ∈ Finset.range n, x k * dy k) * rs n x := by
    rw [Finset.sum_mul]
    exact Finset.sum_congr rfl fun k _ => by ring
  unfold nbq nb
  rw [e, e2]
  ring

end Cert.Mix
-- ==== Proof.Val.RefPool.lean ====
module

public import proofs.«01_k».proof.Proof.Val.Host
public import proofs.«01_k».proof.Proof.Val.Spec
public import proofs.«01_k».proof.Proof.Gen.ReferenceIdeal.Read

@[expose] public section

set_option maxRecDepth 16384

/-! The reference's pooled rows: a window's sum is the difference of two running sums. -/

namespace Cert.Mix

open Idealize.ShloMosaic Cert.ReferenceIdeal Cert.ReferenceIdeal.Gen Cert.ReferenceIdeal.Read

/-- The sum of the first `n` tokens' entries of column `l` of group `g`. -/
noncomputable def run (P : ℕ → ℕ → ℝ) (g n l : ℕ) : ℝ := ∑ k ∈ Finset.range n, P (16 + k) (3072 + (256 * g + l))

theorem run_succ (P : ℕ → ℕ → ℝ) (g n l : ℕ) : run P g (n + 1) l = run P g n l + P (16 + n) (3072 + (256 * g + l)) := Finset.sum_range_succ _ _

/-- A window's sum is the difference of two running sums. -/
theorem window_run {P : ℕ → ℕ → ℝ} (low : ∀ ρ l, ρ < 16 → P ρ l = 0) (g t l w : ℕ) :
    ∑ k ∈ Finset.range w, P (16 + t - k) (3072 + (256 * g + l)) = run P g (t + 1) l - run P g (t + 1 - w) l := by
  induction w with
  | zero => simp
  | succ w ih =>
    rw [Finset.sum_range_succ, ih]
    by_cases hw : w ≤ t
    · rw [show t + 1 - w = (t - w) + 1 by omega, run_succ P g (t - w), show 16 + (t - w) = 16 + t - w by omega,
        show t + 1 - (w + 1) = t - w by omega]
      ring
    · rw [low _ _ (by omega), show t + 1 - w = 0 by omega, show t + 1 - (w + 1) = 0 by omega, add_zero]

variable {x0 : (⟨S8192x4096, .f32⟩ : BufTy).Contents (Elt Ideal)} {P : ℕ → ℕ → ℝ}
  (hp : At2 (n := 8192) (m := 4096) x0 fun r l => P (16 + r) l)

section
include hp

theorem r38 : At3 (n := 8192) (m := 4) (k := 256) (val_main_v38 (F := Ideal) x0) fun t g l => P (16 + t) (3072 + (256 * g + l)) :=
  split3 (f := fun r l => P (16 + r) (3072 + l)) (Is.congr (Is.map hp (val_main_v3_apply x0)) fun _ => rfl) (val_main_v38_apply x0)
    (fun i => by have := bound3 i; show (((i 0).val * 4 + (i 1).val) * 256 + (i 2).val) / 1024 = (i 0).val; omega)
    fun i => by have := bound3 i; show (((i 0).val * 4 + (i 1).val) * 256 + (i 2).val) % 1024 = 256 * (i 1).val + (i 2).val; omega

theorem r39 : At3 (n := 8192) (m := 4) (k := 256) (val_main_v39 (F := Ideal) x0) fun t g l => run P g (t + 1) l :=
  At3.congr (At3.window (φ := .f32) (v := val_main_call0_call0_v0 (F := Ideal)) (r38 hp) h_S_ ofBits_zero
    reduceWindows_S8192x4x256_S8192x4x256_w8192s1p8191_0_w1s1p0_0_w1s1p0_0) fun t g l ht _ _ =>
    prefix_sum (N := 8191) (fun k => P (16 + k) (3072 + (256 * g + l))) ht
end

theorem r42 : Is (val_main_v42 (F := Ideal)) fun i => 1 + ((i 0).val : ℝ) :=
  Is.add (φ := .f32) (f := fun _ => 1) (fun i => (val_main_v41_apply i).trans ofBits_one) fun i => by
    have hi : (i 0).val < 8192 := (i 0).isLt
    show (((BitVec.ofNat 32 (i 0).val).toInt : ℝ) : EReal) = _
    have e : (BitVec.ofNat 32 (i 0).val).toInt = ((i 0).val : ℕ) := by
      rw [BitVec.toInt_eq_toNat_of_lt]
      · simp only [BitVec.toNat_ofNat]
        omega
      · simp only [BitVec.toNat_ofNat]
        omega
    rw [e]
    push_cast
    rfl

/-- How many tokens there are in a window of width `w`. -/
theorem count {w : ℕ} {c : FVec Ideal S8192 .f32} {b : S8192x1.Idx → EReal} {d : S8192x256.Idx → EReal} (hc : ∀ i, c i = (((w : ℕ) : ℝ) : EReal))
    (e : ∀ i, b i = minimumf (val_main_v42 (F := Ideal)) c (idx_main_v51 i)) (e' : ∀ i, d i = b (idx_main_v53 i)) :
    At2 (n := 8192) (m := 256) d fun r _ => min (1 + (r : ℝ)) (w : ℝ) :=
  Is.congr (Is.map (Is.map (Is.min (φ := .f32) r42 (g := fun _ => (w : ℝ)) hc) e) e') fun _ => rfl

theorem count_ne (w r : ℕ) (hw : 0 < w) : min (1 + (r : ℝ)) (w : ℝ) ≠ 0 :=
  (lt_min (by positivity) (by exact_mod_cast hw)).ne'

/-- One group of a family of four matrices. -/
theorem pick {x : S8192x4x256.Idx → EReal} {f : ℕ → ℕ → ℕ → ℝ} (hx : At3 (n := 8192) (m := 4) (k := 256) x f) {y : S8192x1x256.Idx → EReal} {z : S8192x256.Idx → EReal}
    {idx : S8192x1x256.Idx → S8192x4x256.Idx} (e1 : ∀ i, y i = x (idx i)) (e2 : ∀ i, z i = y (idx_main_v44 i)) (g : ℕ)
    (h0 : ∀ i, (idx i 0).val = (i 0).val) (h1 : ∀ i, (i 1).val = 0 → (idx i 1).val = g) (h2 : ∀ i, (idx i 2).val = (i 2).val) :
    At2 (n := 8192) (m := 256) z fun r l => f r g l := fun i => by
  have hi := bound2 i
  have a0 : (idx_main_v44 i 0).val = (i 0).val := by show ((i 0).val * 256 + (i 1).val) / 256 = _; omega
  have a2 : (idx_main_v44 i 2).val = (i 1).val := by show ((i 0).val * 256 + (i 1).val) % 256 = _; omega
  rw [e2, e1, hx, h0, h1 _ rfl, h2, a0, a2]

/-- A group's window means less the tokens. -/
theorem group {g w n : ℕ} (low : ∀ ρ l, ρ < 16 → P ρ l = 0) (hw : wd g = w) (hw' : 0 < w) (hn : 8192 = w + n)
    {c b o : FVec Ideal S8192x256 .f32} {z : FVec Ideal ⟨2, ![w, 256]⟩ .f32} {p : FVec Ideal ⟨2, ![n, 256]⟩ .f32}
    (hc : At2 (n := 8192) (m := 256) c fun r l => run P g (r + 1) l) (ho : At2 (n := 8192) (m := 256) o fun r l => P (16 + r) (3072 + (256 * g + l)))
    (hb : At2 (n := 8192) (m := 256) b fun r _ => min (1 + (r : ℝ)) (w : ℝ)) (hz : At2 z fun _ _ => 0) (hp : At2 p fun r l => run P g (r + 1) l)
    (h : Shape.Concatenates [(⟨2, ![w, 256]⟩ : Shape), ⟨2, ![n, 256]⟩] S8192x256 0) :
    At2 (n := 8192) (m := 256) (subf (Host.divf (subf c (concatenate S8192x256 0 [⟨⟨2, ![w, 256]⟩, z⟩, ⟨⟨2, ![n, 256]⟩, p⟩] h)) b) o)
      fun r l => pooled P 0 g (16 + r) l := by
  refine Is.congr (Is.sub (φ := .f32) (Is.div (φ := .f32) (Is.sub (φ := .f32) hc (At2.below hz hp h hn)) hb fun i => count_ne _ _ hw') ho) fun i => ?_
  have e : (if (i 0).val < w then 0 else run P g ((i 0).val - w + 1) (i 1).val) = run P g ((i 0).val + 1 - w) (i 1).val := by
    split
    · rw [show (i 0).val + 1 - w = 0 by omega, run, Finset.sum_range_zero]
    · rw [show (i 0).val - w + 1 = (i 0).val + 1 - w by omega]
  show (run P g ((i 0).val + 1) (i 1).val - (if (i 0).val < w then 0 else run P g ((i 0).val - w + 1) (i 1).val)) / min (1 + ((i 0).val : ℝ)) (w : ℝ) - _ = _
  rw [e, ← window_run low]
  beta_reduce
  unfold pooled icnt
  rw [hw, show ((0 : ℕ) : ℝ) + ((16 + (i 0).val : ℕ) : ℝ) - 15 = 1 + ((i 0).val : ℝ) by push_cast; ring, mul_one_div]

/-- Four matrices stacked as the four groups of an array. -/
theorem stack4 {y0 y1 y2 y3 : S8192x256.Idx → EReal} {x0 x1 x2 x3 : FVec Ideal S8192x1x256 .f32} {f : ℕ → ℕ → ℕ → ℝ}
    (e0 : ∀ i, x0 i = y0 (idx_main_v103 i)) (e1 : ∀ i, x1 i = y1 (idx_main_v103 i)) (e2 : ∀ i, x2 i = y2 (idx_main_v103 i)) (e3 : ∀ i, x3 i = y3 (idx_main_v103 i))
    (h0 : At2 (n := 8192) (m := 256) y0 fun r l => f r 0 l) (h1 : At2 (n := 8192) (m := 256) y1 fun r l => f r 1 l)
    (h2 : At2 (n := 8192) (m := 256) y2 fun r l => f r 2 l) (h3 : At2 (n := 8192) (m := 256) y3 fun r l => f r 3 l) (h) :
    At3 (n := 8192) (m := 4) (k := 256) (concatenate S8192x4x256 1 [⟨_, x0⟩, ⟨_, x1⟩, ⟨_, x2⟩, ⟨_, x3⟩] h) f := fun j => by
  have hj := bound3 j
  rw [concatenate_cons_apply]
  simp only [concatenateAt_cons, concatenateAt_singleton]
  split
  · rename_i q
    have q' : (j 1).val < 1 := q
    refine (e0 _).trans ((h0 _).trans (congrArg _ ?_))
    show f (j 0).val 0 (j 2).val = _
    rw [show (j 1).val = 0 by omega]
  split
  · rename_i q' q
    have q' : ¬ (j 1).val < 1 := q'
    have q : (j 1).val - 1 < 1 := q
    refine (e1 _).trans ((h1 _).trans (congrArg _ ?_))
    show f (j 0).val 1 (j 2).val = _
    rw [show (j 1).val = 1 by omega]
  split
  · rename_i q'' q' q
    have q' : ¬ (j 1).val - 1 < 1 := q'
    have q : (j 1).val - 1 - 1 < 1 := q
    refine (e2 _).trans ((h2 _).trans (congrArg _ ?_))
    show f (j 0).val 2 (j 2).val = _
    rw [show (j 1).val = 2 by omega]
  · rename_i q'' q' q
    have q : ¬ (j 1).val - 1 - 1 < 1 := q
    refine (e3 _).trans ((h3 _).trans (congrArg _ ?_))
    show f (j 0).val 3 (j 2).val = _
    rw [show (j 1).val = 3 by omega]

theorem cnt0 : At2 (n := 8192) (m := 256) (val_main_v53 (F := Ideal)) fun r _ => min (1 + (r : ℝ)) ((2 : ℕ) : ℝ) :=
  count (c := val_main_v49 (F := Ideal)) (fun i => (val_main_v49_apply i).trans ofBits_2) val_main_v51_apply val_main_v53_apply
theorem cnt1 : At2 (n := 8192) (m := 256) (val_main_v68 (F := Ideal)) fun r _ => min (1 + (r : ℝ)) ((4 : ℕ) : ℝ) :=
  count (c := val_main_v64 (F := Ideal)) (fun i => (val_main_v64_apply i).trans ofBits_4) val_main_v66_apply val_main_v68_apply
theorem cnt2 : At2 (n := 8192) (m := 256) (val_main_v83 (F := Ideal)) fun r _ => min (1 + (r : ℝ)) ((8 : ℕ) : ℝ) :=
  count (c := val_main_v79 (F := Ideal)) (fun i => (val_main_v79_apply i).trans ofBits_8) val_main_v81_apply val_main_v83_apply
theorem cnt3 : At2 (n := 8192) (m := 256) (val_main_v98 (F := Ideal)) fun r _ => min (1 + (r : ℝ)) ((16 : ℕ) : ℝ) :=
  count (c := val_main_v94 (F := Ideal)) (fun i => (val_main_v94_apply i).trans ofBits_16) val_main_v96_apply val_main_v98_apply

section
include hp
variable (low : ∀ ρ l, ρ < 16 → P ρ l = 0)

theorem run0 : At2 (n := 8192) (m := 256) (val_main_v44 (F := Ideal) x0) fun r l => run P 0 (r + 1) l :=
  pick (r39 hp) (val_main_v43_apply x0) (val_main_v44_apply x0) 0 (fun _ => rfl) (fun i h => by show (i 1).val = 0; omega) fun _ => rfl

theorem own0 : At2 (n := 8192) (m := 256) (val_main_v56 (F := Ideal) x0) fun r l => P (16 + r) (3072 + (256 * 0 + l)) :=
  pick (r38 hp) (val_main_v55_apply x0) (val_main_v56_apply x0) 0 (fun _ => rfl) (fun i h => by show (i 1).val = 0; omega) fun _ => rfl

theorem run1 : At2 (n := 8192) (m := 256) (val_main_v59 (F := Ideal) x0) fun r l => run P 1 (r + 1) l :=
  pick (r39 hp) (val_main_v58_apply x0) (val_main_v59_apply x0) 1 (fun _ => rfl) (fun i h => by show 1 + (i 1).val = 1; omega) fun _ => rfl

theorem own1 : At2 (n := 8192) (m := 256) (val_main_v71 (F := Ideal) x0) fun r l => P (16 + r) (3072 + (256 * 1 + l)) :=
  pick (r38 hp) (val_main_v70_apply x0) (val_main_v71_apply x0) 1 (fun _ => rfl) (fun i h => by show 1 + (i 1).val = 1; omega) fun _ => rfl

theorem run2 : At2 (n := 8192) (m := 256) (val_main_v74 (F := Ideal) x0) fun r l => run P 2 (r + 1) l :=
  pick (r39 hp) (val_main_v73_apply x0) (val_main_v74_apply x0) 2 (fun _ => rfl) (fun i h => by show 2 + (i 1).val = 2; omega) fun _ => rfl

theorem own2 : At2 (n := 8192) (m := 256) (val_main_v86 (F := Ideal) x0) fun r l => P (16 + r) (3072 + (256 * 2 + l)) :=
  pick (r38 hp) (val_main_v85_apply x0) (val_main_v86_apply x0) 2 (fun _ => rfl) (fun i h => by show 2 + (i 1).val = 2; omega) fun _ => rfl

theorem run3 : At2 (n := 8192) (m := 256) (val_main_v89 (F := Ideal) x0) fun r l => run P 3 (r + 1) l :=
  pick (r39 hp) (val_main_v88_apply x0) (val_main_v89_apply x0) 3 (fun _ => rfl) (fun i h => by show 3 + (i 1).val = 3; omega) fun _ => rfl

theorem own3 : At2 (n := 8192) (m := 256) (val_main_v101 (F := Ideal) x0) fun r l => P (16 + r) (3072 + (256 * 3 + l)) :=
  pick (r38 hp) (val_main_v100_apply x0) (val_main_v101_apply x0) 3 (fun _ => rfl) (fun i h => by show 3 + (i 1).val = 3; omega) fun _ => rfl

include low

theorem pooled0 : At2 (n := 8192) (m := 256) (val_main_v57 (F := Ideal) x0) fun r l => pooled P 0 0 (16 + r) l :=
  group (w := 2) (n := 8190) low rfl (by omega) rfl (run0 hp) (own0 hp) cnt0 (fun i => (val_main_v45_apply i).trans ofBits_zero)
    (Is.congr (Is.map (run0 hp) (val_main_v46_apply x0)) fun _ => rfl) concatenates_S2x256_S8190x256_S8192x256_d0

theorem pooled1 : At2 (n := 8192) (m := 256) (val_main_v72 (F := Ideal) x0) fun r l => pooled P 0 1 (16 + r) l :=
  group (w := 4) (n := 8188) low rfl (by omega) rfl (run1 hp) (own1 hp) cnt1 (fun i => (val_main_v60_apply i).trans ofBits_zero)
    (Is.congr (Is.map (run1 hp) (val_main_v61_apply x0)) fun _ => rfl) concatenates_S4x256_S8188x256_S8192x256_d0

theorem pooled2 : At2 (n := 8192) (m := 256) (val_main_v87 (F := Ideal) x0) fun r l => pooled P 0 2 (16 + r) l :=
  group (w := 8) (n := 8184) low rfl (by omega) rfl (run2 hp) (own2 hp) cnt2 (fun i => (val_main_v75_apply i).trans ofBits_zero)
    (Is.congr (Is.map (run2 hp) (val_main_v76_apply x0)) fun _ => rfl) concatenates_S8x256_S8184x256_S8192x256_d0

theorem pooled3 : At2 (n := 8192) (m := 256) (val_main_v102 (F := Ideal) x0) fun r l => pooled P 0 3 (16 + r) l :=
  group (w := 16) (n := 8176) low rfl (by omega) rfl (run3 hp) (own3 hp) cnt3 (fun i => (val_main_v90_apply i).trans ofBits_zero)
    (Is.congr (Is.map (run3 hp) (val_main_v91_apply x0)) fun _ => rfl) concatenates_S16x256_S8176x256_S8192x256_d0

theorem r107 : At3 (n := 8192) (m := 4) (k := 256) (val_main_v107 (F := Ideal) x0) fun r g l => pooled P 0 g (16 + r) l :=
  stack4 (val_main_v103_apply x0) (val_main_v104_apply x0) (val_main_v105_apply x0) (val_main_v106_apply x0)
    (pooled0 hp low) (pooled1 hp low) (pooled2 hp low) (pooled3 hp low) _
end

end Cert.Mix
-- ==== Proof.Val.RefMix.lean ====
module

public import proofs.«01_k».proof.Proof.Val.RefPool

@[expose] public section

set_option maxRecDepth 16384

/-! The reference's gradient of the mixed groups: the norm, the scale, the matrices and the pooled rows. -/

namespace Cert.Mix

open Idealize.ShloMosaic Cert.ReferenceIdeal Cert.ReferenceIdeal.Gen Cert.ReferenceIdeal.Read

/-- What the reference's arguments hold at the pooled half. -/
structure PArgs (x0 : (⟨S8192x4096, .f32⟩ : BufTy).Contents (Elt Ideal)) (x1 : (⟨S8192x2048, .f32⟩ : BufTy).Contents (Elt Ideal)) (x3 : (⟨S4x4x64x256, .f32⟩ : BufTy).Contents (Elt Ideal)) (x4 : (⟨S1x1024, .f32⟩ : BufTy).Contents (Elt Ideal)) (P G : ℕ → ℕ → ℝ) (Q : ℕ → ℕ → ℕ → ℝ) (S : ℕ → ℝ) : Prop where
  p : At2 (n := 8192) (m := 4096) x0 fun r l => P (16 + r) l
  g : At2 (n := 8192) (m := 2048) x1 fun r l => G (16 + r) l
  q : Is x3 fun i => Q (i 1).val (64 * (i 0).val + (i 2).val) (i 3).val
  s : At2 (n := 1) (m := 1024) x4 fun _ l => S l
  low : ∀ ρ l, ρ < 16 → P ρ l = 0
  high : ∀ ρ, 16 + 8192 ≤ ρ → G ρ = fun _ => 0

variable {x0 : (⟨S8192x4096, .f32⟩ : BufTy).Contents (Elt Ideal)} {x1 : (⟨S8192x2048, .f32⟩ : BufTy).Contents (Elt Ideal)} {x3 : (⟨S4x4x64x256, .f32⟩ : BufTy).Contents (Elt Ideal)} {x4 : (⟨S1x1024, .f32⟩ : BufTy).Contents (Elt Ideal)} {P G : ℕ → ℕ → ℝ} {Q : ℕ → ℕ → ℕ → ℝ} {S : ℕ → ℝ} (h : PArgs x0 x1 x3 x4 P G Q S)
include h

theorem r109 : At3 (n := 4) (m := 256) (k := 256) (val_main_v109 (F := Ideal) x3) Q :=
  Is.congr (Is.map (Is.map h.q (val_main_v108_apply x3)) (val_main_v109_apply x3)) fun i => by
    have hi := bound3 i
    have e0 : (((i 0).val * 256 + (i 1).val) * 256 + (i 2).val) / 65536 = (i 0).val := by omega
    have e1 : 64 * ((((i 0).val * 256 + (i 1).val) * 256 + (i 2).val) / 16384 % 4) + (((i 0).val * 256 + (i 1).val) * 256 + (i 2).val) / 256 % 64 = (i 1).val := by omega
    have e2 : (((i 0).val * 256 + (i 1).val) * 256 + (i 2).val) % 256 = (i 2).val := by omega
    show Q ((((i 0).val * 256 + (i 1).val) * 256 + (i 2).val) / 65536)
      (64 * ((((i 0).val * 256 + (i 1).val) * 256 + (i 2).val) / 16384 % 4) + (((i 0).val * 256 + (i 1).val) * 256 + (i 2).val) / 256 % 64)
      ((((i 0).val * 256 + (i 1).val) * 256 + (i 2).val) % 256) = _
    rw [e0, e1, e2]

theorem r111 : At3 (n := 8192) (m := 4) (k := 256) (val_main_v111 (F := Ideal) x0 x3) fun r g l => zz P Q 0 g (16 + r) l :=
  Is.congr (Is.map (Is.dot (r109 h) (r107 h.p h.low) (val_main_v110_apply x0 x3)) (val_main_v111_apply x0 x3)) fun i => by
    unfold zz
    beta_reduce
    rw [← Fin.sum_univ_eq_sum_range]
    exact Finset.sum_congr rfl fun k _ => mul_comm _ _

theorem r118 : At3 (n := 8192) (m := 4) (k := 1) (val_main_v118 (F := Ideal) x0 x3) fun r g _ =>
    (∑ k ∈ Finset.range 256, zz P Q 0 g (16 + r) k * zz P Q 0 g (16 + r) k) / (256 : ℕ) + eps :=
  Is.congr (Is.add (φ := .f32)
    (Is.div (φ := .f32) (Is.map (Is.sum (Is.mul (φ := .f32) (r111 h) (r111 h)) (val_main_cst_18_apply _ |>.trans ofBits_zero) (val_main_v113_apply x0 x3)) (val_main_v114_apply x0 x3))
      (g := fun _ => ((256 : ℕ) : ℝ)) (fun i => (val_main_v115_apply i).trans ofBits_256) fun i => by norm_num)
    (g := fun _ => eps) (fun i => (val_main_v117_apply i).trans ofBits_eps)) fun i =>
    congrArg (fun z => z / ((256 : ℕ) : ℝ) + eps)
      (Fin.sum_univ_eq_sum_range (fun k => zz P Q 0 (i 1).val (16 + (i 0).val) k * zz P Q 0 (i 1).val (16 + (i 0).val) k) 256)

theorem r119 : At3 (n := 8192) (m := 4) (k := 1) (val_main_v119 (F := Ideal) x0 x3) fun r g _ => rs 256 (zz P Q 0 g (16 + r)) :=
  Is.congr (Is.rsqrt (φ := .f32) (r118 h) fun _ => ms_pos 256 _) fun _ => rfl

theorem r122 : At3 (n := 8192) (m := 4) (k := 1) (val_main_v122 (F := Ideal) x0 x3) fun r g _ =>
    -(1 / 2) * (rs 256 (zz P Q 0 g (16 + r)) /
      ((∑ k ∈ Finset.range 256, zz P Q 0 g (16 + r) k * zz P Q 0 g (16 + r) k) / (256 : ℕ) + eps)) :=
  Is.congr (Is.mul (φ := .f32) (f := fun _ => -(1 / 2)) (fun i => (val_main_v121_apply i).trans ofBits_mhalf)
    (Is.div (φ := .f32) (r119 h) (r118 h) fun _ => (ms_pos 256 _).ne')) fun _ => rfl

theorem r125 : At2 (n := 8192) (m := 1024) (val_main_v125 (F := Ideal) x0 x3) fun r j =>
    zz P Q 0 (j / 256) (16 + r) (j % 256) * rs 256 (zz P Q 0 (j / 256) (16 + r)) :=
  join3 (f := fun r g l => zz P Q 0 g (16 + r) l * rs 256 (zz P Q 0 g (16 + r)))
    (Is.congr (Is.mul (φ := .f32) (r111 h) (Is.map (r119 h) (val_main_v123_apply x0 x3))) fun _ => rfl) (val_main_v125_apply x0 x3)
    (fun i => by have := bound2 i; show ((i 0).val * 1024 + (i 1).val) / 1024 = (i 0).val; omega)
    (fun i => by have := bound2 i; show ((i 0).val * 1024 + (i 1).val) / 256 % 4 = (i 1).val / 256; omega)
    fun i => by have := bound2 i; show ((i 0).val * 1024 + (i 1).val) % 256 = (i 1).val % 256; omega

theorem r130 : At2 (n := 8192) (m := 1024) (val_main_v130 (F := Ideal) x1) fun r l => G (16 + r) (1024 + l) :=
  Is.congr (Is.map h.g (val_main_v130_apply x1)) fun _ => rfl

/-- The gradient of the scale. -/
theorem r133 : At2 (n := 1) (m := 1024) (val_main_v133 (F := Ideal) x0 x1 x3) fun _ j =>
    ∑ τ ∈ Finset.range 8192, dsc P G Q 0 (j / 256) (16 + τ) (j % 256) :=
  Is.congr (Is.map (Is.sum (Is.mul (φ := .f32) (r125 h) (r130 h)) (val_main_cst_22_apply _ |>.trans ofBits_zero) (val_main_v132_apply x0 x1 x3)) (val_main_v133_apply x0 x1 x3))
    fun i => by
    have hi := bound2 i
    have e : (i 0).val * 1024 + (i 1).val = (i 1).val := by omega
    beta_reduce
    rw [← Fin.sum_univ_eq_sum_range]
    refine Finset.sum_congr rfl fun k _ => ?_
    show zz P Q 0 (((i 0).val * 1024 + (i 1).val) / 256) (16 + k.val) (((i 0).val * 1024 + (i 1).val) % 256) * rs 256 (zz P Q 0 (((i 0).val * 1024 + (i 1).val) / 256) (16 + k.val)) *
      G (16 + k.val) (1024 + ((i 0).val * 1024 + (i 1).val)) = _
    unfold dsc
    rw [e, Nat.div_add_mod, mul_comm]

theorem r136 : At3 (n := 8192) (m := 4) (k := 256) (val_main_v136 (F := Ideal) x1 x4) fun r g l => G (16 + r) (1024 + (256 * g + l)) * S (256 * g + l) :=
  split3 (f := fun r j => G (16 + r) (1024 + j) * S j)
    (Is.congr (Is.mul (φ := .f32) (r130 h) (Is.map h.s (val_main_v134_apply x4))) fun _ => rfl) (val_main_v136_apply x1 x4)
    (fun i => by have := bound3 i; show (((i 0).val * 4 + (i 1).val) * 256 + (i 2).val) / 1024 = (i 0).val; omega)
    fun i => by have := bound3 i; show (((i 0).val * 4 + (i 1).val) * 256 + (i 2).val) % 1024 = 256 * (i 1).val + (i 2).val; omega

theorem r144 : At3 (n := 8192) (m := 4) (k := 1) (val_main_v144 (F := Ideal) x0 x1 x3 x4) fun r g _ =>
    nbq 256 (zz P Q 0 g (16 + r)) fun k => G (16 + r) (1024 + (256 * g + k)) * S (256 * g + k) :=
  Is.congr (Is.div (φ := .f32) (Is.mul (φ := .f32)
      (Is.map (Is.sum (Is.mul (φ := .f32) (r111 h) (r136 h)) (val_main_cst_23_apply _ |>.trans ofBits_zero) (val_main_v138_apply x0 x1 x3 x4))
        (val_main_v139_apply x0 x1 x3 x4)) (r122 h))
      (g := fun _ => ((256 : ℕ) : ℝ)) (fun i => (val_main_v143_apply i).trans ofBits_256) fun i => by norm_num) fun i => by
    have hi := bound3 i
    unfold nbq
    refine congrArg (fun z => z * _ / ((256 : ℕ) : ℝ)) ?_
    rw [← Fin.sum_univ_eq_sum_range]
    refine Finset.sum_congr rfl fun k _ => ?_
    have e0 : (((i 0).val * 4 + (i 1).val) * 1 + (i 2).val) / 4 = (i 0).val := by omega
    have e1 : (((i 0).val * 4 + (i 1).val) * 1 + (i 2).val) % 4 = (i 1).val := by omega
    exact congrArg₂ (fun a b => zz P Q 0 b (16 + a) k.val * (G (16 + a) (1024 + (256 * b + k.val)) * S (256 * b + k.val))) e0 e1

theorem r150 : At3 (n := 8192) (m := 4) (k := 256) (val_main_v150 (F := Ideal) x0 x1 x3 x4) fun r g l => dz P G Q S 0 g (16 + r) l := by
  have hq : At3 (n := 8192) (m := 4) (k := 256) (val_main_v146 (F := Ideal) x0 x1 x3 x4) fun r g _ =>
      nbq 256 (zz P Q 0 g (16 + r)) fun k => G (16 + r) (1024 + (256 * g + k)) * S (256 * g + k) :=
    Is.congr (Is.map (Is.sum (r144 h) (val_main_cst_25_apply _ |>.trans ofBits_zero) (val_main_v145_apply x0 x1 x3 x4)) (val_main_v146_apply x0 x1 x3 x4))
      fun i => Fin.sum_univ_one _
  refine Is.congr (Is.add (φ := .f32) (Is.add (φ := .f32) (Is.mul (φ := .f32) (r136 h) (Is.map (r119 h) (val_main_v140_apply x0 x3)))
    (Is.mul (φ := .f32) (r111 h) hq)) (Is.mul (φ := .f32) hq (r111 h))) fun i => ?_
  exact nb_ref 256 (zz P Q 0 (i 1).val (16 + (i 0).val)) (fun k => G (16 + (i 0).val) (1024 + (256 * (i 1).val + k)) * S (256 * (i 1).val + k)) (i 2).val

/-- The gradient at the pooled rows. -/
theorem r153 : At3 (n := 8192) (m := 4) (k := 256) (val_main_v153 (F := Ideal) x0 x1 x3 x4) fun r g l => dpooled P G Q S 0 g (16 + r) l :=
  Is.congr (Is.map (Is.dot (Is.map (r150 h) (val_main_v151_apply x0 x1 x3 x4)) (r109 h) (val_main_v152_apply x0 x1 x3 x4)) (val_main_v153_apply x0 x1 x3 x4)) fun i => by
    unfold dpooled
    beta_reduce
    rw [← Fin.sum_univ_eq_sum_range]

theorem r154 : At3 (n := 4) (m := 256) (k := 256) (val_main_v154 (F := Ideal) x0 x1 x3 x4) fun g l k => ∑ τ ∈ Finset.range 8192, dmat P G Q S 0 g (16 + τ) k l :=
  Is.congr (Is.dot (Is.map (r150 h) (val_main_v151_apply x0 x1 x3 x4)) (r107 h.p h.low) (val_main_v154_apply x0 x1 x3 x4)) fun i => by
    beta_reduce
    rw [← Fin.sum_univ_eq_sum_range]
    exact Finset.sum_congr rfl fun k _ => mul_comm _ _

/-- The gradient of the four matrices. -/
theorem r157 : Is (val_main_v157 (F := Ideal) x0 x1 x3 x4) fun i => ∑ τ ∈ Finset.range 8192, dmat P G Q S 0 (i 1).val (16 + τ) (64 * (i 0).val + (i 2).val) (i 3).val :=
  Is.congr (Is.map (Is.map (Is.map (r154 h) (val_main_v155_apply x0 x1 x3 x4)) (val_main_v156_apply x0 x1 x3 x4)) (val_main_v157_apply x0 x1 x3 x4)) fun i => by
    have h0 : (i 0).val < 4 := (i 0).isLt
    have h1 : (i 1).val < 4 := (i 1).isLt
    have h2 : (i 2).val < 64 := (i 2).isLt
    have h3 : (i 3).val < 256 := (i 3).isLt
    have e0 : ((((i 1).val * 4 + (i 0).val) * 64 + (i 2).val) * 256 + (i 3).val) / 65536 = (i 1).val := by omega
    have e1 : ((((i 1).val * 4 + (i 0).val) * 64 + (i 2).val) * 256 + (i 3).val) / 256 % 256 = 64 * (i 0).val + (i 2).val := by omega
    have e2 : ((((i 1).val * 4 + (i 0).val) * 64 + (i 2).val) * 256 + (i 3).val) % 256 = (i 3).val := by omega
    show (∑ τ ∈ Finset.range 8192, dmat P G Q S 0 (((((i 1).val * 4 + (i 0).val) * 64 + (i 2).val) * 256 + (i 3).val) / 65536) (16 + τ)
      (((((i 1).val * 4 + (i 0).val) * 64 + (i 2).val) * 256 + (i 3).val) / 256 % 256) (((((i 1).val * 4 + (i 0).val) * 64 + (i 2).val) * 256 + (i 3).val) % 256)) = _
    rw [e0, e1, e2]

end Cert.Mix
-- ==== Proof.Val.RefBack.lean ====
module

public import proofs.«01_k».proof.Proof.Val.RefMix
public import proofs.«01_k».proof.Proof.Val.Local

@[expose] public section

set_option maxRecDepth 16384

/-! The reference's gradient at the pooled columns of the projection. -/

namespace Cert.Mix

open Idealize.ShloMosaic Cert.ReferenceIdeal Cert.ReferenceIdeal.Gen Cert.ReferenceIdeal.Read

/-- A running sum of differences is a window's sum. -/
theorem window_diff (A : ℕ → ℝ) (n w t : ℕ) (h : ∀ r, t + n ≤ r → A r = 0) :
    ∑ k ∈ Finset.range n, (A (t + k) - A (t + k + w)) = ∑ k ∈ Finset.range w, A (t + k) := by
  have e1 := Finset.sum_range_add (fun k => A (t + k)) w n
  have e2 := Finset.sum_range_add (fun k => A (t + k)) n w
  rw [Finset.sum_eq_zero (f := fun k => A (t + (n + k))) fun k _ => h (t + (n + k)) (by omega), add_zero] at e2
  rw [Finset.sum_sub_distrib, ← e2, Nat.add_comm n w, e1, Finset.sum_congr rfl fun k _ => congrArg A (show t + k + w = t + (w + k) by omega)]
  ring

/-- Four matrices, each put among three of zeros, and summed. -/
theorem spread4 {y0 y1 y2 y3 : S8192x256.Idx → EReal} {x0 x1 x2 x3 : FVec Ideal S8192x1x256 .f32} {f : ℕ → ℕ → ℕ → ℝ}
    (e0 : ∀ i, x0 i = y0 (idx_main_v103 i)) (e1 : ∀ i, x1 i = y1 (idx_main_v103 i)) (e2 : ∀ i, x2 i = y2 (idx_main_v103 i)) (e3 : ∀ i, x3 i = y3 (idx_main_v103 i))
    (h0 : At2 (n := 8192) (m := 256) y0 fun r l => f r 0 l) (h1 : At2 (n := 8192) (m := 256) y1 fun r l => f r 1 l)
    (h2 : At2 (n := 8192) (m := 256) y2 fun r l => f r 2 l) (h3 : At2 (n := 8192) (m := 256) y3 fun r l => f r 3 l)
    {c0 c1 c2 c3 : FVec Ideal S_ .f32} (z0 : c0 (Shape.Idx.first h_S_) = ((0 : ℝ) : EReal)) (z1 : c1 (Shape.Idx.first h_S_) = ((0 : ℝ) : EReal))
    (z2 : c2 (Shape.Idx.first h_S_) = ((0 : ℝ) : EReal)) (z3 : c3 (Shape.Idx.first h_S_) = ((0 : ℝ) : EReal)) (k0 k1 k2 k3) :
    At3 (n := 8192) (m := 4) (k := 256) (addf (addf (addf (pad S8192x4x256 ![0, 3, 0] ![0, 0, 0] ![0, 0, 0] x3 c3 k3 h_S_)
      (pad S8192x4x256 ![0, 2, 0] ![0, 1, 0] ![0, 0, 0] x2 c2 k2 h_S_)) (pad S8192x4x256 ![0, 1, 0] ![0, 2, 0] ![0, 0, 0] x1 c1 k1 h_S_))
      (pad S8192x4x256 ![0, 0, 0] ![0, 3, 0] ![0, 0, 0] x0 c0 k0 h_S_)) f := by
  have p (g : ℕ) {y : S8192x256.Idx → EReal} {x : FVec Ideal S8192x1x256 .f32} (e : ∀ i, x i = y (idx_main_v103 i)) (hy : At2 (n := 8192) (m := 256) y fun r l => f r g l) :
      At3 (n := 8192) (m := 1) (k := 256) x fun r _ l => f r g l := Is.congr (Is.map hy e) fun _ => rfl
  have q3 := At3.padMid (φ := .f32) (n' := 4) (p 3 e3 h3) h_S_ z3 k3
  have q2 := At3.padMid (φ := .f32) (n' := 4) (p 2 e2 h2) h_S_ z2 k2
  have q1 := At3.padMid (φ := .f32) (n' := 4) (p 1 e1 h1) h_S_ z1 k1
  have q0 := At3.padMid (φ := .f32) (n' := 4) (p 0 e0 h0) h_S_ z0 k0
  refine Is.congr (Is.add (φ := .f32) (Is.add (φ := .f32) (Is.add (φ := .f32) q3 q2) q1) q0) fun i => ?_
  have hi := bound3 i
  beta_reduce
  have c : (i 1).val = 0 ∨ (i 1).val = 1 ∨ (i 1).val = 2 ∨ (i 1).val = 3 := by omega
  rcases c with c | c | c | c <;> rw [c] <;> norm_num

/-- One group's differences, whose running sums from the last token are the windows' sums. -/
theorem back {w n : ℕ} {A : ℕ → ℕ → ℝ} {a : FVec Ideal S8192x256 .f32} {s : FVec Ideal ⟨2, ![n, 256]⟩ .f32} (hn : 8192 = w + n)
    (ha : At2 (n := 8192) (m := 256) a A) (high : ∀ r l, 8192 ≤ r → A r l = 0) {idx : (⟨2, ![n, 256]⟩ : Shape).Idx → S8192x256.Idx}
    (e : ∀ i, s i = Host.negf a (idx i)) (e0 : ∀ i, (idx i 0).val = w + (i 0).val) (e1 : ∀ i, (idx i 1).val = (i 1).val)
    {c : FVec Ideal S_ .f32} (z : c (Shape.Idx.first h_S_) = ((0 : ℝ) : EReal)) (h) :
    At2 (n := 8192) (m := 256) (addf a (pad S8192x256 ![0, 0] ![w, 0] ![0, 0] s c h h_S_)) fun r l => A r l - A (r + w) l := by
  have hs : At2 s fun r l => -(A (w + r) l) := Is.congr (Is.map (Is.neg (φ := .f32) ha) e) fun i => by
    beta_reduce
    rw [e0, e1]
  refine Is.congr (Is.add (φ := .f32) ha (At2.padRows (φ := .f32) (n' := 8192) hs h_S_ z h)) fun i => ?_
  beta_reduce
  rw [sub_eq_add_neg, ite_eq_left_of fun hc => by rw [high _ _ (by omega), neg_zero], Nat.sub_zero, Nat.add_comm w]

variable {x0 : (⟨S8192x4096, .f32⟩ : BufTy).Contents (Elt Ideal)} {x1 : (⟨S8192x2048, .f32⟩ : BufTy).Contents (Elt Ideal)} {x3 : (⟨S4x4x64x256, .f32⟩ : BufTy).Contents (Elt Ideal)} {x4 : (⟨S1x1024, .f32⟩ : BufTy).Contents (Elt Ideal)} {P G : ℕ → ℕ → ℝ} {Q : ℕ → ℕ → ℕ → ℝ} {S : ℕ → ℝ} (h : PArgs x0 x1 x3 x4 P G Q S)

/-- A group's gradient divided by the number of tokens in the window. -/
theorem mean {g w : ℕ} (hw : wd g = w) (hw' : 0 < w) {o b b' : S8192x256.Idx → EReal} {b0 : S8192x1.Idx → EReal}
    (ho : At2 (n := 8192) (m := 256) o fun r l => dpooled P G Q S 0 g (16 + r) l)
    (hb : At2 (n := 8192) (m := 256) b fun r _ => min (1 + (r : ℝ)) (w : ℝ)) (e : ∀ i, b i = b0 (idx_main_v53 i)) (e' : ∀ i, b' i = b0 (idx_main_v53 i)) :
    At2 (n := 8192) (m := 256) (Host.divf (F := Ideal) (s := S8192x256) (φ := .f32) o b') fun r l => dpn P G Q S 0 g (16 + r) l :=
  Is.congr (Is.div (φ := .f32) ho (fun i => (e' i).trans ((e i).symm.trans (hb i))) fun i => count_ne _ _ hw') fun i => by
    beta_reduce
    unfold dpn icnt
    rw [hw, show ((0 : ℕ) : ℝ) + ((16 + (i 0).val : ℕ) : ℝ) - 15 = 1 + ((i 0).val : ℝ) by push_cast; ring, mul_one_div]

include h

theorem dpn_high (g r l : ℕ) (hr : 8192 ≤ r) : dpn P G Q S 0 g (16 + r) l = 0 := dpn_zero (h.high _ (by omega)) l

theorem dpool0 : At2 (n := 8192) (m := 256) (val_main_v159 (F := Ideal) x0 x1 x3 x4) fun r l => dpooled P G Q S 0 0 (16 + r) l :=
  pick (r153 h) (val_main_v158_apply x0 x1 x3 x4) (val_main_v159_apply x0 x1 x3 x4) 0 (fun _ => rfl) (fun i h => by show (i 1).val = 0; omega) fun _ => rfl

theorem diff0 : At2 (n := 8192) (m := 256) (val_main_v216 (F := Ideal) x0 x1 x3 x4) fun r l => dpn P G Q S 0 0 (16 + r) l - dpn P G Q S 0 0 (16 + (r + 2)) l :=
  back (w := 2) (n := 8190) rfl (mean (w := 2) rfl (by omega) (dpool0 h) cnt0 val_main_v53_apply val_main_v210_apply) (dpn_high h 0) (val_main_v214_apply x0 x1 x3 x4) (fun _ => rfl) (fun _ => rfl)
    (val_main_cst_36_apply _ |>.trans ofBits_zero) pads_S8190x256_S8192x256_020_000

theorem dpool1 : At2 (n := 8192) (m := 256) (val_main_v161 (F := Ideal) x0 x1 x3 x4) fun r l => dpooled P G Q S 0 1 (16 + r) l :=
  pick (r153 h) (val_main_v160_apply x0 x1 x3 x4) (val_main_v161_apply x0 x1 x3 x4) 1 (fun _ => rfl) (fun i h => by show 1 + (i 1).val = 1; omega) fun _ => rfl

theorem diff1 : At2 (n := 8192) (m := 256) (val_main_v202 (F := Ideal) x0 x1 x3 x4) fun r l => dpn P G Q S 0 1 (16 + r) l - dpn P G Q S 0 1 (16 + (r + 4)) l :=
  back (w := 4) (n := 8188) rfl (mean (w := 4) rfl (by omega) (dpool1 h) cnt1 val_main_v68_apply val_main_v196_apply) (dpn_high h 1) (val_main_v200_apply x0 x1 x3 x4) (fun _ => rfl) (fun _ => rfl)
    (val_main_cst_33_apply _ |>.trans ofBits_zero) pads_S8188x256_S8192x256_040_000

theorem dpool2 : At2 (n := 8192) (m := 256) (val_main_v163 (F := Ideal) x0 x1 x3 x4) fun r l => dpooled P G Q S 0 2 (16 + r) l :=
  pick (r153 h) (val_main_v162_apply x0 x1 x3 x4) (val_main_v163_apply x0 x1 x3 x4) 2 (fun _ => rfl) (fun i h => by show 2 + (i 1).val = 2; omega) fun _ => rfl

theorem diff2 : At2 (n := 8192) (m := 256) (val_main_v188 (F := Ideal) x0 x1 x3 x4) fun r l => dpn P G Q S 0 2 (16 + r) l - dpn P G Q S 0 2 (16 + (r + 8)) l :=
  back (w := 8) (n := 8184) rfl (mean (w := 8) rfl (by omega) (dpool2 h) cnt2 val_main_v83_apply val_main_v182_apply) (dpn_high h 2) (val_main_v186_apply x0 x1 x3 x4) (fun _ => rfl) (fun _ => rfl)
    (val_main_cst_30_apply _ |>.trans ofBits_zero) pads_S8184x256_S8192x256_080_000

theorem dpool3 : At2 (n := 8192) (m := 256) (val_main_v165 (F := Ideal) x0 x1 x3 x4) fun r l => dpooled P G Q S 0 3 (16 + r) l :=
  pick (r153 h) (val_main_v164_apply x0 x1 x3 x4) (val_main_v165_apply x0 x1 x3 x4) 3 (fun _ => rfl) (fun i h => by show 3 + (i 1).val = 3; omega) fun _ => rfl

theorem diff3 : At2 (n := 8192) (m := 256) (val_main_v175 (F := Ideal) x0 x1 x3 x4) fun r l => dpn P G Q S 0 3 (16 + r) l - dpn P G Q S 0 3 (16 + (r + 16)) l :=
  back (w := 16) (n := 8176) rfl (mean (w := 16) rfl (by omega) (dpool3 h) cnt3 val_main_v98_apply val_main_v169_apply) (dpn_high h 3) (val_main_v173_apply x0 x1 x3 x4) (fun _ => rfl) (fun _ => rfl)
    (val_main_cst_27_apply _ |>.trans ofBits_zero) pads_S8176x256_S8192x256_0160_000

theorem r209 : At3 (n := 8192) (m := 4) (k := 256) (val_main_v209 (F := Ideal) x0 x1 x3 x4) fun r g l => -dpooled P G Q S 0 g (16 + r) l :=
  spread4 (f := fun r g l => -dpooled P G Q S 0 g (16 + r) l) (val_main_v207_apply x0 x1 x3 x4) (val_main_v193_apply x0 x1 x3 x4) (val_main_v179_apply x0 x1 x3 x4) (val_main_v167_apply x0 x1 x3 x4)
    (Is.neg (φ := .f32) (dpool0 h)) (Is.neg (φ := .f32) (dpool1 h)) (Is.neg (φ := .f32) (dpool2 h)) (Is.neg (φ := .f32) (dpool3 h))
    (val_main_cst_35_apply _ |>.trans ofBits_zero) (val_main_cst_32_apply _ |>.trans ofBits_zero) (val_main_cst_29_apply _ |>.trans ofBits_zero) (val_main_cst_26_apply _ |>.trans ofBits_zero) _ _ _ _

theorem r219 : At3 (n := 8192) (m := 4) (k := 256) (val_main_v219 (F := Ideal) x0 x1 x3 x4) fun r g l =>
    dpn P G Q S 0 g (16 + r) l - dpn P G Q S 0 g (16 + (r + wd g)) l :=
  spread4 (f := fun r g l => dpn P G Q S 0 g (16 + r) l - dpn P G Q S 0 g (16 + (r + wd g)) l) (val_main_v217_apply x0 x1 x3 x4) (val_main_v203_apply x0 x1 x3 x4) (val_main_v189_apply x0 x1 x3 x4) (val_main_v176_apply x0 x1 x3 x4)
    (diff0 h) (diff1 h) (diff2 h) (diff3 h)
    (val_main_cst_37_apply _ |>.trans ofBits_zero) (val_main_cst_34_apply _ |>.trans ofBits_zero) (val_main_cst_31_apply _ |>.trans ofBits_zero) (val_main_cst_28_apply _ |>.trans ofBits_zero) _ _ _ _

theorem r220 : At3 (n := 8192) (m := 4) (k := 256) (val_main_v220 (F := Ideal) x0 x1 x3 x4) fun r g l =>
    ∑ k ∈ Finset.range (wd g), dpn P G Q S 0 g (16 + r + k) l :=
  At3.congr (At3.window (φ := .f32) (v := val_main_call1_call0_v0 (F := Ideal)) (r219 h) h_S_ ofBits_zero
    reduceWindows_S8192x4x256_S8192x4x256_w8192s1p0_8191_w1s1p0_0_w1s1p0_0) fun t g l ht _ _ =>
    ((suffix_sum (N := 8192) (fun r => dpn P G Q S 0 g (16 + r) l - dpn P G Q S 0 g (16 + (r + wd g)) l) ht).trans
      (window_diff (fun r => dpn P G Q S 0 g (16 + r) l) (8192 - t) (wd g) t fun r hr => dpn_high h g r l (by omega))).trans
      (Finset.sum_congr rfl fun k _ => by beta_reduce; rw [Nat.add_assoc])

/-- The gradient at the pooled columns. -/
theorem r222 : At2 (n := 8192) (m := 1024) (val_main_v222 (F := Ideal) x0 x1 x3 x4) fun r j =>
    (∑ k ∈ Finset.range (wd (j / 256)), dpn P G Q S 0 (j / 256) (16 + r + k) (j % 256)) - dpooled P G Q S 0 (j / 256) (16 + r) (j % 256) :=
  join3 (f := fun r g l => (∑ k ∈ Finset.range (wd g), dpn P G Q S 0 g (16 + r + k) l) - dpooled P G Q S 0 g (16 + r) l)
    (Is.congr (Is.add (φ := .f32) (r209 h) (r220 h)) fun i => neg_add_eq_sub _ _) (val_main_v222_apply x0 x1 x3 x4)
    (fun i => by have := bound2 i; show ((i 0).val * 1024 + (i 1).val) / 1024 = (i 0).val; omega)
    (fun i => by have := bound2 i; show ((i 0).val * 1024 + (i 1).val) / 256 % 4 = (i 1).val / 256; omega)
    fun i => by have := bound2 i; show ((i 0).val * 1024 + (i 1).val) % 256 = (i 1).val % 256; omega

end Cert.Mix
-- ==== Proof.Val.RefConv.lean ====
module

public import proofs.«01_k».proof.Proof.Val.Host
public import proofs.«01_k».proof.Proof.Val.Spec
public import proofs.«01_k».proof.Proof.Gen.ReferenceIdeal.Read

@[expose] public section

set_option maxRecDepth 16384

/-! The reference's gradient of the gated convolution. -/

namespace Cert.Mix

open Idealize.ShloMosaic Cert.ReferenceIdeal Cert.ReferenceIdeal.Gen Cert.ReferenceIdeal.Read

/-- What the reference's arguments hold: real numbers, a token's row `r` under the number `16 + r`. -/
structure Args (x0 : (⟨S8192x4096, .f32⟩ : BufTy).Contents (Elt Ideal)) (x1 : (⟨S8192x2048, .f32⟩ : BufTy).Contents (Elt Ideal)) (x2 : (⟨S3x1024, .f32⟩ : BufTy).Contents (Elt Ideal)) (P G W : ℕ → ℕ → ℝ) : Prop where
  p : At2 (n := 8192) (m := 4096) x0 fun r l => P (16 + r) l
  g : At2 (n := 8192) (m := 2048) x1 fun r l => G (16 + r) l
  w : At2 (n := 3) (m := 1024) x2 W
  low : ∀ ρ l, ρ < 16 → P ρ l = 0
  high : ∀ ρ, 16 + 8192 ≤ ρ → G ρ = fun _ => 0

variable {x0 : (⟨S8192x4096, .f32⟩ : BufTy).Contents (Elt Ideal)} {x1 : (⟨S8192x2048, .f32⟩ : BufTy).Contents (Elt Ideal)} {x2 : (⟨S3x1024, .f32⟩ : BufTy).Contents (Elt Ideal)} {P G W : ℕ → ℕ → ℝ} (h : Args x0 x1 x2 P G W)
include h

theorem r4 : At2 (n := 8192) (m := 1024) (val_main_v4 (F := Ideal) x0) fun r l => cu P (16 + r) l :=
  Is.congr (Is.mul (φ := .f32) (Is.map h.p (val_main_v1_apply x0)) (Is.map h.p (val_main_v2_apply x0))) fun i => rfl

theorem r6 : At2 (n := 8194) (m := 1024) (val_main_v6 (F := Ideal) x0) fun r l => cu P (14 + r) l :=
  (At2.below (φ := .f32) (z := val_main_v5 (F := Ideal)) (fun i => (val_main_v5_apply i).trans ofBits_zero) (r4 h) _ rfl).congr fun r l hr hl => by
    split
    · show (0 : ℝ) = P (14 + r) (1024 + l) * P (14 + r) (2048 + l)
      rw [h.low _ _ (by omega), zero_mul]
    · rw [show 16 + (r - 2) = 14 + r by omega]

theorem r21 : At2 (n := 8192) (m := 1024) (val_main_v21 (F := Ideal) x0 x2) fun r l => conv P W (16 + r) l :=
  Is.congr (Is.add (φ := .f32) (Is.add (φ := .f32)
      (Is.mul (φ := .f32) (Is.map (Is.map h.w (val_main_v8_apply x2)) (val_main_v10_apply x2)) (Is.map (r6 h) (val_main_v9_apply x0)))
      (Is.mul (φ := .f32) (Is.map (Is.map h.w (val_main_v12_apply x2)) (val_main_v14_apply x2)) (Is.map (r6 h) (val_main_v13_apply x0))))
      (Is.mul (φ := .f32) (Is.map (Is.map h.w (val_main_v17_apply x2)) (val_main_v19_apply x2)) (Is.map (r6 h) (val_main_v18_apply x0)))) fun i => by
    show W 0 (i 1).val * cu P (14 + (i 0).val) (i 1).val + W 1 (i 1).val * cu P (14 + (1 + (i 0).val)) (i 1).val +
      W 2 (i 1).val * cu P (14 + (2 + (i 0).val)) (i 1).val = _
    unfold conv
    rw [show 14 + (i 0).val = 16 + (i 0).val - 2 by omega, show 14 + (1 + (i 0).val) = 16 + (i 0).val - 1 by omega,
      show 14 + (2 + (i 0).val) = 16 + (i 0).val by omega]

theorem r22 : At2 (n := 8192) (m := 1024) (val_main_v22 (F := Ideal) x0 x2) fun r l => gate P W (16 + r) l :=
  Is.congr (Is.mul (φ := .f32) (Is.map h.p (val_main_v0_apply x0)) (r21 h)) fun i => rfl

theorem r23 : At3 (n := 8192) (m := 8) (k := 128) (val_main_v23 (F := Ideal) x0 x2) fun r a l => gate P W (16 + r) (128 * a + l) :=
  split3 (r22 h) (val_main_v23_apply x0 x2)
    (fun i => by have := bound3 i; show (((i 0).val * 8 + (i 1).val) * 128 + (i 2).val) / 1024 = (i 0).val; omega)
    fun i => by have := bound3 i; show (((i 0).val * 8 + (i 1).val) * 128 + (i 2).val) % 1024 = 128 * (i 1).val + (i 2).val; omega

theorem r30 : At3 (n := 8192) (m := 8) (k := 1) (val_main_v30 (F := Ideal) x0 x2) fun r a _ =>
    (∑ k ∈ Finset.range 128, gate P W (16 + r) (128 * a + k) * gate P W (16 + r) (128 * a + k)) / (128 : ℕ) + eps :=
  Is.congr (Is.add (φ := .f32)
    (Is.div (φ := .f32) (Is.map (Is.sum (Is.mul (φ := .f32) (r23 h) (r23 h)) (val_main_cst_1_apply _ |>.trans ofBits_zero) (val_main_v25_apply x0 x2)) (val_main_v26_apply x0 x2))
      (g := fun _ => ((128 : ℕ) : ℝ)) (fun i => (val_main_v27_apply i).trans ofBits_128) fun i => by norm_num)
    (g := fun _ => eps) (fun i => (val_main_v29_apply i).trans ofBits_eps)) fun i =>
    congrArg (fun z => z / ((128 : ℕ) : ℝ) + eps)
      (Fin.sum_univ_eq_sum_range (fun k => gate P W (16 + (i 0).val) (128 * (i 1).val + k) * gate P W (16 + (i 0).val) (128 * (i 1).val + k)) 128)

theorem r31 : At3 (n := 8192) (m := 8) (k := 1) (val_main_v31 (F := Ideal) x0 x2) fun r a _ => rs 128 fun k => gate P W (16 + r) (128 * a + k) :=
  Is.congr (Is.rsqrt (φ := .f32) (r30 h) fun _ => ms_pos 128 _) fun _ => rfl

theorem r34 : At3 (n := 8192) (m := 8) (k := 1) (val_main_v34 (F := Ideal) x0 x2) fun r a _ =>
    -(1 / 2) * ((rs 128 fun k => gate P W (16 + r) (128 * a + k)) /
      ((∑ k ∈ Finset.range 128, gate P W (16 + r) (128 * a + k) * gate P W (16 + r) (128 * a + k)) / (128 : ℕ) + eps)) :=
  Is.congr (Is.mul (φ := .f32) (f := fun _ => -(1 / 2)) (fun i => (val_main_v33_apply i).trans ofBits_mhalf)
    (Is.div (φ := .f32) (r31 h) (r30 h) fun _ => (ms_pos 128 _).ne')) fun _ => rfl

theorem r129 : At2 (n := 8192) (m := 1024) (val_main_v129 (F := Ideal) x1) fun r l => G (16 + r) l :=
  Is.congr (Is.map h.g (val_main_v129_apply x1)) fun _ => rfl

theorem r223 : At3 (n := 8192) (m := 8) (k := 128) (val_main_v223 (F := Ideal) x1) fun r a l => G (16 + r) (128 * a + l) :=
  split3 (r129 h) (val_main_v223_apply x1)
    (fun i => by have := bound3 i; show (((i 0).val * 8 + (i 1).val) * 128 + (i 2).val) / 1024 = (i 0).val; omega)
    fun i => by have := bound3 i; show (((i 0).val * 8 + (i 1).val) * 128 + (i 2).val) % 1024 = 128 * (i 1).val + (i 2).val; omega

theorem r231 : At3 (n := 8192) (m := 8) (k := 1) (val_main_v231 (F := Ideal) x0 x1 x2) fun r a _ =>
    nbq 128 (fun k => gate P W (16 + r) (128 * a + k)) fun k => G (16 + r) (128 * a + k) :=
  Is.congr (Is.div (φ := .f32) (Is.mul (φ := .f32)
      (Is.map (Is.sum (Is.mul (φ := .f32) (r23 h) (r223 h)) (val_main_cst_38_apply _ |>.trans ofBits_zero) (val_main_v225_apply x0 x1 x2))
        (val_main_v226_apply x0 x1 x2)) (r34 h))
      (g := fun _ => ((128 : ℕ) : ℝ)) (fun i => (val_main_v230_apply i).trans ofBits_128) fun i => by norm_num) fun i => by
    have hi := bound3 i
    unfold nbq
    refine congrArg (fun z => z * _ / ((128 : ℕ) : ℝ)) ?_
    rw [← Fin.sum_univ_eq_sum_range]
    refine Finset.sum_congr rfl fun k _ => ?_
    have e0 : (((i 0).val * 8 + (i 1).val) * 1 + (i 2).val) / 8 = (i 0).val := by omega
    have e1 : (((i 0).val * 8 + (i 1).val) * 1 + (i 2).val) % 8 = (i 1).val := by omega
    exact congrArg₂ (fun a b => gate P W (16 + a) (128 * b + k.val) * G (16 + a) (128 * b + k.val)) e0 e1

theorem r237 : At3 (n := 8192) (m := 8) (k := 128) (val_main_v237 (F := Ideal) x0 x1 x2) fun r a l =>
    nb 128 (fun k => gate P W (16 + r) (128 * a + k)) (fun k => G (16 + r) (128 * a + k)) l := by
  have hq : At3 (n := 8192) (m := 8) (k := 128) (val_main_v233 (F := Ideal) x0 x1 x2) fun r a _ =>
      nbq 128 (fun k => gate P W (16 + r) (128 * a + k)) fun k => G (16 + r) (128 * a + k) :=
    Is.congr (Is.map (Is.sum (r231 h) (val_main_cst_40_apply _ |>.trans ofBits_zero) (val_main_v232_apply x0 x1 x2)) (val_main_v233_apply x0 x1 x2))
      fun i => Fin.sum_univ_one _
  refine Is.congr (Is.add (φ := .f32) (Is.add (φ := .f32) (Is.mul (φ := .f32) (r223 h) (Is.map (r31 h) (val_main_v227_apply x0 x2)))
    (Is.mul (φ := .f32) (r23 h) hq)) (Is.mul (φ := .f32) hq (r23 h))) fun i => ?_
  exact nb_ref 128 (fun k => gate P W (16 + (i 0).val) (128 * (i 1).val + k)) (fun k => G (16 + (i 0).val) (128 * (i 1).val + k)) (i 2).val

theorem r238 : At2 (n := 8192) (m := 1024) (val_main_v238 (F := Ideal) x0 x1 x2) fun r l => dgate P G W (16 + r) l :=
  join3 (r237 h) (val_main_v238_apply x0 x1 x2)
    (fun i => by have := bound2 i; show ((i 0).val * 1024 + (i 1).val) / 1024 = (i 0).val; omega)
    (fun i => by have := bound2 i; show ((i 0).val * 1024 + (i 1).val) / 128 % 8 = (i 1).val / 128; omega)
    fun i => by have := bound2 i; show ((i 0).val * 1024 + (i 1).val) % 128 = (i 1).val % 128; omega

theorem r239 : At2 (n := 8192) (m := 1024) (val_main_v239 (F := Ideal) x0 x1 x2) fun r l => dconv P G W (16 + r) l :=
  Is.congr (Is.mul (φ := .f32) (Is.map h.p (val_main_v0_apply x0)) (r238 h)) fun _ => mul_comm _ _

theorem r240 : At2 (n := 8192) (m := 1024) (val_main_v240 (F := Ideal) x0 x1 x2) fun r l => dgate P G W (16 + r) l * conv P W (16 + r) l :=
  Is.congr (Is.mul (φ := .f32) (r238 h) (r21 h)) fun _ => rfl

/-- Past the last token there is no gradient at the convolution. -/
theorem dconv_high {ρ : ℕ} (hρ : 16 + 8192 ≤ ρ) (l : ℕ) : dconv P G W ρ l = 0 := by
  unfold dconv dgate gnb
  rw [h.high ρ hρ, nb_zero, zero_mul]

theorem r242 : At2 (n := 8192) (m := 1024) (val_main_v242 (F := Ideal) x0 x1 x2) fun r l => W 2 l * dconv P G W (16 + r) l :=
  Is.congr (Is.mul (φ := .f32) (Is.map (Is.map h.w (val_main_v17_apply x2)) (val_main_v241_apply x2)) (r239 h)) fun _ => rfl

theorem r249 : At2 (n := 8192) (m := 1024) (val_main_v249 (F := Ideal) x0 x1 x2) fun r l => W 1 l * dconv P G W (16 + r) l :=
  Is.congr (Is.mul (φ := .f32) (Is.map (Is.map h.w (val_main_v12_apply x2)) (val_main_v248_apply x2)) (r239 h)) fun _ => rfl

theorem r258 : At2 (n := 8192) (m := 1024) (val_main_v258 (F := Ideal) x0 x1 x2) fun r l => W 0 l * dconv P G W (16 + r) l :=
  Is.congr (Is.mul (φ := .f32) (Is.map (Is.map h.w (val_main_v8_apply x2)) (val_main_v257_apply x2)) (r239 h)) fun _ => rfl

theorem r267 : At2 (n := 8192) (m := 1024) (val_main_v267 (F := Ideal) x0 x1 x2) fun r l => dcu W (dconv P G W) (16 + r) l := by
  have k2 := At2.padRows (φ := .f32) (v := val_main_cst_42 (F := Ideal)) (r242 h) h_S_ (val_main_cst_42_apply _ |>.trans ofBits_zero)
    pads_S8192x1024_S8194x1024_200_000
  have k1 := At2.padRows (φ := .f32) (v := val_main_cst_45 (F := Ideal)) (r249 h) h_S_ (val_main_cst_45_apply _ |>.trans ofBits_zero)
    pads_S8192x1024_S8194x1024_110_000
  have k0 := At2.padRows (φ := .f32) (v := val_main_cst_48 (F := Ideal)) (r258 h) h_S_ (val_main_cst_48_apply _ |>.trans ofBits_zero)
    pads_S8192x1024_S8194x1024_020_000
  refine Is.congr (Is.map (Is.add (φ := .f32) (Is.add (φ := .f32) k2 k1) k0) (val_main_v267_apply x0 x1 x2)) fun i => ?_
  have hi := bound2 i
  show (if 2 ≤ 2 + (i 0).val ∧ 2 + (i 0).val - 2 < 8192 then W 2 (i 1).val * dconv P G W (16 + (2 + (i 0).val - 2)) (i 1).val else 0) +
    (if 1 ≤ 2 + (i 0).val ∧ 2 + (i 0).val - 1 < 8192 then W 1 (i 1).val * dconv P G W (16 + (2 + (i 0).val - 1)) (i 1).val else 0) +
    (if 0 ≤ 2 + (i 0).val ∧ 2 + (i 0).val - 0 < 8192 then W 0 (i 1).val * dconv P G W (16 + (2 + (i 0).val - 0)) (i 1).val else 0) = _
  rw [if_pos (by omega), ite_eq_left_of (fun hc => by rw [dconv_high h (by omega), mul_zero]),
    ite_eq_left_of (fun hc => by rw [dconv_high h (by omega), mul_zero]),
    show 16 + (2 + (i 0).val - 2) = 16 + (i 0).val by omega, show 16 + (2 + (i 0).val - 1) = 16 + (i 0).val + 1 by omega,
    show 16 + (2 + (i 0).val - 0) = 16 + (i 0).val + 2 by omega]
  show _ = W 0 (i 1).val * dconv P G W (16 + (i 0).val + 2) (i 1).val + W 1 (i 1).val * dconv P G W (16 + (i 0).val + 1) (i 1).val +
    W 2 (i 1).val * dconv P G W (16 + (i 0).val) (i 1).val
  ring

/-- One row of the weights' gradient. -/
theorem rowW {p : S8192x1024.Idx → EReal} {w : S1024.Idx → EReal} {q : S1x1024.Idx → EReal} (a : ℕ)
    (hp : At2 (n := 8192) (m := 1024) p fun r l => dconv P G W (16 + r) l * cu P (14 + a + r) l)
    {v : EReal} (hv : v = ((0 : ℝ) : EReal)) (e : ∀ i, w i = v + ∑ k, p (idx_main_v244 i k)) (e' : ∀ i, q i = w (idx_main_v245 i)) :
    At2 (n := 1) (m := 1024) q fun _ l => ∑ τ ∈ Finset.range 8192, dconv P G W (16 + τ) l * cu P (14 + a + τ) l :=
  Is.congr (Is.map (Is.sum hp hv e) e') fun i => by
    have hi := bound2 i
    have e0 : (i 0).val * 1024 + (i 1).val = (i 1).val := by omega
    refine (Fin.sum_univ_eq_sum_range (fun τ => dconv P G W (16 + τ) ((i 0).val * 1024 + (i 1).val) * cu P (14 + a + τ) ((i 0).val * 1024 + (i 1).val)) 8192).trans ?_
    rw [e0]

theorem r245 : At2 (n := 1) (m := 1024) (val_main_v245 (F := Ideal) x0 x1 x2) fun _ l =>
    ∑ τ ∈ Finset.range 8192, dconv P G W (16 + τ) l * cu P (14 + 2 + τ) l :=
  rowW h 2 (Is.congr (Is.mul (φ := .f32) (r239 h) (Is.map (r6 h) (val_main_v18_apply x0))) fun i =>
    congrArg (fun z => dconv P G W (16 + (i 0).val) (i 1).val * cu P z (i 1).val) (Nat.add_assoc 14 2 (i 0).val).symm) (val_main_cst_41_apply _ |>.trans ofBits_zero) (val_main_v244_apply x0 x1 x2) (val_main_v245_apply x0 x1 x2)

theorem r252 : At2 (n := 1) (m := 1024) (val_main_v252 (F := Ideal) x0 x1 x2) fun _ l =>
    ∑ τ ∈ Finset.range 8192, dconv P G W (16 + τ) l * cu P (14 + 1 + τ) l :=
  rowW h 1 (Is.congr (Is.mul (φ := .f32) (r239 h) (Is.map (r6 h) (val_main_v13_apply x0))) fun i =>
    congrArg (fun z => dconv P G W (16 + (i 0).val) (i 1).val * cu P z (i 1).val) (Nat.add_assoc 14 1 (i 0).val).symm) (val_main_cst_44_apply _ |>.trans ofBits_zero) (val_main_v251_apply x0 x1 x2) (val_main_v252_apply x0 x1 x2)

theorem r261 : At2 (n := 1) (m := 1024) (val_main_v261 (F := Ideal) x0 x1 x2) fun _ l =>
    ∑ τ ∈ Finset.range 8192, dconv P G W (16 + τ) l * cu P (14 + 0 + τ) l :=
  rowW h 0 (Is.congr (Is.mul (φ := .f32) (r239 h) (Is.map (r6 h) (val_main_v9_apply x0))) fun i => rfl)
    (val_main_cst_47_apply _ |>.trans ofBits_zero) (val_main_v260_apply x0 x1 x2) (val_main_v261_apply x0 x1 x2)

/-- The gradient of the convolution's weights. -/
theorem r265 : At2 (n := 3) (m := 1024) (val_main_v265 (F := Ideal) x0 x1 x2) fun a l =>
    ∑ τ ∈ Finset.range 8192, dconv P G W (16 + τ) l * cu P (14 + a + τ) l := by
  have k2 := At2.padRows (φ := .f32) (v := val_main_cst_43 (F := Ideal)) (r245 h) h_S_ (val_main_cst_43_apply _ |>.trans ofBits_zero)
    pads_S1x1024_S3x1024_200_000
  have k1 := At2.padRows (φ := .f32) (v := val_main_cst_46 (F := Ideal)) (r252 h) h_S_ (val_main_cst_46_apply _ |>.trans ofBits_zero)
    pads_S1x1024_S3x1024_110_000
  have k0 := At2.padRows (φ := .f32) (v := val_main_cst_49 (F := Ideal)) (r261 h) h_S_ (val_main_cst_49_apply _ |>.trans ofBits_zero)
    pads_S1x1024_S3x1024_020_000
  refine At2.congr (At2.add (φ := .f32) (At2.add (φ := .f32) k2 k1) k0) fun a l ha _ => ?_
  obtain rfl | rfl | rfl : a = 0 ∨ a = 1 ∨ a = 2 := by omega
  · rw [if_neg (by omega), if_neg (by omega), if_pos (by omega), zero_add, zero_add]
  · rw [if_neg (by omega), if_pos (by omega), if_neg (by omega), zero_add, add_zero]
  · rw [if_pos (by omega), if_neg (by omega), if_neg (by omega), add_zero, add_zero]

end Cert.Mix
-- ==== Proof.Val.RefOut.lean ====
module

public import proofs.«01_k».proof.Proof.Val.RefBack
public import proofs.«01_k».proof.Proof.Val.RefConv
public import proofs.«01_k».proof.Proof.Val.Out

@[expose] public section

set_option maxRecDepth 16384

/-! The reference's gradient of the projection. -/

namespace Cert.Mix

open Idealize.ShloMosaic Cert.ReferenceIdeal Cert.ReferenceIdeal.Gen Cert.ReferenceIdeal.Read

/-- Four matrices of 1024 columns side by side. -/
theorem At2.wide4 {x0 x1 x2 x3 : FVec Ideal S8192x1024 .f32} {f : ℕ → ℕ → ℝ}
    (h0 : At2 (n := 8192) (m := 1024) x0 fun r l => f r l) (h1 : At2 (n := 8192) (m := 1024) x1 fun r l => f r (1024 + l))
    (h2 : At2 (n := 8192) (m := 1024) x2 fun r l => f r (2048 + l)) (h3 : At2 (n := 8192) (m := 1024) x3 fun r l => f r (3072 + l)) (h) :
    At2 (n := 8192) (m := 4096) (concatenate S8192x4096 1 [⟨_, x0⟩, ⟨_, x1⟩, ⟨_, x2⟩, ⟨_, x3⟩] h) f := fun j => by
  have hj := bound2 j
  rw [concatenate_cons_apply]
  simp only [concatenateAt_cons, concatenateAt_singleton]
  split
  · exact h0 _
  split
  · rename_i q' q
    have q' : ¬ (j 1).val < 1024 := q'
    refine (h1 _).trans (congrArg _ ?_)
    show f (j 0).val (1024 + ((j 1).val - 1024)) = _
    rw [show 1024 + ((j 1).val - 1024) = (j 1).val by omega]
  split
  · rename_i q'' q' q
    have q'' : ¬ (j 1).val < 1024 := q''
    have q' : ¬ (j 1).val - 1024 < 1024 := q'
    refine (h2 _).trans (congrArg _ ?_)
    show f (j 0).val (2048 + ((j 1).val - 1024 - 1024)) = _
    rw [show 2048 + ((j 1).val - 1024 - 1024) = (j 1).val by omega]
  · rename_i q'' q' q
    have q'' : ¬ (j 1).val < 1024 := q''
    have q' : ¬ (j 1).val - 1024 < 1024 := q'
    have q : ¬ (j 1).val - 1024 - 1024 < 1024 := q
    refine (h3 _).trans (congrArg _ ?_)
    show f (j 0).val (3072 + ((j 1).val - 1024 - 1024 - 1024)) = _
    rw [show 3072 + ((j 1).val - 1024 - 1024 - 1024) = (j 1).val by omega]

variable {x0 : (⟨S8192x4096, .f32⟩ : BufTy).Contents (Elt Ideal)} {x1 : (⟨S8192x2048, .f32⟩ : BufTy).Contents (Elt Ideal)} {x2 : (⟨S3x1024, .f32⟩ : BufTy).Contents (Elt Ideal)}
  {x3 : (⟨S4x4x64x256, .f32⟩ : BufTy).Contents (Elt Ideal)} {x4 : (⟨S1x1024, .f32⟩ : BufTy).Contents (Elt Ideal)} {P G W : ℕ → ℕ → ℝ} {Q : ℕ → ℕ → ℕ → ℝ} {S : ℕ → ℝ}
  (h : Args x0 x1 x2 P G W) (h' : PArgs x0 x1 x3 x4 P G Q S)
include h h'

theorem r271 : At2 (n := 8192) (m := 4096) (val_main_v271 (F := Ideal) x0 x1 x2 x3 x4) fun r j =>
    dprj P G W (dconv P G W) (dpn P G Q S 0) (dpooled P G Q S 0) (16 + r) j := by
  refine At2.wide4 (f := fun r j => dprj P G W (dconv P G W) (dpn P G Q S 0) (dpooled P G Q S 0) (16 + r) j)
    (x0 := val_main_v240 (F := Ideal) x0 x1 x2) (x1 := val_main_v269 (F := Ideal) x0 x1 x2) (x2 := val_main_v268 (F := Ideal) x0 x1 x2)
    (x3 := val_main_v222 (F := Ideal) x0 x1 x3 x4) (Is.congr (r240 h) fun i => ?_)
    (Is.congr (Is.mul (φ := .f32) (r267 h) (Is.map h.p (val_main_v2_apply x0))) fun i => ?_)
    (Is.congr (Is.mul (φ := .f32) (Is.map h.p (val_main_v1_apply x0)) (r267 h)) fun i => ?_) (Is.congr (r222 h') fun i => ?_)
    concatenates_S8192x1024_S8192x1024_S8192x1024_S8192x1024_S8192x4096_d1
  all_goals
    have hi := bound2 i
    beta_reduce
    unfold dprj
  · rw [if_pos hi.2]
  · rw [if_neg (by omega), if_pos (by omega), Nat.add_sub_cancel_left]
  · rw [if_neg (by omega), if_neg (by omega), if_pos (by omega), Nat.add_sub_cancel_left]
    exact mul_comm _ _
  · rw [if_neg (by omega), if_neg (by omega), if_neg (by omega), Nat.add_sub_cancel_left]

end Cert.Mix
-- ==== Proof.Val.Equal.lean ====
module

public import proofs.«01_k».proof.Proof.Val.Arrays
public import proofs.«01_k».proof.Proof.Val.RefOut

@[expose] public section

set_option maxRecDepth 16384

/-! The reference's results are what the kernel leaves in its arrays. -/

namespace Cert.Mix

open Idealize.ShloMosaic Idealize.ShloMosaic.TcCoe Cert.KernelIdeal Cert.KernelIdeal.Gen

variable {m : (ℓ : Loc nD τ sig) → Idealize.ShloMosaic.Buf (Elt Ideal) ℓ} {c : Dev nD} (h : Reals m c)
include h

theorem prj_at : At2 (n := 8192) (m := 4096) (m ((c : Thread nD τ).loc main_arg0)) fun r l => prj m c (16 + r) l := fun _ => ent_at h.a0 _ rfl rfl
theorem grd_at : At2 (n := 8192) (m := 2048) (m ((c : Thread nD τ).loc main_arg1)) fun r l => grd m c (16 + r) l := fun _ => ent_at h.a1 _ rfl rfl

theorem args_of : Args (m ((c : Thread nD τ).loc main_arg0)) (m ((c : Thread nD τ).loc main_arg1)) (m ((c : Thread nD τ).loc main_arg2))
    (prj m c) (grd m c) (cwt m c) where
  p := prj_at h
  g := grd_at h
  w := fun _ => ent_at h.a2 _ (Nat.zero_add _) rfl
  low := fun _ l hρ => ent_low _ hρ l
  high := fun _ hρ => ent_high _ hρ

theorem pargs_of : PArgs (m ((c : Thread nD τ).loc main_arg0)) (m ((c : Thread nD τ).loc main_arg1)) (m ((c : Thread nD τ).loc main_arg3))
    (m ((c : Thread nD τ).loc main_arg4)) (prj m c) (grd m c) (pwt m c) (psc m c) where
  p := prj_at h
  g := grd_at h
  q := ent4_at h.a3
  s := fun i => ent_at h.a4 i (by have := bound2 i; omega) rfl
  low := fun _ l hρ => ent_low _ hρ l
  high := fun _ hρ => ent_high _ hρ

theorem eq_prj : Cert.ReferenceIdeal.Read.val_main_v271 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) = (dats m 0 c).arrAt 18 cfg0.N :=
  (funext fun i => r271 (args_of h) (pargs_of h) i).trans (arr18 m c h).symm

theorem eq_cw : Cert.ReferenceIdeal.Read.val_main_v265 (F := Ideal) (m ((c : Thread nD τ).loc main_arg0)) (m ((c : Thread nD τ).loc main_arg1))
    (m ((c : Thread nD τ).loc main_arg2)) = (dats m 0 c).arrAt 19 cfg0.N :=
  (funext fun i => r265 (args_of h) i).trans (arr19 m c h).symm

theorem eq_pw : Cert.ReferenceIdeal.Read.val_main_v157 (F := Ideal) (m ((c : Thread nD τ).loc main_arg0)) (m ((c : Thread nD τ).loc main_arg1))
    (m ((c : Thread nD τ).loc main_arg3)) (m ((c : Thread nD τ).loc main_arg4)) = (dats m 0 c).arrAt 20 cfg0.N :=
  (funext fun i => r157 (pargs_of h) i).trans (arr20 m c h).symm

theorem eq_ps : Cert.ReferenceIdeal.Read.val_main_v133 (F := Ideal) (m ((c : Thread nD τ).loc main_arg0)) (m ((c : Thread nD τ).loc main_arg1))
    (m ((c : Thread nD τ).loc main_arg3)) = (dats m 0 c).arrAt 21 cfg0.N :=
  (funext fun i => r133 (pargs_of h) i).trans (arr21 m c h).symm

end Cert.Mix
-- ==== Proof.Prod.Rows.lean ====
module

public import Idealize.ShloMosaic.Lib.Pipeline.Value
public import Idealize.ShloMosaic.Lib.Pipeline.ValueKit
public import Idealize.ShloMosaic.PureOps.Ideal

@[expose] public section

/-! Arrays of extended reals read by row and column, and products of them summed block after block. -/

namespace Cert.Prod

open Idealize.ShloMosaic

/-- The array's entries are the function's values at their row and column. -/
def Rd {n k : ℕ} {φ : FTy} (x : FVec Ideal ⟨2, ![n, k]⟩ φ) (f : ℕ → ℕ → EReal) : Prop := ∀ j, x j = f (j 0).val (j 1).val

/-- The entry of an array at a row and a column, zero outside of it. -/
noncomputable def ent {n k : ℕ} {φ : FTy} (x : FVec Ideal ⟨2, ![n, k]⟩ φ) (r l : ℕ) : EReal :=
  if h : r < n ∧ l < k then x (fun a => match a with | ⟨0, _⟩ => ⟨r, h.1⟩ | ⟨1, _⟩ => ⟨l, h.2⟩) else 0

theorem ent_at {n k : ℕ} {φ : FTy} (x : FVec Ideal ⟨2, ![n, k]⟩ φ) (i : (⟨2, ![n, k]⟩ : Shape).Idx) {r l : ℕ}
    (h0 : (i 0).val = r) (h1 : (i 1).val = l) : x i = ent x r l := by
  subst h0 h1
  have b0 : (i 0).val < n := (i 0).isLt
  have b1 : (i 1).val < k := (i 1).isLt
  unfold ent
  rw [dif_pos ⟨b0, b1⟩]
  congr 1
  funext a
  match a with
  | ⟨0, _⟩ => rfl
  | ⟨1, _⟩ => rfl

/-- The product of two columns over the first `n` rows. -/
noncomputable def colDot (f g : ℕ → ℕ → EReal) (n r l : ℕ) : EReal := ∑ k ∈ Finset.range n, f k r * g k l

/-- One more block of rows. -/
theorem colDot_add (f g : ℕ → ℕ → EReal) (a b r l : ℕ) :
    colDot f g (a + b) r l = colDot f g a r l + colDot (fun k => f (a + k)) (fun k => g (a + k)) b r l :=
  Finset.sum_range_add _ a b

theorem sum_fin {K : ℕ} {a b : Fin K → EReal} {f g : ℕ → EReal} (ha : ∀ k, a k = f k) (hb : ∀ k, b k = g k) :
    ∑ k, a k * b k = ∑ k ∈ Finset.range K, f k * g k := by
  rw [Finset.sum_range]
  exact Finset.sum_congr rfl fun k _ => by rw [ha, hb]

end Cert.Prod
-- ==== Proof.Prod.Four.lean ====
module

public import proofs.«01_k».proof.Proof.Prod.Rows

@[expose] public section

/-! An accumulator over runs of four points, each adding the product over a block of 2048 rows. -/

namespace Cert.Prod

open Idealize.ShloMosaic

/-- The block point `t` reads of an array: its rows by the place in the run of four, its columns by the run. -/
def part (f : ℕ → ℕ → EReal) (P : ℕ → ℕ) (t r l : ℕ) : EReal := f (2048 * (t % 4) + r) (P (t / 4) + l)

theorem part_first (f g : ℕ → ℕ → EReal) (P Q : ℕ → ℕ) {t : ℕ} (h : t % 4 = 0) (r l : ℕ) :
    colDot (part f P t) (part g Q t) 2048 r l = colDot f g (2048 * (t % 4 + 1)) (P (t / 4) + r) (Q (t / 4) + l) := by
  simp [colDot, part, h]

theorem part_next (f g : ℕ → ℕ → EReal) (P Q : ℕ → ℕ) {t : ℕ} (h : (t + 1) % 4 ≠ 0) (r l : ℕ) :
    colDot f g (2048 * (t % 4 + 1)) (P (t / 4) + r) (Q (t / 4) + l) + colDot (part f P (t + 1)) (part g Q (t + 1)) 2048 r l =
      colDot f g (2048 * ((t + 1) % 4 + 1)) (P ((t + 1) / 4) + r) (Q ((t + 1) / 4) + l) := by
  have e1 : (t + 1) % 4 = t % 4 + 1 := by omega
  have e2 : (t + 1) / 4 = t / 4 := by omega
  unfold colDot part
  rw [e1, e2, Nat.mul_add 2048 (t % 4 + 1) 1, Finset.sum_range_add]

/-- What the accumulator holds before the last point of each run. -/
theorem four {N n k : ℕ} {f g : ℕ → ℕ → EReal} {P Q : ℕ → ℕ} (s : (t : ℕ) → t < N → FVec Ideal ⟨2, ![n, k]⟩ .f32)
    (first : ∀ t h, t % 4 = 0 → ∀ j, s t h j = colDot (part f P t) (part g Q t) 2048 (j 0).val (j 1).val)
    (next : ∀ t (h : t + 1 < N), (t + 1) % 4 ≠ 0 → (t + 1) % 4 ≠ 3 → ∀ j,
      s (t + 1) h j = s t (by omega) j + colDot (part f P (t + 1)) (part g Q (t + 1)) 2048 (j 0).val (j 1).val) :
    ∀ t h, t % 4 ≠ 3 → ∀ j, s t h j = colDot f g (2048 * (t % 4 + 1)) (P (t / 4) + (j 0).val) (Q (t / 4) + (j 1).val) := fun t => by
  induction t with
  | zero => exact fun h _ j => (first 0 h rfl j).trans (part_first f g P Q rfl _ _)
  | succ t ih =>
    intro h h3 j
    by_cases h0 : (t + 1) % 4 = 0
    · exact (first _ h h0 j).trans (part_first f g P Q h0 _ _)
    · rw [next t h h0 h3 j, ih (by omega) (by omega) j, part_next f g P Q h0]

/-- The last point of a run brings the product over all 8192 rows. -/
theorem four_last {f g : ℕ → ℕ → EReal} {P Q : ℕ → ℕ} {t r l : ℕ} {x : EReal} (h3 : (t + 1) % 4 = 3)
    (hx : x = colDot f g (2048 * (t % 4 + 1)) (P (t / 4) + r) (Q (t / 4) + l)) :
    x + colDot (part f P (t + 1)) (part g Q (t + 1)) 2048 r l = colDot f g 8192 (P ((t + 1) / 4) + r) (Q ((t + 1) / 4) + l) := by
  rw [hx, part_next f g P Q (by omega), h3]

/-- A product the other way round. -/
theorem colDot_comm {K : ℕ} {a b : Fin K → EReal} {f g : ℕ → ℕ → EReal} {r l : ℕ} (ha : ∀ k, a k = g k l) (hb : ∀ k, b k = f k r) :
    ∑ k, a k * b k = colDot f g K r l := by
  rw [sum_fin (f := fun k => g k l) (g := fun k => f k r) ha hb]
  exact Finset.sum_congr rfl fun k _ => mul_comm _ _

/-- A matrix stored as the one matrix of a stack. -/
theorem cast_up {n k : ℕ} {φ : FTy} (x : FVec Ideal ⟨2, ![n, k]⟩ φ) (h : (⟨2, ![n, k]⟩ : Shape).ShapeCasts ⟨3, ![1, n, k]⟩)
    (j : (⟨3, ![1, n, k]⟩ : Shape).Idx) (i : (⟨2, ![n, k]⟩ : Shape).Idx) (h0 : (i 0).val = (j 1).val) (h1 : (i 1).val = (j 2).val) :
    shapeCast ⟨3, ![1, n, k]⟩ x h j = x i := by
  refine shapeCast_apply _ _ j i ?_
  rw [Shape.rowMajor_val_two, Shape.rowMajor_val_three]
  have b0 : (j 0).val < 1 := (j 0).isLt
  have e0 : (j 0).val = 0 := by omega
  rw [h0, h1, e0, Nat.zero_mul, Nat.zero_add]
  rfl

end Cert.Prod
-- ==== Proof.Prod.GateUp.lean ====
module

public import proofs.«01_k».proof.Proof.Prod.Rows
public import proofs.«01_k».proof.Proof.Gen.Kernel2Ideal.Value
public import Idealize.ShloMosaic.Lib.Tactic

@[expose] public section

/-! The weight gradients of the gate and up products: what each grid point leaves, and the two arrays at the end. -/

namespace Cert.GateUp

open Idealize.ShloMosaic Idealize.ShloMosaic.TcCoe Cert.Kernel2Ideal Cert.Kernel2Ideal.Gen Cert.Prod

theorem hz : (![0, 0] : Fin 2 → Nat) = fun _ => 0 := funext fun a => by fin_cases a <;> rfl

section Points

variable (c : Dev nD) (i : grid0.Coords) (a3 : Memref sig .tc .vmem S2048x2048 .bf16) (h3 : a3.IsWhole)
  (a4 : Memref sig .tc .vmem S2048x512 .bf16) (h4 : a4.IsWhole) (a5 : Memref sig .tc .vmem S2048x512 .bf16) (h5 : a5.IsWhole)
  (a6 : Memref sig .tc .vmem S2048x512 .bf16) (h6 : a6.IsWhole) (a7 : Memref sig .tc .vmem S2048x512 .bf16) (h7 : a7.IsWhole)
  (a8 : Memref sig .tc .vmem S2048x512 .f32) (h8 : a8.IsWhole) (a9 : Memref sig .tc .vmem S2048x512 .f32) (h9 : a9.IsWhole)
  (x0 : Vec Ideal S2048x2048 .bf16) (x1 x2 : Vec Ideal S2048x512 .bf16) (s0 s1 : Vec Ideal S2048x512 .f32)

theorem first0 (hc0 : cond0_0 i) (hc1 : ¬cond0_1 i) (hc2 : ¬cond0_2 i) :
    sout0_A_0 c i a3 h3 a4 h4 a5 h5 a6 h6 a7 h7 a8 h8 a9 h9 hc0 hc1 hc2 x0 x1 x2 = k0_pay1 x0 x1 := by
  unfold sout0_A_0
  rw [View.read_writes_eq_canon _ _ _ (scover0_A_0 c i a3 h3 a4 h4 a5 h5 a6 h6 a7 h7 a8 h8 a9 h9 hc0 hc1 hc2 x0 x1 x2)]
  unfold kernelRun0_A
  dsimp only
  sl_unfold_words
  rw [View.canon_unit_zero hz]
  simp only [View.readAt_eq_ld, h3.read_unread, h4.read_unread, h5.read_unread, View.ld_unit_zero (S := S2048x2048) hz, View.ld_unit_zero (S := S2048x512) hz]

theorem first1 (hc0 : cond0_0 i) (hc1 : ¬cond0_1 i) (hc2 : ¬cond0_2 i) :
    sout0_A_1 c i a3 h3 a4 h4 a5 h5 a6 h6 a7 h7 a8 h8 a9 h9 hc0 hc1 hc2 x0 x1 x2 = k0_pay2 x0 x2 := by
  unfold sout0_A_1
  rw [View.read_writes_eq_canon _ _ _ (scover0_A_1 c i a3 h3 a4 h4 a5 h5 a6 h6 a7 h7 a8 h8 a9 h9 hc0 hc1 hc2 x0 x1 x2)]
  unfold kernelRun0_A
  dsimp only
  sl_unfold_words
  rw [View.canon_unit_zero hz]
  simp only [View.readAt_eq_ld, h3.read_unread, h4.read_unread, h5.read_unread, View.ld_unit_zero (S := S2048x2048) hz, View.ld_unit_zero (S := S2048x512) hz]

theorem next0 (hc0 : ¬cond0_0 i) (hc1 : cond0_1 i) (hc2 : ¬cond0_2 i) :
    sout0_B_0 c i a3 h3 a4 h4 a5 h5 a6 h6 a7 h7 a8 h8 a9 h9 hc0 hc1 hc2 x0 x1 x2 s0 s1 = k0_pay3 x0 x1 s0 := by
  unfold sout0_B_0
  rw [View.read_writes_eq_canon _ _ _ (scover0_B_0 c i a3 h3 a4 h4 a5 h5 a6 h6 a7 h7 a8 h8 a9 h9 hc0 hc1 hc2 x0 x1 x2 s0 s1)]
  unfold kernelRun0_B
  dsimp only
  sl_unfold_words
  rw [View.canon_unit_zero hz]
  simp only [View.readAt_eq_ld, h3.read_unread, h4.read_unread, h5.read_unread, h8.read_unread, h9.read_unread, View.ld_unit_zero (S := S2048x2048) hz, View.ld_unit_zero (S := S2048x512) hz]

theorem next1 (hc0 : ¬cond0_0 i) (hc1 : cond0_1 i) (hc2 : ¬cond0_2 i) :
    sout0_B_1 c i a3 h3 a4 h4 a5 h5 a6 h6 a7 h7 a8 h8 a9 h9 hc0 hc1 hc2 x0 x1 x2 s0 s1 = k0_pay4 x0 x2 s1 := by
  unfold sout0_B_1
  rw [View.read_writes_eq_canon _ _ _ (scover0_B_1 c i a3 h3 a4 h4 a5 h5 a6 h6 a7 h7 a8 h8 a9 h9 hc0 hc1 hc2 x0 x1 x2 s0 s1)]
  unfold kernelRun0_B
  dsimp only
  sl_unfold_words
  rw [View.canon_unit_zero hz]
  simp only [View.readAt_eq_ld, h3.read_unread, h4.read_unread, h5.read_unread, h8.read_unread, h9.read_unread, View.ld_unit_zero (S := S2048x2048) hz, View.ld_unit_zero (S := S2048x512) hz]

theorem last0 (hc0 : ¬cond0_0 i) (hc1 : cond0_1 i) (hc2 : cond0_2 i) :
    out0_C_3 c i a3 h3 a4 h4 a5 h5 a6 h6 a7 h7 a8 h8 a9 h9 hc0 hc1 hc2 x0 x1 x2 s0 s1 = k0_pay5 (k0_pay3 x0 x1 s0) := by
  unfold out0_C_3
  rw [View.read_writes_eq_canon _ _ _ (cover0_C_3 c i a3 h3 a4 h4 a5 h5 a6 h6 a7 h7 a8 h8 a9 h9 hc0 hc1 hc2 x0 x1 x2 s0 s1)]
  unfold kernelRun0_C
  dsimp only
  sl_unfold_words
  rw [View.canon_unit_zero hz, View.readCov_unit_zero (S := S2048x512) _ hz]
  simp only [View.readAt_eq_ld, h3.read_unread, h4.read_unread, h5.read_unread, h8.read_unread, h9.read_unread, View.ld_unit_zero (S := S2048x2048) hz, View.ld_unit_zero (S := S2048x512) hz]

theorem last1 (hc0 : ¬cond0_0 i) (hc1 : cond0_1 i) (hc2 : cond0_2 i) :
    out0_C_4 c i a3 h3 a4 h4 a5 h5 a6 h6 a7 h7 a8 h8 a9 h9 hc0 hc1 hc2 x0 x1 x2 s0 s1 = k0_pay6 (k0_pay4 x0 x2 s1) := by
  unfold out0_C_4
  rw [View.read_writes_eq_canon _ _ _ (cover0_C_4 c i a3 h3 a4 h4 a5 h5 a6 h6 a7 h7 a8 h8 a9 h9 hc0 hc1 hc2 x0 x1 x2 s0 s1)]
  unfold kernelRun0_C
  dsimp only
  sl_unfold_words
  rw [View.canon_unit_zero hz, View.readCov_unit_zero (S := S2048x512) _ hz]
  simp only [View.readAt_eq_ld, h3.read_unread, h4.read_unread, h5.read_unread, h8.read_unread, h9.read_unread, View.ld_unit_zero (S := S2048x2048) hz, View.ld_unit_zero (S := S2048x512) hz]

end Points

theorem pay1_rd {x : Vec Ideal S2048x2048 .bf16} {y : Vec Ideal S2048x512 .bf16} {f g : ℕ → ℕ → EReal}
    (hx : Rd (φ := .bf16) x f) (hy : Rd (φ := .bf16) y g) : Rd (φ := .f32) (k0_pay1 x y) (colDot f g 2048) := fun j => by
  unfold k0_pay1
  simp only [pointwise, zero_add, shapeCast_self]
  exact sum_fin (f := fun k => f k (j 0).val) (g := fun k => g k (j 1).val) (fun k => hx _) fun k => hy _

theorem pay2_rd {x : Vec Ideal S2048x2048 .bf16} {y : Vec Ideal S2048x512 .bf16} {f g : ℕ → ℕ → EReal}
    (hx : Rd (φ := .bf16) x f) (hy : Rd (φ := .bf16) y g) : Rd (φ := .f32) (k0_pay2 x y) (colDot f g 2048) := pay1_rd hx hy

theorem pay3_eq (x : Vec Ideal S2048x2048 .bf16) (y : Vec Ideal S2048x512 .bf16) (s : Vec Ideal S2048x512 .f32) (j) :
    k0_pay3 x y s j = s j + k0_pay1 x y j := by
  unfold k0_pay3 k0_pay1
  simp only [shapeCast_self]
  rfl

theorem pay4_eq (x : Vec Ideal S2048x2048 .bf16) (y : Vec Ideal S2048x512 .bf16) (s : Vec Ideal S2048x512 .f32) (j) :
    k0_pay4 x y s j = s j + k0_pay1 x y j := pay3_eq x y s j

theorem pay5_eq (s : Vec Ideal S2048x512 .f32) (j) : k0_pay5 s j = s j := rfl
theorem pay6_eq (s : Vec Ideal S2048x512 .f32) (j) : k0_pay6 s j = s j := rfl

variable (m : (ℓ : Loc nD τ sig) → Idealize.ShloMosaic.Buf (Elt Ideal) ℓ) (c : Dev nD)

/-- The blocks the grid's points read, by their numbers. -/
theorem idx : ∀ t : Fin cfg0.N,
    win0_0.index t = ![t.val % 4, 0] ∧ win0_1.index t = ![t.val % 4, t.val / 4] ∧ win0_2.index t = ![t.val % 4, t.val / 4] :=
  (by decide +kernel : ∀ t : Fin grid0.N, _)

/-- The layer's input. -/
noncomputable def hf : ℕ → ℕ → EReal := ent (n := 8192) (k := 2048) (φ := .bf16) (m ((c : Thread nD τ).loc main_arg0))
/-- The gradient at the gate product. -/
noncomputable def dg : ℕ → ℕ → EReal := ent (n := 8192) (k := 5632) (φ := .bf16) (m ((c : Thread nD τ).loc main_arg1))
/-- The gradient at the up product. -/
noncomputable def dup : ℕ → ℕ → EReal := ent (n := 8192) (k := 5632) (φ := .bf16) (m ((c : Thread nD τ).loc main_arg2))

theorem blk0 (t : Fin cfg0.N) (y) (i : S8192x2048.Idx) (h0 : (i 0).val = 2048 * (t.val % 4) + (y 0).val) (h1 : (i 1).val = (y 1).val) :
    iblk m c 0 t y = m ((c : Thread nD τ).loc main_arg0) i := by
  blk_ext! [iblk, V, idx t]

theorem blk1 (t : Fin cfg0.N) (y) (i : S8192x5632.Idx) (h0 : (i 0).val = 2048 * (t.val % 4) + (y 0).val)
    (h1 : (i 1).val = 512 * (t.val / 4) + (y 1).val) : iblk m c 1 t y = m ((c : Thread nD τ).loc main_arg1) i := by
  blk_ext! [iblk, V, idx t]

theorem blk2 (t : Fin cfg0.N) (y) (i : S8192x5632.Idx) (h0 : (i 0).val = 2048 * (t.val % 4) + (y 0).val)
    (h1 : (i 1).val = 512 * (t.val / 4) + (y 1).val) : iblk m c 2 t y = m ((c : Thread nD τ).loc main_arg2) i := by
  blk_ext! [iblk, V, idx t]

theorem rd0 (t : Fin cfg0.N) : Rd (n := 2048) (k := 2048) (φ := .bf16) (iblk m c 0 t) fun r l => hf m c (2048 * (t.val % 4) + r) l := fun y => by
  have ht : t.val < 44 := t.isLt
  have b0 : (y 0).val < 2048 := (y 0).isLt
  have b1 : (y 1).val < 2048 := (y 1).isLt
  let i : S8192x2048.Idx := fun a => match a with
    | ⟨0, _⟩ => ⟨2048 * (t.val % 4) + (y 0).val, by show _ < 8192; omega⟩
    | ⟨1, _⟩ => ⟨(y 1).val, b1⟩
  exact (blk0 m c t y i rfl rfl).trans (ent_at (n := 8192) (k := 2048) (φ := .bf16) _ i rfl rfl)

theorem rd1 (t : Fin cfg0.N) : Rd (n := 2048) (k := 512) (φ := .bf16) (iblk m c 1 t)
    fun r l => dg m c (2048 * (t.val % 4) + r) (512 * (t.val / 4) + l) := fun y => by
  have ht : t.val < 44 := t.isLt
  have b0 : (y 0).val < 2048 := (y 0).isLt
  have b1 : (y 1).val < 512 := (y 1).isLt
  let i : S8192x5632.Idx := fun a => match a with
    | ⟨0, _⟩ => ⟨2048 * (t.val % 4) + (y 0).val, by show _ < 8192; omega⟩
    | ⟨1, _⟩ => ⟨512 * (t.val / 4) + (y 1).val, by show _ < 5632; omega⟩
  exact (blk1 m c t y i rfl rfl).trans (ent_at (n := 8192) (k := 5632) (φ := .bf16) _ i rfl rfl)

theorem rd2 (t : Fin cfg0.N) : Rd (n := 2048) (k := 512) (φ := .bf16) (iblk m c 2 t)
    fun r l => dup m c (2048 * (t.val % 4) + r) (512 * (t.val / 4) + l) := fun y => by
  have ht : t.val < 44 := t.isLt
  have b0 : (y 0).val < 2048 := (y 0).isLt
  have b1 : (y 1).val < 512 := (y 1).isLt
  let i : S8192x5632.Idx := fun a => match a with
    | ⟨0, _⟩ => ⟨2048 * (t.val % 4) + (y 0).val, by show _ < 8192; omega⟩
    | ⟨1, _⟩ => ⟨512 * (t.val / 4) + (y 1).val, by show _ < 5632; omega⟩
  exact (blk2 m c t y i rfl rfl).trans (ent_at (n := 8192) (k := 5632) (φ := .bf16) _ i rfl rfl)

/-- What the two accumulators hold after point `n`: the products over the rows met so far in its run of four. -/
theorem acc : ∀ (n : ℕ) (h : n < cfg0.N), n % 4 ≠ 3 →
    Rd (n := 2048) (k := 512) (φ := .f32) (outsAt0 m c n h).2.2.1
      (fun r l => colDot (hf m c) (dg m c) (2048 * (n % 4 + 1)) r (512 * (n / 4) + l)) ∧
    Rd (n := 2048) (k := 512) (φ := .f32) (outsAt0 m c n h).2.2.2
      (fun r l => colDot (hf m c) (dup m c) (2048 * (n % 4 + 1)) r (512 * (n / 4) + l)) := fun n => by
  induction n with
  | zero =>
    intro h _
    rw [outsAt0_A m c ⟨0, h⟩ rfl (by dsimp only; omega) (by dsimp only; omega)]
    dsimp only
    rw [first0, first1]
    refine ⟨fun j => (pay1_rd (rd0 m c ⟨0, h⟩) (rd1 m c ⟨0, h⟩) j).trans ?_, fun j => (pay2_rd (rd0 m c ⟨0, h⟩) (rd2 m c ⟨0, h⟩) j).trans ?_⟩
    · simp [colDot]
    · simp [colDot]
  | succ n ih =>
    intro h h3
    by_cases h0 : (n + 1) % 4 = 0
    · rw [outsAt0_A m c ⟨n + 1, h⟩ h0 (by dsimp only; omega) (by dsimp only; omega)]
      dsimp only
      rw [first0, first1]
      refine ⟨fun j => (pay1_rd (rd0 m c ⟨n + 1, h⟩) (rd1 m c ⟨n + 1, h⟩) j).trans ?_,
        fun j => (pay2_rd (rd0 m c ⟨n + 1, h⟩) (rd2 m c ⟨n + 1, h⟩) j).trans ?_⟩
      · simp [colDot, h0]
      · simp [colDot, h0]
    · obtain ⟨i1, i2⟩ := ih (by omega) (by omega)
      have e1 : (n + 1) % 4 = n % 4 + 1 := by omega
      have e2 : (n + 1) / 4 = n / 4 := by omega
      rw [outsAt0_B m c ⟨n + 1, h⟩ h0 (by dsimp only; omega) h3]
      dsimp only
      rw [next0, next1]
      refine ⟨fun j => ?_, fun j => ?_⟩
      · rw [pay3_eq, pay1_rd (rd0 m c ⟨n + 1, h⟩) (rd1 m c ⟨n + 1, h⟩) j]
        refine (congrArg (· + _) (i1 j)).trans ?_
        dsimp only
        rw [e1, e2, Nat.mul_add 2048 (n % 4 + 1) 1, colDot_add]
        rfl
      · rw [pay4_eq, pay1_rd (rd0 m c ⟨n + 1, h⟩) (rd2 m c ⟨n + 1, h⟩) j]
        refine (congrArg (· + _) (i2 j)).trans ?_
        dsimp only
        rw [e1, e2, Nat.mul_add 2048 (n % 4 + 1) 1, colDot_add]
        rfl

/-- What the last point of a run of four leaves in its two output blocks: the products over all rows. -/
theorem outs (n : ℕ) (h : n < cfg0.N) (h3 : n % 4 = 3) :
    Rd (n := 2048) (k := 512) (φ := .bf16) (outsAt0 m c n h).1 (fun r l => colDot (hf m c) (dg m c) 8192 r (512 * (n / 4) + l)) ∧
    Rd (n := 2048) (k := 512) (φ := .bf16) (outsAt0 m c n h).2.1 (fun r l => colDot (hf m c) (dup m c) 8192 r (512 * (n / 4) + l)) := by
  obtain ⟨n, rfl⟩ : ∃ k, n = k + 1 := ⟨n - 1, by omega⟩
  obtain ⟨i1, i2⟩ := acc m c n (by omega) (by omega)
  have e1 : n % 4 = 2 := by omega
  have e2 : (n + 1) / 4 = n / 4 := by omega
  rw [outsAt0_C m c ⟨n + 1, h⟩ (by dsimp only; omega) (by dsimp only; omega) h3]
  dsimp only
  rw [last0, last1]
  refine ⟨fun j => ?_, fun j => ?_⟩
  · rw [pay5_eq, pay3_eq, pay1_rd (rd0 m c ⟨n + 1, h⟩) (rd1 m c ⟨n + 1, h⟩) j]
    refine (congrArg (· + _) (i1 j)).trans ?_
    dsimp only
    rw [h3, e2, e1, show (8192 : ℕ) = 2048 * (2 + 1) + 2048 from rfl, colDot_add]
    rfl
  · rw [pay6_eq, pay4_eq, pay1_rd (rd0 m c ⟨n + 1, h⟩) (rd2 m c ⟨n + 1, h⟩) j]
    refine (congrArg (· + _) (i2 j)).trans ?_
    dsimp only
    rw [h3, e2, e1, show (8192 : ℕ) = 2048 * (2 + 1) + 2048 from rfl, colDot_add]
    rfl

/-- The gate's weight gradient at the end. -/
theorem gate_at (i : S2048x5632.Idx) : Value.G3 m c i = colDot (hf m c) (dg m c) 8192 (i 0).val (i 1).val := by
  have b0 : (i 0).val < 2048 := (i 0).isLt
  have b1 : (i 1).val < 5632 := (i 1).isLt
  have hp : Value.pt3Of i < cfg0.N := by show 4 * (11 * ((i 0).val / 2048 - 0) + 1 * ((i 1).val / 512 - 0)) + 3 < 44; omega
  unfold Value.G3
  rw [dif_pos hp, ← Value.outsAt0_sweep m c _ hp]
  refine ((outs m c _ hp (by unfold Value.pt3Of; omega)).1 _).trans ?_
  refine congrArg₂ (colDot _ _ 8192) ?_ ?_
  · show (i 0).val % 2048 = _; omega
  · show 512 * ((4 * (11 * ((i 0).val / 2048 - 0) + 1 * ((i 1).val / 512 - 0)) + 3) / 4) + (i 1).val % 512 = _; omega

/-- The up product's weight gradient at the end. -/
theorem up_at (i : S2048x5632.Idx) : Value.G4 m c i = colDot (hf m c) (dup m c) 8192 (i 0).val (i 1).val := by
  have b0 : (i 0).val < 2048 := (i 0).isLt
  have b1 : (i 1).val < 5632 := (i 1).isLt
  have hp : Value.pt4Of i < cfg0.N := by show 4 * (11 * ((i 0).val / 2048 - 0) + 1 * ((i 1).val / 512 - 0)) + 3 < 44; omega
  unfold Value.G4
  rw [dif_pos hp, ← Value.outsAt0_sweep m c _ hp]
  refine ((outs m c _ hp (by unfold Value.pt4Of; omega)).2 _).trans ?_
  refine congrArg₂ (colDot _ _ 8192) ?_ ?_
  · show (i 0).val % 2048 = _; omega
  · show 512 * ((4 * (11 * ((i 0).val / 2048 - 0) + 1 * ((i 1).val / 512 - 0)) + 3) / 4) + (i 1).val % 512 = _; omega

end Cert.GateUp
-- ==== Proof.Prod.GateUpClaim.lean ====
module

public import proofs.«01_k».proof.Defs
public import proofs.«01_k».proof.Proof.Prod.Four
public import proofs.«01_k».proof.Proof.Prod.GateUp
public import proofs.«01_k».proof.Proof.Gen.Reference2Ideal
public import proofs.«01_k».proof.Proof.Gen.Reference2Ideal.Run
public import proofs.«01_k».proof.Proof.Gen.Reference2Ideal.Read
public import Idealize.ShloMosaic.Adequacy
public import Idealize.ShloMosaic.Init
public import Idealize.ShloMosaic.Lib.Quiescent

@[expose] public section

/-! The weight gradients of the gate and up products are the reference's. -/

namespace Cert.GateUp

open Idealize.ShloMosaic Idealize.ShloMosaic.TcCoe Idealize.SL.Sem Idealize.ShloMosaic.StableHlo Cert.Prod Cert.Reference2Ideal.Read

theorem ref_gate (x0 : FVec Ideal ⟨2, ![8192, 2048]⟩ .bf16) (x1 : FVec Ideal ⟨2, ![8192, 5632]⟩ .bf16) (i) :
    val_main_v10 (F := Ideal) x0 x1 i = colDot (ent x0) (ent x1) 8192 (i 0).val (i 1).val := by
  rw [val_main_v10_apply, val_main_v9_apply]
  exact (val_main_v8_apply x0 x1 _).trans (colDot_comm (fun k => ent_at x1 _ rfl rfl) fun k => ent_at x0 _ rfl rfl)

theorem ref_up (x0 : FVec Ideal ⟨2, ![8192, 2048]⟩ .bf16) (x2 : FVec Ideal ⟨2, ![8192, 5632]⟩ .bf16) (i) :
    val_main_v11 (F := Ideal) x0 x2 i = colDot (ent x0) (ent x2) 8192 (i 0).val (i 1).val := by
  rw [val_main_v11_apply, val_main_v7_apply]
  exact (val_main_v6_apply x0 x2 _).trans (colDot_comm (fun k => ent_at x2 _ rfl rfl) fun k => ent_at x0 _ rfl rfl)

theorem frame_reference : Cert.quiescent_Reference2Ideal (hReference2Ideal := Cert.Reference2Ideal.Gen.facts) := fun m ρ _ =>
  (θ_run Cert.Reference2Ideal.defs _ _).mono (fun r h => ⟨fun c => (h c).2.2, sem_eq_zero_of_no_sems (by decide) r.2⟩)
    (Cert.Reference2Ideal.Value.run (F := Ideal) m ρ)

theorem algebraic : Cert.algebraic_Kernel2Ideal_Reference2Ideal (hKernel2Ideal := Cert.Kernel2Ideal.Gen.facts)
    (hReference2Ideal := Cert.Reference2Ideal.Gen.facts) := fun m ρ m' ρ' _ hagree => by
  refine ⟨fun c => Cert.Kernel2Ideal.Value.G3 m c, fun c => Cert.Kernel2Ideal.Value.G4 m c, Cert.Kernel2Ideal.Value.run m ρ, ?_⟩
  refine (θ_run Cert.Reference2Ideal.defs _ _).mono (fun r h c => ?_) (Cert.Reference2Ideal.Value.run (F := Ideal) m' ρ')
  obtain ⟨g0, g1, g2⟩ := hagree c
  obtain ⟨h0, h1, hargs⟩ := h c
  rw [g0, g1] at h0
  rw [g0, g2] at h1
  exact ⟨h0.trans (funext fun i => (ref_gate _ _ i).trans (gate_at m c i).symm),
    h1.trans (funext fun i => (ref_up _ _ i).trans (up_at m c i).symm), hargs⟩

end Cert.GateUp
-- ==== Proof.Prod.RowDot.lean ====
module

public import proofs.«01_k».proof.Proof.Prod.Rows

@[expose] public section

/-! Products of rows. -/

namespace Cert.Prod

open Idealize.ShloMosaic

/-- The product of a row of `f` and a row of `g` over their first `n` entries. -/
noncomputable def rowDot (f g : ℕ → ℕ → EReal) (n r l : ℕ) : EReal := ∑ k ∈ Finset.range n, f r k * g l k

theorem rowDot_fin {K : ℕ} {a b : Fin K → EReal} {f g : ℕ → ℕ → EReal} {r l : ℕ} (ha : ∀ k, a k = f r k) (hb : ∀ k, b k = g l k) :
    ∑ k, a k * b k = rowDot f g K r l := sum_fin (f := fun k => f r k) (g := fun k => g l k) ha hb

/-- The entry of a stack of matrices, zero outside of it. -/
noncomputable def ent3 {q n k : ℕ} {φ : FTy} (x : FVec Ideal ⟨3, ![q, n, k]⟩ φ) (b r l : ℕ) : EReal :=
  if h : b < q ∧ r < n ∧ l < k then x (fun a => match a with | ⟨0, _⟩ => ⟨b, h.1⟩ | ⟨1, _⟩ => ⟨r, h.2.1⟩ | ⟨2, _⟩ => ⟨l, h.2.2⟩) else 0

theorem ent3_at {q n k : ℕ} {φ : FTy} (x : FVec Ideal ⟨3, ![q, n, k]⟩ φ) (i : (⟨3, ![q, n, k]⟩ : Shape).Idx) {b r l : ℕ}
    (h0 : (i 0).val = b) (h1 : (i 1).val = r) (h2 : (i 2).val = l) : x i = ent3 x b r l := by
  subst h0 h1 h2
  have b0 : (i 0).val < q := (i 0).isLt
  have b1 : (i 1).val < n := (i 1).isLt
  have b2 : (i 2).val < k := (i 2).isLt
  unfold ent3
  rw [dif_pos ⟨b0, b1, b2⟩]
  congr 1
  funext a
  match a with
  | ⟨0, _⟩ => rfl
  | ⟨1, _⟩ => rfl
  | ⟨2, _⟩ => rfl

end Cert.Prod
-- ==== Proof.Prod.Swiglu.lean ====
module

public import proofs.«01_k».proof.Proof.Prod.RowDot
public import proofs.«01_k».proof.Proof.Val.Bounds
public import proofs.«01_k».proof.Proof.Val.Norm

@[expose] public section

/-! The derivative of the gate `g * logistic g`, times a number. -/

namespace Cert.Prod

open Idealize.ShloMosaic

theorem exp_bot : Ideal.exp ⊥ = 0 := rfl
theorem exp_top : Ideal.exp ⊤ = ⊤ := rfl
theorem one_add_top : (1 : EReal) + ⊤ = ⊤ := rfl

theorem logistic_cases (g : EReal) :
    (∃ r s : ℝ, g = r ∧ Ideal.logistic g = s) ∨ (g = ⊥ ∧ Ideal.logistic g = 0) ∨ (g = ⊤ ∧ Ideal.logistic g = 1) := by
  induction g with
  | bot => right; left; simp [Ideal.logistic, Ideal.div, exp_top, one_add_top]
  | top => right; right; simp [Ideal.logistic, Ideal.div, exp_bot]
  | coe r =>
    refine Or.inl ⟨r, 1 * (1 + Real.exp (-r))⁻¹, rfl, ?_⟩
    have h : (1 : EReal) + Ideal.exp (-(r : EReal)) = ((1 + Real.exp (-r) : ℝ) : EReal) := rfl
    have h0 : ((1 + Real.exp (-r) : ℝ) : EReal) ≠ 0 := fun e => absurd (EReal.coe_eq_zero.mp e) (by positivity)
    unfold Ideal.logistic Ideal.div
    rw [h, if_neg h0, ← EReal.coe_inv]
    rfl

/-- The gate's derivative, times the up product. -/
noncomputable def dgate (g u : EReal) : EReal := u * (Ideal.logistic g + g * Ideal.logistic g * (1 - Ideal.logistic g))

/-- The factor multiplied into the derivative's two terms, or into their sum. -/
theorem gate_grad (g : EReal) (p : ℝ) :
    dgate g p = p * Ideal.logistic g + g * p * (Ideal.logistic g * (1 - Ideal.logistic g)) := by
  unfold dgate
  obtain ⟨r, s, hg, hs⟩ | ⟨hg, hs⟩ | ⟨hg, hs⟩ := logistic_cases g
  · rw [hs, hg]
    norm_cast
    ring
  · simp [hg, hs]
  · have e : (1 : EReal) - 1 = 0 := by rw [← EReal.coe_one, ← EReal.coe_sub, sub_self, EReal.coe_zero]
    simp [hg, hs, e]

theorem ent_real {n k : ℕ} {φ : FTy} {x : FVec Ideal ⟨2, ![n, k]⟩ φ} (hx : Cert.Mix.IsReal x) (r l : ℕ) : ∃ a : ℝ, ent x r l = a := by
  unfold ent
  split
  · exact ⟨_, hx _⟩
  · exact ⟨0, rfl⟩

theorem rowDot_real {f g : ℕ → ℕ → EReal} (hf : ∀ r l, ∃ a : ℝ, f r l = a) (hg : ∀ r l, ∃ a : ℝ, g r l = a) (n r l : ℕ) :
    ∃ a : ℝ, rowDot f g n r l = a := by
  refine Finset.sum_induction (fun k => f r k * g l k) (fun x => ∃ a : ℝ, x = a) ?_ ⟨0, rfl⟩ fun k _ => ?_
  · rintro _ _ ⟨a, rfl⟩ ⟨b, rfl⟩
    exact ⟨a + b, rfl⟩
  · obtain ⟨a, ha⟩ := hf r k
    obtain ⟨b, hb⟩ := hg l k
    exact ⟨a * b, by rw [ha, hb, EReal.coe_mul]⟩

end Cert.Prod
-- ==== Proof.Prod.Dact.lean ====
module

public import proofs.«01_k».proof.Defs
public import proofs.«01_k».proof.Proof.Prod.Swiglu
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import Idealize.ShloMosaic.Lib.Tactic
public import Idealize.ShloMosaic.Adequacy
public import Idealize.ShloMosaic.Init
public import Idealize.ShloMosaic.Lib.Quiescent

@[expose] public section

/-! The gradients at the gate's and the up product. -/

namespace Cert.Dact

open Idealize.ShloMosaic Idealize.ShloMosaic.TcCoe Cert.Kernel3Ideal Cert.Kernel3Ideal.Gen Cert.Prod

theorem hz : (![0, 0] : Fin 2 → Nat) = fun _ => 0 := funext fun a => by fin_cases a <;> rfl

theorem out4_eq (x : Vec Ideal S2048x2048 .bf16) (y : Vec Ideal S512x2048 .bf16) (z w : Vec Ideal S2048x512 .bf16) :
    out0_4 x y z w = k0_pay2 x y z := by
  unfold out0_4
  rw [View.canon_unit_zero hz]
  simp only [View.ld_unit_zero (S := S2048x2048) hz, View.ld_unit_zero (S := S512x2048) hz, View.ld_unit_zero (S := S2048x512) hz]

theorem out5_eq (x : Vec Ideal S2048x2048 .bf16) (y : Vec Ideal S512x2048 .bf16) (z w : Vec Ideal S2048x512 .bf16) :
    out0_5 x y z w = k0_pay3 x y w := by
  unfold out0_5
  rw [View.canon_unit_zero hz]
  simp only [View.ld_unit_zero (S := S2048x2048) hz, View.ld_unit_zero (S := S512x2048) hz, View.ld_unit_zero (S := S2048x512) hz]

section Payloads

variable {x : Vec Ideal S2048x2048 .bf16} {y : Vec Ideal S512x2048 .bf16} {z : Vec Ideal S2048x512 .bf16} {f g d : ℕ → ℕ → EReal}

theorem pay1_rd (hx : Rd (φ := .bf16) x f) (hy : Rd (φ := .bf16) y g) : Rd (φ := .f32) (k0_pay1 x y) (rowDot f g 2048) := fun j => by
  unfold k0_pay1
  simp only [pointwise, zero_add]
  exact rowDot_fin (fun k => hx _) fun k => hy _

theorem pay2_rd (hx : Rd (φ := .bf16) x f) (hy : Rd (φ := .bf16) y g) (hz : Rd (φ := .bf16) z d) :
    Rd (φ := .bf16) (k0_pay2 x y z) fun r l => rowDot f g 2048 r l * d r l := fun j => by
  unfold k0_pay2
  rw [shapeCast_self]
  exact congrArg₂ (fun a b : EReal => a * b) (pay1_rd hx hy j) (hz j)

theorem pay3_rd (hx : Rd (φ := .bf16) x f) (hy : Rd (φ := .bf16) y g) (hz : Rd (φ := .bf16) z d) :
    Rd (φ := .bf16) (k0_pay3 x y z) fun r l => rowDot f g 2048 r l * d r l := pay2_rd hx hy hz

end Payloads

variable (m : (ℓ : Loc nD τ sig) → Idealize.ShloMosaic.Buf (Elt Ideal) ℓ) (c : Dev nD)

section Host

noncomputable abbrev ones : FVec Ideal S8192x5632 .f32 := broadcastInDim S8192x5632 ![] bcast_S_S8192x5632 (constant S_ .f32 0x3F800000#32)

noncomputable abbrev sigm (g : FVec Ideal S8192x5632 .f32) : FVec Ideal S8192x5632 .f32 := Host.divf ones (addf ones (Host.exp (Host.negf g)))

theorem sigm_at (g : FVec Ideal S8192x5632 .f32) (i) : (sigm g i : EReal) = Ideal.logistic (g i) := by
  show Ideal.div (FloatOps.ofBits .f32 0x3F800000#32 : Ideal .f32) ((FloatOps.ofBits .f32 0x3F800000#32 : Ideal .f32) + Ideal.exp (-(g i : EReal)) : EReal) = _
  rw [Cert.Mix.ofBits_one]
  rfl

/-- The saved gate and up products. -/
noncomputable abbrev gin : FVec Ideal S8192x5632 .f32 := m ((c : Thread nD τ).loc main_arg0)
noncomputable abbrev uin : FVec Ideal S8192x5632 .f32 := m ((c : Thread nD τ).loc main_arg1)

theorem V_v12 : V m c main_v12 = truncf .bf16 (mulf (uin m c) (addf (sigm (gin m c))
    (mulf (mulf (gin m c) (sigm (gin m c)))
      (subf ones (sigm (gin m c)))))) bitsLt_bf16_f32 := by
  unfold V hostOps0
  after_results

theorem V_v13 : V m c main_v13 = truncf .bf16 (mulf (gin m c) (sigm (gin m c)))
    bitsLt_bf16_f32 := by
  unfold V hostOps0
  after_results

/-- The up product times the gate's derivative, as the kernel's host lines compute it. -/
theorem v12_at (i : S8192x5632.Idx) : ((V m c main_v12 : FVec Ideal S8192x5632 .bf16) i : EReal)
    = dgate (gin m c i) (uin m c i) := by
  rw [V_v12]
  show (uin m c i : EReal) * (sigm (gin m c) i
    + gin m c i * sigm (gin m c) i
      * ((FloatOps.ofBits .f32 0x3F800000#32 : Ideal .f32) - sigm (gin m c) i : EReal)) = _
  rw [sigm_at, Cert.Mix.ofBits_one]
  rfl

theorem v13_at (i : S8192x5632.Idx) : ((V m c main_v13 : FVec Ideal S8192x5632 .bf16) i : EReal)
    = gin m c i * Ideal.logistic (gin m c i) := by
  rw [V_v13, ← sigm_at]
  rfl

end Host

/-- The blocks the grid's points read and write, by their numbers. -/
theorem idx : ∀ t : Fin cfg0.N, win0_0.index t = ![t.val / 11, 0] ∧ win0_1.index t = ![t.val % 11, 0] ∧ win0_2.index t = ![t.val / 11, t.val % 11]
    ∧ win0_3.index t = ![t.val / 11, t.val % 11] ∧ win0_4.index t = ![t.val / 11, t.val % 11] ∧ win0_5.index t = ![t.val / 11, t.val % 11] :=
  (by decide +kernel : ∀ t : Fin grid0.N, _)

/-- The gradient at the block's output. -/
noncomputable def dff : ℕ → ℕ → EReal := ent (n := 8192) (k := 2048) (φ := .bf16) (m ((c : Thread nD τ).loc main_arg3))
/-- The down product's weights. -/
noncomputable def wd : ℕ → ℕ → EReal := ent (n := 5632) (k := 2048) (φ := .bf16) (m ((c : Thread nD τ).loc main_arg2))
/-- The saved factors of the two gradients. -/
noncomputable def byg : ℕ → ℕ → EReal := ent (n := 8192) (k := 5632) (φ := .bf16) (V m c main_v12)
noncomputable def byu : ℕ → ℕ → EReal := ent (n := 8192) (k := 5632) (φ := .bf16) (V m c main_v13)

theorem blk0 (t : Fin cfg0.N) (y) (i : S8192x2048.Idx) (h0 : (i 0).val = 2048 * (t.val / 11) + (y 0).val) (h1 : (i 1).val = (y 1).val) :
    iblk m c 0 t y = V m c main_arg3 i := by
  blk_ext! [iblk, idx t]

theorem blk1 (t : Fin cfg0.N) (y) (i : S5632x2048.Idx) (h0 : (i 0).val = 512 * (t.val % 11) + (y 0).val) (h1 : (i 1).val = (y 1).val) :
    iblk m c 1 t y = V m c main_arg2 i := by
  blk_ext! [iblk, idx t]

theorem blk2 (t : Fin cfg0.N) (y) (i : S8192x5632.Idx) (h0 : (i 0).val = 2048 * (t.val / 11) + (y 0).val)
    (h1 : (i 1).val = 512 * (t.val % 11) + (y 1).val) : iblk m c 2 t y = V m c main_v12 i := by
  blk_ext! [iblk, idx t]

theorem blk3 (t : Fin cfg0.N) (y) (i : S8192x5632.Idx) (h0 : (i 0).val = 2048 * (t.val / 11) + (y 0).val)
    (h1 : (i 1).val = 512 * (t.val % 11) + (y 1).val) : iblk m c 3 t y = V m c main_v13 i := by
  blk_ext! [iblk, idx t]

theorem rd0 (t : Fin cfg0.N) : Rd (n := 2048) (k := 2048) (φ := .bf16) (iblk m c 0 t) (fun r l => dff m c (2048 * (t.val / 11) + r) l) := fun y => by
  have ht : t.val < 44 := t.isLt
  have b0 : (y 0).val < 2048 := (y 0).isLt
  have b1 : (y 1).val < 2048 := (y 1).isLt
  let i : S8192x2048.Idx := fun a => match a with
    | ⟨0, _⟩ => ⟨2048 * (t.val / 11) + (y 0).val, by show _ < 8192; omega⟩
    | ⟨1, _⟩ => ⟨(y 1).val, b1⟩
  exact (blk0 m c t y i rfl rfl).trans ((congrFun (V_main_arg3 m c) i).trans (ent_at (n := 8192) (k := 2048) (φ := .bf16) _ i rfl rfl))

theorem rd1 (t : Fin cfg0.N) : Rd (n := 512) (k := 2048) (φ := .bf16) (iblk m c 1 t) (fun r l => wd m c (512 * (t.val % 11) + r) l) := fun y => by
  have b0 : (y 0).val < 512 := (y 0).isLt
  have b1 : (y 1).val < 2048 := (y 1).isLt
  let i : S5632x2048.Idx := fun a => match a with
    | ⟨0, _⟩ => ⟨512 * (t.val % 11) + (y 0).val, by show _ < 5632; omega⟩
    | ⟨1, _⟩ => ⟨(y 1).val, b1⟩
  exact (blk1 m c t y i rfl rfl).trans ((congrFun (V_main_arg2 m c) i).trans (ent_at (n := 5632) (k := 2048) (φ := .bf16) _ i rfl rfl))

/-- The entry of the saved factors that is entry `y` of point `t`'s block. -/
def sat (t : Fin cfg0.N) (y : S2048x512.Idx) : S8192x5632.Idx := fun a => match a with
  | ⟨0, _⟩ => ⟨2048 * (t.val / 11) + (y 0).val, by
      have ht : t.val < 44 := t.isLt
      have b0 : (y 0).val < 2048 := (y 0).isLt
      show _ < 8192
      omega⟩
  | ⟨1, _⟩ => ⟨512 * (t.val % 11) + (y 1).val, by
      have b1 : (y 1).val < 512 := (y 1).isLt
      show _ < 5632
      omega⟩

theorem rd2 (t : Fin cfg0.N) :
    Rd (n := 2048) (k := 512) (φ := .bf16) (iblk m c 2 t) (fun r l => byg m c (2048 * (t.val / 11) + r) (512 * (t.val % 11) + l)) := fun y =>
  (blk2 m c t y (sat t y) rfl rfl).trans (ent_at (n := 8192) (k := 5632) (φ := .bf16) _ (sat t y) rfl rfl)

theorem rd3 (t : Fin cfg0.N) :
    Rd (n := 2048) (k := 512) (φ := .bf16) (iblk m c 3 t) (fun r l => byu m c (2048 * (t.val / 11) + r) (512 * (t.val % 11) + l)) := fun y =>
  (blk3 m c t y (sat t y) rfl rfl).trans (ent_at (n := 8192) (k := 5632) (φ := .bf16) _ (sat t y) rfl rfl)

/-- The gradient at the activations. -/
noncomputable def D (r l : ℕ) : EReal := rowDot (dff m c) (wd m c) 2048 r l

/-- The arrays at the end. -/
theorem out4_at : (dats m 0 c).arrAt 4 cfg0.N = fun i => D m c (i 0).val (i 1).val * byg m c (i 0).val (i 1).val := by
  refine (dats m 0 c).arrAt_eq_of_covers 4 _ (by decide +kernel) fun t hf y => ?_
  blk_simp [idx t]
  rw [after0_4, out4_eq]
  refine (pay2_rd (rd0 m c t) (rd1 m c t) (rd2 m c t) _).trans ?_
  rw [Nat.mul_comm 2048, Nat.mul_comm 512]
  rfl

theorem out5_at : (dats m 0 c).arrAt 5 cfg0.N = fun i => D m c (i 0).val (i 1).val * byu m c (i 0).val (i 1).val := by
  refine (dats m 0 c).arrAt_eq_of_covers 5 _ (by decide +kernel) fun t hf y => ?_
  blk_simp [idx t]
  rw [after0_5, out5_eq]
  refine (pay3_rd (rd0 m c t) (rd1 m c t) (rd3 m c t) _).trans ?_
  rw [Nat.mul_comm 2048, Nat.mul_comm 512]
  rfl

open Idealize.SL.Sem Idealize.ShloMosaic.StableHlo Cert.Reference3Ideal.Read

section Reference

variable (x0 x1 : FVec Ideal ⟨2, ![8192, 5632]⟩ .f32) (x2 : FVec Ideal ⟨2, ![5632, 2048]⟩ .bf16) (x3 : FVec Ideal ⟨2, ![8192, 2048]⟩ .bf16)

theorem dact_at (i) : val_main_v5 (F := Ideal) x2 x3 i = rowDot (ent x3) (ent x2) 2048 (i 0).val (i 1).val :=
  (val_main_v5_apply x2 x3 i).trans (rowDot_fin (fun k => ent_at x3 _ rfl rfl) fun k => ent_at x2 _ rfl rfl)

theorem sig_at (i) : (val_main_v2_2 (F := Ideal) x0 i : EReal) = Ideal.logistic (x0 i) := by
  show Ideal.div (val_main_call0_v4 (F := Ideal) i) ((val_main_call0_v2 (F := Ideal) i : EReal) + Ideal.exp (-(x0 i : EReal))) = _
  rw [(val_main_call0_v4_apply (F := Ideal) i).trans Cert.Mix.ofBits_one, (val_main_call0_v2_apply (F := Ideal) i).trans Cert.Mix.ofBits_one]
  rfl

theorem dsig_at (i) : (val_main_v2_1 (F := Ideal) x0 i : EReal) = Ideal.logistic (x0 i) * (1 - Ideal.logistic (x0 i)) := by
  show (val_main_v2_2 (F := Ideal) x0 i : EReal) * ((val_main_call0_v6 (F := Ideal) i : EReal) - val_main_v2_2 (F := Ideal) x0 i) = _
  rw [(val_main_call0_v6_apply (F := Ideal) i).trans Cert.Mix.ofBits_one, sig_at]
  rfl

theorem ref5_at (i) : (val_main_v10 (F := Ideal) x0 x2 x3 i : EReal) = val_main_v5 (F := Ideal) x2 x3 i * (x0 i * Ideal.logistic (x0 i)) := by
  rw [← sig_at]
  exact mul_comm _ _

theorem ref4_at (i) (h5 : ∃ a : ℝ, val_main_v5 (F := Ideal) x2 x3 i = (a : EReal)) (h1 : ∃ b : ℝ, x1 i = (b : EReal)) :
    (val_main_v9 (F := Ideal) x0 x1 x2 x3 i : EReal) = val_main_v5 (F := Ideal) x2 x3 i * dgate (x0 i) (x1 i) := by
  obtain ⟨a, ha⟩ := h5
  obtain ⟨b, hb⟩ := h1
  have e : (val_main_v7 (F := Ideal) x1 x2 x3 i : EReal) = ((a * b : ℝ) : EReal) := by
    show (val_main_v5 (F := Ideal) x2 x3 i : EReal) * x1 i = _
    rw [ha, hb, EReal.coe_mul]
  show (val_main_v7 (F := Ideal) x1 x2 x3 i : EReal) * val_main_v2_2 (F := Ideal) x0 i
    + x0 i * val_main_v7 (F := Ideal) x1 x2 x3 i * val_main_v2_1 (F := Ideal) x0 i = _
  rw [e, sig_at, dsig_at, ha, hb]
  refine (gate_grad _ (a * b)).symm.trans ?_
  unfold dgate
  rw [EReal.coe_mul, mul_assoc]

end Reference

theorem pre_facts : Cert.Pre_finite3.Facts where
  bitsLt_bf16_f32 := by decide
  bcast_S_S8192x5632 := by decide
  bcast_S_S5632x2048 := by decide
  bcast_S_S8192x2048 := by decide

theorem dact_real {x2 : FVec Ideal ⟨2, ![5632, 2048]⟩ .bf16} {x3 : FVec Ideal ⟨2, ![8192, 2048]⟩ .bf16} (h2 : Cert.Mix.IsReal x2)
    (h3 : Cert.Mix.IsReal x3) (i) : ∃ a : ℝ, val_main_v5 (F := Ideal) x2 x3 i = (a : EReal) := by
  rw [dact_at]
  exact rowDot_real (ent_real h3) (ent_real h2) 2048 _ _

theorem reals_of (h : Cert.Pre_Kernel3Ideal_finite3 (hPre_finite3 := pre_facts) m) (c : Dev nD) :
    Cert.Mix.IsReal (m ((c : Thread nD τ).loc main_arg1)) ∧ Cert.Mix.IsReal (m ((c : Thread nD τ).loc main_arg2))
      ∧ Cert.Mix.IsReal (m ((c : Thread nD τ).loc main_arg3)) :=
  ⟨Cert.Mix.isReal_of (B := fun _ => FloatOps.ofBits .f32 0x7F800000#32) (fun _ => Cert.Mix.ofBits_inf) (h c).1,
    Cert.Mix.isReal_of (B := fun _ => FloatOps.ofBits .f32 0x7F800000#32) (fun _ => Cert.Mix.ofBits_inf) (h c).2.1,
    Cert.Mix.isReal_of (B := fun _ => FloatOps.ofBits .f32 0x7F800000#32) (fun _ => Cert.Mix.ofBits_inf) (h c).2.2⟩

theorem frame_reference : Cert.quiescent_Reference3Ideal (hReference3Ideal := Cert.Reference3Ideal.Gen.facts) := fun m ρ _ =>
  (θ_run Cert.Reference3Ideal.defs _ _).mono (fun r h => ⟨fun c => (h c).2.2, sem_eq_zero_of_no_sems (by decide) r.2⟩)
    (Cert.Reference3Ideal.Value.run (F := Ideal) m ρ)

theorem algebraic : Cert.algebraic_Kernel3Ideal_Reference3Ideal_pre_finite3 (hKernel3Ideal := Cert.Kernel3Ideal.Gen.facts)
    (hReference3Ideal := Cert.Reference3Ideal.Gen.facts) (hPre_finite3 := pre_facts) := fun m ρ m' ρ' hpre hagree => by
  refine ⟨fun c => (dats m 0 c).arrAt 4 cfg0.N, fun c => (dats m 0 c).arrAt 5 cfg0.N, Cert.Kernel3Ideal.Value.run_blocks m ρ, ?_⟩
  refine (θ_run Cert.Reference3Ideal.defs _ _).mono (fun r h c => ?_) (Cert.Reference3Ideal.Value.run (F := Ideal) m' ρ')
  obtain ⟨g0, g1, g2, g3⟩ := hagree c
  obtain ⟨h0, h1, hargs⟩ := h c
  obtain ⟨r1, r2, r3⟩ := reals_of m hpre c
  rw [g0, g1, g2, g3] at h0
  rw [g0, g2, g3] at h1
  have hg : ∀ i, (byg m c (i 0).val (i 1).val) = dgate (gin m c i) (uin m c i) :=
    fun i => (ent_at (n := 8192) (k := 5632) (φ := .bf16) _ i rfl rfl).symm.trans (v12_at m c i)
  have hu : ∀ i, (byu m c (i 0).val (i 1).val) = (gin m c i : EReal) * Ideal.logistic (gin m c i) :=
    fun i => (ent_at (n := 8192) (k := 5632) (φ := .bf16) _ i rfl rfl).symm.trans (v13_at m c i)
  refine ⟨h0.trans (Eq.trans (funext fun i => ?_) (out4_at m c).symm), h1.trans (Eq.trans (funext fun i => ?_) (out5_at m c).symm), hargs⟩
  · exact (ref4_at _ _ _ _ i (dact_real r2 r3 i) ⟨_, r1 i⟩).trans (congrArg₂ (fun a b => a * b) (dact_at _ _ i) (hg i).symm)
  · exact (ref5_at _ _ _ i).trans (congrArg₂ (fun a b => a * b) (dact_at _ _ i) (hu i).symm)

end Cert.Dact
-- ==== Proof.Prod.DwDown.lean ====
module

public import proofs.«01_k».proof.Defs
public import proofs.«01_k».proof.Proof.Prod.Four
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import Idealize.ShloMosaic.Lib.Tactic
public import Idealize.ShloMosaic.Adequacy
public import Idealize.ShloMosaic.Init
public import Idealize.ShloMosaic.Lib.Quiescent

@[expose] public section

/-! The weight gradient of the down product. -/

namespace Cert.DwDown

open Idealize.ShloMosaic Idealize.ShloMosaic.TcCoe Cert.Kernel4Ideal Cert.Kernel4Ideal.Gen Cert.Prod

theorem hz : (![0, 0] : Fin 2 → Nat) = fun _ => 0 := funext fun a => by fin_cases a <;> rfl
theorem hz3 : (![0, 0, 0] : Fin 3 → Nat) = fun _ => 0 := funext fun a => by fin_cases a <;> rfl

section Points

variable (c : Dev nD) (i : grid0.Coords) (a3 : Memref sig .tc .vmem S2048x1408 .bf16) (h3 : a3.IsWhole)
  (a4 : Memref sig .tc .vmem S2048x2048 .bf16) (h4 : a4.IsWhole) (a5 : Memref sig .tc .vmem S1x1408x2048 .bf16) (h5 : a5.IsWhole)
  (a6 : Memref sig .tc .vmem S1408x2048 .f32) (h6 : a6.IsWhole)
  (x0 : Vec Ideal S2048x1408 .bf16) (x1 : Vec Ideal S2048x2048 .bf16) (s0 : Vec Ideal S1408x2048 .f32)

theorem first0 (hc0 : cond0_0 i) (hc1 : ¬cond0_1 i) (hc2 : ¬cond0_2 i) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero hz]
  simp only [View.readAt_eq_ld, h3.read_unread, h4.read_unread, View.ld_unit_zero (S := S2048x1408) hz, View.ld_unit_zero (S := S2048x2048) hz]

theorem next0 (hc0 : ¬cond0_0 i) (hc1 : cond0_1 i) (hc2 : ¬cond0_2 i) :
    sout0_B_0 c i a3 h3 a4 h4 a5 h5 a6 h6 hc0 hc1 hc2 x0 x1 s0 = k0_pay2 x0 x1 s0 := by
  unfold sout0_B_0
  rw [View.read_writes_eq_canon _ _ _ (scover0_B_0 c i a3 h3 a4 h4 a5 h5 a6 h6 hc0 hc1 hc2 x0 x1 s0)]
  unfold kernelRun0_B
  dsimp only
  sl_unfold_words
  rw [View.canon_unit_zero hz]
  simp only [View.readAt_eq_ld, h3.read_unread, h4.read_unread, h6.read_unread, View.ld_unit_zero (S := S2048x1408) hz, View.ld_unit_zero (S := S2048x2048) hz, View.ld_unit_zero (S := S1408x2048) hz]

theorem last0 (hc0 : ¬cond0_0 i) (hc1 : cond0_1 i) (hc2 : cond0_2 i) :
    out0_C_2 c i a3 h3 a4 h4 a5 h5 a6 h6 hc0 hc1 hc2 x0 x1 s0 = k0_pay3 (k0_pay2 x0 x1 s0) := by
  unfold out0_C_2
  rw [View.read_writes_eq_canon _ _ _ (cover0_C_2 c i a3 h3 a4 h4 a5 h5 a6 h6 hc0 hc1 hc2 x0 x1 s0)]
  unfold kernelRun0_C
  dsimp only
  sl_unfold_words
  rw [View.canon_unit_zero hz3, View.readCov_unit_zero (S := S1408x2048) _ hz]
  simp only [View.readAt_eq_ld, h3.read_unread, h4.read_unread, h6.read_unread, View.ld_unit_zero (S := S2048x1408) hz, View.ld_unit_zero (S := S2048x2048) hz, View.ld_unit_zero (S := S1408x2048) hz]

end Points

theorem pay1_rd {x : Vec Ideal S2048x1408 .bf16} {y : Vec Ideal S2048x2048 .bf16} {f g : ℕ → ℕ → EReal}
    (hx : Rd (φ := .bf16) x f) (hy : Rd (φ := .bf16) y g) : Rd (φ := .f32) (k0_pay1 x y) (colDot f g 2048) := fun j => by
  unfold k0_pay1
  simp only [pointwise, zero_add, shapeCast_self]
  exact sum_fin (f := fun k => f k (j 0).val) (g := fun k => g k (j 1).val) (fun k => hx _) fun k => hy _

theorem pay2_eq (x : Vec Ideal S2048x1408 .bf16) (y : Vec Ideal S2048x2048 .bf16) (s : Vec Ideal S1408x2048 .f32) (j) :
    k0_pay2 x y s j = s j + k0_pay1 x y j := by
  unfold k0_pay2 k0_pay1
  simp only [shapeCast_self]
  rfl

theorem pay3_eq (s : Vec Ideal S1408x2048 .f32) (j : S1x1408x2048.Idx) (i : S1408x2048.Idx) (h0 : (i 0).val = (j 1).val) (h1 : (i 1).val = (j 2).val) :
    k0_pay3 s j = s i := by
  unfold k0_pay3
  exact cast_up (n := 1408) (k := 2048) (φ := .bf16) s _ j i h0 h1

variable (m : (ℓ : Loc nD τ sig) → Idealize.ShloMosaic.Buf (Elt Ideal) ℓ) (c : Dev nD)

/-- The blocks the grid's points read, by their numbers. -/
theorem idx : ∀ t : Fin cfg0.N, win0_0.index t = ![t.val % 4, t.val / 4] ∧ win0_1.index t = ![t.val % 4, 0] :=
  (by decide +kernel : ∀ t : Fin grid0.N, _)

/-- The activations. -/
noncomputable def act : ℕ → ℕ → EReal := ent (n := 8192) (k := 5632) (φ := .bf16) (m ((c : Thread nD τ).loc main_arg0))
/-- The gradient at the down product. -/
noncomputable def dff : ℕ → ℕ → EReal := ent (n := 8192) (k := 2048) (φ := .bf16) (m ((c : Thread nD τ).loc main_arg1))

theorem blk0 (t : Fin cfg0.N) (y) (i : S8192x5632.Idx) (h0 : (i 0).val = 2048 * (t.val % 4) + (y 0).val)
    (h1 : (i 1).val = 1408 * (t.val / 4) + (y 1).val) : iblk m c 0 t y = m ((c : Thread nD τ).loc main_arg0) i := by
  blk_ext! [iblk, V, idx t]

theorem blk1 (t : Fin cfg0.N) (y) (i : S8192x2048.Idx) (h0 : (i 0).val = 2048 * (t.val % 4) + (y 0).val) (h1 : (i 1).val = (y 1).val) :
    iblk m c 1 t y = m ((c : Thread nD τ).loc main_arg1) i := by
  blk_ext! [iblk, V, idx t]

theorem rd0 (t : Fin cfg0.N) : Rd (n := 2048) (k := 1408) (φ := .bf16) (iblk m c 0 t) (part (act m c) (1408 * ·) t.val) := fun y => by
  have ht : t.val < 16 := t.isLt
  have b0 : (y 0).val < 2048 := (y 0).isLt
  have b1 : (y 1).val < 1408 := (y 1).isLt
  let i : S8192x5632.Idx := fun a => match a with
    | ⟨0, _⟩ => ⟨2048 * (t.val % 4) + (y 0).val, by show _ < 8192; omega⟩
    | ⟨1, _⟩ => ⟨1408 * (t.val / 4) + (y 1).val, by show _ < 5632; omega⟩
  exact (blk0 m c t y i rfl rfl).trans (ent_at (n := 8192) (k := 5632) (φ := .bf16) _ i rfl rfl)

theorem rd1 (t : Fin cfg0.N) : Rd (n := 2048) (k := 2048) (φ := .bf16) (iblk m c 1 t) (part (dff m c) (0 * ·) t.val) := fun y => by
  have ht : t.val < 16 := t.isLt
  have b0 : (y 0).val < 2048 := (y 0).isLt
  have b1 : (y 1).val < 2048 := (y 1).isLt
  let i : S8192x2048.Idx := fun a => match a with
    | ⟨0, _⟩ => ⟨2048 * (t.val % 4) + (y 0).val, by show _ < 8192; omega⟩
    | ⟨1, _⟩ => ⟨(y 1).val, b1⟩
  exact (blk1 m c t y i rfl rfl).trans (ent_at (n := 8192) (k := 2048) (φ := .bf16) _ i rfl (by dsimp only [i]; omega))

/-- The accumulator before the last point of each run. -/
theorem acc : ∀ t h, t % 4 ≠ 3 → ∀ j, (outsAt0 m c t h).2 j =
    colDot (act m c) (dff m c) (2048 * (t % 4 + 1)) (1408 * (t / 4) + (j 0).val) (0 * (t / 4) + (j 1).val) := by
  refine four (N := cfg0.N) (n := 1408) (k := 2048) (fun t h => (outsAt0 m c t h).2) (fun t h h0 j => ?_) (fun t h h0 h3 j => ?_)
  · dsimp only
    rw [outsAt0_A m c ⟨t, h⟩ h0 (by dsimp only; omega) (by dsimp only; omega)]
    dsimp only
    rw [first0]
    exact pay1_rd (rd0 m c ⟨t, h⟩) (rd1 m c ⟨t, h⟩) j
  · dsimp only
    rw [outsAt0_B m c ⟨t + 1, h⟩ h0 (by dsimp only; omega) h3]
    dsimp only
    rw [next0, pay2_eq]
    exact congrArg₂ (· + ·) rfl (pay1_rd (rd0 m c ⟨t + 1, h⟩) (rd1 m c ⟨t + 1, h⟩) j)

/-- The array at the end. -/
theorem out_at (i : S4x1408x2048.Idx) : Value.G2 m c i = colDot (act m c) (dff m c) 8192 (1408 * (i 0).val + (i 1).val) (i 2).val := by
  have b0 : (i 0).val < 4 := (i 0).isLt
  have b1 : (i 1).val < 1408 := (i 1).isLt
  have b2 : (i 2).val < 2048 := (i 2).isLt
  have e : Value.pt2Of i = 4 * (i 0).val + 2 + 1 := by unfold Value.pt2Of Value.run2Of; omega
  have hp : Value.pt2Of i < cfg0.N := by rw [e]; show _ < 16; omega
  let j : S1408x2048.Idx := fun a => match a with
    | ⟨0, _⟩ => ⟨(i 1).val, b1⟩
    | ⟨1, _⟩ => ⟨(i 2).val, b2⟩
  have hq : 4 * (i 0).val + 2 + 1 < cfg0.N := e ▸ hp
  unfold Value.G2
  rw [dif_pos hp, ← Value.outsAt0_sweep m c _ hp]
  simp only [e]
  rw [outsAt0_C m c ⟨4 * (i 0).val + 2 + 1, hq⟩ (by dsimp only; omega) (by dsimp only; omega) (by dsimp only; omega)]
  dsimp only
  rw [last0, pay3_eq _ _ j (by dsimp only [j, Value.loc2Of]; omega) (by dsimp only [j, Value.loc2Of]; omega), pay2_eq,
    pay1_rd (rd0 m c ⟨4 * (i 0).val + 2 + 1, hq⟩) (rd1 m c ⟨4 * (i 0).val + 2 + 1, hq⟩) j]
  refine (four_last (by omega) (acc m c (4 * (i 0).val + 2) (by omega) (by omega) j)).trans ?_
  refine congrArg₂ (colDot _ _ 8192) ?_ ?_
  · dsimp only [j]; omega
  · dsimp only [j]; omega

open Idealize.SL.Sem Idealize.ShloMosaic.StableHlo Cert.Reference4Ideal.Read

theorem ref_at (x0 : FVec Ideal ⟨2, ![8192, 5632]⟩ .bf16) (x1 : FVec Ideal ⟨2, ![8192, 2048]⟩ .bf16) (i) :
    val_main_v7 (F := Ideal) x0 x1 i = colDot (ent x0) (ent x1) 8192 (1408 * (i 0).val + (i 1).val) (i 2).val := by
  have b0 : (i 0).val < 4 := (i 0).isLt
  have b1 : (i 1).val < 1408 := (i 1).isLt
  have b2 : (i 2).val < 2048 := (i 2).isLt
  rw [val_main_v7_apply, val_main_v6_apply, val_main_v5_apply]
  exact (val_main_v4_apply x0 x1 _).trans (colDot_comm (fun k => ent_at x1 _ rfl (by show (((i 0).val * 1408 + (i 1).val) * 2048 + (i 2).val) % 2048 = _; omega))
    fun k => ent_at x0 _ rfl (by show (((i 0).val * 1408 + (i 1).val) * 2048 + (i 2).val) / 2048 = _; omega))

theorem frame_reference : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩)
    (Cert.Reference4Ideal.Value.run (F := Ideal) m ρ)

theorem algebraic : Cert.algebraic_Kernel4Ideal_Reference4Ideal (hKernel4Ideal := Cert.Kernel4Ideal.Gen.facts)
    (hReference4Ideal := Cert.Reference4Ideal.Gen.facts) := fun m ρ m' ρ' _ hagree => by
  refine ⟨fun c => Cert.Kernel4Ideal.Value.G2 m c, Cert.Kernel4Ideal.Value.run m ρ, ?_⟩
  refine (θ_run Cert.Reference4Ideal.defs _ _).mono (fun r h c => ?_) (Cert.Reference4Ideal.Value.run (F := Ideal) m' ρ')
  obtain ⟨g0, g1⟩ := hagree c
  obtain ⟨h0, hargs⟩ := h c
  rw [g0, g1] at h0
  exact ⟨h0.trans (funext fun i => (ref_at _ _ i).trans (out_at m c i).symm), hargs⟩

end Cert.DwDown
-- ==== Proof.Prod.DwOut.lean ====
module

public import proofs.«01_k».proof.Defs
public import proofs.«01_k».proof.Proof.Prod.Four
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import Idealize.ShloMosaic.Lib.Tactic
public import Idealize.ShloMosaic.Adequacy
public import Idealize.ShloMosaic.Init
public import Idealize.ShloMosaic.Lib.Quiescent

@[expose] public section

/-! The weight gradient of the output projection. -/

namespace Cert.DwOut

open Idealize.ShloMosaic Idealize.ShloMosaic.TcCoe Cert.Kernel5Ideal Cert.Kernel5Ideal.Gen Cert.Prod

theorem hz : (![0, 0] : Fin 2 → Nat) = fun _ => 0 := funext fun a => by fin_cases a <;> rfl

section Points

variable (c : Dev nD) (i : grid0.Coords) (a3 : Memref sig .tc .vmem S2048x2048 .bf16) (h3 : a3.IsWhole)
  (a4 : Memref sig .tc .vmem S2048x1024 .bf16) (h4 : a4.IsWhole) (a5 : Memref sig .tc .vmem S2048x1024 .bf16) (h5 : a5.IsWhole)
  (a6 : Memref sig .tc .vmem S2048x1024 .f32) (h6 : a6.IsWhole)
  (x0 : Vec Ideal S2048x2048 .bf16) (x1 : Vec Ideal S2048x1024 .bf16) (s0 : Vec Ideal S2048x1024 .f32)

theorem first0 (hc0 : cond0_0 i) (hc1 : ¬cond0_1 i) (hc2 : ¬cond0_2 i) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero hz]
  simp only [View.readAt_eq_ld, h3.read_unread, h4.read_unread, View.ld_unit_zero (S := S2048x2048) hz, View.ld_unit_zero (S := S2048x1024) hz]

theorem next0 (hc0 : ¬cond0_0 i) (hc1 : cond0_1 i) (hc2 : ¬cond0_2 i) :
    sout0_B_0 c i a3 h3 a4 h4 a5 h5 a6 h6 hc0 hc1 hc2 x0 x1 s0 = k0_pay2 x0 x1 s0 := by
  unfold sout0_B_0
  rw [View.read_writes_eq_canon _ _ _ (scover0_B_0 c i a3 h3 a4 h4 a5 h5 a6 h6 hc0 hc1 hc2 x0 x1 s0)]
  unfold kernelRun0_B
  dsimp only
  sl_unfold_words
  rw [View.canon_unit_zero hz]
  simp only [View.readAt_eq_ld, h3.read_unread, h4.read_unread, h6.read_unread, View.ld_unit_zero (S := S2048x2048) hz, View.ld_unit_zero (S := S2048x1024) hz]

theorem last0 (hc0 : ¬cond0_0 i) (hc1 : cond0_1 i) (hc2 : cond0_2 i) :
    out0_C_2 c i a3 h3 a4 h4 a5 h5 a6 h6 hc0 hc1 hc2 x0 x1 s0 = k0_pay3 (k0_pay2 x0 x1 s0) := by
  unfold out0_C_2
  rw [View.read_writes_eq_canon _ _ _ (cover0_C_2 c i a3 h3 a4 h4 a5 h5 a6 h6 hc0 hc1 hc2 x0 x1 s0)]
  unfold kernelRun0_C
  dsimp only
  sl_unfold_words
  rw [View.canon_unit_zero hz, View.readCov_unit_zero (S := S2048x1024) _ hz]
  simp only [View.readAt_eq_ld, h3.read_unread, h4.read_unread, h6.read_unread, View.ld_unit_zero (S := S2048x2048) hz, View.ld_unit_zero (S := S2048x1024) hz]

end Points

theorem pay1_rd {x : Vec Ideal S2048x2048 .bf16} {y : Vec Ideal S2048x1024 .bf16} {f g : ℕ → ℕ → EReal}
    (hx : Rd (φ := .bf16) x f) (hy : Rd (φ := .bf16) y g) : Rd (φ := .f32) (k0_pay1 x y) (colDot f g 2048) := fun j => by
  unfold k0_pay1
  simp only [pointwise, zero_add, shapeCast_self]
  exact sum_fin (f := fun k => f k (j 0).val) (g := fun k => g k (j 1).val) (fun k => hx _) fun k => hy _

theorem pay2_eq (x : Vec Ideal S2048x2048 .bf16) (y : Vec Ideal S2048x1024 .bf16) (s : Vec Ideal S2048x1024 .f32) (j) :
    k0_pay2 x y s j = s j + k0_pay1 x y j := by
  unfold k0_pay2 k0_pay1
  simp only [shapeCast_self]
  rfl

theorem pay3_eq (s : Vec Ideal S2048x1024 .f32) (j) : k0_pay3 s j = s j := rfl

variable (m : (ℓ : Loc nD τ sig) → Idealize.ShloMosaic.Buf (Elt Ideal) ℓ) (c : Dev nD)

/-- The blocks the grid's points read, by their numbers. -/
theorem idx : ∀ t : Fin cfg0.N, win0_0.index t = ![t.val % 4, 0] ∧ win0_1.index t = ![t.val % 4, t.val / 4] :=
  (by decide +kernel : ∀ t : Fin grid0.N, _)

/-- The mixed tokens. -/
noncomputable def mixed : ℕ → ℕ → EReal := ent (n := 8192) (k := 2048) (φ := .bf16) (m ((c : Thread nD τ).loc main_arg0))
/-- The gradient at the projection. -/
noncomputable def dmo : ℕ → ℕ → EReal := ent (n := 8192) (k := 2048) (φ := .bf16) (m ((c : Thread nD τ).loc main_arg1))

theorem blk0 (t : Fin cfg0.N) (y) (i : S8192x2048.Idx) (h0 : (i 0).val = 2048 * (t.val % 4) + (y 0).val) (h1 : (i 1).val = (y 1).val) :
    iblk m c 0 t y = m ((c : Thread nD τ).loc main_arg0) i := by
  blk_ext! [iblk, V, idx t]

theorem blk1 (t : Fin cfg0.N) (y) (i : S8192x2048.Idx) (h0 : (i 0).val = 2048 * (t.val % 4) + (y 0).val)
    (h1 : (i 1).val = 1024 * (t.val / 4) + (y 1).val) : iblk m c 1 t y = m ((c : Thread nD τ).loc main_arg1) i := by
  blk_ext! [iblk, V, idx t]

theorem rd0 (t : Fin cfg0.N) : Rd (n := 2048) (k := 2048) (φ := .bf16) (iblk m c 0 t) (part (mixed m c) (0 * ·) t.val) := fun y => by
  have ht : t.val < 8 := t.isLt
  have b0 : (y 0).val < 2048 := (y 0).isLt
  have b1 : (y 1).val < 2048 := (y 1).isLt
  let i : S8192x2048.Idx := fun a => match a with
    | ⟨0, _⟩ => ⟨2048 * (t.val % 4) + (y 0).val, by show _ < 8192; omega⟩
    | ⟨1, _⟩ => ⟨(y 1).val, b1⟩
  exact (blk0 m c t y i rfl rfl).trans (ent_at (n := 8192) (k := 2048) (φ := .bf16) _ i rfl (by dsimp only [i]; omega))

theorem rd1 (t : Fin cfg0.N) : Rd (n := 2048) (k := 1024) (φ := .bf16) (iblk m c 1 t) (part (dmo m c) (1024 * ·) t.val) := fun y => by
  have ht : t.val < 8 := t.isLt
  have b0 : (y 0).val < 2048 := (y 0).isLt
  have b1 : (y 1).val < 1024 := (y 1).isLt
  let i : S8192x2048.Idx := fun a => match a with
    | ⟨0, _⟩ => ⟨2048 * (t.val % 4) + (y 0).val, by show _ < 8192; omega⟩
    | ⟨1, _⟩ => ⟨1024 * (t.val / 4) + (y 1).val, by show _ < 2048; omega⟩
  exact (blk1 m c t y i rfl rfl).trans (ent_at (n := 8192) (k := 2048) (φ := .bf16) _ i rfl rfl)

/-- The accumulator before the last point of each run. -/
theorem acc : ∀ t h, t % 4 ≠ 3 → ∀ j, (outsAt0 m c t h).2 j =
    colDot (mixed m c) (dmo m c) (2048 * (t % 4 + 1)) (0 * (t / 4) + (j 0).val) (1024 * (t / 4) + (j 1).val) := by
  refine four (N := cfg0.N) (n := 2048) (k := 1024) (fun t h => (outsAt0 m c t h).2) (fun t h h0 j => ?_) (fun t h h0 h3 j => ?_)
  · dsimp only
    rw [outsAt0_A m c ⟨t, h⟩ h0 (by dsimp only; omega) (by dsimp only; omega)]
    dsimp only
    rw [first0]
    exact pay1_rd (rd0 m c ⟨t, h⟩) (rd1 m c ⟨t, h⟩) j
  · dsimp only
    rw [outsAt0_B m c ⟨t + 1, h⟩ h0 (by dsimp only; omega) h3]
    dsimp only
    rw [next0, pay2_eq]
    exact congrArg₂ (· + ·) rfl (pay1_rd (rd0 m c ⟨t + 1, h⟩) (rd1 m c ⟨t + 1, h⟩) j)

/-- The array at the end. -/
theorem out_at (i : S2048x2048.Idx) : Value.G2 m c i = colDot (mixed m c) (dmo m c) 8192 (i 0).val (i 1).val := by
  have b0 : (i 0).val < 2048 := (i 0).isLt
  have b1 : (i 1).val < 2048 := (i 1).isLt
  have e : Value.pt2Of i = 4 * ((i 1).val / 1024) + 2 + 1 := by unfold Value.pt2Of Value.run2Of; omega
  have hp : Value.pt2Of i < cfg0.N := by rw [e]; show _ < 8; omega
  have hq : 4 * ((i 1).val / 1024) + 2 + 1 < cfg0.N := e ▸ hp
  unfold Value.G2
  rw [dif_pos hp, ← Value.outsAt0_sweep m c _ hp]
  simp only [e]
  rw [outsAt0_C m c ⟨4 * ((i 1).val / 1024) + 2 + 1, hq⟩ (by dsimp only; omega) (by dsimp only; omega) (by dsimp only; omega)]
  dsimp only
  rw [last0, pay3_eq, pay2_eq, pay1_rd (rd0 m c ⟨4 * ((i 1).val / 1024) + 2 + 1, hq⟩) (rd1 m c ⟨4 * ((i 1).val / 1024) + 2 + 1, hq⟩) _]
  refine (four_last (by omega) (acc m c (4 * ((i 1).val / 1024) + 2) (by omega) (by omega) _)).trans ?_
  refine congrArg₂ (colDot _ _ 8192) ?_ ?_
  · dsimp only [Value.loc2Of]; omega
  · dsimp only [Value.loc2Of]; omega

open Idealize.SL.Sem Idealize.ShloMosaic.StableHlo Cert.Reference5Ideal.Read

theorem ref_at (x0 x1 : FVec Ideal ⟨2, ![8192, 2048]⟩ .bf16) (i) :
    val_main_v6 (F := Ideal) x0 x1 i = colDot (ent x0) (ent x1) 8192 (i 0).val (i 1).val := by
  rw [val_main_v6_apply, val_main_v5_apply]
  exact (val_main_v4_apply x0 x1 _).trans (colDot_comm (fun k => ent_at x1 _ rfl rfl) fun k => ent_at x0 _ rfl rfl)

theorem frame_reference : Cert.quiescent_Reference5Ideal (hReference5Ideal := Cert.Reference5Ideal.Gen.facts) := fun m ρ _ =>
  (θ_run Cert.Reference5Ideal.defs _ _).mono (fun r h => ⟨fun c => (h c).2, sem_eq_zero_of_no_sems (by decide) r.2⟩)
    (Cert.Reference5Ideal.Value.run (F := Ideal) m ρ)

theorem algebraic : Cert.algebraic_Kernel5Ideal_Reference5Ideal (hKernel5Ideal := Cert.Kernel5Ideal.Gen.facts)
    (hReference5Ideal := Cert.Reference5Ideal.Gen.facts) := fun m ρ m' ρ' _ hagree => by
  refine ⟨fun c => Cert.Kernel5Ideal.Value.G2 m c, Cert.Kernel5Ideal.Value.run m ρ, ?_⟩
  refine (θ_run Cert.Reference5Ideal.defs _ _).mono (fun r h c => ?_) (Cert.Reference5Ideal.Value.run (F := Ideal) m' ρ')
  obtain ⟨g0, g1⟩ := hagree c
  obtain ⟨h0, hargs⟩ := h c
  rw [g0, g1] at h0
  exact ⟨h0.trans (funext fun i => (ref_at _ _ i).trans (out_at m c i).symm), hargs⟩

end Cert.DwOut
-- ==== Proof.Prod.DwIn.lean ====
module

public import proofs.«01_k».proof.Defs
public import proofs.«01_k».proof.Proof.Prod.Four
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import Idealize.ShloMosaic.Lib.Tactic
public import Idealize.ShloMosaic.Adequacy
public import Idealize.ShloMosaic.Init
public import Idealize.ShloMosaic.Lib.Quiescent

@[expose] public section

/-! The weight gradient of the input projection. -/

namespace Cert.DwIn

open Idealize.ShloMosaic Idealize.ShloMosaic.TcCoe Cert.Kernel6Ideal Cert.Kernel6Ideal.Gen Cert.Prod

theorem hz : (![0, 0] : Fin 2 → Nat) = fun _ => 0 := funext fun a => by fin_cases a <;> rfl
theorem hz3 : (![0, 0, 0] : Fin 3 → Nat) = fun _ => 0 := funext fun a => by fin_cases a <;> rfl

section Points

variable (c : Dev nD) (i : grid0.Coords) (a3 : Memref sig .tc .vmem S2048x2048 .bf16) (h3 : a3.IsWhole)
  (a4 : Memref sig .tc .vmem S2048x1024 .bf16) (h4 : a4.IsWhole) (a5 : Memref sig .tc .vmem S1x2048x1024 .bf16) (h5 : a5.IsWhole)
  (a6 : Memref sig .tc .vmem S2048x1024 .f32) (h6 : a6.IsWhole)
  (x0 : Vec Ideal S2048x2048 .bf16) (x1 : Vec Ideal S2048x1024 .bf16) (s0 : Vec Ideal S2048x1024 .f32)

theorem first0 (hc0 : cond0_0 i) (hc1 : ¬cond0_1 i) (hc2 : ¬cond0_2 i) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero hz]
  simp only [View.readAt_eq_ld, h3.read_unread, h4.read_unread, View.ld_unit_zero (S := S2048x2048) hz, View.ld_unit_zero (S := S2048x1024) hz]

theorem next0 (hc0 : ¬cond0_0 i) (hc1 : cond0_1 i) (hc2 : ¬cond0_2 i) :
    sout0_B_0 c i a3 h3 a4 h4 a5 h5 a6 h6 hc0 hc1 hc2 x0 x1 s0 = k0_pay2 x0 x1 s0 := by
  unfold sout0_B_0
  rw [View.read_writes_eq_canon _ _ _ (scover0_B_0 c i a3 h3 a4 h4 a5 h5 a6 h6 hc0 hc1 hc2 x0 x1 s0)]
  unfold kernelRun0_B
  dsimp only
  sl_unfold_words
  rw [View.canon_unit_zero hz]
  simp only [View.readAt_eq_ld, h3.read_unread, h4.read_unread, h6.read_unread, View.ld_unit_zero (S := S2048x2048) hz, View.ld_unit_zero (S := S2048x1024) hz]

theorem last0 (hc0 : ¬cond0_0 i) (hc1 : cond0_1 i) (hc2 : cond0_2 i) :
    out0_C_2 c i a3 h3 a4 h4 a5 h5 a6 h6 hc0 hc1 hc2 x0 x1 s0 = k0_pay3 (k0_pay2 x0 x1 s0) := by
  unfold out0_C_2
  rw [View.read_writes_eq_canon _ _ _ (cover0_C_2 c i a3 h3 a4 h4 a5 h5 a6 h6 hc0 hc1 hc2 x0 x1 s0)]
  unfold kernelRun0_C
  dsimp only
  sl_unfold_words
  rw [View.canon_unit_zero hz3, View.readCov_unit_zero (S := S2048x1024) _ hz]
  simp only [View.readAt_eq_ld, h3.read_unread, h4.read_unread, h6.read_unread, View.ld_unit_zero (S := S2048x2048) hz, View.ld_unit_zero (S := S2048x1024) hz]

end Points

theorem pay1_rd {x : Vec Ideal S2048x2048 .bf16} {y : Vec Ideal S2048x1024 .bf16} {f g : ℕ → ℕ → EReal}
    (hx : Rd (φ := .bf16) x f) (hy : Rd (φ := .bf16) y g) : Rd (φ := .f32) (k0_pay1 x y) (colDot f g 2048) := fun j => by
  unfold k0_pay1
  simp only [pointwise, zero_add, shapeCast_self]
  exact sum_fin (f := fun k => f k (j 0).val) (g := fun k => g k (j 1).val) (fun k => hx _) fun k => hy _

theorem pay2_eq (x : Vec Ideal S2048x2048 .bf16) (y : Vec Ideal S2048x1024 .bf16) (s : Vec Ideal S2048x1024 .f32) (j) :
    k0_pay2 x y s j = s j + k0_pay1 x y j := by
  unfold k0_pay2 k0_pay1
  simp only [shapeCast_self]
  rfl

theorem pay3_eq (s : Vec Ideal S2048x1024 .f32) (j : S1x2048x1024.Idx) (i : S2048x1024.Idx) (h0 : (i 0).val = (j 1).val) (h1 : (i 1).val = (j 2).val) :
    k0_pay3 s j = s i := by
  unfold k0_pay3
  exact cast_up (n := 2048) (k := 1024) (φ := .bf16) s _ j i h0 h1

variable (m : (ℓ : Loc nD τ sig) → Idealize.ShloMosaic.Buf (Elt Ideal) ℓ) (c : Dev nD)

/-- The blocks the grid's points read, by their numbers. -/
theorem idx : ∀ t : Fin cfg0.N, win0_0.index t = ![t.val % 4, 0] ∧ win0_1.index t = ![t.val % 4, t.val / 4] :=
  (by decide +kernel : ∀ t : Fin grid0.N, _)

/-- The normalised input. -/
noncomputable def hin : ℕ → ℕ → EReal := ent (n := 8192) (k := 2048) (φ := .bf16) (m ((c : Thread nD τ).loc main_arg0))
/-- The gradient at the projection. -/
noncomputable def dproj : ℕ → ℕ → EReal := ent (n := 8192) (k := 4096) (φ := .bf16) (m ((c : Thread nD τ).loc main_arg1))

theorem blk0 (t : Fin cfg0.N) (y) (i : S8192x2048.Idx) (h0 : (i 0).val = 2048 * (t.val % 4) + (y 0).val) (h1 : (i 1).val = (y 1).val) :
    iblk m c 0 t y = m ((c : Thread nD τ).loc main_arg0) i := by
  blk_ext! [iblk, V, idx t]

theorem blk1 (t : Fin cfg0.N) (y) (i : S8192x4096.Idx) (h0 : (i 0).val = 2048 * (t.val % 4) + (y 0).val)
    (h1 : (i 1).val = 1024 * (t.val / 4) + (y 1).val) : iblk m c 1 t y = m ((c : Thread nD τ).loc main_arg1) i := by
  blk_ext! [iblk, V, idx t]

theorem rd0 (t : Fin cfg0.N) : Rd (n := 2048) (k := 2048) (φ := .bf16) (iblk m c 0 t) (part (hin m c) (0 * ·) t.val) := fun y => by
  have ht : t.val < 16 := t.isLt
  have b0 : (y 0).val < 2048 := (y 0).isLt
  have b1 : (y 1).val < 2048 := (y 1).isLt
  let i : S8192x2048.Idx := fun a => match a with
    | ⟨0, _⟩ => ⟨2048 * (t.val % 4) + (y 0).val, by show _ < 8192; omega⟩
    | ⟨1, _⟩ => ⟨(y 1).val, b1⟩
  exact (blk0 m c t y i rfl rfl).trans (ent_at (n := 8192) (k := 2048) (φ := .bf16) _ i rfl (by dsimp only [i]; omega))

theorem rd1 (t : Fin cfg0.N) : Rd (n := 2048) (k := 1024) (φ := .bf16) (iblk m c 1 t) (part (dproj m c) (1024 * ·) t.val) := fun y => by
  have ht : t.val < 16 := t.isLt
  have b0 : (y 0).val < 2048 := (y 0).isLt
  have b1 : (y 1).val < 1024 := (y 1).isLt
  let i : S8192x4096.Idx := fun a => match a with
    | ⟨0, _⟩ => ⟨2048 * (t.val % 4) + (y 0).val, by show _ < 8192; omega⟩
    | ⟨1, _⟩ => ⟨1024 * (t.val / 4) + (y 1).val, by show _ < 4096; omega⟩
  exact (blk1 m c t y i rfl rfl).trans (ent_at (n := 8192) (k := 4096) (φ := .bf16) _ i rfl rfl)

/-- The accumulator before the last point of each run. -/
theorem acc : ∀ t h, t % 4 ≠ 3 → ∀ j, (outsAt0 m c t h).2 j =
    colDot (hin m c) (dproj m c) (2048 * (t % 4 + 1)) (0 * (t / 4) + (j 0).val) (1024 * (t / 4) + (j 1).val) := by
  refine four (N := cfg0.N) (n := 2048) (k := 1024) (fun t h => (outsAt0 m c t h).2) (fun t h h0 j => ?_) (fun t h h0 h3 j => ?_)
  · dsimp only
    rw [outsAt0_A m c ⟨t, h⟩ h0 (by dsimp only; omega) (by dsimp only; omega)]
    dsimp only
    rw [first0]
    exact pay1_rd (rd0 m c ⟨t, h⟩) (rd1 m c ⟨t, h⟩) j
  · dsimp only
    rw [outsAt0_B m c ⟨t + 1, h⟩ h0 (by dsimp only; omega) h3]
    dsimp only
    rw [next0, pay2_eq]
    exact congrArg₂ (· + ·) rfl (pay1_rd (rd0 m c ⟨t + 1, h⟩) (rd1 m c ⟨t + 1, h⟩) j)

/-- The array at the end. -/
theorem out_at (i : S4x2048x1024.Idx) : Value.G2 m c i = colDot (hin m c) (dproj m c) 8192 (i 1).val (1024 * (i 0).val + (i 2).val) := by
  have b0 : (i 0).val < 4 := (i 0).isLt
  have b1 : (i 1).val < 2048 := (i 1).isLt
  have b2 : (i 2).val < 1024 := (i 2).isLt
  have e : Value.pt2Of i = 4 * (i 0).val + 2 + 1 := by unfold Value.pt2Of Value.run2Of; omega
  have hp : Value.pt2Of i < cfg0.N := by rw [e]; show _ < 16; omega
  let j : S2048x1024.Idx := fun a => match a with
    | ⟨0, _⟩ => ⟨(i 1).val, b1⟩
    | ⟨1, _⟩ => ⟨(i 2).val, b2⟩
  have hq : 4 * (i 0).val + 2 + 1 < cfg0.N := e ▸ hp
  unfold Value.G2
  rw [dif_pos hp, ← Value.outsAt0_sweep m c _ hp]
  simp only [e]
  rw [outsAt0_C m c ⟨4 * (i 0).val + 2 + 1, hq⟩ (by dsimp only; omega) (by dsimp only; omega) (by dsimp only; omega)]
  dsimp only
  rw [last0, pay3_eq _ _ j (by dsimp only [j, Value.loc2Of]; omega) (by dsimp only [j, Value.loc2Of]; omega), pay2_eq,
    pay1_rd (rd0 m c ⟨4 * (i 0).val + 2 + 1, hq⟩) (rd1 m c ⟨4 * (i 0).val + 2 + 1, hq⟩) j]
  refine (four_last (by omega) (acc m c (4 * (i 0).val + 2) (by omega) (by omega) j)).trans ?_
  refine congrArg₂ (colDot _ _ 8192) ?_ ?_
  · dsimp only [j]; omega
  · dsimp only [j]; omega

open Idealize.SL.Sem Idealize.ShloMosaic.StableHlo Cert.Reference6Ideal.Read

theorem ref_at (x0 : FVec Ideal ⟨2, ![8192, 2048]⟩ .bf16) (x1 : FVec Ideal ⟨2, ![8192, 4096]⟩ .bf16) (i) :
    val_main_v8 (F := Ideal) x0 x1 i = colDot (ent x0) (ent x1) 8192 (i 1).val (1024 * (i 0).val + (i 2).val) := by
  have b0 : (i 0).val < 4 := (i 0).isLt
  have b1 : (i 1).val < 2048 := (i 1).isLt
  have b2 : (i 2).val < 1024 := (i 2).isLt
  rw [val_main_v8_apply, val_main_v7_apply, val_main_v6_apply, val_main_v5_apply]
  exact (val_main_v4_apply x0 x1 _).trans (colDot_comm (fun k => ent_at x1 _ rfl (by show (((i 1).val * 4 + (i 0).val) * 1024 + (i 2).val) % 4096 = _; omega))
    fun k => ent_at x0 _ rfl (by show (((i 1).val * 4 + (i 0).val) * 1024 + (i 2).val) / 4096 = _; omega))

theorem frame_reference : Cert.quiescent_Reference6Ideal (hReference6Ideal := Cert.Reference6Ideal.Gen.facts) := fun m ρ _ =>
  (θ_run Cert.Reference6Ideal.defs _ _).mono (fun r h => ⟨fun c => (h c).2, sem_eq_zero_of_no_sems (by decide) r.2⟩)
    (Cert.Reference6Ideal.Value.run (F := Ideal) m ρ)

theorem algebraic : Cert.algebraic_Kernel6Ideal_Reference6Ideal (hKernel6Ideal := Cert.Kernel6Ideal.Gen.facts)
    (hReference6Ideal := Cert.Reference6Ideal.Gen.facts) := fun m ρ m' ρ' _ hagree => by
  refine ⟨fun c => Cert.Kernel6Ideal.Value.G2 m c, Cert.Kernel6Ideal.Value.run m ρ, ?_⟩
  refine (θ_run Cert.Reference6Ideal.defs _ _).mono (fun r h c => ?_) (Cert.Reference6Ideal.Value.run (F := Ideal) m' ρ')
  obtain ⟨g0, g1⟩ := hagree c
  obtain ⟨h0, hargs⟩ := h c
  rw [g0, g1] at h0
  exact ⟨h0.trans (funext fun i => (ref_at _ _ i).trans (out_at m c i).symm), hargs⟩

end Cert.DwIn
-- ==== Proof.Prod.Dmixed.lean ====
module

public import proofs.«01_k».proof.Defs
public import proofs.«01_k».proof.Proof.Prod.RowDot
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import Idealize.ShloMosaic.Lib.Tactic
public import Idealize.ShloMosaic.Adequacy
public import Idealize.ShloMosaic.Init
public import Idealize.ShloMosaic.Lib.Quiescent

@[expose] public section

/-! The gradient at the mixed tokens. -/

namespace Cert.Dmixed

open Idealize.ShloMosaic Idealize.ShloMosaic.TcCoe Cert.Kernel7Ideal Cert.Kernel7Ideal.Gen Cert.Prod

theorem hz : (![0, 0] : Fin 2 → Nat) = fun _ => 0 := funext fun a => by fin_cases a <;> rfl

theorem out_eq (x : Vec Ideal S1024x2048 .bf16) (y : Vec Ideal S2048x2048 .bf16) : out0_2 x y = k0_pay1 x y := by
  unfold out0_2
  rw [View.canon_unit_zero hz]
  simp only [View.ld_unit_zero (S := S1024x2048) hz, View.ld_unit_zero (S := S2048x2048) hz]

theorem pay1_rd {x : Vec Ideal S1024x2048 .bf16} {y : Vec Ideal S2048x2048 .bf16} {f g : ℕ → ℕ → EReal}
    (hx : Rd (φ := .bf16) x f) (hy : Rd (φ := .bf16) y g) : Rd (φ := .f32) (k0_pay1 x y) (rowDot f g 2048) := fun j => by
  unfold k0_pay1
  simp only [pointwise, zero_add, shapeCast_self]
  exact rowDot_fin (fun k => hx _) fun k => hy _

variable (m : (ℓ : Loc nD τ sig) → Idealize.ShloMosaic.Buf (Elt Ideal) ℓ) (c : Dev nD)

/-- The blocks the grid's points read and write, by their numbers. -/
theorem idx : ∀ t : Fin cfg0.N, win0_0.index t = ![t.val, 0] ∧ win0_1.index t = ![0, 0] ∧ win0_2.index t = ![t.val, 0] :=
  (by decide +kernel : ∀ t : Fin grid0.N, _)

/-- The gradient at the output projection. -/
noncomputable def dmo : ℕ → ℕ → EReal := ent (n := 8192) (k := 2048) (φ := .bf16) (m ((c : Thread nD τ).loc main_arg0))
/-- The output projection's weights. -/
noncomputable def wout : ℕ → ℕ → EReal := ent (n := 2048) (k := 2048) (φ := .bf16) (m ((c : Thread nD τ).loc main_arg1))

theorem blk0 (t : Fin cfg0.N) (y) (i : S8192x2048.Idx) (h0 : (i 0).val = 1024 * t.val + (y 0).val) (h1 : (i 1).val = (y 1).val) :
    iblk m c 0 t y = m ((c : Thread nD τ).loc main_arg0) i := by
  blk_ext! [iblk, V, idx t]

theorem blk1 (t : Fin cfg0.N) (y) (i : S2048x2048.Idx) (h0 : (i 0).val = (y 0).val) (h1 : (i 1).val = (y 1).val) :
    iblk m c 1 t y = m ((c : Thread nD τ).loc main_arg1) i := by
  blk_ext! [iblk, V, idx t]

theorem rd0 (t : Fin cfg0.N) : Rd (n := 1024) (k := 2048) (φ := .bf16) (iblk m c 0 t) (fun r l => dmo m c (1024 * t.val + r) l) := fun y => by
  have ht : t.val < 8 := t.isLt
  have b0 : (y 0).val < 1024 := (y 0).isLt
  have b1 : (y 1).val < 2048 := (y 1).isLt
  let i : S8192x2048.Idx := fun a => match a with
    | ⟨0, _⟩ => ⟨1024 * t.val + (y 0).val, by show _ < 8192; omega⟩
    | ⟨1, _⟩ => ⟨(y 1).val, b1⟩
  exact (blk0 m c t y i rfl rfl).trans (ent_at (n := 8192) (k := 2048) (φ := .bf16) _ i rfl rfl)

theorem rd1 (t : Fin cfg0.N) : Rd (n := 2048) (k := 2048) (φ := .bf16) (iblk m c 1 t) (wout m c) := fun y =>
  (blk1 m c t y y rfl rfl).trans (ent_at (n := 2048) (k := 2048) (φ := .bf16) _ y rfl rfl)

/-- The array at the end. -/
theorem out_at : (dats m 0 c).arrAt 2 cfg0.N = fun i => rowDot (dmo m c) (wout m c) 2048 (i 0).val (i 1).val := by
  refine (dats m 0 c).arrAt_eq_of_covers 2 _ (by decide +kernel) fun t hf y => ?_
  blk_simp [idx t]
  rw [after0_2, out_eq]
  refine (pay1_rd (rd0 m c t) (rd1 m c t) _).trans ?_
  rw [Nat.mul_comm 1024 t.val]
  rfl

open Idealize.SL.Sem Idealize.ShloMosaic.StableHlo Cert.Reference7Ideal.Read

theorem ref_at (x0 : FVec Ideal ⟨2, ![8192, 2048]⟩ .bf16) (x1 : FVec Ideal ⟨2, ![2048, 2048]⟩ .bf16) (i) :
    val_main_v4 (F := Ideal) x0 x1 i = rowDot (ent x0) (ent x1) 2048 (i 0).val (i 1).val :=
  (val_main_v4_apply x0 x1 i).trans (rowDot_fin (fun k => ent_at x0 _ rfl rfl) fun k => ent_at x1 _ rfl rfl)

theorem frame_reference : Cert.quiescent_Reference7Ideal (hReference7Ideal := Cert.Reference7Ideal.Gen.facts) := fun m ρ _ =>
  (θ_run Cert.Reference7Ideal.defs _ _).mono (fun r h => ⟨fun c => (h c).2, sem_eq_zero_of_no_sems (by decide) r.2⟩)
    (Cert.Reference7Ideal.Value.run (F := Ideal) m ρ)

theorem algebraic : Cert.algebraic_Kernel7Ideal_Reference7Ideal (hKernel7Ideal := Cert.Kernel7Ideal.Gen.facts)
    (hReference7Ideal := Cert.Reference7Ideal.Gen.facts) := fun m ρ m' ρ' _ hagree => by
  refine ⟨fun c => (dats m 0 c).arrAt 2 cfg0.N, Cert.Kernel7Ideal.Value.run_blocks m ρ, ?_⟩
  refine (θ_run Cert.Reference7Ideal.defs _ _).mono (fun r h c => ?_) (Cert.Reference7Ideal.Value.run (F := Ideal) m' ρ')
  obtain ⟨g0, g1⟩ := hagree c
  obtain ⟨h0, hargs⟩ := h c
  rw [g0, g1] at h0
  exact ⟨h0.trans ((funext fun i => ref_at _ _ i).trans (out_at m c).symm), hargs⟩

end Cert.Dmixed
-- ==== Proof.Prod.Gate.lean ====
module

public import proofs.«01_k».proof.Defs
public import proofs.«01_k».proof.Proof.Prod.Swiglu
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import Idealize.ShloMosaic.Lib.Tactic
public import Idealize.ShloMosaic.Adequacy
public import Idealize.ShloMosaic.Init
public import Idealize.ShloMosaic.Lib.Quiescent

@[expose] public section

/-! The gate's and the up product, and what the backward pass keeps of them. -/

namespace Cert.Gate

open Idealize.ShloMosaic Idealize.ShloMosaic.TcCoe Cert.Kernel8Ideal Cert.Kernel8Ideal.Gen Cert.Prod

theorem hz : (![0, 0] : Fin 2 → Nat) = fun _ => 0 := funext fun a => by fin_cases a <;> rfl

theorem out3_eq (x : Vec Ideal S1024x2048 .bf16) (y z : Vec Ideal S2048x512 .bf16) : out0_3 x y z = k0_pay5 x y x z := by
  unfold out0_3
  rw [View.canon_unit_zero hz]
  simp only [View.ld_unit_zero (S := S1024x2048) hz, View.ld_unit_zero (S := S2048x512) hz]

theorem out4_eq (x : Vec Ideal S1024x2048 .bf16) (y z : Vec Ideal S2048x512 .bf16) : out0_4 x y z = k0_pay6 x y := by
  unfold out0_4
  rw [View.canon_unit_zero hz]
  simp only [View.ld_unit_zero (S := S1024x2048) hz, View.ld_unit_zero (S := S2048x512) hz]

theorem out5_eq (x : Vec Ideal S1024x2048 .bf16) (y z : Vec Ideal S2048x512 .bf16) : out0_5 x y z = k0_pay7 x y x z := by
  unfold out0_5
  rw [View.canon_unit_zero hz]
  simp only [View.ld_unit_zero (S := S1024x2048) hz, View.ld_unit_zero (S := S2048x512) hz]

section Payloads

variable {x : Vec Ideal S1024x2048 .bf16} {y z : Vec Ideal S2048x512 .bf16} {f g u : ℕ → ℕ → EReal}

theorem pay1_rd (hx : Rd (φ := .bf16) x f) (hy : Rd (φ := .bf16) y fun k l => g l k) : Rd (φ := .f32) (k0_pay1 x y) (rowDot f g 2048) := fun j => by
  unfold k0_pay1
  simp only [pointwise, zero_add]
  exact rowDot_fin (fun k => hx _) fun k => hy _

theorem pay3_rd (hx : Rd (φ := .bf16) x f) (hy : Rd (φ := .bf16) y fun k l => g l k) :
    Rd (φ := .f32) (k0_pay3 x y) fun r l => Ideal.logistic (rowDot f g 2048 r l) := fun j => congrArg Ideal.logistic (pay1_rd hx hy j)

theorem pay4_rd (hx : Rd (φ := .bf16) x f) (hy : Rd (φ := .bf16) y fun k l => g l k) :
    Rd (φ := .f32) (k0_pay4 x y) fun r l => rowDot f g 2048 r l * Ideal.logistic (rowDot f g 2048 r l) := fun j =>
  congrArg₂ (fun a b : EReal => a * b) (pay1_rd hx hy j) (pay3_rd hx hy j)

theorem pay5_rd (hx : Rd (φ := .bf16) x f) (hy : Rd (φ := .bf16) y fun k l => g l k) (hz : Rd (φ := .bf16) z fun k l => u l k) :
    Rd (φ := .bf16) (k0_pay5 x y x z) fun r l => dgate (rowDot f g 2048 r l) (rowDot f u 2048 r l) := fun j => by
  show (k0_pay1 x z j : EReal) * (k0_pay3 x y j + k0_pay4 x y j * ((FloatOps.ofBits .f32 0x3F800000#32 : Ideal .f32) - k0_pay3 x y j : EReal)) = _
  rw [pay1_rd hx hz j, pay3_rd hx hy j, pay4_rd hx hy j, Cert.Mix.ofBits_one]
  rfl

theorem pay7_rd (hx : Rd (φ := .bf16) x f) (hy : Rd (φ := .bf16) y fun k l => g l k) (hz : Rd (φ := .bf16) z fun k l => u l k) :
    Rd (φ := .bf16) (k0_pay7 x y x z) fun r l =>
      rowDot f g 2048 r l * Ideal.logistic (rowDot f g 2048 r l) * rowDot f u 2048 r l := fun j =>
  congrArg₂ (fun a b : EReal => a * b) (pay4_rd hx hy j) (pay1_rd hx hz j)

end Payloads

variable (m : (ℓ : Loc nD τ sig) → Idealize.ShloMosaic.Buf (Elt Ideal) ℓ) (c : Dev nD)

/-- The blocks the grid's points read and write, by their numbers. -/
theorem idx : ∀ t : Fin cfg0.N, win0_0.index t = ![t.val % 8, 0] ∧ win0_1.index t = ![0, t.val / 8] ∧ win0_2.index t = ![0, t.val / 8]
    ∧ win0_3.index t = ![t.val % 8, t.val / 8] ∧ win0_4.index t = ![t.val % 8, t.val / 8] ∧ win0_5.index t = ![t.val % 8, t.val / 8] :=
  (by decide +kernel : ∀ t : Fin grid0.N, _)

/-- A matrix read by column. -/
noncomputable def cols (x : FVec Ideal ⟨2, ![2048, 5632]⟩ .bf16) (l k : ℕ) : EReal := ent x k l

/-- The normalised input. -/
noncomputable def hf : ℕ → ℕ → EReal := ent (n := 8192) (k := 2048) (φ := .bf16) (m ((c : Thread nD τ).loc main_arg0))
/-- The gate's weights. -/
noncomputable def wg : ℕ → ℕ → EReal := cols (m ((c : Thread nD τ).loc main_arg1))
/-- The up product's weights. -/
noncomputable def wu : ℕ → ℕ → EReal := cols (m ((c : Thread nD τ).loc main_arg2))

theorem blk0 (t : Fin cfg0.N) (y) (i : S8192x2048.Idx) (h0 : (i 0).val = 1024 * (t.val % 8) + (y 0).val) (h1 : (i 1).val = (y 1).val) :
    iblk m c 0 t y = m ((c : Thread nD τ).loc main_arg0) i := by
  blk_ext! [iblk, V, idx t]

theorem blk1 (t : Fin cfg0.N) (y) (i : S2048x5632.Idx) (h0 : (i 0).val = (y 0).val) (h1 : (i 1).val = 512 * (t.val / 8) + (y 1).val) :
    iblk m c 1 t y = m ((c : Thread nD τ).loc main_arg1) i := by
  blk_ext! [iblk, V, idx t]

theorem blk2 (t : Fin cfg0.N) (y) (i : S2048x5632.Idx) (h0 : (i 0).val = (y 0).val) (h1 : (i 1).val = 512 * (t.val / 8) + (y 1).val) :
    iblk m c 2 t y = m ((c : Thread nD τ).loc main_arg2) i := by
  blk_ext! [iblk, V, idx t]

theorem rd0 (t : Fin cfg0.N) : Rd (n := 1024) (k := 2048) (φ := .bf16) (iblk m c 0 t) (fun r l => hf m c (1024 * (t.val % 8) + r) l) := fun y => by
  have b0 : (y 0).val < 1024 := (y 0).isLt
  have b1 : (y 1).val < 2048 := (y 1).isLt
  let i : S8192x2048.Idx := fun a => match a with
    | ⟨0, _⟩ => ⟨1024 * (t.val % 8) + (y 0).val, by show _ < 8192; omega⟩
    | ⟨1, _⟩ => ⟨(y 1).val, b1⟩
  exact (blk0 m c t y i rfl rfl).trans (ent_at (n := 8192) (k := 2048) (φ := .bf16) _ i rfl rfl)

/-- The entry of the weights that is entry `y` of point `t`'s block. -/
def wat (t : Fin cfg0.N) (y : S2048x512.Idx) : S2048x5632.Idx := fun a => match a with
  | ⟨0, _⟩ => ⟨(y 0).val, (y 0).isLt⟩
  | ⟨1, _⟩ => ⟨512 * (t.val / 8) + (y 1).val, by
      have ht : t.val < 88 := t.isLt
      have b1 : (y 1).val < 512 := (y 1).isLt
      show _ < 5632
      omega⟩

theorem rd1 (t : Fin cfg0.N) : Rd (n := 2048) (k := 512) (φ := .bf16) (iblk m c 1 t) (fun k l => wg m c (512 * (t.val / 8) + l) k) := fun y =>
  (blk1 m c t y (wat t y) rfl rfl).trans (ent_at (n := 2048) (k := 5632) (φ := .bf16) _ (wat t y) rfl rfl)

theorem rd2 (t : Fin cfg0.N) : Rd (n := 2048) (k := 512) (φ := .bf16) (iblk m c 2 t) (fun k l => wu m c (512 * (t.val / 8) + l) k) := fun y =>
  (blk2 m c t y (wat t y) rfl rfl).trans (ent_at (n := 2048) (k := 5632) (φ := .bf16) _ (wat t y) rfl rfl)

/-- The gate product. -/
noncomputable def G (r l : ℕ) : EReal := rowDot (hf m c) (wg m c) 2048 r l
/-- The up product. -/
noncomputable def U (r l : ℕ) : EReal := rowDot (hf m c) (wu m c) 2048 r l

/-- The arrays at the end. -/
theorem out3_at : (dats m 0 c).arrAt 3 cfg0.N = fun i => dgate (G m c (i 0).val (i 1).val) (U m c (i 0).val (i 1).val) := by
  refine (dats m 0 c).arrAt_eq_of_covers 3 _ (by decide +kernel) fun t hf y => ?_
  blk_simp [idx t]
  rw [after0_3, out3_eq]
  refine (pay5_rd (rd0 m c t) (g := fun l k => wg m c (512 * (t.val / 8) + l) k) (u := fun l k => wu m c (512 * (t.val / 8) + l) k)
    (rd1 m c t) (rd2 m c t) _).trans ?_
  rw [Nat.mul_comm 1024, Nat.mul_comm 512]
  rfl

theorem out4_at : (dats m 0 c).arrAt 4 cfg0.N = fun i => G m c (i 0).val (i 1).val * Ideal.logistic (G m c (i 0).val (i 1).val) := by
  refine (dats m 0 c).arrAt_eq_of_covers 4 _ (by decide +kernel) fun t hf y => ?_
  blk_simp [idx t]
  rw [after0_4, out4_eq]
  refine (pay4_rd (rd0 m c t) (g := fun l k => wg m c (512 * (t.val / 8) + l) k) (rd1 m c t) _).trans ?_
  rw [Nat.mul_comm 1024, Nat.mul_comm 512]
  rfl

theorem out5_at : (dats m 0 c).arrAt 5 cfg0.N = fun i =>
    G m c (i 0).val (i 1).val * Ideal.logistic (G m c (i 0).val (i 1).val) * U m c (i 0).val (i 1).val := by
  refine (dats m 0 c).arrAt_eq_of_covers 5 _ (by decide +kernel) fun t hf y => ?_
  blk_simp [idx t]
  rw [after0_5, out5_eq]
  refine (pay7_rd (rd0 m c t) (g := fun l k => wg m c (512 * (t.val / 8) + l) k) (u := fun l k => wu m c (512 * (t.val / 8) + l) k)
    (rd1 m c t) (rd2 m c t) _).trans ?_
  rw [Nat.mul_comm 1024, Nat.mul_comm 512]
  rfl

open Idealize.SL.Sem Idealize.ShloMosaic.StableHlo Cert.Reference8Ideal.Read

section Reference

variable (x0 : FVec Ideal ⟨2, ![8192, 2048]⟩ .bf16) (x1 x2 : FVec Ideal ⟨2, ![2048, 5632]⟩ .bf16)

theorem gate_at (i) : val_main_v3 (F := Ideal) x0 x1 i = rowDot (ent x0) (cols x1) 2048 (i 0).val (i 1).val :=
  (val_main_v3_apply x0 x1 i).trans (rowDot_fin (fun k => ent_at x0 _ rfl rfl) fun k => ent_at x1 _ rfl rfl)

theorem up_at (i) : val_main_v4 (F := Ideal) x0 x2 i = rowDot (ent x0) (cols x2) 2048 (i 0).val (i 1).val :=
  (val_main_v4_apply x0 x2 i).trans (rowDot_fin (fun k => ent_at x0 _ rfl rfl) fun k => ent_at x2 _ rfl rfl)

theorem one_at (i) : (val_main_v7 (F := Ideal) i : EReal) = 1 :=
  (val_main_v7_apply i).trans Cert.Mix.ofBits_one

theorem sig_at (i) : (val_main_v5_2 (F := Ideal) x0 x1 i : EReal) = Ideal.logistic (val_main_v3 (F := Ideal) x0 x1 i) := by
  show Ideal.div (val_main_call0_v4 (F := Ideal) i) ((val_main_call0_v2 (F := Ideal) i : EReal) + Ideal.exp (-(val_main_v3 (F := Ideal) x0 x1 i : EReal))) = _
  rw [(val_main_call0_v4_apply (F := Ideal) i).trans Cert.Mix.ofBits_one, (val_main_call0_v2_apply (F := Ideal) i).trans Cert.Mix.ofBits_one]
  rfl

theorem dsig_at (i) : (val_main_v5_1 (F := Ideal) x0 x1 i : EReal)
    = Ideal.logistic (val_main_v3 (F := Ideal) x0 x1 i) * (1 - Ideal.logistic (val_main_v3 (F := Ideal) x0 x1 i)) := by
  show (val_main_v5_2 (F := Ideal) x0 x1 i : EReal) * ((val_main_call0_v6 (F := Ideal) i : EReal) - val_main_v5_2 (F := Ideal) x0 x1 i) = _
  rw [(val_main_call0_v6_apply (F := Ideal) i).trans Cert.Mix.ofBits_one, sig_at]
  rfl

theorem ref5_at (i) : (val_main_v13 (F := Ideal) x0 x1 x2 i : EReal)
    = val_main_v3 (F := Ideal) x0 x1 i * Ideal.logistic (val_main_v3 (F := Ideal) x0 x1 i) * val_main_v4 (F := Ideal) x0 x2 i := by
  rw [← sig_at]
  rfl

theorem ref4_at (i) : (val_main_v12 (F := Ideal) x0 x1 i : EReal)
    = val_main_v3 (F := Ideal) x0 x1 i * Ideal.logistic (val_main_v3 (F := Ideal) x0 x1 i) := by
  rw [← sig_at]
  show (val_main_v3 (F := Ideal) x0 x1 i : EReal) * val_main_v5_2 (F := Ideal) x0 x1 i * val_main_v7 (F := Ideal) i = _
  rw [one_at, mul_one]

theorem ref3_at (i) (h : ∃ a : ℝ, val_main_v4 (F := Ideal) x0 x2 i = (a : EReal)) : (val_main_v11 (F := Ideal) x0 x1 x2 i : EReal)
    = dgate (val_main_v3 (F := Ideal) x0 x1 i) (val_main_v4 (F := Ideal) x0 x2 i) := by
  obtain ⟨a, ha⟩ := h
  have e : (val_main_v9 (F := Ideal) x0 x2 i : EReal) = a := by
    show (val_main_v7 (F := Ideal) i : EReal) * val_main_v4 (F := Ideal) x0 x2 i = _
    rw [one_at, one_mul, ha]
  show (val_main_v9 (F := Ideal) x0 x2 i : EReal) * val_main_v5_2 (F := Ideal) x0 x1 i
    + val_main_v3 (F := Ideal) x0 x1 i * val_main_v9 (F := Ideal) x0 x2 i * val_main_v5_1 (F := Ideal) x0 x1 i = _
  rw [e, sig_at, dsig_at, ha]
  exact (gate_grad _ a).symm

end Reference

theorem pre_facts : Cert.Pre_finite8.Facts where
  bitsLt_bf16_f32 := by decide
  bcast_S_S8192x2048 := by decide
  bcast_S_S2048x5632 := by decide

theorem up_real {x0 : FVec Ideal ⟨2, ![8192, 2048]⟩ .bf16} {x2 : FVec Ideal ⟨2, ![2048, 5632]⟩ .bf16} (h0 : Cert.Mix.IsReal x0)
    (h2 : Cert.Mix.IsReal x2) (i) : ∃ a : ℝ, val_main_v4 (F := Ideal) x0 x2 i = (a : EReal) := by
  rw [up_at]
  exact rowDot_real (ent_real h0) (fun l k => ent_real h2 k l) 2048 _ _

theorem reals_of (h : Cert.Pre_Kernel8Ideal_finite8 (hPre_finite8 := pre_facts) m) (c : Dev nD) :
    Cert.Mix.IsReal (m ((c : Thread nD τ).loc main_arg0)) ∧ Cert.Mix.IsReal (m ((c : Thread nD τ).loc main_arg2)) :=
  ⟨Cert.Mix.isReal_of (B := fun _ => FloatOps.ofBits .f32 0x7F800000#32) (fun _ => Cert.Mix.ofBits_inf) (h c).1,
    Cert.Mix.isReal_of (B := fun _ => FloatOps.ofBits .f32 0x7F800000#32) (fun _ => Cert.Mix.ofBits_inf) (h c).2⟩

theorem frame_reference : Cert.quiescent_Reference8Ideal (hReference8Ideal := Cert.Reference8Ideal.Gen.facts) := fun m ρ _ =>
  (θ_run Cert.Reference8Ideal.defs _ _).mono (fun r h => ⟨fun c => (h c).2.2.2, sem_eq_zero_of_no_sems (by decide) r.2⟩)
    (Cert.Reference8Ideal.Value.run (F := Ideal) m ρ)

theorem algebraic : Cert.algebraic_Kernel8Ideal_Reference8Ideal_pre_finite8 (hKernel8Ideal := Cert.Kernel8Ideal.Gen.facts)
    (hReference8Ideal := Cert.Reference8Ideal.Gen.facts) (hPre_finite8 := pre_facts) := fun m ρ m' ρ' hpre hagree => by
  refine ⟨fun c => (dats m 0 c).arrAt 3 cfg0.N, fun c => (dats m 0 c).arrAt 4 cfg0.N, fun c => (dats m 0 c).arrAt 5 cfg0.N,
    Cert.Kernel8Ideal.Value.run_blocks m ρ, ?_⟩
  refine (θ_run Cert.Reference8Ideal.defs _ _).mono (fun r h c => ?_) (Cert.Reference8Ideal.Value.run (F := Ideal) m' ρ')
  obtain ⟨g0, g1, g2⟩ := hagree c
  obtain ⟨h0, h1, h2, hargs⟩ := h c
  obtain ⟨r0, r2⟩ := reals_of m hpre c
  rw [g0, g1, g2] at h0
  rw [g0, g1] at h1
  rw [g0, g1, g2] at h2
  refine ⟨h0.trans (Eq.trans (funext fun i => ?_) (out3_at m c).symm), h1.trans (Eq.trans (funext fun i => ?_) (out4_at m c).symm),
    h2.trans (Eq.trans (funext fun i => ?_) (out5_at m c).symm), hargs⟩
  · exact (ref3_at _ _ _ i (up_real r0 r2 i)).trans (congrArg₂ dgate (gate_at _ _ i) (up_at _ _ i))
  · exact (ref4_at _ _ i).trans (congrArg (fun a => a * Ideal.logistic a) (gate_at _ _ i))
  · exact (ref5_at _ _ _ i).trans (congrArg₂ (fun a b => a * Ideal.logistic a * b) (gate_at _ _ i) (up_at _ _ i))

end Cert.Gate
-- ==== Proof.Prod.InProj.lean ====
module

public import proofs.«01_k».proof.Defs
public import proofs.«01_k».proof.Proof.Prod.RowDot
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import Idealize.ShloMosaic.Lib.Tactic
public import Idealize.ShloMosaic.Adequacy
public import Idealize.ShloMosaic.Init
public import Idealize.ShloMosaic.Lib.Quiescent

@[expose] public section

/-! The input projection. -/

namespace Cert.InProj

open Idealize.ShloMosaic Idealize.ShloMosaic.TcCoe Cert.Kernel9Ideal Cert.Kernel9Ideal.Gen Cert.Prod

theorem hz : (![0, 0] : Fin 2 → Nat) = fun _ => 0 := funext fun a => by fin_cases a <;> rfl
theorem hz3 : (![0, 0, 0] : Fin 3 → Nat) = fun _ => 0 := funext fun a => by fin_cases a <;> rfl

theorem out_eq (x : Vec Ideal S2048x2048 .bf16) (y : Vec Ideal S1x2048x1024 .bf16) : out0_2 x y = k0_pay1 x y := by
  unfold out0_2
  rw [View.canon_unit_zero hz]
  simp only [View.ld_unit_zero (S := S2048x2048) hz, View.ld_unit_zero (S := S1x2048x1024) hz3]

theorem pay1_rd {x : Vec Ideal S2048x2048 .bf16} {y : Vec Ideal S1x2048x1024 .bf16} {f g : ℕ → ℕ → EReal}
    (hx : Rd (φ := .bf16) x f) (hy : ∀ j, y j = g (j 2).val (j 1).val) : Rd (φ := .f32) (k0_pay1 x y) (rowDot f g 2048) := fun j => by
  unfold k0_pay1
  simp only [pointwise, zero_add]
  exact rowDot_fin (fun k => hx _) fun k => hy _

variable (m : (ℓ : Loc nD τ sig) → Idealize.ShloMosaic.Buf (Elt Ideal) ℓ) (c : Dev nD)

/-- The blocks the grid's points read and write, by their numbers. -/
theorem idx : ∀ t : Fin cfg0.N,
    win0_0.index t = ![t.val / 4, 0] ∧ win0_1.index t = ![t.val % 4, 0, 0] ∧ win0_2.index t = ![t.val / 4, t.val % 4] :=
  (by decide +kernel : ∀ t : Fin grid0.N, _)

/-- The normalised input. -/
noncomputable def hin : ℕ → ℕ → EReal := ent (n := 8192) (k := 2048) (φ := .bf16) (m ((c : Thread nD τ).loc main_arg0))

/-- The input projection's weights, four matrices side by side, read by column and row. -/
noncomputable def cols (x : FVec Ideal ⟨3, ![4, 2048, 1024]⟩ .bf16) (l k : ℕ) : EReal := ent3 x (l / 1024) k (l % 1024)

noncomputable def win : ℕ → ℕ → EReal := cols (m ((c : Thread nD τ).loc main_arg1))

theorem blk0 (t : Fin cfg0.N) (y) (i : S8192x2048.Idx) (h0 : (i 0).val = 2048 * (t.val / 4) + (y 0).val) (h1 : (i 1).val = (y 1).val) :
    iblk m c 0 t y = m ((c : Thread nD τ).loc main_arg0) i := by
  blk_ext! [iblk, V, idx t]

theorem blk1 (t : Fin cfg0.N) (y) (i : S4x2048x1024.Idx) (h0 : (i 0).val = t.val % 4 + (y 0).val) (h1 : (i 1).val = (y 1).val)
    (h2 : (i 2).val = (y 2).val) : iblk m c 1 t y = m ((c : Thread nD τ).loc main_arg1) i := by
  blk_ext! [iblk, V, idx t]

theorem rd0 (t : Fin cfg0.N) : Rd (n := 2048) (k := 2048) (φ := .bf16) (iblk m c 0 t) (fun r l => hin m c (2048 * (t.val / 4) + r) l) := fun y => by
  have ht : t.val < 16 := t.isLt
  have b0 : (y 0).val < 2048 := (y 0).isLt
  have b1 : (y 1).val < 2048 := (y 1).isLt
  let i : S8192x2048.Idx := fun a => match a with
    | ⟨0, _⟩ => ⟨2048 * (t.val / 4) + (y 0).val, by show _ < 8192; omega⟩
    | ⟨1, _⟩ => ⟨(y 1).val, b1⟩
  exact (blk0 m c t y i rfl rfl).trans (ent_at (n := 8192) (k := 2048) (φ := .bf16) _ i rfl rfl)

theorem rd1 (t : Fin cfg0.N) (y : S1x2048x1024.Idx) : iblk m c 1 t y = win m c (1024 * (t.val % 4) + (y 2).val) (y 1).val := by
  have b0 : (y 0).val < 1 := (y 0).isLt
  have b1 : (y 1).val < 2048 := (y 1).isLt
  have b2 : (y 2).val < 1024 := (y 2).isLt
  let i : S4x2048x1024.Idx := fun a => match a with
    | ⟨0, _⟩ => ⟨t.val % 4 + (y 0).val, by show _ < 4; omega⟩
    | ⟨1, _⟩ => ⟨(y 1).val, b1⟩
    | ⟨2, _⟩ => ⟨(y 2).val, b2⟩
  exact (blk1 m c t y i rfl rfl rfl).trans (ent3_at (q := 4) (n := 2048) (k := 1024) (φ := .bf16) _ i (by dsimp only [i]; omega) rfl (by dsimp only [i]; omega))

/-- The array at the end. -/
theorem out_at : (dats m 0 c).arrAt 2 cfg0.N = fun i => rowDot (hin m c) (win m c) 2048 (i 0).val (i 1).val := by
  refine (dats m 0 c).arrAt_eq_of_covers 2 _ (by decide +kernel) fun t hf y => ?_
  blk_simp [idx t]
  rw [after0_2, out_eq]
  refine (pay1_rd (rd0 m c t) (g := fun l k => win m c (1024 * (t.val % 4) + l) k) (rd1 m c t) _).trans ?_
  rw [Nat.mul_comm 2048, Nat.mul_comm 1024]
  rfl

open Idealize.SL.Sem Idealize.ShloMosaic.StableHlo Cert.Reference9Ideal.Read

theorem ref_at (x0 : FVec Ideal ⟨2, ![8192, 2048]⟩ .bf16) (x1 : FVec Ideal ⟨3, ![4, 2048, 1024]⟩ .bf16) (i) :
    val_main_v4 (F := Ideal) x0 x1 i = rowDot (ent x0) (cols x1) 2048 (i 0).val (i 1).val := by
  have b1 : (i 1).val < 4096 := (i 1).isLt
  refine (val_main_v4_apply x0 x1 i).trans (rowDot_fin (fun k => ent_at x0 _ rfl rfl) fun k => ?_)
  rw [val_main_v3_apply, val_main_v2_apply]
  exact ent3_at x1 _ (by show ((k.val * 4096 + (i 1).val) / 1024) % 4 = _; omega) (by show (k.val * 4096 + (i 1).val) / 4096 = _; omega)
    (by show (k.val * 4096 + (i 1).val) % 1024 = _; omega)

theorem frame_reference : Cert.quiescent_Reference9Ideal (hReference9Ideal := Cert.Reference9Ideal.Gen.facts) := fun m ρ _ =>
  (θ_run Cert.Reference9Ideal.defs _ _).mono (fun r h => ⟨fun c => (h c).2, sem_eq_zero_of_no_sems (by decide) r.2⟩)
    (Cert.Reference9Ideal.Value.run (F := Ideal) m ρ)

theorem algebraic : Cert.algebraic_Kernel9Ideal_Reference9Ideal (hKernel9Ideal := Cert.Kernel9Ideal.Gen.facts)
    (hReference9Ideal := Cert.Reference9Ideal.Gen.facts) := fun m ρ m' ρ' _ hagree => by
  refine ⟨fun c => (dats m 0 c).arrAt 2 cfg0.N, Cert.Kernel9Ideal.Value.run_blocks m ρ, ?_⟩
  refine (θ_run Cert.Reference9Ideal.defs _ _).mono (fun r h c => ?_) (Cert.Reference9Ideal.Value.run (F := Ideal) m' ρ')
  obtain ⟨g0, g1⟩ := hagree c
  obtain ⟨h0, hargs⟩ := h c
  rw [g0, g1] at h0
  exact ⟨h0.trans ((funext fun i => ref_at _ _ i).trans (out_at m c).symm), hargs⟩

end Cert.InProj
-- ==== Proof.Prod.RmsNorm.lean ====
module

public import proofs.«01_k».proof.Proof.Prod.RowDot
public import Idealize.ShloMosaic.Lib.Tactic

@[expose] public section

/-! Rows over the root of their mean square, on arrays of extended reals. -/

namespace Cert.Prod

open Idealize.ShloMosaic Idealize.ShloMosaic.TcCoe

/-- The reciprocal root of the mean square of row `r`. -/
noncomputable def rstd (f : ℕ → ℕ → EReal) (r : ℕ) : EReal :=
  Ideal.rsqrt (Ideal.div (∑ k ∈ Finset.range 2048, f r k * f r k) (FloatOps.ofBits .f32 0x45000000#32 : Ideal .f32)
    + (FloatOps.ofBits .f32 0x358637BD#32 : Ideal .f32))

/-- The rows over the root of their mean square, times a gain. -/
noncomputable def normed (f : ℕ → ℕ → EReal) (g : ℕ → EReal) (r l : ℕ) : EReal := f r l * rstd f r * g l

variable {n m : ℕ} {φ : FTy} {f : ℕ → ℕ → EReal}

theorem Rd.slice {n' : ℕ} {x : FVec Ideal ⟨2, ![n, m]⟩ φ} {o : ℕ} (hx : Rd x f) (h : (⟨2, ![n, m]⟩ : Shape).Slices ![o, 0] ⟨2, ![n', m]⟩) :
    Rd (extractStridedSlice ⟨2, ![n', m]⟩ ![o, 0] x h) fun r l => f (o + r) l := fun y => by
  unfold extractStridedSlice
  refine (hx _).trans (congrArg₂ f rfl ?_)
  show 0 + (y 1).val = (y 1).val
  omega

theorem Rd.bcRow {x : FVec Ideal ⟨2, ![1, m]⟩ φ} (h : (⟨2, ![1, m]⟩ : Shape).Broadcasts ⟨2, ![n, m]⟩) (hx : Rd x f) :
    Rd (broadcastTo ⟨2, ![n, m]⟩ x h) fun _ l => f 0 l := fun y => by
  unfold broadcastTo
  rw [hx]
  refine congrArg₂ f ?_ ?_
  · rw [dif_pos (by rfl)]
  · split
    · rename_i h1
      have h1 : m = 1 := h1
      have := (y 1).isLt
      change (y 1).val < m at this
      show 0 = _
      omega
    · rfl

theorem Rd.bcCol {x : FVec Ideal ⟨2, ![n, 1]⟩ φ} (h : (⟨2, ![n, 1]⟩ : Shape).Broadcasts ⟨2, ![n, m]⟩) (hx : Rd x f) :
    Rd (broadcastTo ⟨2, ![n, m]⟩ x h) fun r _ => f r 0 := fun y => by
  unfold broadcastTo
  rw [hx]
  refine congrArg₂ f ?_ ?_
  · split
    · rename_i h1
      have h1 : n = 1 := h1
      have := (y 0).isLt
      change (y 0).val < n at this
      show 0 = _
      omega
    · rfl
  · rw [dif_pos (by rfl)]

theorem Rd.rowSum {x : FVec Ideal ⟨2, ![n, m]⟩ .f32} (h : (⟨2, ![n, m]⟩ : Shape).Reduces [1] ⟨1, ![n]⟩)
    (hc : (⟨1, ![n]⟩ : Shape).ShapeCasts ⟨2, ![n, 1]⟩) (hf : FKind.Formats .f32) (ha) (hx : Rd x f) :
    Rd (shapeCast ⟨2, ![n, 1]⟩ (multiReduction .add [1] ⟨1, ![n]⟩ x 0x00000000#32 h hf ha) hc)
      fun r _ => ∑ l ∈ Finset.range m, f r l := fun y => by
  unfold shapeCast
  rw [multiReduction_add_apply]
  show Ideal.reduceAdd h x _ = _
  rw [Ideal.reduceAdd_r2_a1]
  show _ = ∑ l ∈ Finset.range m, f (y 0).val l
  rw [Finset.sum_range]
  refine Finset.sum_congr rfl fun k _ => (hx _).trans (congrArg₂ f ?_ rfl)
  have e := Shape.rowMajor_reshapeEquiv hc y
  rw [Shape.rowMajor_val_two, Shape.rowMajor_val_one] at e
  have := (y 1).isLt
  change (y 1).val < 1 at this
  change _ = (y 0).val * 1 + (y 1).val at e
  exact e.trans (by omega)

/-- The kernel's reciprocal root of the mean square. -/
theorem Rd.rstd {x : FVec Ideal ⟨2, ![n, 2048]⟩ .f32} (h : (⟨2, ![n, 2048]⟩ : Shape).Reduces [1] ⟨1, ![n]⟩)
    (hc : (⟨1, ![n]⟩ : Shape).ShapeCasts ⟨2, ![n, 1]⟩) (hf : FKind.Formats .f32) (ha) (hx : Rd x f) :
    Rd (rsqrt (addf (divf (shapeCast ⟨2, ![n, 1]⟩ (multiReduction .add [1] ⟨1, ![n]⟩ (mulf x x) 0x00000000#32 h hf ha) hc)
      (broadcast ⟨2, ![n, 1]⟩ (Scalar.ofBits .f32 0x45000000#32 : Ideal .f32))) (broadcast ⟨2, ![n, 1]⟩ (Scalar.ofBits .f32 0x358637BD#32 : Ideal .f32))))
      fun r _ => rstd f r := fun y => by
  have e : Rd (φ := .f32) (mulf x x) fun r l => f r l * f r l := fun j => congrArg₂ (fun a b : EReal => a * b) (hx j) (hx j)
  exact congrArg (fun s : EReal => Ideal.rsqrt (Ideal.div s (FloatOps.ofBits .f32 0x45000000#32 : Ideal .f32)
    + (FloatOps.ofBits .f32 0x358637BD#32 : Ideal .f32))) (e.rowSum h hc hf ha y)

end Cert.Prod
-- ==== Proof.Prod.OutProj.lean ====
module

public import proofs.«01_k».proof.Defs
public import proofs.«01_k».proof.Proof.Prod.RmsNorm
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import Idealize.ShloMosaic.Lib.Tactic
public import Idealize.ShloMosaic.Adequacy
public import Idealize.ShloMosaic.Init
public import Idealize.ShloMosaic.Lib.Quiescent

@[expose] public section

/-! The mixers' output projection, its norm added to the residual, and the norm of that. -/

namespace Cert.OutProj

open Idealize.ShloMosaic Idealize.ShloMosaic.TcCoe Cert.Kernel10Ideal Cert.Kernel10Ideal.Gen Cert.Prod

theorem hz : (![0, 0] : Fin 2 → Nat) = fun _ => 0 := funext fun a => by fin_cases a <;> rfl

/-- The norm of 64 rows, times the gain. -/
noncomputable def nrm (a : FVec Ideal S64x2048 .f32) (g : FVec Ideal S1x2048 .f32) : FVec Ideal S64x2048 .f32 :=
  mulf (mulf a (broadcastTo S64x2048 (rsqrt (addf (divf (shapeCast S64x1
    (multiReduction .add [1] S64 (mulf a a) 0x00000000#32 reduces_S64x2048_S64 (.inl rfl) rfl) shapeCasts_S64_S64x1)
    (broadcast S64x1 (Scalar.ofBits .f32 0x45000000#32 : Ideal .f32))) (broadcast S64x1 (Scalar.ofBits .f32 0x358637BD#32 : Ideal .f32))))
    broadcasts_S64x1_S64x2048)) (broadcastTo S64x2048 g broadcasts_S1x2048_S64x2048)

theorem nrm_rd {a : FVec Ideal S64x2048 .f32} {g : FVec Ideal S1x2048 .f32} {f : ℕ → ℕ → EReal} {g' : ℕ → EReal}
    (ha : Rd (n := 64) (k := 2048) (φ := .f32) a f) (hg : Rd (n := 1) (k := 2048) (φ := .f32) g fun _ l => g' l) :
    Rd (n := 64) (k := 2048) (φ := .f32) (nrm a g) (normed f g') := fun j =>
  congrArg₂ (fun a b : EReal => a * b)
    (congrArg₂ (fun a b : EReal => a * b) (ha j) ((ha.rstd reduces_S64x2048_S64 shapeCasts_S64_S64x1 (.inl rfl) rfl).bcCol broadcasts_S64x1_S64x2048 j))
    (hg.bcRow broadcasts_S1x2048_S64x2048 j)

/-- Rows `o` to `o + 63` of a block. -/
noncomputable abbrev part (x : Vec Ideal S512x2048 .f32) (o : ℕ) (inb : ∀ a, (![o, 0] : Fin 2 → ℕ) a + S64x2048.size a ≤ S512x2048.size a) :
    FVec Ideal S64x2048 .f32 :=
  View.ld (Val := Elt Ideal) (e' := .f32) x (Rect.unit (s := S512x2048) ![o, 0] S64x2048.size inb)

/-- The residual with the norm added. -/
noncomputable def added (h f : ℕ → ℕ → EReal) (g : ℕ → EReal) (r l : ℕ) : EReal := h r l + normed f g r l

section Pieces

variable {v : FVec Ideal S512x2048 .f32} {x : Vec Ideal S512x2048 .f32} {a b : FVec Ideal S1x2048 .f32} {f h : ℕ → ℕ → EReal} {ga gb : ℕ → EReal}

theorem sum_rd {o : ℕ} (hs : S512x2048.Slices ![o, 0] S64x2048) (inb : ∀ a, (![o, 0] : Fin 2 → ℕ) a + S64x2048.size a ≤ S512x2048.size a)
    (hv : Rd (n := 512) (k := 2048) (φ := .f32) v f) (hx : Rd (n := 512) (k := 2048) (φ := .f32) x h)
    (hg : Rd (n := 1) (k := 2048) (φ := .f32) a fun _ l => ga l) :
    Rd (n := 64) (k := 2048) (φ := .f32) (addf (part x o inb)
      (nrm (extractStridedSlice S64x2048 ![o, 0] v hs) a)) fun r l => added h f ga (o + r) l := fun j => by
  refine congrArg₂ (fun a b : EReal => a + b) ?_ (nrm_rd (hv.slice (n' := 64) hs) hg j)
  unfold part
  rw [View.ld_unit]
  exact hx.slice (n' := 64) ⟨rfl, inb⟩ j

/-- Entries of a piece, as the block's at their places. -/
theorem at_piece {φ : FTy} {o : ℕ} (inb : ∀ a, (![o, 0] : Fin 2 → ℕ) a + S64x2048.size a ≤ S512x2048.size a) {w : FVec Ideal S64x2048 φ}
    {F : ℕ → ℕ → EReal} (hw : Rd (n := 64) (k := 2048) w fun r l => F (o + r) l) (y : S64x2048.Idx) :
    w y = (fun i : S512x2048.Idx => F (i 0).val (i 1).val) ((Rect.unit (s := S512x2048) ![o, 0] S64x2048.size inb).emb y) := by
  refine (hw y).trans ?_
  show F (o + (y 0).val) (y 1).val = F (o + 1 * (y 0).val) (0 + 1 * (y 1).val)
  rw [Nat.one_mul, Nat.one_mul, Nat.zero_add]

theorem piece {o : ℕ} (hs : S512x2048.Slices ![o, 0] S64x2048) (inb : ∀ a, (![o, 0] : Fin 2 → ℕ) a + S64x2048.size a ≤ S512x2048.size a)
    (hv : Rd (n := 512) (k := 2048) (φ := .f32) v f) (hx : Rd (n := 512) (k := 2048) (φ := .f32) x h)
    (hg : Rd (n := 1) (k := 2048) (φ := .f32) a fun _ l => ga l) (y : S64x2048.Idx) :
    (addf (part x o inb)
      (nrm (extractStridedSlice S64x2048 ![o, 0] v hs) a)) y
      = (fun i : S512x2048.Idx => added h f ga (i 0).val (i 1).val) ((Rect.unit (s := S512x2048) ![o, 0] S64x2048.size inb).emb y) :=
  at_piece inb (F := added h f ga) (sum_rd hs inb hv hx hg) y

theorem piece' {o : ℕ} (hs : S512x2048.Slices ![o, 0] S64x2048) (inb : ∀ a, (![o, 0] : Fin 2 → ℕ) a + S64x2048.size a ≤ S512x2048.size a)
    (hv : Rd (n := 512) (k := 2048) (φ := .f32) v f) (hx : Rd (n := 512) (k := 2048) (φ := .f32) x h)
    (hg : Rd (n := 1) (k := 2048) (φ := .f32) a fun _ l => ga l) (hb : Rd (n := 1) (k := 2048) (φ := .f32) b fun _ l => gb l)
    {w : FVec Ideal S64x2048 .bf16}
    (hw : w = truncf .bf16 (nrm (addf (part x o inb) (nrm (extractStridedSlice S64x2048 ![o, 0] v hs) a)) b) bitsLt_bf16_f32)
    (y : S64x2048.Idx) :
    w y = (fun i : S512x2048.Idx => normed (added h f ga) gb (i 0).val (i 1).val) ((Rect.unit (s := S512x2048) ![o, 0] S64x2048.size inb).emb y) := by
  rw [hw]
  exact at_piece (φ := .bf16) inb (F := normed (added h f ga) gb) (fun j => nrm_rd (sum_rd hs inb hv hx hg) hb j) y

end Pieces

section Block

variable {x0 : Vec Ideal S512x2048 .bf16} {x1 : Vec Ideal S2048x2048 .bf16} {x2 : Vec Ideal S512x2048 .f32} {x3 x4 : Vec Ideal S1x2048 .f32}
  {f h p q : ℕ → ℕ → EReal} {ga gb : ℕ → EReal}

theorem prod_rd (hx : Rd (φ := .bf16) x0 p) (hy : Rd (φ := .bf16) x1 fun k l => q l k) :
    Rd (n := 512) (k := 2048) (φ := .f32) (k0_pay2 x0 x1) (rowDot p q 2048) := fun j => by
  unfold k0_pay2
  simp only [pointwise, zero_add]
  exact rowDot_fin (fun k => hx _) fun k => hy _

theorem out5_rd (hv : Rd (n := 512) (k := 2048) (φ := .f32) (k0_pay2 x0 x1) f) :
    Rd (n := 512) (k := 2048) (φ := .f32) (out0_5 x0 x1 x2 x3 x4) f := fun y => by
  unfold_out out0_5
  simp only [View.ld_unit_zero (S := S512x2048) hz, View.ld_unit_zero (S := S2048x2048) hz]
  refine (Cert.Kernel10Ideal.Value.canon5_eq x0 x1 y).trans ((hv _).trans (congrArg₂ f ?_ ?_))
  all_goals rfl

theorem out6_rd (hv : Rd (n := 512) (k := 2048) (φ := .f32) (k0_pay2 x0 x1) f) (hx : Rd (n := 512) (k := 2048) (φ := .f32) x2 h)
    (hg : Rd (n := 1) (k := 2048) (φ := .f32) x3 fun _ l => ga l) :
    Rd (n := 512) (k := 2048) (φ := .f32) (out0_6 x0 x1 x2 x3 x4) (added h f ga) := fun y => by
  unfold_out out0_6
  simp only [View.ld_unit_zero (S := S512x2048) hz, View.ld_unit_zero (S := S2048x2048) hz, View.ld_unit_zero (S := S1x2048) hz]
  refine View.canon_apply_of_pieces (show Vec Ideal S512x2048 .f32 from fun i => added h f ga (i 0).val (i 1).val) _ ?_ y (cover0_6 _ _ _ _ _ _ _ _ y)
  intro pc hpc
  rcases List.mem_cons.mp hpc with rfl | hpc
  · exact fun x => piece (o := 448) slices_S512x2048_o448_0_S64x2048 inb_S512x2048_S64x2048_448_0 hv hx hg x
  rcases List.mem_cons.mp hpc with rfl | hpc
  · exact fun x => piece (o := 384) slices_S512x2048_o384_0_S64x2048 inb_S512x2048_S64x2048_384_0 hv hx hg x
  rcases List.mem_cons.mp hpc with rfl | hpc
  · exact fun x => piece (o := 320) slices_S512x2048_o320_0_S64x2048 inb_S512x2048_S64x2048_320_0 hv hx hg x
  rcases List.mem_cons.mp hpc with rfl | hpc
  · exact fun x => piece (o := 256) slices_S512x2048_o256_0_S64x2048 inb_S512x2048_S64x2048_256_0 hv hx hg x
  rcases List.mem_cons.mp hpc with rfl | hpc
  · exact fun x => piece (o := 192) slices_S512x2048_o192_0_S64x2048 inb_S512x2048_S64x2048_192_0 hv hx hg x
  rcases List.mem_cons.mp hpc with rfl | hpc
  · exact fun x => piece (o := 128) slices_S512x2048_o128_0_S64x2048 inb_S512x2048_S64x2048_128_0 hv hx hg x
  rcases List.mem_cons.mp hpc with rfl | hpc
  · exact fun x => piece (o := 64) slices_S512x2048_o64_0_S64x2048 inb_S512x2048_S64x2048_64_0 hv hx hg x
  rcases List.mem_cons.mp hpc with rfl | hpc
  · exact fun x => piece (o := 0) slices_S512x2048_o0_0_S64x2048 inb_S512x2048_S64x2048_0_0 hv hx hg x
  nomatch hpc

theorem out7_rd (hv : Rd (n := 512) (k := 2048) (φ := .f32) (k0_pay2 x0 x1) f) (hx : Rd (n := 512) (k := 2048) (φ := .f32) x2 h)
    (hg : Rd (n := 1) (k := 2048) (φ := .f32) x3 fun _ l => ga l) (hb : Rd (n := 1) (k := 2048) (φ := .f32) x4 fun _ l => gb l) :
    Rd (n := 512) (k := 2048) (φ := .bf16) (out0_7 x0 x1 x2 x3 x4) (normed (added h f ga) gb) := fun y => by
  unfold_out out0_7
  simp only [View.ld_unit_zero (S := S512x2048) hz, View.ld_unit_zero (S := S2048x2048) hz, View.ld_unit_zero (S := S1x2048) hz]
  refine View.canon_apply_of_pieces (show Vec Ideal S512x2048 .bf16 from fun i => normed (added h f ga) gb (i 0).val (i 1).val) _ ?_ y (cover0_7 _ _ _ _ _ _ _ _ y)
  intro pc hpc
  rcases List.mem_cons.mp hpc with rfl | hpc
  · exact fun x => piece' (o := 448) slices_S512x2048_o448_0_S64x2048 inb_S512x2048_S64x2048_448_0 hv hx hg hb rfl x
  rcases List.mem_cons.mp hpc with rfl | hpc
  · exact fun x => piece' (o := 384) slices_S512x2048_o384_0_S64x2048 inb_S512x2048_S64x2048_384_0 hv hx hg hb rfl x
  rcases List.mem_cons.mp hpc with rfl | hpc
  · exact fun x => piece' (o := 320) slices_S512x2048_o320_0_S64x2048 inb_S512x2048_S64x2048_320_0 hv hx hg hb rfl x
  rcases List.mem_cons.mp hpc with rfl | hpc
  · exact fun x => piece' (o := 256) slices_S512x2048_o256_0_S64x2048 inb_S512x2048_S64x2048_256_0 hv hx hg hb rfl x
  rcases List.mem_cons.mp hpc with rfl | hpc
  · exact fun x => piece' (o := 192) slices_S512x2048_o192_0_S64x2048 inb_S512x2048_S64x2048_192_0 hv hx hg hb rfl x
  rcases List.mem_cons.mp hpc with rfl | hpc
  · exact fun x => piece' (o := 128) slices_S512x2048_o128_0_S64x2048 inb_S512x2048_S64x2048_128_0 hv hx hg hb rfl x
  rcases List.mem_cons.mp hpc with rfl | hpc
  · exact fun x => piece' (o := 64) slices_S512x2048_o64_0_S64x2048 inb_S512x2048_S64x2048_64_0 hv hx hg hb rfl x
  rcases List.mem_cons.mp hpc with rfl | hpc
  · exact fun x => piece' (o := 0) slices_S512x2048_o0_0_S64x2048 inb_S512x2048_S64x2048_0_0 hv hx hg hb rfl x
  nomatch hpc

end Block

variable (m : (ℓ : Loc nD τ sig) → Idealize.ShloMosaic.Buf (Elt Ideal) ℓ) (c : Dev nD)

/-- The blocks the grid's points read and write, by their numbers. -/
theorem idx : ∀ t : Fin cfg0.N, win0_0.index t = ![t.val, 0] ∧ win0_1.index t = ![0, 0] ∧ win0_2.index t = ![t.val, 0]
    ∧ win0_3.index t = ![0, 0] ∧ win0_4.index t = ![0, 0]
    ∧ win0_5.index t = ![t.val, 0] ∧ win0_6.index t = ![t.val, 0] ∧ win0_7.index t = ![t.val, 0] :=
  (by decide +kernel : ∀ t : Fin grid0.N, _)

/-- A matrix read by column. -/
noncomputable def cols (x : FVec Ideal ⟨2, ![2048, 2048]⟩ .bf16) (l k : ℕ) : EReal := ent x k l
/-- A gain. -/
noncomputable def gain (x : FVec Ideal ⟨2, ![1, 2048]⟩ .f32) (l : ℕ) : EReal := ent x 0 l

/-- The mixers' output. -/
noncomputable def mixed : ℕ → ℕ → EReal := ent (n := 8192) (k := 2048) (φ := .bf16) (m ((c : Thread nD τ).loc main_arg0))
/-- The projection's weights. -/
noncomputable def wo : ℕ → ℕ → EReal := cols (m ((c : Thread nD τ).loc main_arg1))
/-- The residual. -/
noncomputable def xs : ℕ → ℕ → EReal := ent (n := 8192) (k := 2048) (φ := .f32) (m ((c : Thread nD τ).loc main_arg2))
/-- The gains. -/
noncomputable def g2 : ℕ → EReal := gain (m ((c : Thread nD τ).loc main_arg3))
noncomputable def g3 : ℕ → EReal := gain (m ((c : Thread nD τ).loc main_arg4))

theorem blk0 (t : Fin cfg0.N) (y) (i : S8192x2048.Idx) (h0 : (i 0).val = 512 * t.val + (y 0).val) (h1 : (i 1).val = (y 1).val) :
    iblk m c 0 t y = m ((c : Thread nD τ).loc main_arg0) i := by
  blk_ext! [iblk, V, idx t]

theorem blk1 (t : Fin cfg0.N) (y) (i : S2048x2048.Idx) (h0 : (i 0).val = (y 0).val) (h1 : (i 1).val = (y 1).val) :
    iblk m c 1 t y = m ((c : Thread nD τ).loc main_arg1) i := by
  blk_ext! [iblk, V, idx t]

theorem blk2 (t : Fin cfg0.N) (y) (i : S8192x2048.Idx) (h0 : (i 0).val = 512 * t.val + (y 0).val) (h1 : (i 1).val = (y 1).val) :
    iblk m c 2 t y = m ((c : Thread nD τ).loc main_arg2) i := by
  blk_ext! [iblk, V, idx t]

theorem blk3 (t : Fin cfg0.N) (y) (i : S1x2048.Idx) (h0 : (i 0).val = (y 0).val) (h1 : (i 1).val = (y 1).val) :
    iblk m c 3 t y = m ((c : Thread nD τ).loc main_arg3) i := by
  blk_ext! [iblk, V, idx t]

theorem blk4 (t : Fin cfg0.N) (y) (i : S1x2048.Idx) (h0 : (i 0).val = (y 0).val) (h1 : (i 1).val = (y 1).val) :
    iblk m c 4 t y = m ((c : Thread nD τ).loc main_arg4) i := by
  blk_ext! [iblk, V, idx t]

/-- The entry of an array of rows that is entry `y` of point `t`'s block. -/
def rat (t : Fin cfg0.N) (y : S512x2048.Idx) : S8192x2048.Idx := fun a => match a with
  | ⟨0, _⟩ => ⟨512 * t.val + (y 0).val, by
      have ht : t.val < 16 := t.isLt
      have b0 : (y 0).val < 512 := (y 0).isLt
      show _ < 8192
      omega⟩
  | ⟨1, _⟩ => ⟨(y 1).val, (y 1).isLt⟩

theorem rd0 (t : Fin cfg0.N) : Rd (n := 512) (k := 2048) (φ := .bf16) (iblk m c 0 t) (fun r l => mixed m c (512 * t.val + r) l) := fun y =>
  (blk0 m c t y (rat t y) rfl rfl).trans (ent_at (n := 8192) (k := 2048) (φ := .bf16) _ (rat t y) rfl rfl)

theorem rd1 (t : Fin cfg0.N) : Rd (n := 2048) (k := 2048) (φ := .bf16) (iblk m c 1 t) (fun k l => wo m c l k) := fun y =>
  (blk1 m c t y y rfl rfl).trans (ent_at (n := 2048) (k := 2048) (φ := .bf16) _ y rfl rfl)

theorem rd2 (t : Fin cfg0.N) : Rd (n := 512) (k := 2048) (φ := .f32) (iblk m c 2 t) (fun r l => xs m c (512 * t.val + r) l) := fun y =>
  (blk2 m c t y (rat t y) rfl rfl).trans (ent_at (n := 8192) (k := 2048) (φ := .f32) _ (rat t y) rfl rfl)

theorem zero_row (y : S1x2048.Idx) : (y 0).val = 0 := by
  have : (y 0).val < 1 := (y 0).isLt
  omega

theorem rd3 (t : Fin cfg0.N) : Rd (n := 1) (k := 2048) (φ := .f32) (iblk m c 3 t) (fun _ l => g2 m c l) := fun y =>
  (blk3 m c t y y rfl rfl).trans (ent_at (n := 1) (k := 2048) (φ := .f32) _ y (zero_row y) rfl)

theorem rd4 (t : Fin cfg0.N) : Rd (n := 1) (k := 2048) (φ := .f32) (iblk m c 4 t) (fun _ l => g3 m c l) := fun y =>
  (blk4 m c t y y rfl rfl).trans (ent_at (n := 1) (k := 2048) (φ := .f32) _ y (zero_row y) rfl)

/-- The product. -/
noncomputable def MO : ℕ → ℕ → EReal := rowDot (mixed m c) (wo m c) 2048

theorem rdP (t : Fin cfg0.N) : Rd (n := 512) (k := 2048) (φ := .f32) (k0_pay2 (F := Ideal) (iblk m c 0 t) (iblk m c 1 t))
    (fun r l => MO m c (512 * t.val + r) l) := prod_rd (rd0 m c t) (rd1 m c t)

/-- The arrays at the end. -/
theorem out5_at : (dats m 0 c).arrAt 5 cfg0.N = fun i => MO m c (i 0).val (i 1).val := by
  refine (dats m 0 c).arrAt_eq_of_covers 5 _ (by decide +kernel) fun t hf y => ?_
  blk_simp [idx t]
  rw [after0_5]
  refine (out5_rd (rdP m c t) _).trans ?_
  rw [Nat.mul_comm 512]

theorem out6_at : (dats m 0 c).arrAt 6 cfg0.N = fun i => added (xs m c) (MO m c) (g2 m c) (i 0).val (i 1).val := by
  refine (dats m 0 c).arrAt_eq_of_covers 6 _ (by decide +kernel) fun t hf y => ?_
  blk_simp [idx t]
  rw [after0_6]
  refine (out6_rd (rdP m c t) (rd2 m c t) (rd3 m c t) _).trans ?_
  rw [Nat.mul_comm 512]
  rfl

theorem out7_at : (dats m 0 c).arrAt 7 cfg0.N = fun i => normed (added (xs m c) (MO m c) (g2 m c)) (g3 m c) (i 0).val (i 1).val := by
  refine (dats m 0 c).arrAt_eq_of_covers 7 _ (by decide +kernel) fun t hf y => ?_
  blk_simp [idx t]
  rw [after0_7]
  refine (out7_rd (rdP m c t) (rd2 m c t) (rd3 m c t) (rd4 m c t) _).trans ?_
  rw [Nat.mul_comm 512]
  rfl

open Idealize.SL.Sem Idealize.ShloMosaic.StableHlo Cert.Reference10Ideal.Read

section Reference

variable (x0 : FVec Ideal ⟨2, ![8192, 2048]⟩ .bf16) (x1 : FVec Ideal ⟨2, ![2048, 2048]⟩ .bf16) (x2 : FVec Ideal ⟨2, ![8192, 2048]⟩ .f32)
  (x3 x4 : FVec Ideal ⟨2, ![1, 2048]⟩ .f32)

theorem zero_bits : (FloatOps.ofBits .f32 0x00000000#32 : Ideal .f32) = (0 : EReal) := by
  show Ideal.ofBits .f32 0x00000000#32 = 0
  simp

theorem ref2_at (i) : val_main_v2 (F := Ideal) x0 x1 i = rowDot (ent x0) (cols x1) 2048 (i 0).val (i 1).val :=
  (val_main_v2_apply x0 x1 i).trans (rowDot_fin (fun k => ent_at x0 _ rfl rfl) fun k => ent_at x1 _ rfl rfl)

theorem rs_at {f : ℕ → ℕ → EReal} (h : ∀ i, val_main_v2 (F := Ideal) x0 x1 i = f (i 0).val (i 1).val) (i) :
    (val_main_v11 (F := Ideal) x0 x1 i : EReal) = rstd f (i 0).val := by
  have e : (val_main_v5 (F := Ideal) x0 x1 (idx_main_v11 i) : EReal) = ∑ k ∈ Finset.range 2048, f (i 0).val k * f (i 0).val k := by
    rw [val_main_v5_apply, val_main_v4_apply, val_main_cst_apply, zero_bits, zero_add, Finset.sum_range]
    exact Finset.sum_congr rfl fun k _ => congrArg₂ (fun a b : EReal => a * b) (h _) (h _)
  rw [val_main_v11_apply]
  show Ideal.rsqrt (Ideal.div (val_main_v5 (F := Ideal) x0 x1 (idx_main_v11 i)) (val_main_v6 (F := Ideal) (idx_main_v11 i))
    + (val_main_v8 (F := Ideal) (idx_main_v11 i) : EReal)) = _
  rw [e, val_main_v6_apply, val_main_v8_apply]
  rfl

theorem ref15_at {f : ℕ → ℕ → EReal} (h : ∀ i, val_main_v2 (F := Ideal) x0 x1 i = f (i 0).val (i 1).val) (i) :
    (val_main_v15 (F := Ideal) x0 x1 x2 x3 i : EReal) = added (ent x2) f (gain x3) (i 0).val (i 1).val := by
  show (x2 i : EReal) + val_main_v2 (F := Ideal) x0 x1 i * val_main_v11 (F := Ideal) x0 x1 i * val_main_v13 (F := Ideal) x3 i = _
  rw [rs_at x0 x1 h, h, val_main_v13_apply, ent_at x2 i rfl rfl, ent_at x3 (idx_main_v13 i) (r := 0) rfl rfl]
  rfl

theorem rs2_at {f : ℕ → ℕ → EReal} (h : ∀ i, (val_main_v15 (F := Ideal) x0 x1 x2 x3 i : EReal) = f (i 0).val (i 1).val) (i) :
    (val_main_v24 (F := Ideal) x0 x1 x2 x3 i : EReal) = rstd f (i 0).val := by
  have e : (val_main_v18 (F := Ideal) x0 x1 x2 x3 (idx_main_v24 i) : EReal) = ∑ k ∈ Finset.range 2048, f (i 0).val k * f (i 0).val k := by
    rw [val_main_v18_apply, val_main_v17_apply, val_main_cst_2_apply, zero_bits, zero_add, Finset.sum_range]
    exact Finset.sum_congr rfl fun k _ => congrArg₂ (fun a b : EReal => a * b) (h _) (h _)
  rw [val_main_v24_apply]
  show Ideal.rsqrt (Ideal.div (val_main_v18 (F := Ideal) x0 x1 x2 x3 (idx_main_v24 i)) (val_main_v19 (F := Ideal) (idx_main_v24 i))
    + (val_main_v21 (F := Ideal) (idx_main_v24 i) : EReal)) = _
  rw [e, val_main_v19_apply, val_main_v21_apply]
  rfl

theorem ref28_at {f : ℕ → ℕ → EReal} (h : ∀ i, (val_main_v15 (F := Ideal) x0 x1 x2 x3 i : EReal) = f (i 0).val (i 1).val) (i) :
    (val_main_v28 (F := Ideal) x0 x1 x2 x3 x4 i : EReal) = normed f (gain x4) (i 0).val (i 1).val := by
  show (val_main_v15 (F := Ideal) x0 x1 x2 x3 i : EReal) * val_main_v24 (F := Ideal) x0 x1 x2 x3 i * val_main_v26 (F := Ideal) x4 i = _
  rw [rs2_at x0 x1 x2 x3 h, h, val_main_v26_apply, ent_at x4 (idx_main_v26 i) (r := 0) rfl rfl]
  rfl

end Reference

theorem frame_reference : Cert.quiescent_Reference10Ideal (hReference10Ideal := Cert.Reference10Ideal.Gen.facts) := fun m ρ _ =>
  (θ_run Cert.Reference10Ideal.defs _ _).mono (fun r h => ⟨fun c => (h c).2.2.2, sem_eq_zero_of_no_sems (by decide) r.2⟩)
    (Cert.Reference10Ideal.Value.run (F := Ideal) m ρ)

theorem algebraic : Cert.algebraic_Kernel10Ideal_Reference10Ideal (hKernel10Ideal := Cert.Kernel10Ideal.Gen.facts)
    (hReference10Ideal := Cert.Reference10Ideal.Gen.facts) := fun m ρ m' ρ' _ hagree => by
  refine ⟨fun c => (dats m 0 c).arrAt 5 cfg0.N, fun c => (dats m 0 c).arrAt 6 cfg0.N, fun c => (dats m 0 c).arrAt 7 cfg0.N,
    Cert.Kernel10Ideal.Value.run_blocks m ρ, ?_⟩
  refine (θ_run Cert.Reference10Ideal.defs _ _).mono (fun r h c => ?_) (Cert.Reference10Ideal.Value.run (F := Ideal) m' ρ')
  obtain ⟨e0, e1, e2, e3, e4⟩ := hagree c
  obtain ⟨h0, h1, h2, hargs⟩ := h c
  rw [Cert.Reference10Ideal.Read.val_main_v28_eq] at h2
  rw [e0, e1] at h0
  rw [e0, e1, e2, e3] at h1
  rw [e0, e1, e2, e3, e4] at h2
  refine ⟨h0.trans (Eq.trans (funext fun i => ?_) (out5_at m c).symm), h1.trans (Eq.trans (funext fun i => ?_) (out6_at m c).symm),
    h2.trans (Eq.trans (funext fun i => ?_) (out7_at m c).symm), hargs⟩
  · exact ref2_at _ _ i
  · exact ref15_at _ _ _ _ (ref2_at _ _) i
  · exact ref28_at _ _ _ _ _ (ref15_at _ _ _ _ (ref2_at _ _)) i

end Cert.OutProj
-- ==== Proof.lean ====
/-
  The proof of the certificate's claims: each program's frame from its run, the ideal program the same text as the printed one, and
  each kernel's results equal to its reference's, those of the token mixers' and of the gate's derivatives at real arguments.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Val.Finite
public import proofs.«01_k».proof.Proof.Val.Equal
public import proofs.«01_k».proof.Proof.Prod.GateUpClaim
public import proofs.«01_k».proof.Proof.Prod.Dact
public import proofs.«01_k».proof.Proof.Prod.DwDown
public import proofs.«01_k».proof.Proof.Prod.DwOut
public import proofs.«01_k».proof.Proof.Prod.DwIn
public import proofs.«01_k».proof.Proof.Prod.Dmixed
public import proofs.«01_k».proof.Proof.Prod.Gate
public import proofs.«01_k».proof.Proof.Prod.InProj
public import proofs.«01_k».proof.Proof.Prod.OutProj
public import Idealize.ShloMosaic.Adequacy
public import Idealize.ShloMosaic.Init
public import Idealize.ShloMosaic.Lib.Quiescent

@[expose] public section

noncomputable section

namespace Cert.Proof

open Idealize.ShloMosaic Idealize.SL.Sem Idealize.ShloMosaic.StableHlo

/-- The reference runs, leaves its arguments and owns no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

/-- The kernel's results are the reference's. -/
theorem algebraic : Cert.algebraic_KernelIdeal_ReferenceIdeal_pre_finite (hKernelIdeal := Cert.KernelIdeal.Gen.facts)
    (hReferenceIdeal := Cert.ReferenceIdeal.Gen.facts) (hPre_finite := Cert.Mix.pre_facts) := fun m ρ m' ρ' hpre hagree => by
  refine ⟨fun c => (Cert.KernelIdeal.Gen.dats m 0 c).arrAt 18 Cert.KernelIdeal.cfg0.N, fun c => (Cert.KernelIdeal.Gen.dats m 0 c).arrAt 19 Cert.KernelIdeal.cfg0.N,
    fun c => (Cert.KernelIdeal.Gen.dats m 0 c).arrAt 20 Cert.KernelIdeal.cfg0.N, fun c => (Cert.KernelIdeal.Gen.dats m 0 c).arrAt 21 Cert.KernelIdeal.cfg0.N,
    Cert.KernelIdeal.Value.run_blocks m ρ, ?_⟩
  refine (θ_run Cert.ReferenceIdeal.defs _ _).mono (fun r h c => ?_) (Cert.ReferenceIdeal.Value.run (F := Ideal) m' ρ')
  have hc := Cert.Mix.reals_of hpre c
  obtain ⟨g0, g1, g2, g3, g4⟩ := hagree c
  obtain ⟨h0, h1, h2, h3, hargs⟩ := h c
  have e0 : Cert.ReferenceIdeal.Read.val_main_v271 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) =
      Cert.ReferenceIdeal.Read.val_main_v271 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) := by
    rw [g0, g1, g2, g3, g4]
  have e1 : Cert.ReferenceIdeal.Read.val_main_v265 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) =
      Cert.ReferenceIdeal.Read.val_main_v265 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) := by
    rw [g0, g1, g2]
  have e2 : Cert.ReferenceIdeal.Read.val_main_v157 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) =
      Cert.ReferenceIdeal.Read.val_main_v157 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) := by
    rw [g0, g1, g3, g4]
  have e3 : Cert.ReferenceIdeal.Read.val_main_v133 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg3)) =
      Cert.ReferenceIdeal.Read.val_main_v133 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) := by
    rw [g0, g1, g3]
  exact ⟨(h0.trans (Cert.ReferenceIdeal.Read.val_main_v271_eq (launchContents m' c))).trans (e0.trans (Cert.Mix.eq_prj hc)),
    (h1.trans (Cert.ReferenceIdeal.Read.val_main_v265_eq (launchContents m' c))).trans (e1.trans (Cert.Mix.eq_cw hc)),
    (h2.trans (Cert.ReferenceIdeal.Read.val_main_v157_eq (launchContents m' c))).trans (e2.trans (Cert.Mix.eq_pw hc)),
    (h3.trans (Cert.ReferenceIdeal.Read.val_main_v133_eq (launchContents m' c))).trans (e3.trans (Cert.Mix.eq_ps hc)), hargs⟩

theorem claim : Cert.Claim := ⟨
  Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Mix.pre_facts, Cert.Dact.pre_facts, Cert.Gate.pre_facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  fun m ρ _ => Cert.Kernel2.Gen.frame m ρ, fun m ρ _ => Cert.Kernel2Ideal.Gen.frame m ρ, Cert.GateUp.frame_reference,
  fun m ρ _ => Cert.Kernel3.Gen.frame m ρ, fun m ρ _ => Cert.Kernel3Ideal.Gen.frame m ρ, fun m ρ _ => Cert.Kernel3Ideal.Gen.frame m ρ,
  Cert.Dact.frame_reference, fun m ρ _ => Cert.Dact.frame_reference m ρ trivial,
  fun m ρ _ => Cert.Kernel4.Gen.frame m ρ, fun m ρ _ => Cert.Kernel4Ideal.Gen.frame m ρ, Cert.DwDown.frame_reference,
  fun m ρ _ => Cert.Kernel5.Gen.frame m ρ, fun m ρ _ => Cert.Kernel5Ideal.Gen.frame m ρ, Cert.DwOut.frame_reference,
  fun m ρ _ => Cert.Kernel6.Gen.frame m ρ, fun m ρ _ => Cert.Kernel6Ideal.Gen.frame m ρ, Cert.DwIn.frame_reference,
  fun m ρ _ => Cert.Kernel7.Gen.frame m ρ, fun m ρ _ => Cert.Kernel7Ideal.Gen.frame m ρ, Cert.Dmixed.frame_reference,
  fun m ρ _ => Cert.Kernel8.Gen.frame m ρ, fun m ρ _ => Cert.Kernel8Ideal.Gen.frame m ρ, fun m ρ _ => Cert.Kernel8Ideal.Gen.frame m ρ,
  Cert.Gate.frame_reference, fun m ρ _ => Cert.Gate.frame_reference m ρ trivial,
  fun m ρ _ => Cert.Kernel9.Gen.frame m ρ, fun m ρ _ => Cert.Kernel9Ideal.Gen.frame m ρ, Cert.InProj.frame_reference,
  fun m ρ _ => Cert.Kernel10.Gen.frame m ρ, fun m ρ _ => Cert.Kernel10Ideal.Gen.frame m ρ, Cert.OutProj.frame_reference,
  trivial, algebraic,
  trivial, Cert.GateUp.algebraic,
  trivial, Cert.Dact.algebraic,
  trivial, Cert.DwDown.algebraic,
  trivial, Cert.DwOut.algebraic,
  trivial, Cert.DwIn.algebraic,
  trivial, Cert.Dmixed.algebraic,
  trivial, Cert.Gate.algebraic,
  trivial, Cert.InProj.algebraic,
  trivial, Cert.OutProj.algebraic⟩

end Cert.Proof

end
